-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mask_is_prefix [hPre_mask_is_prefix : Cert.Pre_mask_is_prefix.Facts] (m : (ℓ : Loc Cert.KernelIdeal.nD Cert.KernelIdeal.τ Cert.KernelIdeal.sig) → Buf (Elt Ideal) ℓ) : Prop :=
  ∀ c : Dev Cert.KernelIdeal.nD,
    (Cert.Pre_mask_is_prefix.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mask_is_prefix [hPre_mask_is_prefix : Cert.Pre_mask_is_prefix.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mask_is_prefix.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_mask_is_prefix [hKernelIdeal : Cert.KernelIdeal.Facts] [hPre_mask_is_prefix : Cert.Pre_mask_is_prefix.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mask_is_prefix m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_mask_is_prefix [hReferenceIdeal : Cert.ReferenceIdeal.Facts] [hPre_mask_is_prefix : Cert.Pre_mask_is_prefix.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mask_is_prefix m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_mask_is_prefix [hKernelIdeal : Cert.KernelIdeal.Facts] [hReferenceIdeal : Cert.ReferenceIdeal.Facts] [hPre_mask_is_prefix : Cert.Pre_mask_is_prefix.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mask_is_prefix m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_mask_is_prefix : Cert.Pre_mask_is_prefix.Facts),
    quiescent_Kernel (hKernel := hKernel)
    ∧ quiescent_KernelIdeal (hKernelIdeal := hKernelIdeal)
    ∧ quiescent_KernelIdeal_pre_mask_is_prefix (hKernelIdeal := hKernelIdeal) (hPre_mask_is_prefix := hPre_mask_is_prefix)
    ∧ quiescent_ReferenceIdeal (hReferenceIdeal := hReferenceIdeal)
    ∧ quiescent_ReferenceIdeal_pre_mask_is_prefix (hReferenceIdeal := hReferenceIdeal) (hPre_mask_is_prefix := hPre_mask_is_prefix)
    ∧ preserves_Kernel_KernelIdeal
    ∧ algebraic_KernelIdeal_ReferenceIdeal_pre_mask_is_prefix (hKernelIdeal := hKernelIdeal) (hReferenceIdeal := hReferenceIdeal) (hPre_mask_is_prefix := hPre_mask_is_prefix)
-- ==== Pre_mask_is_prefix.lean ====
abbrev S16x512x256 : Shape := ⟨3, ![16, 512, 256]⟩
abbrev S16 : Shape := ⟨1, ![16]⟩
abbrev S16x64 : Shape := ⟨2, ![16, 64]⟩
abbrev S1024x256 : Shape := ⟨2, ![1024, 256]⟩
abbrev S1024 : Shape := ⟨1, ![1024]⟩
abbrev S64 : Shape := ⟨1, ![64]⟩
abbrev S1x64 : Shape := ⟨2, ![1, 64]⟩
abbrev S16x1 : Shape := ⟨2, ![16, 1]⟩
abbrev S_ : Shape := ⟨0, ![]⟩

class Facts : Prop where
  bcast_S64_S1x64_1 : S64.BroadcastsInDim S1x64 (![1] : Fin 1 → Fin S1x64.rank)
  bcast_S16_S16x1_0 : S16.BroadcastsInDim S16x1 (![0] : Fin 1 → Fin S16x1.rank)
  bcast_S1x64_S16x64_0_1 : S1x64.BroadcastsInDim S16x64 (![0, 1] : Fin 2 → Fin S16x64.rank)
  bcast_S16x1_S16x64_0_1 : S16x1.BroadcastsInDim S16x64 (![0, 1] : Fin 2 → Fin S16x64.rank)
  reducesTo_S16x64_S_d0_1 : S16x64.ReducesTo [0, 1] S_
  h_S_ : 0 < S_.numel

variable [Facts]

def fn {F : FTy → Type} [FloatOps F] (main_arg0 : FVec F S16x512x256 .f32) (main_arg1 : IVec S16 32) (main_arg2 : IVec S16 32) (main_arg3 : IVec S16x64 1) (main_arg4 : FVec F S1024x256 .f32) (main_arg5 : FVec F S1024x256 .f32) (main_arg6 : FVec F S1024 .f32) (main_arg7 : FVec F S1024 .f32) (main_arg8 : FVec F S1024x256 .f32) (main_arg9 : FVec F S1024x256 .f32) (main_arg10 : FVec F S1024 .f32) (main_arg11 : FVec F S1024 .f32) : IVec S_ 1 :=
  let main_v0 : IVec S64 32 := iotaInDim S64 32 0
  let main_v1 : IVec S1x64 32 := broadcastInDim S1x64 ![1] bcast_S64_S1x64_1 main_v0
  let main_v2 : IVec S16x1 32 := broadcastInDim S16x1 ![0] bcast_S16_S16x1_0 main_arg2
  let main_v3 : IVec S16x64 32 := broadcastInDim S16x64 ![0, 1] bcast_S1x64_S16x64_0_1 main_v1
  let main_v4 : IVec S16x64 32 := broadcastInDim S16x64 ![0, 1] bcast_S16x1_S16x64_0_1 main_v2
  let main_v5 : IVec S16x64 1 := cmpi .slt main_v3 main_v4
  let main_v6 : IVec S16x64 1 := cmpi .eq main_arg3 main_v5
  let main_c : IVec S_ 1 := constantI S_ 1 1#1
  let main_v7 : IVec S_ 1 := (fun x v => Host.reduce IntOp.andi x v reducesTo_S16x64_S_d0_1 h_S_) main_v6 main_c
  main_v7
-- ==== Kernel.lean ====
abbrev S16x512x256 : Shape := ⟨3, ![16, 512, 256]⟩
abbrev S16 : Shape := ⟨1, ![16]⟩
abbrev S16x64 : Shape := ⟨2, ![16, 64]⟩
abbrev S1024x256 : Shape := ⟨2, ![1024, 256]⟩
abbrev S1024 : Shape := ⟨1, ![1024]⟩
abbrev S_ : Shape := ⟨0, ![]⟩
abbrev S512 : Shape := ⟨1, ![512]⟩
abbrev S256 : Shape := ⟨1, ![256]⟩
abbrev S256x1024 : Shape := ⟨2, ![256, 1024]⟩
abbrev S1x1024 : Shape := ⟨2, ![1, 1024]⟩
abbrev S16x1 : Shape := ⟨2, ![16, 1]⟩
abbrev S16x256 : Shape := ⟨2, ![16, 256]⟩
abbrev S16x64x256 : Shape := ⟨3, ![16, 64, 256]⟩
abbrev S8192x1024 : Shape := ⟨2, ![8192, 1024]⟩
abbrev S2x8x16x256 : Shape := ⟨4, ![2, 8, 16, 256]⟩
abbrev S8x16x256 : Shape := ⟨3, ![8, 16, 256]⟩
abbrev S1x8x256 : Shape := ⟨3, ![1, 8, 256]⟩
abbrev S8x256 : Shape := ⟨2, ![8, 256]⟩
abbrev S8x1x256 : Shape := ⟨3, ![8, 1, 256]⟩
abbrev S8x2x256 : Shape := ⟨3, ![8, 2, 256]⟩
abbrev S128x256 : Shape := ⟨2, ![128, 256]⟩
abbrev S128x1024 : Shape := ⟨2, ![128, 1024]⟩
abbrev S16x1024 : Shape := ⟨2, ![16, 1024]⟩
abbrev S1x1x16x256 : Shape := ⟨4, ![1, 1, 16, 256]⟩
abbrev S1x8x1x256 : Shape := ⟨4, ![1, 8, 1, 256]⟩
abbrev S16x1x256 : Shape := ⟨3, ![16, 1, 256]⟩

abbrev nBuf : Space → Nat
  | .hbm => 53
  | .vmem => 14
  | .smem => 0
  | _ => 0

abbrev bufTy : (tb : Table) → Fin (tcTables nBuf tb) → BufTy
  | .hbm, ⟨0, _⟩ => ⟨S16x512x256, .f32⟩
  | .hbm, ⟨1, _⟩ => ⟨S16, .i32⟩
  | .hbm, ⟨2, _⟩ => ⟨S16, .i32⟩
  | .hbm, ⟨3, _⟩ => ⟨S16x64, .i1⟩
  | .hbm, ⟨4, _⟩ => ⟨S1024x256, .f32⟩
  | .hbm, ⟨5, _⟩ => ⟨S1024x256, .f32⟩
  | .hbm, ⟨6, _⟩ => ⟨S1024, .f32⟩
  | .hbm, ⟨7, _⟩ => ⟨S1024, .f32⟩
  | .hbm, ⟨8, _⟩ => ⟨S1024x256, .f32⟩
  | .hbm, ⟨9, _⟩ => ⟨S1024x256, .f32⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S512, .f32⟩
  | .hbm, ⟨14, _⟩ => ⟨S_, .f32⟩
  | .hbm, ⟨15, _⟩ => ⟨S256, .f32⟩
  | .hbm, ⟨16, _⟩ => ⟨S_, .f32⟩
  | .hbm, ⟨17, _⟩ => ⟨S256, .f32⟩
  | .hbm, ⟨18, _⟩ => ⟨S512, .f32⟩
  | .hbm, ⟨19, _⟩ => ⟨S256, .f32⟩
  | .hbm, ⟨20, _⟩ => ⟨S1024, .f32⟩
  | .hbm, ⟨21, _⟩ => ⟨S256x1024, .f32⟩
  | .hbm, ⟨22, _⟩ => ⟨S1x1024, .f32⟩
  | .hbm, ⟨23, _⟩ => ⟨S256x1024, .f32⟩
  | .hbm, ⟨24, _⟩ => ⟨S256x1024, .f32⟩
  | .hbm, ⟨25, _⟩ => ⟨S256x1024, .bf16⟩
  | .hbm, ⟨26, _⟩ => ⟨S256x1024, .f32⟩
  | .hbm, ⟨27, _⟩ => ⟨S1x1024, .f32⟩
  | .hbm, ⟨28, _⟩ => ⟨S256x1024, .f32⟩
  | .hbm, ⟨29, _⟩ => ⟨S256x1024, .f32⟩
  | .hbm, ⟨30, _⟩ => ⟨S256x1024, .bf16⟩
  | .hbm, ⟨31, _⟩ => ⟨S256x1024, .f32⟩
  | .hbm, ⟨32, _⟩ => ⟨S1x1024, .f32⟩
  | .hbm, ⟨33, _⟩ => ⟨S256x1024, .f32⟩
  | .hbm, ⟨34, _⟩ => ⟨S256x1024, .f32⟩
  | .hbm, ⟨35, _⟩ => ⟨S256x1024, .bf16⟩
  | .hbm, ⟨36, _⟩ => ⟨S256x1024, .f32⟩
  | .hbm, ⟨37, _⟩ => ⟨S1x1024, .f32⟩
  | .hbm, ⟨38, _⟩ => ⟨S256x1024, .f32⟩
  | .hbm, ⟨39, _⟩ => ⟨S256x1024, .f32⟩
  | .hbm, ⟨40, _⟩ => ⟨S256x1024, .bf16⟩
  | .hbm, ⟨41, _⟩ => ⟨S1024, .f32⟩
  | .hbm, ⟨42, _⟩ => ⟨S1024, .f32⟩
  | .hbm, ⟨43, _⟩ => ⟨S1x1024, .f32⟩
  | .hbm, ⟨44, _⟩ => ⟨S1024, .f32⟩
  | .hbm, ⟨45, _⟩ => ⟨S1024, .f32⟩
  | .hbm, ⟨46, _⟩ => ⟨S1x1024, .f32⟩
  | .hbm, ⟨47, _⟩ => ⟨S16x1, .i32⟩
  | .hbm, ⟨48, _⟩ => ⟨S16x256, .i32⟩
  | .hbm, ⟨49, _⟩ => ⟨S16x1, .i32⟩
  | .hbm, ⟨50, _⟩ => ⟨S16x256, .i32⟩
  | .hbm, ⟨51, _⟩ => ⟨S16x512x256, .f32⟩
  | .hbm, ⟨52, _⟩ => ⟨S16x64x256, .f32⟩
  | .local _ .vmem, ⟨0, _⟩ => ⟨S16x512x256, .f32⟩
  | .local _ .vmem, ⟨1, _⟩ => ⟨S16x256, .i32⟩
  | .local _ .vmem, ⟨2, _⟩ => ⟨S16x256, .i32⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S1x1024, .f32⟩
  | .local _ .vmem, ⟨8, _⟩ => ⟨S1x1024, .f32⟩
  | .local _ .vmem, ⟨9, _⟩ => ⟨S16x512x256, .f32⟩
  | .local _ .vmem, ⟨10, _⟩ => ⟨S16x64x256, .f32⟩
  | .local _ .vmem, ⟨11, _⟩ => ⟨S8192x1024, .f32⟩
  | .local _ .vmem, ⟨12, _⟩ => ⟨S2x8x16x256, .f32⟩
  | .local _ .vmem, ⟨13, _⟩ => ⟨S8x16x256, .bf16⟩
  | _, _ => ⟨S16x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_cst_1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36_0 : Ref sig .tc := ⟨.hbm, 51, rfl⟩
abbrev main_v36_1 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c64_i32 : BitVec 32 := 64#32
  let v109 : BitVec 32 := Scalar.addi c0_i32 c64_i32
  let c1_i32 : BitVec 32 := 1#32
  ⟨c0_i32, v109, c1_i32⟩
def k0_off1 (k0_t1 : Fin k0_t1_loop.trips) : Fin 3 → Nat :=
  let c0_197 : Index := 0#32
  let c0_i32 : BitVec 32 := 0#32
  let c1_i32 : BitVec 32 := 1#32
  let arg14 : BitVec 32 := Scf.iv c0_i32 c1_i32 k0_t1
  let c1_i32_190 : BitVec 32 := 1#32
  let v210 : BitVec 32 := Scalar.addi arg14 c1_i32_190
  let c64_i32_191 : BitVec 32 := 64#32
  let c0_i32_192 : BitVec 32 := 0#32
  let v211 : BitVec 1 := Scalar.cmpi .eq c64_i32_191 c0_i32_192
  let c1_i32_193 : BitVec 32 := 1#32
  let v212 : BitVec 32 := Scalar.select v211 c1_i32_193 c64_i32_191
  let v213 : BitVec 32 := Scalar.remsi v210 v212
  let c0_i32_195 : BitVec 32 := 0#32
  let v215 : BitVec 1 := Scalar.cmpi .slt v213 c0_i32_195
  let c0_i32_196 : BitVec 32 := 0#32
  let v216 : BitVec 1 := Scalar.cmpi .slt v212 c0_i32_196
  let v217 : BitVec 1 := Scalar.xori v215 v216
  let c0_i32_194 : BitVec 32 := 0#32
  let v214 : BitVec 1 := Scalar.cmpi .ne v213 c0_i32_194
  let v218 : BitVec 1 := Scalar.andi v217 v214
  let v219 : BitVec 32 := Scalar.addi v213 v212
  let v220 : BitVec 32 := Scalar.select v218 v219 v213
  let c8_i32 : BitVec 32 := 8#32
  let v221 : BitVec 32 := Scalar.muli v220 c8_i32
  let v222 : Index := Scalar.indexCast v221
  let c0_198 : Index := 0#32
  ![0, v222.toNat, 0]
def k0_off2 (k0_t1 : Fin k0_t1_loop.trips) : Fin 3 → Nat :=
  let c1_202 : Index := 1#32
  let c0_i32 : BitVec 32 := 0#32
  let c1_i32 : BitVec 32 := 1#32
  let arg14 : BitVec 32 := Scf.iv c0_i32 c1_i32 k0_t1
  let c1_i32_190 : BitVec 32 := 1#32
  let v210 : BitVec 32 := Scalar.addi arg14 c1_i32_190
  let c64_i32_191 : BitVec 32 := 64#32
  let c0_i32_192 : BitVec 32 := 0#32
  let v211 : BitVec 1 := Scalar.cmpi .eq c64_i32_191 c0_i32_192
  let c1_i32_193 : BitVec 32 := 1#32
  let v212 : BitVec 32 := Scalar.select v211 c1_i32_193 c64_i32_191
  let v213 : BitVec 32 := Scalar.remsi v210 v212
  let c0_i32_195 : BitVec 32 := 0#32
  let v215 : BitVec 1 := Scalar.cmpi .slt v213 c0_i32_195
  let c0_i32_196 : BitVec 32 := 0#32
  let v216 : BitVec 1 := Scalar.cmpi .slt v212 c0_i32_196
  let v217 : BitVec 1 := Scalar.xori v215 v216
  let c0_i32_194 : BitVec 32 := 0#32
  let v214 : BitVec 1 := Scalar.cmpi .ne v213 c0_i32_194
  let v218 : BitVec 1 := Scalar.andi v217 v214
  let v219 : BitVec 32 := Scalar.addi v213 v212
  let v220 : BitVec 32 := Scalar.select v218 v219 v213
  let c8_i32 : BitVec 32 := 8#32
  let v221 : BitVec 32 := Scalar.muli v220 c8_i32
  let v229 : Index := Scalar.indexCast v221
  let c0_203 : Index := 0#32
  ![1, v229.toNat, 0]
def k0_off3 (k0_t1 : Fin k0_t1_loop.trips) : Fin 3 → Nat :=
  let c2_207 : Index := 2#32
  let c0_i32 : BitVec 32 := 0#32
  let c1_i32 : BitVec 32 := 1#32
  let arg14 : BitVec 32 := Scf.iv c0_i32 c1_i32 k0_t1
  let c1_i32_190 : BitVec 32 := 1#32
  let v210 : BitVec 32 := Scalar.addi arg14 c1_i32_190
  let c64_i32_191 : BitVec 32 := 64#32
  let c0_i32_192 : BitVec 32 := 0#32
  let v211 : BitVec 1 := Scalar.cmpi .eq c64_i32_191 c0_i32_192
  let c1_i32_193 : BitVec 32 := 1#32
  let v212 : BitVec 32 := Scalar.select v211 c1_i32_193 c64_i32_191
  let v213 : BitVec 32 := Scalar.remsi v210 v212
  let c0_i32_195 : BitVec 32 := 0#32
  let v215 : BitVec 1 := Scalar.cmpi .slt v213 c0_i32_195
  let c0_i32_196 : BitVec 32 := 0#32
  let v216 : BitVec 1 := Scalar.cmpi .slt v212 c0_i32_196
  let v217 : BitVec 1 := Scalar.xori v215 v216
  let c0_i32_194 : BitVec 32 := 0#32
  let v214 : BitVec 1 := Scalar.cmpi .ne v213 c0_i32_194
  let v218 : BitVec 1 := Scalar.andi v217 v214
  let v219 : BitVec 32 := Scalar.addi v213 v212
  let v220 : BitVec 32 := Scalar.select v218 v219 v213
  let c8_i32 : BitVec 32 := 8#32
  let v221 : BitVec 32 := Scalar.muli v220 c8_i32
  let v236 : Index := Scalar.indexCast v221
  let c0_208 : Index := 0#32
  ![2, v236.toNat, 0]
def k0_off4 (k0_t1 : Fin k0_t1_loop.trips) : Fin 3 → Nat :=
  let c3_212 : Index := 3#32
  let c0_i32 : BitVec 32 := 0#32
  let c1_i32 : BitVec 32 := 1#32
  let arg14 : BitVec 32 := Scf.iv c0_i32 c1_i32 k0_t1
  let c1_i32_190 : BitVec 32 := 1#32
  let v210 : BitVec 32 := Scalar.addi arg14 c1_i32_190
  let c64_i32_191 : BitVec 32 := 64#32
  let c0_i32_192 : BitVec 32 := 0#32
  let v211 : BitVec 1 := Scalar.cmpi .eq c64_i32_191 c0_i32_192
  let c1_i32_193 : BitVec 32 := 1#32
  let v212 : BitVec 32 := Scalar.select v211 c1_i32_193 c64_i32_191
  let v213 : BitVec 32 := Scalar.remsi v210 v212
  let c0_i32_195 : BitVec 32 := 0#32
  let v215 : BitVec 1 := Scalar.cmpi .slt v213 c0_i32_195
  let c0_i32_196 : BitVec 32 := 0#32
  let v216 : BitVec 1 := Scalar.cmpi .slt v212 c0_i32_196
  let v217 : BitVec 1 := Scalar.xori v215 v216
  let c0_i32_194 : BitVec 32 := 0#32
  let v214 : BitVec 1 := Scalar.cmpi .ne v213 c0_i32_194
  let v218 : BitVec 1 := Scalar.andi v217 v214
  let v219 : BitVec 32 := Scalar.addi v213 v212
  let v220 : BitVec 32 := Scalar.select v218 v219 v213
  let c8_i32 : BitVec 32 := 8#32
  let v221 : BitVec 32 := Scalar.muli v220 c8_i32
  let v243 : Index := Scalar.indexCast v221
  let c0_213 : Index := 0#32
  ![3, v243.toNat, 0]
def k0_off5 (k0_t1 : Fin k0_t1_loop.trips) : Fin 3 → Nat :=
  let c4_217 : Index := 4#32
  let c0_i32 : BitVec 32 := 0#32
  let c1_i32 : BitVec 32 := 1#32
  let arg14 : BitVec 32 := Scf.iv c0_i32 c1_i32 k0_t1
  let c1_i32_190 : BitVec 32 := 1#32
  let v210 : BitVec 32 := Scalar.addi arg14 c1_i32_190
  let c64_i32_191 : BitVec 32 := 64#32
  let c0_i32_192 : BitVec 32 := 0#32
  let v211 : BitVec 1 := Scalar.cmpi .eq c64_i32_191 c0_i32_192
  let c1_i32_193 : BitVec 32 := 1#32
  let v212 : BitVec 32 := Scalar.select v211 c1_i32_193 c64_i32_191
  let v213 : BitVec 32 := Scalar.remsi v210 v212
  let c0_i32_195 : BitVec 32 := 0#32
  let v215 : BitVec 1 := Scalar.cmpi .slt v213 c0_i32_195
  let c0_i32_196 : BitVec 32 := 0#32
  let v216 : BitVec 1 := Scalar.cmpi .slt v212 c0_i32_196
  let v217 : BitVec 1 := Scalar.xori v215 v216
  let c0_i32_194 : BitVec 32 := 0#32
  let v214 : BitVec 1 := Scalar.cmpi .ne v213 c0_i32_194
  let v218 : BitVec 1 := Scalar.andi v217 v214
  let v219 : BitVec 32 := Scalar.addi v213 v212
  let v220 : BitVec 32 := Scalar.select v218 v219 v213
  let c8_i32 : BitVec 32 := 8#32
  let v221 : BitVec 32 := Scalar.muli v220 c8_i32
  let v250 : Index := Scalar.indexCast v221
  let c0_218 : Index := 0#32
  ![4, v250.toNat, 0]
def k0_off6 (k0_t1 : Fin k0_t1_loop.trips) : Fin 3 → Nat :=
  let c5_222 : Index := 5#32
  let c0_i32 : BitVec 32 := 0#32
  let c1_i32 : BitVec 32 := 1#32
  let arg14 : BitVec 32 := Scf.iv c0_i32 c1_i32 k0_t1
  let c1_i32_190 : BitVec 32 := 1#32
  let v210 : BitVec 32 := Scalar.addi arg14 c1_i32_190
  let c64_i32_191 : BitVec 32 := 64#32
  let c0_i32_192 : BitVec 32 := 0#32
  let v211 : BitVec 1 := Scalar.cmpi .eq c64_i32_191 c0_i32_192
  let c1_i32_193 : BitVec 32 := 1#32
  let v212 : BitVec 32 := Scalar.select v211 c1_i32_193 c64_i32_191
  let v213 : BitVec 32 := Scalar.remsi v210 v212
  let c0_i32_195 : BitVec 32 := 0#32
  let v215 : BitVec 1 := Scalar.cmpi .slt v213 c0_i32_195
  let c0_i32_196 : BitVec 32 := 0#32
  let v216 : BitVec 1 := Scalar.cmpi .slt v212 c0_i32_196
  let v217 : BitVec 1 := Scalar.xori v215 v216
  let c0_i32_194 : BitVec 32 := 0#32
  let v214 : BitVec 1 := Scalar.cmpi .ne v213 c0_i32_194
  let v218 : BitVec 1 := Scalar.andi v217 v214
  let v219 : BitVec 32 := Scalar.addi v213 v212
  let v220 : BitVec 32 := Scalar.select v218 v219 v213
  let c8_i32 : BitVec 32 := 8#32
  let v221 : BitVec 32 := Scalar.muli v220 c8_i32
  let v257 : Index := Scalar.indexCast v221
  let c0_223 : Index := 0#32
  ![5, v257.toNat, 0]
def k0_off7 (k0_t1 : Fin k0_t1_loop.trips) : Fin 3 → Nat :=
  let c6_227 : Index := 6#32
  let c0_i32 : BitVec 32 := 0#32
  let c1_i32 : BitVec 32 := 1#32
  let arg14 : BitVec 32 := Scf.iv c0_i32 c1_i32 k0_t1
  let c1_i32_190 : BitVec 32 := 1#32
  let v210 : BitVec 32 := Scalar.addi arg14 c1_i32_190
  let c64_i32_191 : BitVec 32 := 64#32
  let c0_i32_192 : BitVec 32 := 0#32
  let v211 : BitVec 1 := Scalar.cmpi .eq c64_i32_191 c0_i32_192
  let c1_i32_193 : BitVec 32 := 1#32
  let v212 : BitVec 32 := Scalar.select v211 c1_i32_193 c64_i32_191
  let v213 : BitVec 32 := Scalar.remsi v210 v212
  let c0_i32_195 : BitVec 32 := 0#32
  let v215 : BitVec 1 := Scalar.cmpi .slt v213 c0_i32_195
  let c0_i32_196 : BitVec 32 := 0#32
  let v216 : BitVec 1 := Scalar.cmpi .slt v212 c0_i32_196
  let v217 : BitVec 1 := Scalar.xori v215 v216
  let c0_i32_194 : BitVec 32 := 0#32
  let v214 : BitVec 1 := Scalar.cmpi .ne v213 c0_i32_194
  let v218 : BitVec 1 := Scalar.andi v217 v214
  let v219 : BitVec 32 := Scalar.addi v213 v212
  let v220 : BitVec 32 := Scalar.select v218 v219 v213
  let c8_i32 : BitVec 32 := 8#32
  let v221 : BitVec 32 := Scalar.muli v220 c8_i32
  let v264 : Index := Scalar.indexCast v221
  let c0_228 : Index := 0#32
  ![6, v264.toNat, 0]
def k0_off8 (k0_t1 : Fin k0_t1_loop.trips) : Fin 3 → Nat :=
  let c7_232 : Index := 7#32
  let c0_i32 : BitVec 32 := 0#32
  let c1_i32 : BitVec 32 := 1#32
  let arg14 : BitVec 32 := Scf.iv c0_i32 c1_i32 k0_t1
  let c1_i32_190 : BitVec 32 := 1#32
  let v210 : BitVec 32 := Scalar.addi arg14 c1_i32_190
  let c64_i32_191 : BitVec 32 := 64#32
  let c0_i32_192 : BitVec 32 := 0#32
  let v211 : BitVec 1 := Scalar.cmpi .eq c64_i32_191 c0_i32_192
  let c1_i32_193 : BitVec 32 := 1#32
  let v212 : BitVec 32 := Scalar.select v211 c1_i32_193 c64_i32_191
  let v213 : BitVec 32 := Scalar.remsi v210 v212
  let c0_i32_195 : BitVec 32 := 0#32
  let v215 : BitVec 1 := Scalar.cmpi .slt v213 c0_i32_195
  let c0_i32_196 : BitVec 32 := 0#32
  let v216 : BitVec 1 := Scalar.cmpi .slt v212 c0_i32_196
  let v217 : BitVec 1 := Scalar.xori v215 v216
  let c0_i32_194 : BitVec 32 := 0#32
  let v214 : BitVec 1 := Scalar.cmpi .ne v213 c0_i32_194
  let v218 : BitVec 1 := Scalar.andi v217 v214
  let v219 : BitVec 32 := Scalar.addi v213 v212
  let v220 : BitVec 32 := Scalar.select v218 v219 v213
  let c8_i32 : BitVec 32 := 8#32
  let v221 : BitVec 32 := Scalar.muli v220 c8_i32
  let v271 : Index := Scalar.indexCast v221
  let c0_233 : Index := 0#32
  ![7, v271.toNat, 0]
def k0_off9 (k0_t1 : Fin k0_t1_loop.trips) : Fin 3 → Nat :=
  let c8_237 : Index := 8#32
  let c0_i32 : BitVec 32 := 0#32
  let c1_i32 : BitVec 32 := 1#32
  let arg14 : BitVec 32 := Scf.iv c0_i32 c1_i32 k0_t1
  let c1_i32_190 : BitVec 32 := 1#32
  let v210 : BitVec 32 := Scalar.addi arg14 c1_i32_190
  let c64_i32_191 : BitVec 32 := 64#32
  let c0_i32_192 : BitVec 32 := 0#32
  let v211 : BitVec 1 := Scalar.cmpi .eq c64_i32_191 c0_i32_192
  let c1_i32_193 : BitVec 32 := 1#32
  let v212 : BitVec 32 := Scalar.select v211 c1_i32_193 c64_i32_191
  let v213 : BitVec 32 := Scalar.remsi v210 v212
  let c0_i32_195 : BitVec 32 := 0#32
  let v215 : BitVec 1 := Scalar.cmpi .slt v213 c0_i32_195
  let c0_i32_196 : BitVec 32 := 0#32
  let v216 : BitVec 1 := Scalar.cmpi .slt v212 c0_i32_196
  let v217 : BitVec 1 := Scalar.xori v215 v216
  let c0_i32_194 : BitVec 32 := 0#32
  let v214 : BitVec 1 := Scalar.cmpi .ne v213 c0_i32_194
  let v218 : BitVec 1 := Scalar.andi v217 v214
  let v219 : BitVec 32 := Scalar.addi v213 v212
  let v220 : BitVec 32 := Scalar.select v218 v219 v213
  let c8_i32 : BitVec 32 := 8#32
  let v221 : BitVec 32 := Scalar.muli v220 c8_i32
  let v278 : Index := Scalar.indexCast v221
  let c0_238 : Index := 0#32
  ![8, v278.toNat, 0]
def k0_off10 (k0_t1 : Fin k0_t1_loop.trips) : Fin 3 → Nat :=
  let c9_242 : Index := 9#32
  let c0_i32 : BitVec 32 := 0#32
  let c1_i32 : BitVec 32 := 1#32
  let arg14 : BitVec 32 := Scf.iv c0_i32 c1_i32 k0_t1
  let c1_i32_190 : BitVec 32 := 1#32
  let v210 : BitVec 32 := Scalar.addi arg14 c1_i32_190
  let c64_i32_191 : BitVec 32 := 64#32
  let c0_i32_192 : BitVec 32 := 0#32
  let v211 : BitVec 1 := Scalar.cmpi .eq c64_i32_191 c0_i32_192
  let c1_i32_193 : BitVec 32 := 1#32
  let v212 : BitVec 32 := Scalar.select v211 c1_i32_193 c64_i32_191
  let v213 : BitVec 32 := Scalar.remsi v210 v212
  let c0_i32_195 : BitVec 32 := 0#32
  let v215 : BitVec 1 := Scalar.cmpi .slt v213 c0_i32_195
  let c0_i32_196 : BitVec 32 := 0#32
  let v216 : BitVec 1 := Scalar.cmpi .slt v212 c0_i32_196
  let v217 : BitVec 1 := Scalar.xori v215 v216
  let c0_i32_194 : BitVec 32 := 0#32
  let v214 : BitVec 1 := Scalar.cmpi .ne v213 c0_i32_194
  let v218 : BitVec 1 := Scalar.andi v217 v214
  let v219 : BitVec 32 := Scalar.addi v213 v212
  let v220 : BitVec 32 := Scalar.select v218 v219 v213
  let c8_i32 : BitVec 32 := 8#32
  let v221 : BitVec 32 := Scalar.muli v220 c8_i32
  let v285 : Index := Scalar.indexCast v221
  let c0_243 : Index := 0#32
  ![9, v285.toNat, 0]
def k0_off11 (k0_t1 : Fin k0_t1_loop.trips) : Fin 3 → Nat :=
  let c10_247 : Index := 10#32
  let c0_i32 : BitVec 32 := 0#32
  let c1_i32 : BitVec 32 := 1#32
  let arg14 : BitVec 32 := Scf.iv c0_i32 c1_i32 k0_t1
  let c1_i32_190 : BitVec 32 := 1#32
  let v210 : BitVec 32 := Scalar.addi arg14 c1_i32_190
  let c64_i32_191 : BitVec 32 := 64#32
  let c0_i32_192 : BitVec 32 := 0#32
  let v211 : BitVec 1 := Scalar.cmpi .eq c64_i32_191 c0_i32_192
  let c1_i32_193 : BitVec 32 := 1#32
  let v212 : BitVec 32 := Scalar.select v211 c1_i32_193 c64_i32_191
  let v213 : BitVec 32 := Scalar.remsi v210 v212
  let c0_i32_195 : BitVec 32 := 0#32
  let v215 : BitVec 1 := Scalar.cmpi .slt v213 c0_i32_195
  let c0_i32_196 : BitVec 32 := 0#32
  let v216 : BitVec 1 := Scalar.cmpi .slt v212 c0_i32_196
  let v217 : BitVec 1 := Scalar.xori v215 v216
  let c0_i32_194 : BitVec 32 := 0#32
  let v214 : BitVec 1 := Scalar.cmpi .ne v213 c0_i32_194
  let v218 : BitVec 1 := Scalar.andi v217 v214
  let v219 : BitVec 32 := Scalar.addi v213 v212
  let v220 : BitVec 32 := Scalar.select v218 v219 v213
  let c8_i32 : BitVec 32 := 8#32
  let v221 : BitVec 32 := Scalar.muli v220 c8_i32
  let v292 : Index := Scalar.indexCast v221
  let c0_248 : Index := 0#32
  ![10, v292.toNat, 0]
def k0_off12 (k0_t1 : Fin k0_t1_loop.trips) : Fin 3 → Nat :=
  let c11_252 : Index := 11#32
  let c0_i32 : BitVec 32 := 0#32
  let c1_i32 : BitVec 32 := 1#32
  let arg14 : BitVec 32 := Scf.iv c0_i32 c1_i32 k0_t1
  let c1_i32_190 : BitVec 32 := 1#32
  let v210 : BitVec 32 := Scalar.addi arg14 c1_i32_190
  let c64_i32_191 : BitVec 32 := 64#32
  let c0_i32_192 : BitVec 32 := 0#32
  let v211 : BitVec 1 := Scalar.cmpi .eq c64_i32_191 c0_i32_192
  let c1_i32_193 : BitVec 32 := 1#32
  let v212 : BitVec 32 := Scalar.select v211 c1_i32_193 c64_i32_191
  let v213 : BitVec 32 := Scalar.remsi v210 v212
  let c0_i32_195 : BitVec 32 := 0#32
  let v215 : BitVec 1 := Scalar.cmpi .slt v213 c0_i32_195
  let c0_i32_196 : BitVec 32 := 0#32
  let v216 : BitVec 1 := Scalar.cmpi .slt v212 c0_i32_196
  let v217 : BitVec 1 := Scalar.xori v215 v216
  let c0_i32_194 : BitVec 32 := 0#32
  let v214 : BitVec 1 := Scalar.cmpi .ne v213 c0_i32_194
  let v218 : BitVec 1 := Scalar.andi v217 v214
  let v219 : BitVec 32 := Scalar.addi v213 v212
  let v220 : BitVec 32 := Scalar.select v218 v219 v213
  let c8_i32 : BitVec 32 := 8#32
  let v221 : BitVec 32 := Scalar.muli v220 c8_i32
  let v299 : Index := Scalar.indexCast v221
  let c0_253 : Index := 0#32
  ![11, v299.toNat, 0]
def k0_off13 (k0_t1 : Fin k0_t1_loop.trips) : Fin 3 → Nat :=
  let c12_257 : Index := 12#32
  let c0_i32 : BitVec 32 := 0#32
  let c1_i32 : BitVec 32 := 1#32
  let arg14 : BitVec 32 := Scf.iv c0_i32 c1_i32 k0_t1
  let c1_i32_190 : BitVec 32 := 1#32
  let v210 : BitVec 32 := Scalar.addi arg14 c1_i32_190
  let c64_i32_191 : BitVec 32 := 64#32
  let c0_i32_192 : BitVec 32 := 0#32
  let v211 : BitVec 1 := Scalar.cmpi .eq c64_i32_191 c0_i32_192
  let c1_i32_193 : BitVec 32 := 1#32
  let v212 : BitVec 32 := Scalar.select v211 c1_i32_193 c64_i32_191
  let v213 : BitVec 32 := Scalar.remsi v210 v212
  let c0_i32_195 : BitVec 32 := 0#32
  let v215 : BitVec 1 := Scalar.cmpi .slt v213 c0_i32_195
  let c0_i32_196 : BitVec 32 := 0#32
  let v216 : BitVec 1 := Scalar.cmpi .slt v212 c0_i32_196
  let v217 : BitVec 1 := Scalar.xori v215 v216
  let c0_i32_194 : BitVec 32 := 0#32
  let v214 : BitVec 1 := Scalar.cmpi .ne v213 c0_i32_194
  let v218 : BitVec 1 := Scalar.andi v217 v214
  let v219 : BitVec 32 := Scalar.addi v213 v212
  let v220 : BitVec 32 := Scalar.select v218 v219 v213
  let c8_i32 : BitVec 32 := 8#32
  let v221 : BitVec 32 := Scalar.muli v220 c8_i32
  let v306 : Index := Scalar.indexCast v221
  let c0_258 : Index := 0#32
  ![12, v306.toNat, 0]
def k0_off14 (k0_t1 : Fin k0_t1_loop.trips) : Fin 3 → Nat :=
  let c13_262 : Index := 13#32
  let c0_i32 : BitVec 32 := 0#32
  let c1_i32 : BitVec 32 := 1#32
  let arg14 : BitVec 32 := Scf.iv c0_i32 c1_i32 k0_t1
  let c1_i32_190 : BitVec 32 := 1#32
  let v210 : BitVec 32 := Scalar.addi arg14 c1_i32_190
  let c64_i32_191 : BitVec 32 := 64#32
  let c0_i32_192 : BitVec 32 := 0#32
  let v211 : BitVec 1 := Scalar.cmpi .eq c64_i32_191 c0_i32_192
  let c1_i32_193 : BitVec 32 := 1#32
  let v212 : BitVec 32 := Scalar.select v211 c1_i32_193 c64_i32_191
  let v213 : BitVec 32 := Scalar.remsi v210 v212
  let c0_i32_195 : BitVec 32 := 0#32
  let v215 : BitVec 1 := Scalar.cmpi .slt v213 c0_i32_195
  let c0_i32_196 : BitVec 32 := 0#32
  let v216 : BitVec 1 := Scalar.cmpi .slt v212 c0_i32_196
  let v217 : BitVec 1 := Scalar.xori v215 v216
  let c0_i32_194 : BitVec 32 := 0#32
  let v214 : BitVec 1 := Scalar.cmpi .ne v213 c0_i32_194
  let v218 : BitVec 1 := Scalar.andi v217 v214
  let v219 : BitVec 32 := Scalar.addi v213 v212
  let v220 : BitVec 32 := Scalar.select v218 v219 v213
  let c8_i32 : BitVec 32 := 8#32
  let v221 : BitVec 32 := Scalar.muli v220 c8_i32
  let v313 : Index := Scalar.indexCast v221
  let c0_263 : Index := 0#32
  ![13, v313.toNat, 0]
def k0_off15 (k0_t1 : Fin k0_t1_loop.trips) : Fin 3 → Nat :=
  let c14_267 : Index := 14#32
  let c0_i32 : BitVec 32 := 0#32
  let c1_i32 : BitVec 32 := 1#32
  let arg14 : BitVec 32 := Scf.iv c0_i32 c1_i32 k0_t1
  let c1_i32_190 : BitVec 32 := 1#32
  let v210 : BitVec 32 := Scalar.addi arg14 c1_i32_190
  let c64_i32_191 : BitVec 32 := 64#32
  let c0_i32_192 : BitVec 32 := 0#32
  let v211 : BitVec 1 := Scalar.cmpi .eq c64_i32_191 c0_i32_192
  let c1_i32_193 : BitVec 32 := 1#32
  let v212 : BitVec 32 := Scalar.select v211 c1_i32_193 c64_i32_191
  let v213 : BitVec 32 := Scalar.remsi v210 v212
  let c0_i32_195 : BitVec 32 := 0#32
  let v215 : BitVec 1 := Scalar.cmpi .slt v213 c0_i32_195
  let c0_i32_196 : BitVec 32 := 0#32
  let v216 : BitVec 1 := Scalar.cmpi .slt v212 c0_i32_196
  let v217 : BitVec 1 := Scalar.xori v215 v216
  let c0_i32_194 : BitVec 32 := 0#32
  let v214 : BitVec 1 := Scalar.cmpi .ne v213 c0_i32_194
  let v218 : BitVec 1 := Scalar.andi v217 v214
  let v219 : BitVec 32 := Scalar.addi v213 v212
  let v220 : BitVec 32 := Scalar.select v218 v219 v213
  let c8_i32 : BitVec 32 := 8#32
  let v221 : BitVec 32 := Scalar.muli v220 c8_i32
  let v320 : Index := Scalar.indexCast v221
  let c0_268 : Index := 0#32
  ![14, v320.toNat, 0]
def k0_off16 (k0_t1 : Fin k0_t1_loop.trips) : Fin 3 → Nat :=
  let c15_272 : Index := 15#32
  let c0_i32 : BitVec 32 := 0#32
  let c1_i32 : BitVec 32 := 1#32
  let arg14 : BitVec 32 := Scf.iv c0_i32 c1_i32 k0_t1
  let c1_i32_190 : BitVec 32 := 1#32
  let v210 : BitVec 32 := Scalar.addi arg14 c1_i32_190
  let c64_i32_191 : BitVec 32 := 64#32
  let c0_i32_192 : BitVec 32 := 0#32
  let v211 : BitVec 1 := Scalar.cmpi .eq c64_i32_191 c0_i32_192
  let c1_i32_193 : BitVec 32 := 1#32
  let v212 : BitVec 32 := Scalar.select v211 c1_i32_193 c64_i32_191
  let v213 : BitVec 32 := Scalar.remsi v210 v212
  let c0_i32_195 : BitVec 32 := 0#32
  let v215 : BitVec 1 := Scalar.cmpi .slt v213 c0_i32_195
  let c0_i32_196 : BitVec 32 := 0#32
  let v216 : BitVec 1 := Scalar.cmpi .slt v212 c0_i32_196
  let v217 : BitVec 1 := Scalar.xori v215 v216
  let c0_i32_194 : BitVec 32 := 0#32
  let v214 : BitVec 1 := Scalar.cmpi .ne v213 c0_i32_194
  let v218 : BitVec 1 := Scalar.andi v217 v214
  let v219 : BitVec 32 := Scalar.addi v213 v212
  let v220 : BitVec 32 := Scalar.select v218 v219 v213
  let c8_i32 : BitVec 32 := 8#32
  let v221 : BitVec 32 := Scalar.muli v220 c8_i32
  let v327 : Index := Scalar.indexCast v221
  let c0_273 : Index := 0#32
  ![15, v327.toNat, 0]
def k0_off17 (k0_t1 : Fin k0_t1_loop.trips) : Fin 2 → Nat :=
  let c0_i32 : BitVec 32 := 0#32
  let c1_i32 : BitVec 32 := 1#32
  let arg14 : BitVec 32 := Scf.iv c0_i32 c1_i32 k0_t1
  let c1_i32_190 : BitVec 32 := 1#32
  let v210 : BitVec 32 := Scalar.addi arg14 c1_i32_190
  let c64_i32_191 : BitVec 32 := 64#32
  let c0_i32_192 : BitVec 32 := 0#32
  let v211 : BitVec 1 := Scalar.cmpi .eq c64_i32_191 c0_i32_192
  let c1_i32_193 : BitVec 32 := 1#32
  let v212 : BitVec 32 := Scalar.select v211 c1_i32_193 c64_i32_191
  let v213 : BitVec 32 := Scalar.remsi v210 v212
  let c0_i32_195 : BitVec 32 := 0#32
  let v215 : BitVec 1 := Scalar.cmpi .slt v213 c0_i32_195
  let c0_i32_196 : BitVec 32 := 0#32
  let v216 : BitVec 1 := Scalar.cmpi .slt v212 c0_i32_196
  let v217 : BitVec 1 := Scalar.xori v215 v216
  let c0_i32_194 : BitVec 32 := 0#32
  let v214 : BitVec 1 := Scalar.cmpi .ne v213 c0_i32_194
  let v218 : BitVec 1 := Scalar.andi v217 v214
  let v219 : BitVec 32 := Scalar.addi v213 v212
  let v220 : BitVec 32 := Scalar.select v218 v219 v213
  let c128_i32 : BitVec 32 := 128#32
  let v334 : BitVec 32 := Scalar.muli v220 c128_i32
  let v344 : Index := Scalar.indexCast v334
  let c0_285 : Index := 0#32
  ![v344.toNat, 0]
def k0_off18 (k0_t1 : Fin k0_t1_loop.trips) (c0_i32_288 : BitVec 32) : Fin 2 → Nat :=
  let c0_i32 : BitVec 32 := 0#32
  let c1_i32 : BitVec 32 := 1#32
  let arg14 : BitVec 32 := Scf.iv c0_i32 c1_i32 k0_t1
  let c8_i32_287 : BitVec 32 := 8#32
  let v349 : BitVec 32 := Scalar.muli arg14 c8_i32_287
  let v350 : BitVec 32 := Scalar.addi v349 c0_i32_288
  let c16_i32 : BitVec 32 := 16#32
  let v351 : BitVec 32 := Scalar.muli v350 c16_i32
  let v352 : Index := Scalar.indexCast v351
  let c0_289 : Index := 0#32
  ![v352.toNat, 0]
def k0_off19 (k0_t1 : Fin k0_t1_loop.trips) : Fin 4 → Nat :=
  let c0_i32 : BitVec 32 := 0#32
  let c1_i32 : BitVec 32 := 1#32
  let arg14 : BitVec 32 := Scf.iv c0_i32 c1_i32 k0_t1
  let c2_i32_286 : BitVec 32 := 2#32
  let v348 : BitVec 32 := Scalar.remsi arg14 c2_i32_286
  let v428 : Index := Scalar.indexCast v348
  let c0_316 : Index := 0#32
  let c0_317 : Index := 0#32
  let c0_318 : Index := 0#32
  ![v428.toNat, 0, 0, 0]
def k0_off20 (k0_t1 : Fin k0_t1_loop.trips) : Fin 4 → Nat :=
  let c0_i32 : BitVec 32 := 0#32
  let c1_i32 : BitVec 32 := 1#32
  let arg14 : BitVec 32 := Scf.iv c0_i32 c1_i32 k0_t1
  let c2_i32_286 : BitVec 32 := 2#32
  let v348 : BitVec 32 := Scalar.remsi arg14 c2_i32_286
  let v515 : Index := Scalar.indexCast v348
  let c1_349 : Index := 1#32
  let c0_350 : Index := 0#32
  let c0_351 : Index := 0#32
  ![v515.toNat, 1, 0, 0]
def k0_off21 (k0_t1 : Fin k0_t1_loop.trips) : Fin 4 → Nat :=
  let c0_i32 : BitVec 32 := 0#32
  let c1_i32 : BitVec 32 := 1#32
  let arg14 : BitVec 32 := Scf.iv c0_i32 c1_i32 k0_t1
  let c2_i32_286 : BitVec 32 := 2#32
  let v348 : BitVec 32 := Scalar.remsi arg14 c2_i32_286
  let v602 : Index := Scalar.indexCast v348
  let c2_382 : Index := 2#32
  let c0_383 : Index := 0#32
  let c0_384 : Index := 0#32
  ![v602.toNat, 2, 0, 0]
def k0_off22 (k0_t1 : Fin k0_t1_loop.trips) : Fin 4 → Nat :=
  let c0_i32 : BitVec 32 := 0#32
  let c1_i32 : BitVec 32 := 1#32
  let arg14 : BitVec 32 := Scf.iv c0_i32 c1_i32 k0_t1
  let c2_i32_286 : BitVec 32 := 2#32
  let v348 : BitVec 32 := Scalar.remsi arg14 c2_i32_286
  let v689 : Index := Scalar.indexCast v348
  let c3_414 : Index := 3#32
  let c0_415 : Index := 0#32
  let c0_416 : Index := 0#32
  ![v689.toNat, 3, 0, 0]
def k0_off23 (k0_t1 : Fin k0_t1_loop.trips) : Fin 4 → Nat :=
  let c0_i32 : BitVec 32 := 0#32
  let c1_i32 : BitVec 32 := 1#32
  let arg14 : BitVec 32 := Scf.iv c0_i32 c1_i32 k0_t1
  let c2_i32_286 : BitVec 32 := 2#32
  let v348 : BitVec 32 := Scalar.remsi arg14 c2_i32_286
  let v776 : Index := Scalar.indexCast v348
  let c4_446 : Index := 4#32
  let c0_447 : Index := 0#32
  let c0_448 : Index := 0#32
  ![v776.toNat, 4, 0, 0]
def k0_off24 (k0_t1 : Fin k0_t1_loop.trips) : Fin 4 → Nat :=
  let c0_i32 : BitVec 32 := 0#32
  let c1_i32 : BitVec 32 := 1#32
  let arg14 : BitVec 32 := Scf.iv c0_i32 c1_i32 k0_t1
  let c2_i32_286 : BitVec 32 := 2#32
  let v348 : BitVec 32 := Scalar.remsi arg14 c2_i32_286
  let v863 : Index := Scalar.indexCast v348
  let c5_478 : Index := 5#32
  let c0_479 : Index := 0#32
  let c0_480 : Index := 0#32
  ![v863.toNat, 5, 0, 0]
def k0_off25 (k0_t1 : Fin k0_t1_loop.trips) : Fin 4 → Nat :=
  let c0_i32 : BitVec 32 := 0#32
  let c1_i32 : BitVec 32 := 1#32
  let arg14 : BitVec 32 := Scf.iv c0_i32 c1_i32 k0_t1
  let c2_i32_286 : BitVec 32 := 2#32
  let v348 : BitVec 32 := Scalar.remsi arg14 c2_i32_286
  let v950 : Index := Scalar.indexCast v348
  let c6_510 : Index := 6#32
  let c0_511 : Index := 0#32
  let c0_512 : Index := 0#32
  ![v950.toNat, 6, 0, 0]
def k0_off26 (k0_t1 : Fin k0_t1_loop.trips) : Fin 4 → Nat :=
  let c0_i32 : BitVec 32 := 0#32
  let c1_i32 : BitVec 32 := 1#32
  let arg14 : BitVec 32 := Scf.iv c0_i32 c1_i32 k0_t1
  let c2_i32_286 : BitVec 32 := 2#32
  let v348 : BitVec 32 := Scalar.remsi arg14 c2_i32_286
  let v1037 : Index := Scalar.indexCast v348
  let c7_542 : Index := 7#32
  let c0_543 : Index := 0#32
  let c0_544 : Index := 0#32
  ![v1037.toNat, 7, 0, 0]
def k0_off27 (k0_t1 : Fin k0_t1_loop.trips) : Fin 4 → Nat :=
  let c1_i32_548 : BitVec 32 := 1#32
  let c0_i32 : BitVec 32 := 0#32
  let c1_i32 : BitVec 32 := 1#32
  let arg14 : BitVec 32 := Scf.iv c0_i32 c1_i32 k0_t1
  let c2_i32_286 : BitVec 32 := 2#32
  let v348 : BitVec 32 := Scalar.remsi arg14 c2_i32_286
  let v1048 : BitVec 32 := Scalar.subi c1_i32_548 v348
  let v1049 : Index := Scalar.indexCast v1048
  let c0_549 : Index := 0#32
  let c0_550 : Index := 0#32
  let c0_551 : Index := 0#32
  ![v1049.toNat, 0, 0, 0]
def k0_off28 (k0_t1 : Fin k0_t1_loop.trips) : Fin 3 → Nat :=
  let c0_553 : Index := 0#32
  let c0_i32 : BitVec 32 := 0#32
  let c1_i32 : BitVec 32 := 1#32
  let arg14 : BitVec 32 := Scf.iv c0_i32 c1_i32 k0_t1
  let c64_i32_545 : BitVec 32 := 64#32
  let v1045 : BitVec 32 := Scalar.addi arg14 c64_i32_545
  let c1_i32_546 : BitVec 32 := 1#32
  let v1046 : BitVec 32 := Scalar.subi v1045 c1_i32_546
  let c64_i32_547 : BitVec 32 := 64#32
  let v1047 : BitVec 32 := Scalar.remsi v1046 c64_i32_547
  let c8_i32_552 : BitVec 32 := 8#32
  let v1052 : BitVec 32 := Scalar.muli v1047 c8_i32_552
  let v1053 : Index := Scalar.indexCast v1052
  let c0_554 : Index := 0#32
  ![0, v1053.toNat, 0]
def k0_off29 (k0_t1 : Fin k0_t1_loop.trips) : Fin 4 → Nat :=
  let c1_i32_548 : BitVec 32 := 1#32
  let c0_i32 : BitVec 32 := 0#32
  let c1_i32 : BitVec 32 := 1#32
  let arg14 : BitVec 32 := Scf.iv c0_i32 c1_i32 k0_t1
  let c2_i32_286 : BitVec 32 := 2#32
  let v348 : BitVec 32 := Scalar.remsi arg14 c2_i32_286
  let v1048 : BitVec 32 := Scalar.subi c1_i32_548 v348
  let v1057 : Index := Scalar.indexCast v1048
  let c0_555 : Index := 0#32
  let c1_556 : Index := 1#32
  let c0_557 : Index := 0#32
  ![v1057.toNat, 0, 1, 0]
def k0_off30 (k0_t1 : Fin k0_t1_loop.trips) : Fin 3 → Nat :=
  let c1_559 : Index := 1#32
  let c0_i32 : BitVec 32 := 0#32
  let c1_i32 : BitVec 32 := 1#32
  let arg14 : BitVec 32 := Scf.iv c0_i32 c1_i32 k0_t1
  let c64_i32_545 : BitVec 32 := 64#32
  let v1045 : BitVec 32 := Scalar.addi arg14 c64_i32_545
  let c1_i32_546 : BitVec 32 := 1#32
  let v1046 : BitVec 32 := Scalar.subi v1045 c1_i32_546
  let c64_i32_547 : BitVec 32 := 64#32
  let v1047 : BitVec 32 := Scalar.remsi v1046 c64_i32_547
  let c8_i32_558 : BitVec 32 := 8#32
  let v1060 : BitVec 32 := Scalar.muli v1047 c8_i32_558
  let v1061 : Index := Scalar.indexCast v1060
  let c0_560 : Index := 0#32
  ![1, v1061.toNat, 0]
def k0_off31 (k0_t1 : Fin k0_t1_loop.trips) : Fin 4 → Nat :=
  let c1_i32_548 : BitVec 32 := 1#32
  let c0_i32 : BitVec 32 := 0#32
  let c1_i32 : BitVec 32 := 1#32
  let arg14 : BitVec 32 := Scf.iv c0_i32 c1_i32 k0_t1
  let c2_i32_286 : BitVec 32 := 2#32
  let v348 : BitVec 32 := Scalar.remsi arg14 c2_i32_286
  let v1048 : BitVec 32 := Scalar.subi c1_i32_548 v348
  let v1065 : Index := Scalar.indexCast v1048
  let c0_561 : Index := 0#32
  let c2_562 : Index := 2#32
  let c0_563 : Index := 0#32
  ![v1065.toNat, 0, 2, 0]
def k0_off32 (k0_t1 : Fin k0_t1_loop.trips) : Fin 3 → Nat :=
  let c2_565 : Index := 2#32
  let c0_i32 : BitVec 32 := 0#32
  let c1_i32 : BitVec 32 := 1#32
  let arg14 : BitVec 32 := Scf.iv c0_i32 c1_i32 k0_t1
  let c64_i32_545 : BitVec 32 := 64#32
  let v1045 : BitVec 32 := Scalar.addi arg14 c64_i32_545
  let c1_i32_546 : BitVec 32 := 1#32
  let v1046 : BitVec 32 := Scalar.subi v1045 c1_i32_546
  let c64_i32_547 : BitVec 32 := 64#32
  let v1047 : BitVec 32 := Scalar.remsi v1046 c64_i32_547
  let c8_i32_564 : BitVec 32 := 8#32
  let v1068 : BitVec 32 := Scalar.muli v1047 c8_i32_564
  let v1069 : Index := Scalar.indexCast v1068
  let c0_566 : Index := 0#32
  ![2, v1069.toNat, 0]
def k0_off33 (k0_t1 : Fin k0_t1_loop.trips) : Fin 4 → Nat :=
  let c1_i32_548 : BitVec 32 := 1#32
  let c0_i32 : BitVec 32 := 0#32
  let c1_i32 : BitVec 32 := 1#32
  let arg14 : BitVec 32 := Scf.iv c0_i32 c1_i32 k0_t1
  let c2_i32_286 : BitVec 32 := 2#32
  let v348 : BitVec 32 := Scalar.remsi arg14 c2_i32_286
  let v1048 : BitVec 32 := Scalar.subi c1_i32_548 v348
  let v1073 : Index := Scalar.indexCast v1048
  let c0_567 : Index := 0#32
  let c3_568 : Index := 3#32
  let c0_569 : Index := 0#32
  ![v1073.toNat, 0, 3, 0]
def k0_off34 (k0_t1 : Fin k0_t1_loop.trips) : Fin 3 → Nat :=
  let c3_571 : Index := 3#32
  let c0_i32 : BitVec 32 := 0#32
  let c1_i32 : BitVec 32 := 1#32
  let arg14 : BitVec 32 := Scf.iv c0_i32 c1_i32 k0_t1
  let c64_i32_545 : BitVec 32 := 64#32
  let v1045 : BitVec 32 := Scalar.addi arg14 c64_i32_545
  let c1_i32_546 : BitVec 32 := 1#32
  let v1046 : BitVec 32 := Scalar.subi v1045 c1_i32_546
  let c64_i32_547 : BitVec 32 := 64#32
  let v1047 : BitVec 32 := Scalar.remsi v1046 c64_i32_547
  let c8_i32_570 : BitVec 32 := 8#32
  let v1076 : BitVec 32 := Scalar.muli v1047 c8_i32_570
  let v1077 : Index := Scalar.indexCast v1076
  let c0_572 : Index := 0#32
  ![3, v1077.toNat, 0]
def k0_off35 (k0_t1 : Fin k0_t1_loop.trips) : Fin 4 → Nat :=
  let c1_i32_548 : BitVec 32 := 1#32
  let c0_i32 : BitVec 32 := 0#32
  let c1_i32 : BitVec 32 := 1#32
  let arg14 : BitVec 32 := Scf.iv c0_i32 c1_i32 k0_t1
  let c2_i32_286 : BitVec 32 := 2#32
  let v348 : BitVec 32 := Scalar.remsi arg14 c2_i32_286
  let v1048 : BitVec 32 := Scalar.subi c1_i32_548 v348
  let v1081 : Index := Scalar.indexCast v1048
  let c0_573 : Index := 0#32
  let c4_574 : Index := 4#32
  let c0_575 : Index := 0#32
  ![v1081.toNat, 0, 4, 0]
def k0_off36 (k0_t1 : Fin k0_t1_loop.trips) : Fin 3 → Nat :=
  let c4_577 : Index := 4#32
  let c0_i32 : BitVec 32 := 0#32
  let c1_i32 : BitVec 32 := 1#32
  let arg14 : BitVec 32 := Scf.iv c0_i32 c1_i32 k0_t1
  let c64_i32_545 : BitVec 32 := 64#32
  let v1045 : BitVec 32 := Scalar.addi arg14 c64_i32_545
  let c1_i32_546 : BitVec 32 := 1#32
  let v1046 : BitVec 32 := Scalar.subi v1045 c1_i32_546
  let c64_i32_547 : BitVec 32 := 64#32
  let v1047 : BitVec 32 := Scalar.remsi v1046 c64_i32_547
  let c8_i32_576 : BitVec 32 := 8#32
  let v1084 : BitVec 32 := Scalar.muli v1047 c8_i32_576
  let v1085 : Index := Scalar.indexCast v1084
  let c0_578 : Index := 0#32
  ![4, v1085.toNat, 0]
def k0_off37 (k0_t1 : Fin k0_t1_loop.trips) : Fin 4 → Nat :=
  let c1_i32_548 : BitVec 32 := 1#32
  let c0_i32 : BitVec 32 := 0#32
  let c1_i32 : BitVec 32 := 1#32
  let arg14 : BitVec 32 := Scf.iv c0_i32 c1_i32 k0_t1
  let c2_i32_286 : BitVec 32 := 2#32
  let v348 : BitVec 32 := Scalar.remsi arg14 c2_i32_286
  let v1048 : BitVec 32 := Scalar.subi c1_i32_548 v348
  let v1089 : Index := Scalar.indexCast v1048
  let c0_579 : Index := 0#32
  let c5_580 : Index := 5#32
  let c0_581 : Index := 0#32
  ![v1089.toNat, 0, 5, 0]
def k0_off38 (k0_t1 : Fin k0_t1_loop.trips) : Fin 3 → Nat :=
  let c5_583 : Index := 5#32
  let c0_i32 : BitVec 32 := 0#32
  let c1_i32 : BitVec 32 := 1#32
  let arg14 : BitVec 32 := Scf.iv c0_i32 c1_i32 k0_t1
  let c64_i32_545 : BitVec 32 := 64#32
  let v1045 : BitVec 32 := Scalar.addi arg14 c64_i32_545
  let c1_i32_546 : BitVec 32 := 1#32
  let v1046 : BitVec 32 := Scalar.subi v1045 c1_i32_546
  let c64_i32_547 : BitVec 32 := 64#32
  let v1047 : BitVec 32 := Scalar.remsi v1046 c64_i32_547
  let c8_i32_582 : BitVec 32 := 8#32
  let v1092 : BitVec 32 := Scalar.muli v1047 c8_i32_582
  let v1093 : Index := Scalar.indexCast v1092
  let c0_584 : Index := 0#32
  ![5, v1093.toNat, 0]
def k0_off39 (k0_t1 : Fin k0_t1_loop.trips) : Fin 4 → Nat :=
  let c1_i32_548 : BitVec 32 := 1#32
  let c0_i32 : BitVec 32 := 0#32
  let c1_i32 : BitVec 32 := 1#32
  let arg14 : BitVec 32 := Scf.iv c0_i32 c1_i32 k0_t1
  let c2_i32_286 : BitVec 32 := 2#32
  let v348 : BitVec 32 := Scalar.remsi arg14 c2_i32_286
  let v1048 : BitVec 32 := Scalar.subi c1_i32_548 v348
  let v1097 : Index := Scalar.indexCast v1048
  let c0_585 : Index := 0#32
  let c6_586 : Index := 6#32
  let c0_587 : Index := 0#32
  ![v1097.toNat, 0, 6, 0]
def k0_off40 (k0_t1 : Fin k0_t1_loop.trips) : Fin 3 → Nat :=
  let c6_589 : Index := 6#32
  let c0_i32 : BitVec 32 := 0#32
  let c1_i32 : BitVec 32 := 1#32
  let arg14 : BitVec 32 := Scf.iv c0_i32 c1_i32 k0_t1
  let c64_i32_545 : BitVec 32 := 64#32
  let v1045 : BitVec 32 := Scalar.addi arg14 c64_i32_545
  let c1_i32_546 : BitVec 32 := 1#32
  let v1046 : BitVec 32 := Scalar.subi v1045 c1_i32_546
  let c64_i32_547 : BitVec 32 := 64#32
  let v1047 : BitVec 32 := Scalar.remsi v1046 c64_i32_547
  let c8_i32_588 : BitVec 32 := 8#32
  let v1100 : BitVec 32 := Scalar.muli v1047 c8_i32_588
  let v1101 : Index := Scalar.indexCast v1100
  let c0_590 : Index := 0#32
  ![6, v1101.toNat, 0]
def k0_off41 (k0_t1 : Fin k0_t1_loop.trips) : Fin 4 → Nat :=
  let c1_i32_548 : BitVec 32 := 1#32
  let c0_i32 : BitVec 32 := 0#32
  let c1_i32 : BitVec 32 := 1#32
  let arg14 : BitVec 32 := Scf.iv c0_i32 c1_i32 k0_t1
  let c2_i32_286 : BitVec 32 := 2#32
  let v348 : BitVec 32 := Scalar.remsi arg14 c2_i32_286
  let v1048 : BitVec 32 := Scalar.subi c1_i32_548 v348
  let v1105 : Index := Scalar.indexCast v1048
  let c0_591 : Index := 0#32
  let c7_592 : Index := 7#32
  let c0_593 : Index := 0#32
  ![v1105.toNat, 0, 7, 0]
def k0_off42 (k0_t1 : Fin k0_t1_loop.trips) : Fin 3 → Nat :=
  let c7_595 : Index := 7#32
  let c0_i32 : BitVec 32 := 0#32
  let c1_i32 : BitVec 32 := 1#32
  let arg14 : BitVec 32 := Scf.iv c0_i32 c1_i32 k0_t1
  let c64_i32_545 : BitVec 32 := 64#32
  let v1045 : BitVec 32 := Scalar.addi arg14 c64_i32_545
  let c1_i32_546 : BitVec 32 := 1#32
  let v1046 : BitVec 32 := Scalar.subi v1045 c1_i32_546
  let c64_i32_547 : BitVec 32 := 64#32
  let v1047 : BitVec 32 := Scalar.remsi v1046 c64_i32_547
  let c8_i32_594 : BitVec 32 := 8#32
  let v1108 : BitVec 32 := Scalar.muli v1047 c8_i32_594
  let v1109 : Index := Scalar.indexCast v1108
  let c0_596 : Index := 0#32
  ![7, v1109.toNat, 0]
def k0_off43 (k0_t1 : Fin k0_t1_loop.trips) : Fin 4 → Nat :=
  let c1_i32_548 : BitVec 32 := 1#32
  let c0_i32 : BitVec 32 := 0#32
  let c1_i32 : BitVec 32 := 1#32
  let arg14 : BitVec 32 := Scf.iv c0_i32 c1_i32 k0_t1
  let c2_i32_286 : BitVec 32 := 2#32
  let v348 : BitVec 32 := Scalar.remsi arg14 c2_i32_286
  let v1048 : BitVec 32 := Scalar.subi c1_i32_548 v348
  let v1113 : Index := Scalar.indexCast v1048
  let c0_597 : Index := 0#32
  let c8_598 : Index := 8#32
  let c0_599 : Index := 0#32
  ![v1113.toNat, 0, 8, 0]
def k0_off44 (k0_t1 : Fin k0_t1_loop.trips) : Fin 3 → Nat :=
  let c8_601 : Index := 8#32
  let c0_i32 : BitVec 32 := 0#32
  let c1_i32 : BitVec 32 := 1#32
  let arg14 : BitVec 32 := Scf.iv c0_i32 c1_i32 k0_t1
  let c64_i32_545 : BitVec 32 := 64#32
  let v1045 : BitVec 32 := Scalar.addi arg14 c64_i32_545
  let c1_i32_546 : BitVec 32 := 1#32
  let v1046 : BitVec 32 := Scalar.subi v1045 c1_i32_546
  let c64_i32_547 : BitVec 32 := 64#32
  let v1047 : BitVec 32 := Scalar.remsi v1046 c64_i32_547
  let c8_i32_600 : BitVec 32 := 8#32
  let v1116 : BitVec 32 := Scalar.muli v1047 c8_i32_600
  let v1117 : Index := Scalar.indexCast v1116
  let c0_602 : Index := 0#32
  ![8, v1117.toNat, 0]
def k0_off45 (k0_t1 : Fin k0_t1_loop.trips) : Fin 4 → Nat :=
  let c1_i32_548 : BitVec 32 := 1#32
  let c0_i32 : BitVec 32 := 0#32
  let c1_i32 : BitVec 32 := 1#32
  let arg14 : BitVec 32 := Scf.iv c0_i32 c1_i32 k0_t1
  let c2_i32_286 : BitVec 32 := 2#32
  let v348 : BitVec 32 := Scalar.remsi arg14 c2_i32_286
  let v1048 : BitVec 32 := Scalar.subi c1_i32_548 v348
  let v1121 : Index := Scalar.indexCast v1048
  let c0_603 : Index := 0#32
  let c9_604 : Index := 9#32
  let c0_605 : Index := 0#32
  ![v1121.toNat, 0, 9, 0]
def k0_off46 (k0_t1 : Fin k0_t1_loop.trips) : Fin 3 → Nat :=
  let c9_607 : Index := 9#32
  let c0_i32 : BitVec 32 := 0#32
  let c1_i32 : BitVec 32 := 1#32
  let arg14 : BitVec 32 := Scf.iv c0_i32 c1_i32 k0_t1
  let c64_i32_545 : BitVec 32 := 64#32
  let v1045 : BitVec 32 := Scalar.addi arg14 c64_i32_545
  let c1_i32_546 : BitVec 32 := 1#32
  let v1046 : BitVec 32 := Scalar.subi v1045 c1_i32_546
  let c64_i32_547 : BitVec 32 := 64#32
  let v1047 : BitVec 32 := Scalar.remsi v1046 c64_i32_547
  let c8_i32_606 : BitVec 32 := 8#32
  let v1124 : BitVec 32 := Scalar.muli v1047 c8_i32_606
  let v1125 : Index := Scalar.indexCast v1124
  let c0_608 : Index := 0#32
  ![9, v1125.toNat, 0]
def k0_off47 (k0_t1 : Fin k0_t1_loop.trips) : Fin 4 → Nat :=
  let c1_i32_548 : BitVec 32 := 1#32
  let c0_i32 : BitVec 32 := 0#32
  let c1_i32 : BitVec 32 := 1#32
  let arg14 : BitVec 32 := Scf.iv c0_i32 c1_i32 k0_t1
  let c2_i32_286 : BitVec 32 := 2#32
  let v348 : BitVec 32 := Scalar.remsi arg14 c2_i32_286
  let v1048 : BitVec 32 := Scalar.subi c1_i32_548 v348
  let v1129 : Index := Scalar.indexCast v1048
  let c0_609 : Index := 0#32
  let c10_610 : Index := 10#32
  let c0_611 : Index := 0#32
  ![v1129.toNat, 0, 10, 0]
def k0_off48 (k0_t1 : Fin k0_t1_loop.trips) : Fin 3 → Nat :=
  let c10_613 : Index := 10#32
  let c0_i32 : BitVec 32 := 0#32
  let c1_i32 : BitVec 32 := 1#32
  let arg14 : BitVec 32 := Scf.iv c0_i32 c1_i32 k0_t1
  let c64_i32_545 : BitVec 32 := 64#32
  let v1045 : BitVec 32 := Scalar.addi arg14 c64_i32_545
  let c1_i32_546 : BitVec 32 := 1#32
  let v1046 : BitVec 32 := Scalar.subi v1045 c1_i32_546
  let c64_i32_547 : BitVec 32 := 64#32
  let v1047 : BitVec 32 := Scalar.remsi v1046 c64_i32_547
  let c8_i32_612 : BitVec 32 := 8#32
  let v1132 : BitVec 32 := Scalar.muli v1047 c8_i32_612
  let v1133 : Index := Scalar.indexCast v1132
  let c0_614 : Index := 0#32
  ![10, v1133.toNat, 0]
def k0_off49 (k0_t1 : Fin k0_t1_loop.trips) : Fin 4 → Nat :=
  let c1_i32_548 : BitVec 32 := 1#32
  let c0_i32 : BitVec 32 := 0#32
  let c1_i32 : BitVec 32 := 1#32
  let arg14 : BitVec 32 := Scf.iv c0_i32 c1_i32 k0_t1
  let c2_i32_286 : BitVec 32 := 2#32
  let v348 : BitVec 32 := Scalar.remsi arg14 c2_i32_286
  let v1048 : BitVec 32 := Scalar.subi c1_i32_548 v348
  let v1137 : Index := Scalar.indexCast v1048
  let c0_615 : Index := 0#32
  let c11_616 : Index := 11#32
  let c0_617 : Index := 0#32
  ![v1137.toNat, 0, 11, 0]
def k0_off50 (k0_t1 : Fin k0_t1_loop.trips) : Fin 3 → Nat :=
  let c11_619 : Index := 11#32
  let c0_i32 : BitVec 32 := 0#32
  let c1_i32 : BitVec 32 := 1#32
  let arg14 : BitVec 32 := Scf.iv c0_i32 c1_i32 k0_t1
  let c64_i32_545 : BitVec 32 := 64#32
  let v1045 : BitVec 32 := Scalar.addi arg14 c64_i32_545
  let c1_i32_546 : BitVec 32 := 1#32
  let v1046 : BitVec 32 := Scalar.subi v1045 c1_i32_546
  let c64_i32_547 : BitVec 32 := 64#32
  let v1047 : BitVec 32 := Scalar.remsi v1046 c64_i32_547
  let c8_i32_618 : BitVec 32 := 8#32
  let v1140 : BitVec 32 := Scalar.muli v1047 c8_i32_618
  let v1141 : Index := Scalar.indexCast v1140
  let c0_620 : Index := 0#32
  ![11, v1141.toNat, 0]
def k0_off51 (k0_t1 : Fin k0_t1_loop.trips) : Fin 4 → Nat :=
  let c1_i32_548 : BitVec 32 := 1#32
  let c0_i32 : BitVec 32 := 0#32
  let c1_i32 : BitVec 32 := 1#32
  let arg14 : BitVec 32 := Scf.iv c0_i32 c1_i32 k0_t1
  let c2_i32_286 : BitVec 32 := 2#32
  let v348 : BitVec 32 := Scalar.remsi arg14 c2_i32_286
  let v1048 : BitVec 32 := Scalar.subi c1_i32_548 v348
  let v1145 : Index := Scalar.indexCast v1048
  let c0_621 : Index := 0#32
  let c12_622 : Index := 12#32
  let c0_623 : Index := 0#32
  ![v1145.toNat, 0, 12, 0]
def k0_off52 (k0_t1 : Fin k0_t1_loop.trips) : Fin 3 → Nat :=
  let c12_625 : Index := 12#32
  let c0_i32 : BitVec 32 := 0#32
  let c1_i32 : BitVec 32 := 1#32
  let arg14 : BitVec 32 := Scf.iv c0_i32 c1_i32 k0_t1
  let c64_i32_545 : BitVec 32 := 64#32
  let v1045 : BitVec 32 := Scalar.addi arg14 c64_i32_545
  let c1_i32_546 : BitVec 32 := 1#32
  let v1046 : BitVec 32 := Scalar.subi v1045 c1_i32_546
  let c64_i32_547 : BitVec 32 := 64#32
  let v1047 : BitVec 32 := Scalar.remsi v1046 c64_i32_547
  let c8_i32_624 : BitVec 32 := 8#32
  let v1148 : BitVec 32 := Scalar.muli v1047 c8_i32_624
  let v1149 : Index := Scalar.indexCast v1148
  let c0_626 : Index := 0#32
  ![12, v1149.toNat, 0]
def k0_off53 (k0_t1 : Fin k0_t1_loop.trips) : Fin 4 → Nat :=
  let c1_i32_548 : BitVec 32 := 1#32
  let c0_i32 : BitVec 32 := 0#32
  let c1_i32 : BitVec 32 := 1#32
  let arg14 : BitVec 32 := Scf.iv c0_i32 c1_i32 k0_t1
  let c2_i32_286 : BitVec 32 := 2#32
  let v348 : BitVec 32 := Scalar.remsi arg14 c2_i32_286
  let v1048 : BitVec 32 := Scalar.subi c1_i32_548 v348
  let v1153 : Index := Scalar.indexCast v1048
  let c0_627 : Index := 0#32
  let c13_628 : Index := 13#32
  let c0_629 : Index := 0#32
  ![v1153.toNat, 0, 13, 0]
def k0_off54 (k0_t1 : Fin k0_t1_loop.trips) : Fin 3 → Nat :=
  let c13_631 : Index := 13#32
  let c0_i32 : BitVec 32 := 0#32
  let c1_i32 : BitVec 32 := 1#32
  let arg14 : BitVec 32 := Scf.iv c0_i32 c1_i32 k0_t1
  let c64_i32_545 : BitVec 32 := 64#32
  let v1045 : BitVec 32 := Scalar.addi arg14 c64_i32_545
  let c1_i32_546 : BitVec 32 := 1#32
  let v1046 : BitVec 32 := Scalar.subi v1045 c1_i32_546
  let c64_i32_547 : BitVec 32 := 64#32
  let v1047 : BitVec 32 := Scalar.remsi v1046 c64_i32_547
  let c8_i32_630 : BitVec 32 := 8#32
  let v1156 : BitVec 32 := Scalar.muli v1047 c8_i32_630
  let v1157 : Index := Scalar.indexCast v1156
  let c0_632 : Index := 0#32
  ![13, v1157.toNat, 0]
def k0_off55 (k0_t1 : Fin k0_t1_loop.trips) : Fin 4 → Nat :=
  let c1_i32_548 : BitVec 32 := 1#32
  let c0_i32 : BitVec 32 := 0#32
  let c1_i32 : BitVec 32 := 1#32
  let arg14 : BitVec 32 := Scf.iv c0_i32 c1_i32 k0_t1
  let c2_i32_286 : BitVec 32 := 2#32
  let v348 : BitVec 32 := Scalar.remsi arg14 c2_i32_286
  let v1048 : BitVec 32 := Scalar.subi c1_i32_548 v348
  let v1161 : Index := Scalar.indexCast v1048
  let c0_633 : Index := 0#32
  let c14_634 : Index := 14#32
  let c0_635 : Index := 0#32
  ![v1161.toNat, 0, 14, 0]
def k0_off56 (k0_t1 : Fin k0_t1_loop.trips) : Fin 3 → Nat :=
  let c14_637 : Index := 14#32
  let c0_i32 : BitVec 32 := 0#32
  let c1_i32 : BitVec 32 := 1#32
  let arg14 : BitVec 32 := Scf.iv c0_i32 c1_i32 k0_t1
  let c64_i32_545 : BitVec 32 := 64#32
  let v1045 : BitVec 32 := Scalar.addi arg14 c64_i32_545
  let c1_i32_546 : BitVec 32 := 1#32
  let v1046 : BitVec 32 := Scalar.subi v1045 c1_i32_546
  let c64_i32_547 : BitVec 32 := 64#32
  let v1047 : BitVec 32 := Scalar.remsi v1046 c64_i32_547
  let c8_i32_636 : BitVec 32 := 8#32
  let v1164 : BitVec 32 := Scalar.muli v1047 c8_i32_636
  let v1165 : Index := Scalar.indexCast v1164
  let c0_638 : Index := 0#32
  ![14, v1165.toNat, 0]
def k0_off57 (k0_t1 : Fin k0_t1_loop.trips) : Fin 4 → Nat :=
  let c1_i32_548 : BitVec 32 := 1#32
  let c0_i32 : BitVec 32 := 0#32
  let c1_i32 : BitVec 32 := 1#32
  let arg14 : BitVec 32 := Scf.iv c0_i32 c1_i32 k0_t1
  let c2_i32_286 : BitVec 32 := 2#32
  let v348 : BitVec 32 := Scalar.remsi arg14 c2_i32_286
  let v1048 : BitVec 32 := Scalar.subi c1_i32_548 v348
  let v1169 : Index := Scalar.indexCast v1048
  let c0_639 : Index := 0#32
  let c15_640 : Index := 15#32
  let c0_641 : Index := 0#32
  ![v1169.toNat, 0, 15, 0]
def k0_off58 (k0_t1 : Fin k0_t1_loop.trips) : Fin 3 → Nat :=
  let c15_643 : Index := 15#32
  let c0_i32 : BitVec 32 := 0#32
  let c1_i32 : BitVec 32 := 1#32
  let arg14 : BitVec 32 := Scf.iv c0_i32 c1_i32 k0_t1
  let c64_i32_545 : BitVec 32 := 64#32
  let v1045 : BitVec 32 := Scalar.addi arg14 c64_i32_545
  let c1_i32_546 : BitVec 32 := 1#32
  let v1046 : BitVec 32 := Scalar.subi v1045 c1_i32_546
  let c64_i32_547 : BitVec 32 := 64#32
  let v1047 : BitVec 32 := Scalar.remsi v1046 c64_i32_547
  let c8_i32_642 : BitVec 32 := 8#32
  let v1172 : BitVec 32 := Scalar.muli v1047 c8_i32_642
  let v1173 : Index := Scalar.indexCast v1172
  let c0_644 : Index := 0#32
  ![15, v1173.toNat, 0]
def k0_off59 : Fin 4 → Nat :=
  let c63_i32 : BitVec 32 := 63#32
  let c2_i32 : BitVec 32 := 2#32
  let v111 : BitVec 32 := Scalar.remsi c63_i32 c2_i32
  let v112 : Index := Scalar.indexCast v111
  let c0_91 : Index := 0#32
  let c0_92 : Index := 0#32
  let c0_93 : Index := 0#32
  ![v112.toNat, 0, 0, 0]
def k0_off60 : Fin 4 → Nat :=
  let c63_i32 : BitVec 32 := 63#32
  let c2_i32 : BitVec 32 := 2#32
  let v111 : BitVec 32 := Scalar.remsi c63_i32 c2_i32
  let v118 : Index := Scalar.indexCast v111
  let c0_96 : Index := 0#32
  let c1_97 : Index := 1#32
  let c0_98 : Index := 0#32
  ![v118.toNat, 0, 1, 0]
def k0_off61 : Fin 4 → Nat :=
  let c63_i32 : BitVec 32 := 63#32
  let c2_i32 : BitVec 32 := 2#32
  let v111 : BitVec 32 := Scalar.remsi c63_i32 c2_i32
  let v124 : Index := Scalar.indexCast v111
  let c0_102 : Index := 0#32
  let c2_103 : Index := 2#32
  let c0_104 : Index := 0#32
  ![v124.toNat, 0, 2, 0]
def k0_off62 : Fin 4 → Nat :=
  let c63_i32 : BitVec 32 := 63#32
  let c2_i32 : BitVec 32 := 2#32
  let v111 : BitVec 32 := Scalar.remsi c63_i32 c2_i32
  let v130 : Index := Scalar.indexCast v111
  let c0_108 : Index := 0#32
  let c3_109 : Index := 3#32
  let c0_110 : Index := 0#32
  ![v130.toNat, 0, 3, 0]
def k0_off63 : Fin 4 → Nat :=
  let c63_i32 : BitVec 32 := 63#32
  let c2_i32 : BitVec 32 := 2#32
  let v111 : BitVec 32 := Scalar.remsi c63_i32 c2_i32
  let v136 : Index := Scalar.indexCast v111
  let c0_114 : Index := 0#32
  let c4_115 : Index := 4#32
  let c0_116 : Index := 0#32
  ![v136.toNat, 0, 4, 0]
def k0_off64 : Fin 4 → Nat :=
  let c63_i32 : BitVec 32 := 63#32
  let c2_i32 : BitVec 32 := 2#32
  let v111 : BitVec 32 := Scalar.remsi c63_i32 c2_i32
  let v142 : Index := Scalar.indexCast v111
  let c0_120 : Index := 0#32
  let c5_121 : Index := 5#32
  let c0_122 : Index := 0#32
  ![v142.toNat, 0, 5, 0]
def k0_off65 : Fin 4 → Nat :=
  let c63_i32 : BitVec 32 := 63#32
  let c2_i32 : BitVec 32 := 2#32
  let v111 : BitVec 32 := Scalar.remsi c63_i32 c2_i32
  let v148 : Index := Scalar.indexCast v111
  let c0_126 : Index := 0#32
  let c6_127 : Index := 6#32
  let c0_128 : Index := 0#32
  ![v148.toNat, 0, 6, 0]
def k0_off66 : Fin 4 → Nat :=
  let c63_i32 : BitVec 32 := 63#32
  let c2_i32 : BitVec 32 := 2#32
  let v111 : BitVec 32 := Scalar.remsi c63_i32 c2_i32
  let v154 : Index := Scalar.indexCast v111
  let c0_132 : Index := 0#32
  let c7_133 : Index := 7#32
  let c0_134 : Index := 0#32
  ![v154.toNat, 0, 7, 0]
def k0_off67 : Fin 4 → Nat :=
  let c63_i32 : BitVec 32 := 63#32
  let c2_i32 : BitVec 32 := 2#32
  let v111 : BitVec 32 := Scalar.remsi c63_i32 c2_i32
  let v160 : Index := Scalar.indexCast v111
  let c0_138 : Index := 0#32
  let c8_139 : Index := 8#32
  let c0_140 : Index := 0#32
  ![v160.toNat, 0, 8, 0]
def k0_off68 : Fin 4 → Nat :=
  let c63_i32 : BitVec 32 := 63#32
  let c2_i32 : BitVec 32 := 2#32
  let v111 : BitVec 32 := Scalar.remsi c63_i32 c2_i32
  let v166 : Index := Scalar.indexCast v111
  let c0_144 : Index := 0#32
  let c9_145 : Index := 9#32
  let c0_146 : Index := 0#32
  ![v166.toNat, 0, 9, 0]
def k0_off69 : Fin 4 → Nat :=
  let c63_i32 : BitVec 32 := 63#32
  let c2_i32 : BitVec 32 := 2#32
  let v111 : BitVec 32 := Scalar.remsi c63_i32 c2_i32
  let v172 : Index := Scalar.indexCast v111
  let c0_150 : Index := 0#32
  let c10_151 : Index := 10#32
  let c0_152 : Index := 0#32
  ![v172.toNat, 0, 10, 0]
def k0_off70 : Fin 4 → Nat :=
  let c63_i32 : BitVec 32 := 63#32
  let c2_i32 : BitVec 32 := 2#32
  let v111 : BitVec 32 := Scalar.remsi c63_i32 c2_i32
  let v178 : Index := Scalar.indexCast v111
  let c0_156 : Index := 0#32
  let c11_157 : Index := 11#32
  let c0_158 : Index := 0#32
  ![v178.toNat, 0, 11, 0]
def k0_off71 : Fin 4 → Nat :=
  let c63_i32 : BitVec 32 := 63#32
  let c2_i32 : BitVec 32 := 2#32
  let v111 : BitVec 32 := Scalar.remsi c63_i32 c2_i32
  let v184 : Index := Scalar.indexCast v111
  let c0_162 : Index := 0#32
  let c12_163 : Index := 12#32
  let c0_164 : Index := 0#32
  ![v184.toNat, 0, 12, 0]
def k0_off72 : Fin 4 → Nat :=
  let c63_i32 : BitVec 32 := 63#32
  let c2_i32 : BitVec 32 := 2#32
  let v111 : BitVec 32 := Scalar.remsi c63_i32 c2_i32
  let v190 : Index := Scalar.indexCast v111
  let c0_168 : Index := 0#32
  let c13_169 : Index := 13#32
  let c0_170 : Index := 0#32
  ![v190.toNat, 0, 13, 0]
def k0_off73 : Fin 4 → Nat :=
  let c63_i32 : BitVec 32 := 63#32
  let c2_i32 : BitVec 32 := 2#32
  let v111 : BitVec 32 := Scalar.remsi c63_i32 c2_i32
  let v196 : Index := Scalar.indexCast v111
  let c0_174 : Index := 0#32
  let c14_175 : Index := 14#32
  let c0_176 : Index := 0#32
  ![v196.toNat, 0, 14, 0]
def k0_off74 : Fin 4 → Nat :=
  let c63_i32 : BitVec 32 := 63#32
  let c2_i32 : BitVec 32 := 2#32
  let v111 : BitVec 32 := Scalar.remsi c63_i32 c2_i32
  let v202 : Index := Scalar.indexCast v111
  let c0_180 : Index := 0#32
  let c15_181 : Index := 15#32
  let c0_182 : Index := 0#32
  ![v202.toNat, 0, 15, 0]
@[reducible] def k0_t2_loop : Scf.Loop 32 :=
  let c0_i32_186 : BitVec 32 := 0#32
  let c64_i32_187 : BitVec 32 := 64#32
  let v208 : BitVec 32 := Scalar.addi c0_i32_186 c64_i32_187
  let c1_i32_188 : BitVec 32 := 1#32
  ⟨c0_i32_186, v208, c1_i32_188⟩
def k0_off75 (k0_t2 : Fin k0_t2_loop.trips) : Fin 3 → Nat :=
  let c0_221 : Index := 0#32
  let c0_i32_186 : BitVec 32 := 0#32
  let c1_i32_188 : BitVec 32 := 1#32
  let arg14 : BitVec 32 := Scf.iv c0_i32_186 c1_i32_188 k0_t2
  let v292 : Index := Scalar.indexCast arg14
  let c0_222 : Index := 0#32
  ![0, v292.toNat, 0]
abbrev stage0_0 : Fin 1 → Memref sig .tc .vmem S16x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x512x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x64x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== ReferenceIdeal.lean ====
abbrev S16x512x256 : Shape := ⟨3, ![16, 512, 256]⟩
abbrev S16 : Shape := ⟨1, ![16]⟩
abbrev S16x64 : Shape := ⟨2, ![16, 64]⟩
abbrev S1024x256 : Shape := ⟨2, ![1024, 256]⟩
abbrev S1024 : Shape := ⟨1, ![1024]⟩
abbrev S_ : Shape := ⟨0, ![]⟩
abbrev S2x16x256 : Shape := ⟨3, ![2, 16, 256]⟩
abbrev S512x16x256 : Shape := ⟨3, ![512, 16, 256]⟩
abbrev S512 : Shape := ⟨1, ![512]⟩
abbrev S1x16x256 : Shape := ⟨3, ![1, 16, 256]⟩
abbrev S16x256 : Shape := ⟨2, ![16, 256]⟩
abbrev S1 : Shape := ⟨1, ![1]⟩
abbrev S256x1024 : Shape := ⟨2, ![256, 1024]⟩
abbrev S16x1024 : Shape := ⟨2, ![16, 1024]⟩
abbrev S1x1024 : Shape := ⟨2, ![1, 1024]⟩
abbrev S1x16x1 : Shape := ⟨3, ![1, 16, 1]⟩
abbrev S16x1 : Shape := ⟨2, ![16, 1]⟩
abbrev S16x2 : Shape := ⟨2, ![16, 2]⟩
abbrev S64x16 : Shape := ⟨2, ![64, 16]⟩
abbrev S64x16x256 : Shape := ⟨3, ![64, 16, 256]⟩
abbrev S1x16 : Shape := ⟨2, ![1, 16]⟩
abbrev S16x64x256 : Shape := ⟨3, ![16, 64, 256]⟩
abbrev S64 : Shape := ⟨1, ![64]⟩
abbrev S1x64 : Shape := ⟨2, ![1, 64]⟩
abbrev S16x64x1 : Shape := ⟨3, ![16, 64, 1]⟩

abbrev nBuf : Space → Nat
  | .hbm => 349
  | .vmem => 0
  | .smem => 0
  | _ => 0

abbrev hbmTy0_0 (i : Nat) : BufTy := match i % 128 with
  | 0 => ⟨S16x512x256, .f32⟩
  | 1 => ⟨S16, .i32⟩
  | 2 => ⟨S16, .i32⟩
  | 3 => ⟨S16x64, .i1⟩
  | 4 => ⟨S1024x256, .f32⟩
  | 5 => ⟨S1024x256, .f32⟩
  | 6 => ⟨S1024, .f32⟩
  | 7 => ⟨S1024, .f32⟩
  | 8 => ⟨S1024x256, .f32⟩
  | 9 => ⟨S1024x256, .f32⟩
  | 10 => ⟨S1024, .f32⟩
  | 11 => ⟨S1024, .f32⟩
  | 12 => ⟨S_, .f32⟩
  | 13 => ⟨S2x16x256, .f32⟩
  | 14 => ⟨S_, .f32⟩
  | 15 => ⟨S2x16x256, .f32⟩
  | 16 => ⟨S512x16x256, .f32⟩
  | 17 => ⟨S512, .i32⟩
  | 18 => ⟨S_, .f32⟩
  | 19 => ⟨S512x16x256, .f32⟩
  | 20 => ⟨S_, .i32⟩
  | 21 => ⟨S512x16x256, .f32⟩
  | 22 => ⟨S512, .i32⟩
  | 23 => ⟨S1024x256, .f32⟩
  | 24 => ⟨S1024x256, .f32⟩
  | 25 => ⟨S1024, .f32⟩
  | 26 => ⟨S1024, .f32⟩
  | 27 => ⟨S1024x256, .f32⟩
  | 28 => ⟨S1024x256, .f32⟩
  | 29 => ⟨S1024, .f32⟩
  | 30 => ⟨S1024, .f32⟩
  | 31 => ⟨S16, .i32⟩
  | 32 => ⟨S_, .i32⟩
  | 33 => ⟨S2x16x256, .f32⟩
  | 34 => ⟨S2x16x256, .f32⟩
  | 35 => ⟨S512x16x256, .f32⟩
  | 36 => ⟨S_, .i32⟩
  | 37 => ⟨S_, .i1⟩
  | 38 => ⟨S_, .i32⟩
  | 39 => ⟨S_, .i32⟩
  | 40 => ⟨S1x16x256, .f32⟩
  | 41 => ⟨S16x256, .f32⟩
  | 42 => ⟨S1, .i32⟩
  | 43 => ⟨S_, .i32⟩
  | 44 => ⟨S1x16x256, .f32⟩
  | 45 => ⟨S16x256, .f32⟩
  | 46 => ⟨S1x16x256, .f32⟩
  | 47 => ⟨S16x256, .f32⟩
  | 48 => ⟨S256x1024, .f32⟩
  | 49 => ⟨S16x1024, .f32⟩
  | 50 => ⟨S256x1024, .f32⟩
  | 51 => ⟨S16x1024, .f32⟩
  | 52 => ⟨S16x1024, .f32⟩
  | 53 => ⟨S1x1024, .f32⟩
  | 54 => ⟨S16x1024, .f32⟩
  | 55 => ⟨S16x1024, .f32⟩
  | 56 => ⟨S1x1024, .f32⟩
  | 57 => ⟨S16x1024, .f32⟩
  | 58 => ⟨S16x1024, .f32⟩
  | 59 => ⟨S16x256, .f32⟩
  | 60 => ⟨S16x256, .f32⟩
  | 61 => ⟨S16x256, .f32⟩
  | 62 => ⟨S_, .f32⟩
  | 63 => ⟨S16x256, .f32⟩
  | 64 => ⟨S16x256, .f32⟩
  | 65 => ⟨S_, .f32⟩
  | 66 => ⟨S16x256, .f32⟩
  | 67 => ⟨S16x256, .f32⟩
  | 68 => ⟨S16x256, .f32⟩
  | 69 => ⟨S16x256, .f32⟩
  | 70 => ⟨S16x256, .f32⟩
  | 71 => ⟨S_, .f32⟩
  | 72 => ⟨S16x256, .f32⟩
  | 73 => ⟨S16x256, .f32⟩
  | 74 => ⟨S_, .f32⟩
  | 75 => ⟨S16x256, .f32⟩
  | 76 => ⟨S16x256, .f32⟩
  | 77 => ⟨S16x256, .f32⟩
  | 78 => ⟨S16x256, .f32⟩
  | 79 => ⟨S16x256, .f32⟩
  | 80 => ⟨S16x256, .f32⟩
  | 81 => ⟨S16x256, .f32⟩
  | 82 => ⟨S_, .f32⟩
  | 83 => ⟨S16x256, .f32⟩
  | 84 => ⟨S16x256, .f32⟩
  | 85 => ⟨S_, .f32⟩
  | 86 => ⟨S16x256, .f32⟩
  | 87 => ⟨S16x256, .f32⟩
  | 88 => ⟨S16x256, .f32⟩
  | 89 => ⟨S16x256, .f32⟩
  | 90 => ⟨S16x256, .f32⟩
  | 91 => ⟨S16x256, .f32⟩
  | 92 => ⟨S16x256, .f32⟩
  | 93 => ⟨S1x16x256, .f32⟩
  | 94 => ⟨S16x256, .f32⟩
  | 95 => ⟨S1x16x256, .f32⟩
  | 96 => ⟨S16x256, .f32⟩
  | 97 => ⟨S256x1024, .f32⟩
  | 98 => ⟨S16x1024, .f32⟩
  | 99 => ⟨S256x1024, .f32⟩
  | 100 => ⟨S16x1024, .f32⟩
  | 101 => ⟨S16x1024, .f32⟩
  | 102 => ⟨S1x1024, .f32⟩
  | 103 => ⟨S16x1024, .f32⟩
  | 104 => ⟨S16x1024, .f32⟩
  | 105 => ⟨S1x1024, .f32⟩
  | 106 => ⟨S16x1024, .f32⟩
  | 107 => ⟨S16x1024, .f32⟩
  | 108 => ⟨S16x256, .f32⟩
  | 109 => ⟨S16x256, .f32⟩
  | 110 => ⟨S16x256, .f32⟩
  | 111 => ⟨S_, .f32⟩
  | 112 => ⟨S16x256, .f32⟩
  | 113 => ⟨S16x256, .f32⟩
  | 114 => ⟨S_, .f32⟩
  | 115 => ⟨S16x256, .f32⟩
  | 116 => ⟨S16x256, .f32⟩
  | 117 => ⟨S16x256, .f32⟩
  | 118 => ⟨S16x256, .f32⟩
  | 119 => ⟨S16x256, .f32⟩
  | 120 => ⟨S_, .f32⟩
  | 121 => ⟨S16x256, .f32⟩
  | 122 => ⟨S16x256, .f32⟩
  | 123 => ⟨S_, .f32⟩
  | 124 => ⟨S16x256, .f32⟩
  | 125 => ⟨S16x256, .f32⟩
  | 126 => ⟨S16x256, .f32⟩
  | 127 => ⟨S16x256, .f32⟩
  | _ => ⟨S16x512x256, .f32⟩

abbrev hbmTy0_1 (i : Nat) : BufTy := match i % 128 with
  | 0 => ⟨S16x256, .f32⟩
  | 1 => ⟨S16x256, .f32⟩
  | 2 => ⟨S16x256, .f32⟩
  | 3 => ⟨S_, .f32⟩
  | 4 => ⟨S16x256, .f32⟩
  | 5 => ⟨S16x256, .f32⟩
  | 6 => ⟨S_, .f32⟩
  | 7 => ⟨S16x256, .f32⟩
  | 8 => ⟨S16x256, .f32⟩
  | 9 => ⟨S16x256, .f32⟩
  | 10 => ⟨S16x256, .f32⟩
  | 11 => ⟨S16x256, .f32⟩
  | 12 => ⟨S16x256, .f32⟩
  | 13 => ⟨S16x256, .f32⟩
  | 14 => ⟨S1x16x256, .f32⟩
  | 15 => ⟨S1x16x256, .f32⟩
  | 16 => ⟨S2x16x256, .f32⟩
  | 17 => ⟨S1x16x256, .f32⟩
  | 18 => ⟨S1x16x256, .f32⟩
  | 19 => ⟨S2x16x256, .f32⟩
  | 20 => ⟨S16, .i32⟩
  | 21 => ⟨S16, .i1⟩
  | 22 => ⟨S1x16x1, .i1⟩
  | 23 => ⟨S2x16x256, .i1⟩
  | 24 => ⟨S2x16x256, .f32⟩
  | 25 => ⟨S1x16x1, .i1⟩
  | 26 => ⟨S2x16x256, .i1⟩
  | 27 => ⟨S2x16x256, .f32⟩
  | 28 => ⟨S16x1, .i1⟩
  | 29 => ⟨S_, .f32⟩
  | 30 => ⟨S_, .f32⟩
  | 31 => ⟨S16x256, .i1⟩
  | 32 => ⟨S16x256, .f32⟩
  | 33 => ⟨S16x256, .f32⟩
  | 34 => ⟨S1x16x256, .f32⟩
  | 35 => ⟨S_, .i32⟩
  | 36 => ⟨S_, .i32⟩
  | 37 => ⟨S512x16x256, .f32⟩
  | 38 => ⟨S_, .i32⟩
  | 39 => ⟨S_, .i32⟩
  | 40 => ⟨S16x512x256, .f32⟩
  | 41 => ⟨S16, .i32⟩
  | 42 => ⟨S_, .i32⟩
  | 43 => ⟨S16, .i32⟩
  | 44 => ⟨S16, .i32⟩
  | 45 => ⟨S_, .i32⟩
  | 46 => ⟨S16, .i32⟩
  | 47 => ⟨S16, .i1⟩
  | 48 => ⟨S_, .i32⟩
  | 49 => ⟨S16, .i32⟩
  | 50 => ⟨S16, .i32⟩
  | 51 => ⟨S16, .i32⟩
  | 52 => ⟨S_, .i32⟩
  | 53 => ⟨S16, .i32⟩
  | 54 => ⟨S16, .i1⟩
  | 55 => ⟨S_, .i32⟩
  | 56 => ⟨S16, .i32⟩
  | 57 => ⟨S16, .i32⟩
  | 58 => ⟨S16, .i32⟩
  | 59 => ⟨S16x1, .i32⟩
  | 60 => ⟨S16x1, .i32⟩
  | 61 => ⟨S16x2, .i32⟩
  | 62 => ⟨S16x256, .f32⟩
  | 63 => ⟨S64x16, .i1⟩
  | 64 => ⟨S_, .f32⟩
  | 65 => ⟨S64x16x256, .f32⟩
  | 66 => ⟨S_, .i32⟩
  | 67 => ⟨S64x16, .i1⟩
  | 68 => ⟨S1024x256, .f32⟩
  | 69 => ⟨S1024x256, .f32⟩
  | 70 => ⟨S1024, .f32⟩
  | 71 => ⟨S1024, .f32⟩
  | 72 => ⟨S1024x256, .f32⟩
  | 73 => ⟨S1024x256, .f32⟩
  | 74 => ⟨S1024, .f32⟩
  | 75 => ⟨S1024, .f32⟩
  | 76 => ⟨S_, .i32⟩
  | 77 => ⟨S2x16x256, .f32⟩
  | 78 => ⟨S2x16x256, .f32⟩
  | 79 => ⟨S16x256, .f32⟩
  | 80 => ⟨S64x16x256, .f32⟩
  | 81 => ⟨S_, .i32⟩
  | 82 => ⟨S_, .i1⟩
  | 83 => ⟨S_, .i32⟩
  | 84 => ⟨S1x16, .i1⟩
  | 85 => ⟨S16, .i1⟩
  | 86 => ⟨S1x16x256, .f32⟩
  | 87 => ⟨S16x256, .f32⟩
  | 88 => ⟨S1x16x256, .f32⟩
  | 89 => ⟨S16x256, .f32⟩
  | 90 => ⟨S256x1024, .f32⟩
  | 91 => ⟨S16x1024, .f32⟩
  | 92 => ⟨S256x1024, .f32⟩
  | 93 => ⟨S16x1024, .f32⟩
  | 94 => ⟨S16x1024, .f32⟩
  | 95 => ⟨S1x1024, .f32⟩
  | 96 => ⟨S16x1024, .f32⟩
  | 97 => ⟨S16x1024, .f32⟩
  | 98 => ⟨S1x1024, .f32⟩
  | 99 => ⟨S16x1024, .f32⟩
  | 100 => ⟨S16x1024, .f32⟩
  | 101 => ⟨S16x256, .f32⟩
  | 102 => ⟨S16x256, .f32⟩
  | 103 => ⟨S16x256, .f32⟩
  | 104 => ⟨S_, .f32⟩
  | 105 => ⟨S16x256, .f32⟩
  | 106 => ⟨S16x256, .f32⟩
  | 107 => ⟨S_, .f32⟩
  | 108 => ⟨S16x256, .f32⟩
  | 109 => ⟨S16x256, .f32⟩
  | 110 => ⟨S16x256, .f32⟩
  | 111 => ⟨S16x256, .f32⟩
  | 112 => ⟨S16x256, .f32⟩
  | 113 => ⟨S_, .f32⟩
  | 114 => ⟨S16x256, .f32⟩
  | 115 => ⟨S16x256, .f32⟩
  | 116 => ⟨S_, .f32⟩
  | 117 => ⟨S16x256, .f32⟩
  | 118 => ⟨S16x256, .f32⟩
  | 119 => ⟨S16x256, .f32⟩
  | 120 => ⟨S16x256, .f32⟩
  | 121 => ⟨S16x256, .f32⟩
  | 122 => ⟨S16x256, .f32⟩
  | 123 => ⟨S16x256, .f32⟩
  | 124 => ⟨S_, .f32⟩
  | 125 => ⟨S16x256, .f32⟩
  | 126 => ⟨S16x256, .f32⟩
  | 127 => ⟨S_, .f32⟩
  | _ => ⟨S16x512x256, .f32⟩

abbrev hbmTy0_2 (i : Nat) : BufTy := match i % 128 with
  | 0 => ⟨S16x256, .f32⟩
  | 1 => ⟨S16x256, .f32⟩
  | 2 => ⟨S16x256, .f32⟩
  | 3 => ⟨S16x256, .f32⟩
  | 4 => ⟨S16x256, .f32⟩
  | 5 => ⟨S16x256, .f32⟩
  | 6 => ⟨S16x256, .f32⟩
  | 7 => ⟨S1x16x256, .f32⟩
  | 8 => ⟨S16x256, .f32⟩
  | 9 => ⟨S1x16x256, .f32⟩
  | 10 => ⟨S16x256, .f32⟩
  | 11 => ⟨S256x1024, .f32⟩
  | 12 => ⟨S16x1024, .f32⟩
  | 13 => ⟨S256x1024, .f32⟩
  | 14 => ⟨S16x1024, .f32⟩
  | 15 => ⟨S16x1024, .f32⟩
  | 16 => ⟨S1x1024, .f32⟩
  | 17 => ⟨S16x1024, .f32⟩
  | 18 => ⟨S16x1024, .f32⟩
  | 19 => ⟨S1x1024, .f32⟩
  | 20 => ⟨S16x1024, .f32⟩
  | 21 => ⟨S16x1024, .f32⟩
  | 22 => ⟨S16x256, .f32⟩
  | 23 => ⟨S16x256, .f32⟩
  | 24 => ⟨S16x256, .f32⟩
  | 25 => ⟨S_, .f32⟩
  | 26 => ⟨S16x256, .f32⟩
  | 27 => ⟨S16x256, .f32⟩
  | 28 => ⟨S_, .f32⟩
  | 29 => ⟨S16x256, .f32⟩
  | 30 => ⟨S16x256, .f32⟩
  | 31 => ⟨S16x256, .f32⟩
  | 32 => ⟨S16x256, .f32⟩
  | 33 => ⟨S16x256, .f32⟩
  | 34 => ⟨S_, .f32⟩
  | 35 => ⟨S16x256, .f32⟩
  | 36 => ⟨S16x256, .f32⟩
  | 37 => ⟨S_, .f32⟩
  | 38 => ⟨S16x256, .f32⟩
  | 39 => ⟨S16x256, .f32⟩
  | 40 => ⟨S16x256, .f32⟩
  | 41 => ⟨S16x256, .f32⟩
  | 42 => ⟨S16x256, .f32⟩
  | 43 => ⟨S16x256, .f32⟩
  | 44 => ⟨S16x256, .f32⟩
  | 45 => ⟨S_, .f32⟩
  | 46 => ⟨S16x256, .f32⟩
  | 47 => ⟨S16x256, .f32⟩
  | 48 => ⟨S_, .f32⟩
  | 49 => ⟨S16x256, .f32⟩
  | 50 => ⟨S16x256, .f32⟩
  | 51 => ⟨S16x256, .f32⟩
  | 52 => ⟨S16x256, .f32⟩
  | 53 => ⟨S16x256, .f32⟩
  | 54 => ⟨S16x256, .f32⟩
  | 55 => ⟨S16x256, .f32⟩
  | 56 => ⟨S1x16x256, .f32⟩
  | 57 => ⟨S1x16x256, .f32⟩
  | 58 => ⟨S2x16x256, .f32⟩
  | 59 => ⟨S1x16x256, .f32⟩
  | 60 => ⟨S1x16x256, .f32⟩
  | 61 => ⟨S2x16x256, .f32⟩
  | 62 => ⟨S1x16x1, .i1⟩
  | 63 => ⟨S2x16x256, .i1⟩
  | 64 => ⟨S2x16x256, .f32⟩
  | 65 => ⟨S1x16x1, .i1⟩
  | 66 => ⟨S2x16x256, .i1⟩
  | 67 => ⟨S2x16x256, .f32⟩
  | 68 => ⟨S16x1, .i1⟩
  | 69 => ⟨S_, .f32⟩
  | 70 => ⟨S_, .f32⟩
  | 71 => ⟨S16x256, .i1⟩
  | 72 => ⟨S16x256, .f32⟩
  | 73 => ⟨S16x256, .f32⟩
  | 74 => ⟨S1x16x256, .f32⟩
  | 75 => ⟨S_, .i32⟩
  | 76 => ⟨S_, .i32⟩
  | 77 => ⟨S64x16x256, .f32⟩
  | 78 => ⟨S_, .i32⟩
  | 79 => ⟨S_, .i32⟩
  | 80 => ⟨S16x64x256, .f32⟩
  | 81 => ⟨S64, .i32⟩
  | 82 => ⟨S1x64, .i32⟩
  | 83 => ⟨S16x1, .i32⟩
  | 84 => ⟨S16x64, .i32⟩
  | 85 => ⟨S16x64, .i32⟩
  | 86 => ⟨S16x64, .i1⟩
  | 87 => ⟨S16x64x1, .i1⟩
  | 88 => ⟨S_, .f32⟩
  | 89 => ⟨S_, .f32⟩
  | 90 => ⟨S16x64x256, .i1⟩
  | 91 => ⟨S16x64x256, .f32⟩
  | 92 => ⟨S16x64x256, .f32⟩
  | _ => ⟨S16x512x256, .f32⟩

abbrev hbmTy (i : Nat) : BufTy := match i / 128 with
  | 0 => hbmTy0_0 i
  | 1 => hbmTy0_1 i
  | 2 => hbmTy0_2 i
  | _ => ⟨S16x512x256, .f32⟩

abbrev bufTy : (tb : Table) → Fin (tcTables nBuf tb) → BufTy
  | .hbm, ⟨i, _⟩ => hbmTy i
  | _, _ => ⟨S16x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_c : Ref sig .tc := ⟨.hbm, 20, rfl⟩
abbrev main_v5_0 : Ref sig .tc := ⟨.hbm, 21, rfl⟩
abbrev main_v5_1 : Ref sig .tc := ⟨.hbm, 22, rfl⟩
abbrev main_v5_2 : Ref sig .tc := ⟨.hbm, 23, rfl⟩
abbrev main_v5_3 : Ref sig .tc := ⟨.hbm, 24, rfl⟩
abbrev main_v5_4 : Ref sig .tc := ⟨.hbm, 25, rfl⟩
abbrev main_v5_5 : Ref sig .tc := ⟨.hbm, 26, rfl⟩
abbrev main_v5_6 : Ref sig .tc := ⟨.hbm, 27, rfl⟩
abbrev main_v5_7 : Ref sig .tc := ⟨.hbm, 28, rfl⟩
abbrev main_v5_8 : Ref sig .tc := ⟨.hbm, 29, rfl⟩
abbrev main_v5_9 : Ref sig .tc := ⟨.hbm, 30, rfl⟩
abbrev main_v5_10 : Ref sig .tc := ⟨.hbm, 31, rfl⟩
abbrev main_v5_11 : Ref sig .tc := ⟨.hbm, 32, rfl⟩
abbrev main_v5_12 : Ref sig .tc := ⟨.hbm, 33, rfl⟩
abbrev main_v5_13 : Ref sig .tc := ⟨.hbm, 34, rfl⟩
abbrev main_v5_14 : Ref sig .tc := ⟨.hbm, 35, rfl⟩
abbrev main_while0c_c_24 : Ref sig .tc := ⟨.hbm, 36, rfl⟩
abbrev main_while0c_v36 : Ref sig .tc := ⟨.hbm, 37, rfl⟩
abbrev main_while0b_call0_c : Ref sig .tc := ⟨.hbm, 38, rfl⟩
abbrev main_while0b_call0_c_0 : Ref sig .tc := ⟨.hbm, 39, rfl⟩
abbrev main_while0b_call0_v0 : Ref sig .tc := ⟨.hbm, 40, rfl⟩
abbrev main_while0b_v36 : Ref sig .tc := ⟨.hbm, 41, rfl⟩
abbrev main_while0b_call1_v0 : Ref sig .tc := ⟨.hbm, 42, rfl⟩
abbrev main_while0b_v37 : Ref sig .tc := ⟨.hbm, 43, rfl⟩
abbrev main_while0b_v38 : Ref sig .tc := ⟨.hbm, 44, rfl⟩
abbrev main_while0b_v39 : Ref sig .tc := ⟨.hbm, 45, rfl⟩
abbrev main_while0b_v40 : Ref sig .tc := ⟨.hbm, 46, rfl⟩
abbrev main_while0b_v41 : Ref sig .tc := ⟨.hbm, 47, rfl⟩
abbrev main_while0b_v42 : Ref sig .tc := ⟨.hbm, 48, rfl⟩
abbrev main_while0b_v43 : Ref sig .tc := ⟨.hbm, 49, rfl⟩
abbrev main_while0b_v44 : Ref sig .tc := ⟨.hbm, 50, rfl⟩
abbrev main_while0b_v45 : Ref sig .tc := ⟨.hbm, 51, rfl⟩
abbrev main_while0b_v46 : Ref sig .tc := ⟨.hbm, 52, rfl⟩
abbrev main_while0b_v47 : Ref sig .tc := ⟨.hbm, 53, rfl⟩
abbrev main_while0b_v48 : Ref sig .tc := ⟨.hbm, 54, rfl⟩
abbrev main_while0b_v49 : Ref sig .tc := ⟨.hbm, 55, rfl⟩
abbrev main_while0b_v50 : Ref sig .tc := ⟨.hbm, 56, rfl⟩
abbrev main_while0b_v51 : Ref sig .tc := ⟨.hbm, 57, rfl⟩
abbrev main_while0b_v52 : Ref sig .tc := ⟨.hbm, 58, rfl⟩
abbrev main_while0b_v53 : Ref sig .tc := ⟨.hbm, 59, rfl⟩
abbrev main_while0b_v54 : Ref sig .tc := ⟨.hbm, 60, rfl⟩
abbrev main_while0b_v55 : Ref sig .tc := ⟨.hbm, 61, rfl⟩
abbrev main_while0b_cst_24 : Ref sig .tc := ⟨.hbm, 62, rfl⟩
abbrev main_while0b_v56 : Ref sig .tc := ⟨.hbm, 63, rfl⟩
abbrev main_while0b_v57 : Ref sig .tc := ⟨.hbm, 64, rfl⟩
abbrev main_while0b_cst_25 : Ref sig .tc := ⟨.hbm, 65, rfl⟩
abbrev main_while0b_v58 : Ref sig .tc := ⟨.hbm, 66, rfl⟩
abbrev main_while0b_v59 : Ref sig .tc := ⟨.hbm, 67, rfl⟩
abbrev main_while0b_v60 : Ref sig .tc := ⟨.hbm, 68, rfl⟩
abbrev main_while0b_v61 : Ref sig .tc := ⟨.hbm, 69, rfl⟩
abbrev main_while0b_v62 : Ref sig .tc := ⟨.hbm, 70, rfl⟩
abbrev main_while0b_cst_26 : Ref sig .tc := ⟨.hbm, 71, rfl⟩
abbrev main_while0b_v63 : Ref sig .tc := ⟨.hbm, 72, rfl⟩
abbrev main_while0b_v64 : Ref sig .tc := ⟨.hbm, 73, rfl⟩
abbrev main_while0b_cst_27 : Ref sig .tc := ⟨.hbm, 74, rfl⟩
abbrev main_while0b_v65 : Ref sig .tc := ⟨.hbm, 75, rfl⟩
abbrev main_while0b_v66 : Ref sig .tc := ⟨.hbm, 76, rfl⟩
abbrev main_while0b_v67 : Ref sig .tc := ⟨.hbm, 77, rfl⟩
abbrev main_while0b_v68 : Ref sig .tc := ⟨.hbm, 78, rfl⟩
abbrev main_while0b_v69 : Ref sig .tc := ⟨.hbm, 79, rfl⟩
abbrev main_while0b_v70 : Ref sig .tc := ⟨.hbm, 80, rfl⟩
abbrev main_while0b_v71 : Ref sig .tc := ⟨.hbm, 81, rfl⟩
abbrev main_while0b_cst_28 : Ref sig .tc := ⟨.hbm, 82, rfl⟩
abbrev main_while0b_v72 : Ref sig .tc := ⟨.hbm, 83, rfl⟩
abbrev main_while0b_v73 : Ref sig .tc := ⟨.hbm, 84, rfl⟩
abbrev main_while0b_cst_29 : Ref sig .tc := ⟨.hbm, 85, rfl⟩
abbrev main_while0b_v74 : Ref sig .tc := ⟨.hbm, 86, rfl⟩
abbrev main_while0b_v75 : Ref sig .tc := ⟨.hbm, 87, rfl⟩
abbrev main_while0b_v76 : Ref sig .tc := ⟨.hbm, 88, rfl⟩
abbrev main_while0b_v77 : Ref sig .tc := ⟨.hbm, 89, rfl⟩
abbrev main_while0b_v78 : Ref sig .tc := ⟨.hbm, 90, rfl⟩
abbrev main_while0b_v79 : Ref sig .tc := ⟨.hbm, 91, rfl⟩
abbrev main_while0b_v80 : Ref sig .tc := ⟨.hbm, 92, rfl⟩
abbrev main_while0b_v81 : Ref sig .tc := ⟨.hbm, 93, rfl⟩
abbrev main_while0b_v82 : Ref sig .tc := ⟨.hbm, 94, rfl⟩
abbrev main_while0b_v83 : Ref sig .tc := ⟨.hbm, 95, rfl⟩
abbrev main_while0b_v84 : Ref sig .tc := ⟨.hbm, 96, rfl⟩
abbrev main_while0b_v85 : Ref sig .tc := ⟨.hbm, 97, rfl⟩
abbrev main_while0b_v86 : Ref sig .tc := ⟨.hbm, 98, rfl⟩
abbrev main_while0b_v87 : Ref sig .tc := ⟨.hbm, 99, rfl⟩
abbrev main_while0b_v88 : Ref sig .tc := ⟨.hbm, 100, rfl⟩
abbrev main_while0b_v89 : Ref sig .tc := ⟨.hbm, 101, rfl⟩
abbrev main_while0b_v90 : Ref sig .tc := ⟨.hbm, 102, rfl⟩
abbrev main_while0b_v91 : Ref sig .tc := ⟨.hbm, 103, rfl⟩
abbrev main_while0b_v92 : Ref sig .tc := ⟨.hbm, 104, rfl⟩
abbrev main_while0b_v93 : Ref sig .tc := ⟨.hbm, 105, rfl⟩
abbrev main_while0b_v94 : Ref sig .tc := ⟨.hbm, 106, rfl⟩
abbrev main_while0b_v95 : Ref sig .tc := ⟨.hbm, 107, rfl⟩
abbrev main_while0b_v96 : Ref sig .tc := ⟨.hbm, 108, rfl⟩
abbrev main_while0b_v97 : Ref sig .tc := ⟨.hbm, 109, rfl⟩
abbrev main_while0b_v98 : Ref sig .tc := ⟨.hbm, 110, rfl⟩
abbrev main_while0b_cst_30 : Ref sig .tc := ⟨.hbm, 111, rfl⟩
abbrev main_while0b_v99 : Ref sig .tc := ⟨.hbm, 112, rfl⟩
abbrev main_while0b_v100 : Ref sig .tc := ⟨.hbm, 113, rfl⟩
abbrev main_while0b_cst_31 : Ref sig .tc := ⟨.hbm, 114, rfl⟩
abbrev main_while0b_v101 : Ref sig .tc := ⟨.hbm, 115, rfl⟩
abbrev main_while0b_v102 : Ref sig .tc := ⟨.hbm, 116, rfl⟩
abbrev main_while0b_v103 : Ref sig .tc := ⟨.hbm, 117, rfl⟩
abbrev main_while0b_v104 : Ref sig .tc := ⟨.hbm, 118, rfl⟩
abbrev main_while0b_v105 : Ref sig .tc := ⟨.hbm, 119, rfl⟩
abbrev main_while0b_cst_32 : Ref sig .tc := ⟨.hbm, 120, rfl⟩
abbrev main_while0b_v106 : Ref sig .tc := ⟨.hbm, 121, rfl⟩
abbrev main_while0b_v107 : Ref sig .tc := ⟨.hbm, 122, rfl⟩
abbrev main_while0b_cst_33 : Ref sig .tc := ⟨.hbm, 123, rfl⟩
abbrev main_while0b_v108 : Ref sig .tc := ⟨.hbm, 124, rfl⟩
abbrev main_while0b_v109 : Ref sig .tc := ⟨.hbm, 125, rfl⟩
abbrev main_while0b_v110 : Ref sig .tc := ⟨.hbm, 126, rfl⟩
abbrev main_while0b_v111 : Ref sig .tc := ⟨.hbm, 127, rfl⟩
abbrev main_while0b_v112 : Ref sig .tc := ⟨.hbm, 128, rfl⟩
abbrev main_while0b_v113 : Ref sig .tc := ⟨.hbm, 129, rfl⟩
abbrev main_while0b_v114 : Ref sig .tc := ⟨.hbm, 130, rfl⟩
abbrev main_while0b_cst_34 : Ref sig .tc := ⟨.hbm, 131, rfl⟩
abbrev main_while0b_v115 : Ref sig .tc := ⟨.hbm, 132, rfl⟩
abbrev main_while0b_v116 : Ref sig .tc := ⟨.hbm, 133, rfl⟩
abbrev main_while0b_cst_35 : Ref sig .tc := ⟨.hbm, 134, rfl⟩
abbrev main_while0b_v117 : Ref sig .tc := ⟨.hbm, 135, rfl⟩
abbrev main_while0b_v118 : Ref sig .tc := ⟨.hbm, 136, rfl⟩
abbrev main_while0b_v119 : Ref sig .tc := ⟨.hbm, 137, rfl⟩
abbrev main_while0b_v120 : Ref sig .tc := ⟨.hbm, 138, rfl⟩
abbrev main_while0b_v121 : Ref sig .tc := ⟨.hbm, 139, rfl⟩
abbrev main_while0b_v122 : Ref sig .tc := ⟨.hbm, 140, rfl⟩
abbrev main_while0b_v123 : Ref sig .tc := ⟨.hbm, 141, rfl⟩
abbrev main_while0b_v124 : Ref sig .tc := ⟨.hbm, 142, rfl⟩
abbrev main_while0b_v125 : Ref sig .tc := ⟨.hbm, 143, rfl⟩
abbrev main_while0b_v126 : Ref sig .tc := ⟨.hbm, 144, rfl⟩
abbrev main_while0b_v127 : Ref sig .tc := ⟨.hbm, 145, rfl⟩
abbrev main_while0b_v128 : Ref sig .tc := ⟨.hbm, 146, rfl⟩
abbrev main_while0b_v129 : Ref sig .tc := ⟨.hbm, 147, rfl⟩
abbrev main_while0b_v130 : Ref sig .tc := ⟨.hbm, 148, rfl⟩
abbrev main_while0b_v131 : Ref sig .tc := ⟨.hbm, 149, rfl⟩
abbrev main_while0b_v132 : Ref sig .tc := ⟨.hbm, 150, rfl⟩
abbrev main_while0b_call2_v0 : Ref sig .tc := ⟨.hbm, 151, rfl⟩
abbrev main_while0b_v133 : Ref sig .tc := ⟨.hbm, 152, rfl⟩
abbrev main_while0b_v134 : Ref sig .tc := ⟨.hbm, 153, rfl⟩
abbrev main_while0b_call3_v0 : Ref sig .tc := ⟨.hbm, 154, rfl⟩
abbrev main_while0b_v135 : Ref sig .tc := ⟨.hbm, 155, rfl⟩
abbrev main_while0b_v136 : Ref sig .tc := ⟨.hbm, 156, rfl⟩
abbrev main_while0b_cst_36 : Ref sig .tc := ⟨.hbm, 157, rfl⟩
abbrev main_while0b_call4_v0 : Ref sig .tc := ⟨.hbm, 158, rfl⟩
abbrev main_while0b_call4_v1 : Ref sig .tc := ⟨.hbm, 159, rfl⟩
abbrev main_while0b_call4_v2 : Ref sig .tc := ⟨.hbm, 160, rfl⟩
abbrev main_while0b_v137 : Ref sig .tc := ⟨.hbm, 161, rfl⟩
abbrev main_while0b_call5_v0 : Ref sig .tc := ⟨.hbm, 162, rfl⟩
abbrev main_while0b_call5_c : Ref sig .tc := ⟨.hbm, 163, rfl⟩
abbrev main_while0b_call5_c_0 : Ref sig .tc := ⟨.hbm, 164, rfl⟩
abbrev main_while0b_v138 : Ref sig .tc := ⟨.hbm, 165, rfl⟩
abbrev main_while0b_c_37 : Ref sig .tc := ⟨.hbm, 166, rfl⟩
abbrev main_while0b_v139 : Ref sig .tc := ⟨.hbm, 167, rfl⟩
abbrev main_v6 : Ref sig .tc := ⟨.hbm, 168, rfl⟩
abbrev main_v7 : Ref sig .tc := ⟨.hbm, 169, rfl⟩
abbrev main_c_2 : Ref sig .tc := ⟨.hbm, 170, rfl⟩
abbrev main_v8 : Ref sig .tc := ⟨.hbm, 171, rfl⟩
abbrev main_v9 : Ref sig .tc := ⟨.hbm, 172, rfl⟩
abbrev main_c_3 : Ref sig .tc := ⟨.hbm, 173, rfl⟩
abbrev main_v10 : Ref sig .tc := ⟨.hbm, 174, rfl⟩
abbrev main_v11 : Ref sig .tc := ⟨.hbm, 175, rfl⟩
abbrev main_c_4 : Ref sig .tc := ⟨.hbm, 176, rfl⟩
abbrev main_v12 : Ref sig .tc := ⟨.hbm, 177, rfl⟩
abbrev main_v13 : Ref sig .tc := ⟨.hbm, 178, rfl⟩
abbrev main_v14 : Ref sig .tc := ⟨.hbm, 179, rfl⟩
abbrev main_c_5 : Ref sig .tc := ⟨.hbm, 180, rfl⟩
abbrev main_v15 : Ref sig .tc := ⟨.hbm, 181, rfl⟩
abbrev main_v16 : Ref sig .tc := ⟨.hbm, 182, rfl⟩
abbrev main_c_6 : Ref sig .tc := ⟨.hbm, 183, rfl⟩
abbrev main_v17 : Ref sig .tc := ⟨.hbm, 184, rfl⟩
abbrev main_v18 : Ref sig .tc := ⟨.hbm, 185, rfl⟩
abbrev main_v19 : Ref sig .tc := ⟨.hbm, 186, rfl⟩
abbrev main_v20 : Ref sig .tc := ⟨.hbm, 187, rfl⟩
abbrev main_v21 : Ref sig .tc := ⟨.hbm, 188, rfl⟩
abbrev main_v22 : Ref sig .tc := ⟨.hbm, 189, rfl⟩
abbrev main_v23 : Ref sig .tc := ⟨.hbm, 190, rfl⟩
abbrev main_v24 : Ref sig .tc := ⟨.hbm, 191, rfl⟩
abbrev main_cst_7 : Ref sig .tc := ⟨.hbm, 192, rfl⟩
abbrev main_v25 : Ref sig .tc := ⟨.hbm, 193, rfl⟩
abbrev main_c_8 : Ref sig .tc := ⟨.hbm, 194, rfl⟩
abbrev main_v26_0 : Ref sig .tc := ⟨.hbm, 195, rfl⟩
abbrev main_v26_1 : Ref sig .tc := ⟨.hbm, 196, rfl⟩
abbrev main_v26_2 : Ref sig .tc := ⟨.hbm, 197, rfl⟩
abbrev main_v26_3 : Ref sig .tc := ⟨.hbm, 198, rfl⟩
abbrev main_v26_4 : Ref sig .tc := ⟨.hbm, 199, rfl⟩
abbrev main_v26_5 : Ref sig .tc := ⟨.hbm, 200, rfl⟩
abbrev main_v26_6 : Ref sig .tc := ⟨.hbm, 201, rfl⟩
abbrev main_v26_7 : Ref sig .tc := ⟨.hbm, 202, rfl⟩
abbrev main_v26_8 : Ref sig .tc := ⟨.hbm, 203, rfl⟩
abbrev main_v26_9 : Ref sig .tc := ⟨.hbm, 204, rfl⟩
abbrev main_v26_10 : Ref sig .tc := ⟨.hbm, 205, rfl⟩
abbrev main_v26_11 : Ref sig .tc := ⟨.hbm, 206, rfl⟩
abbrev main_v26_12 : Ref sig .tc := ⟨.hbm, 207, rfl⟩
abbrev main_v26_13 : Ref sig .tc := ⟨.hbm, 208, rfl⟩
abbrev main_while1c_c_23 : Ref sig .tc := ⟨.hbm, 209, rfl⟩
abbrev main_while1c_v36 : Ref sig .tc := ⟨.hbm, 210, rfl⟩
abbrev main_while1b_call6_c : Ref sig .tc := ⟨.hbm, 211, rfl⟩
abbrev main_while1b_call6_v0 : Ref sig .tc := ⟨.hbm, 212, rfl⟩
abbrev main_while1b_v36 : Ref sig .tc := ⟨.hbm, 213, rfl⟩
abbrev main_while1b_v37 : Ref sig .tc := ⟨.hbm, 214, rfl⟩
abbrev main_while1b_v38 : Ref sig .tc := ⟨.hbm, 215, rfl⟩
abbrev main_while1b_v39 : Ref sig .tc := ⟨.hbm, 216, rfl⟩
abbrev main_while1b_v40 : Ref sig .tc := ⟨.hbm, 217, rfl⟩
abbrev main_while1b_v41 : Ref sig .tc := ⟨.hbm, 218, rfl⟩
abbrev main_while1b_v42 : Ref sig .tc := ⟨.hbm, 219, rfl⟩
abbrev main_while1b_v43 : Ref sig .tc := ⟨.hbm, 220, rfl⟩
abbrev main_while1b_v44 : Ref sig .tc := ⟨.hbm, 221, rfl⟩
abbrev main_while1b_v45 : Ref sig .tc := ⟨.hbm, 222, rfl⟩
abbrev main_while1b_v46 : Ref sig .tc := ⟨.hbm, 223, rfl⟩
abbrev main_while1b_v47 : Ref sig .tc := ⟨.hbm, 224, rfl⟩
abbrev main_while1b_v48 : Ref sig .tc := ⟨.hbm, 225, rfl⟩
abbrev main_while1b_v49 : Ref sig .tc := ⟨.hbm, 226, rfl⟩
abbrev main_while1b_v50 : Ref sig .tc := ⟨.hbm, 227, rfl⟩
abbrev main_while1b_v51 : Ref sig .tc := ⟨.hbm, 228, rfl⟩
abbrev main_while1b_v52 : Ref sig .tc := ⟨.hbm, 229, rfl⟩
abbrev main_while1b_v53 : Ref sig .tc := ⟨.hbm, 230, rfl⟩
abbrev main_while1b_v54 : Ref sig .tc := ⟨.hbm, 231, rfl⟩
abbrev main_while1b_cst_23 : Ref sig .tc := ⟨.hbm, 232, rfl⟩
abbrev main_while1b_v55 : Ref sig .tc := ⟨.hbm, 233, rfl⟩
abbrev main_while1b_v56 : Ref sig .tc := ⟨.hbm, 234, rfl⟩
abbrev main_while1b_cst_24 : Ref sig .tc := ⟨.hbm, 235, rfl⟩
abbrev main_while1b_v57 : Ref sig .tc := ⟨.hbm, 236, rfl⟩
abbrev main_while1b_v58 : Ref sig .tc := ⟨.hbm, 237, rfl⟩
abbrev main_while1b_v59 : Ref sig .tc := ⟨.hbm, 238, rfl⟩
abbrev main_while1b_v60 : Ref sig .tc := ⟨.hbm, 239, rfl⟩
abbrev main_while1b_v61 : Ref sig .tc := ⟨.hbm, 240, rfl⟩
abbrev main_while1b_cst_25 : Ref sig .tc := ⟨.hbm, 241, rfl⟩
abbrev main_while1b_v62 : Ref sig .tc := ⟨.hbm, 242, rfl⟩
abbrev main_while1b_v63 : Ref sig .tc := ⟨.hbm, 243, rfl⟩
abbrev main_while1b_cst_26 : Ref sig .tc := ⟨.hbm, 244, rfl⟩
abbrev main_while1b_v64 : Ref sig .tc := ⟨.hbm, 245, rfl⟩
abbrev main_while1b_v65 : Ref sig .tc := ⟨.hbm, 246, rfl⟩
abbrev main_while1b_v66 : Ref sig .tc := ⟨.hbm, 247, rfl⟩
abbrev main_while1b_v67 : Ref sig .tc := ⟨.hbm, 248, rfl⟩
abbrev main_while1b_v68 : Ref sig .tc := ⟨.hbm, 249, rfl⟩
abbrev main_while1b_v69 : Ref sig .tc := ⟨.hbm, 250, rfl⟩
abbrev main_while1b_v70 : Ref sig .tc := ⟨.hbm, 251, rfl⟩
abbrev main_while1b_cst_27 : Ref sig .tc := ⟨.hbm, 252, rfl⟩
abbrev main_while1b_v71 : Ref sig .tc := ⟨.hbm, 253, rfl⟩
abbrev main_while1b_v72 : Ref sig .tc := ⟨.hbm, 254, rfl⟩
abbrev main_while1b_cst_28 : Ref sig .tc := ⟨.hbm, 255, rfl⟩
abbrev main_while1b_v73 : Ref sig .tc := ⟨.hbm, 256, rfl⟩
abbrev main_while1b_v74 : Ref sig .tc := ⟨.hbm, 257, rfl⟩
abbrev main_while1b_v75 : Ref sig .tc := ⟨.hbm, 258, rfl⟩
abbrev main_while1b_v76 : Ref sig .tc := ⟨.hbm, 259, rfl⟩
abbrev main_while1b_v77 : Ref sig .tc := ⟨.hbm, 260, rfl⟩
abbrev main_while1b_v78 : Ref sig .tc := ⟨.hbm, 261, rfl⟩
abbrev main_while1b_v79 : Ref sig .tc := ⟨.hbm, 262, rfl⟩
abbrev main_while1b_v80 : Ref sig .tc := ⟨.hbm, 263, rfl⟩
abbrev main_while1b_v81 : Ref sig .tc := ⟨.hbm, 264, rfl⟩
abbrev main_while1b_v82 : Ref sig .tc := ⟨.hbm, 265, rfl⟩
abbrev main_while1b_v83 : Ref sig .tc := ⟨.hbm, 266, rfl⟩
abbrev main_while1b_v84 : Ref sig .tc := ⟨.hbm, 267, rfl⟩
abbrev main_while1b_v85 : Ref sig .tc := ⟨.hbm, 268, rfl⟩
abbrev main_while1b_v86 : Ref sig .tc := ⟨.hbm, 269, rfl⟩
abbrev main_while1b_v87 : Ref sig .tc := ⟨.hbm, 270, rfl⟩
abbrev main_while1b_v88 : Ref sig .tc := ⟨.hbm, 271, rfl⟩
abbrev main_while1b_v89 : Ref sig .tc := ⟨.hbm, 272, rfl⟩
abbrev main_while1b_v90 : Ref sig .tc := ⟨.hbm, 273, rfl⟩
abbrev main_while1b_v91 : Ref sig .tc := ⟨.hbm, 274, rfl⟩
abbrev main_while1b_v92 : Ref sig .tc := ⟨.hbm, 275, rfl⟩
abbrev main_while1b_v93 : Ref sig .tc := ⟨.hbm, 276, rfl⟩
abbrev main_while1b_v94 : Ref sig .tc := ⟨.hbm, 277, rfl⟩
abbrev main_while1b_v95 : Ref sig .tc := ⟨.hbm, 278, rfl⟩
abbrev main_while1b_v96 : Ref sig .tc := ⟨.hbm, 279, rfl⟩
abbrev main_while1b_v97 : Ref sig .tc := ⟨.hbm, 280, rfl⟩
abbrev main_while1b_cst_29 : Ref sig .tc := ⟨.hbm, 281, rfl⟩
abbrev main_while1b_v98 : Ref sig .tc := ⟨.hbm, 282, rfl⟩
abbrev main_while1b_v99 : Ref sig .tc := ⟨.hbm, 283, rfl⟩
abbrev main_while1b_cst_30 : Ref sig .tc := ⟨.hbm, 284, rfl⟩
abbrev main_while1b_v100 : Ref sig .tc := ⟨.hbm, 285, rfl⟩
abbrev main_while1b_v101 : Ref sig .tc := ⟨.hbm, 286, rfl⟩
abbrev main_while1b_v102 : Ref sig .tc := ⟨.hbm, 287, rfl⟩
abbrev main_while1b_v103 : Ref sig .tc := ⟨.hbm, 288, rfl⟩
abbrev main_while1b_v104 : Ref sig .tc := ⟨.hbm, 289, rfl⟩
abbrev main_while1b_cst_31 : Ref sig .tc := ⟨.hbm, 290, rfl⟩
abbrev main_while1b_v105 : Ref sig .tc := ⟨.hbm, 291, rfl⟩
abbrev main_while1b_v106 : Ref sig .tc := ⟨.hbm, 292, rfl⟩
abbrev main_while1b_cst_32 : Ref sig .tc := ⟨.hbm, 293, rfl⟩
abbrev main_while1b_v107 : Ref sig .tc := ⟨.hbm, 294, rfl⟩
abbrev main_while1b_v108 : Ref sig .tc := ⟨.hbm, 295, rfl⟩
abbrev main_while1b_v109 : Ref sig .tc := ⟨.hbm, 296, rfl⟩
abbrev main_while1b_v110 : Ref sig .tc := ⟨.hbm, 297, rfl⟩
abbrev main_while1b_v111 : Ref sig .tc := ⟨.hbm, 298, rfl⟩
abbrev main_while1b_v112 : Ref sig .tc := ⟨.hbm, 299, rfl⟩
abbrev main_while1b_v113 : Ref sig .tc := ⟨.hbm, 300, rfl⟩
abbrev main_while1b_cst_33 : Ref sig .tc := ⟨.hbm, 301, rfl⟩
abbrev main_while1b_v114 : Ref sig .tc := ⟨.hbm, 302, rfl⟩
abbrev main_while1b_v115 : Ref sig .tc := ⟨.hbm, 303, rfl⟩
abbrev main_while1b_cst_34 : Ref sig .tc := ⟨.hbm, 304, rfl⟩
abbrev main_while1b_v116 : Ref sig .tc := ⟨.hbm, 305, rfl⟩
abbrev main_while1b_v117 : Ref sig .tc := ⟨.hbm, 306, rfl⟩
abbrev main_while1b_v118 : Ref sig .tc := ⟨.hbm, 307, rfl⟩
abbrev main_while1b_v119 : Ref sig .tc := ⟨.hbm, 308, rfl⟩
abbrev main_while1b_v120 : Ref sig .tc := ⟨.hbm, 309, rfl⟩
abbrev main_while1b_v121 : Ref sig .tc := ⟨.hbm, 310, rfl⟩
abbrev main_while1b_v122 : Ref sig .tc := ⟨.hbm, 311, rfl⟩
abbrev main_while1b_v123 : Ref sig .tc := ⟨.hbm, 312, rfl⟩
abbrev main_while1b_v124 : Ref sig .tc := ⟨.hbm, 313, rfl⟩
abbrev main_while1b_v125 : Ref sig .tc := ⟨.hbm, 314, rfl⟩
abbrev main_while1b_v126 : Ref sig .tc := ⟨.hbm, 315, rfl⟩
abbrev main_while1b_v127 : Ref sig .tc := ⟨.hbm, 316, rfl⟩
abbrev main_while1b_v128 : Ref sig .tc := ⟨.hbm, 317, rfl⟩
abbrev main_while1b_v129 : Ref sig .tc := ⟨.hbm, 318, rfl⟩
abbrev main_while1b_call7_v0 : Ref sig .tc := ⟨.hbm, 319, rfl⟩
abbrev main_while1b_v130 : Ref sig .tc := ⟨.hbm, 320, rfl⟩
abbrev main_while1b_v131 : Ref sig .tc := ⟨.hbm, 321, rfl⟩
abbrev main_while1b_call8_v0 : Ref sig .tc := ⟨.hbm, 322, rfl⟩
abbrev main_while1b_v132 : Ref sig .tc := ⟨.hbm, 323, rfl⟩
abbrev main_while1b_v133 : Ref sig .tc := ⟨.hbm, 324, rfl⟩
abbrev main_while1b_cst_35 : Ref sig .tc := ⟨.hbm, 325, rfl⟩
abbrev main_while1b_call9_v0 : Ref sig .tc := ⟨.hbm, 326, rfl⟩
abbrev main_while1b_call9_v1 : Ref sig .tc := ⟨.hbm, 327, rfl⟩
abbrev main_while1b_call9_v2 : Ref sig .tc := ⟨.hbm, 328, rfl⟩
abbrev main_while1b_v134 : Ref sig .tc := ⟨.hbm, 329, rfl⟩
abbrev main_while1b_call10_v0 : Ref sig .tc := ⟨.hbm, 330, rfl⟩
abbrev main_while1b_call10_c : Ref sig .tc := ⟨.hbm, 331, rfl⟩
abbrev main_while1b_call10_c_0 : Ref sig .tc := ⟨.hbm, 332, rfl⟩
abbrev main_while1b_v135 : Ref sig .tc := ⟨.hbm, 333, rfl⟩
abbrev main_while1b_c_36 : Ref sig .tc := ⟨.hbm, 334, rfl⟩
abbrev main_while1b_v136 : Ref sig .tc := ⟨.hbm, 335, rfl⟩
abbrev main_v27 : Ref sig .tc := ⟨.hbm, 336, rfl⟩
abbrev main_v28 : Ref sig .tc := ⟨.hbm, 337, rfl⟩
abbrev main_v29 : Ref sig .tc := ⟨.hbm, 338, rfl⟩
abbrev main_v30 : Ref sig .tc := ⟨.hbm, 339, rfl⟩
abbrev main_v31 : Ref sig .tc := ⟨.hbm, 340, rfl⟩
abbrev main_v32 : Ref sig .tc := ⟨.hbm, 341, rfl⟩
abbrev main_v33 : Ref sig .tc := ⟨.hbm, 342, rfl⟩
abbrev main_v34 : Ref sig .tc := ⟨.hbm, 343, rfl⟩
abbrev main_cst_9 : Ref sig .tc := ⟨.hbm, 344, rfl⟩
abbrev main_call11_v0 : Ref sig .tc := ⟨.hbm, 345, rfl⟩
abbrev main_call11_v1 : Ref sig .tc := ⟨.hbm, 346, rfl⟩
abbrev main_call11_v2 : Ref sig .tc := ⟨.hbm, 347, rfl⟩
abbrev main_v35 : Ref sig .tc := ⟨.hbm, 348, rfl⟩

abbrev nD : Nat := 1
abbrev τ : Topo := Topo.v7x

variable {F : FTy → Type} [FloatOps F]

abbrev main_while0_count : Scf.Loop 32 := ⟨0#32, 512#32, 1#32⟩

abbrev main_while1_count : Scf.Loop 32 := ⟨0#32, 64#32, 1#32⟩
-- ==== Proof.Program.lean ====
/- The kernel's program, written by its pieces: a chunk of the input gates, one step of the two layers, a chunk of
   the results stored, one step of the decoder. The printed kernel spells every row and every step out; `body_eq`,
   `decode_eq` and `kernel_eq` say that it is this program. -/
module

public import proofs.«01_k».proof.Proof.Gen.KernelIdeal.Skeleton
public import Idealize.ShloMosaic.Lib.Tactic

@[expose] public section

set_option maxRecDepth 65536

noncomputable section

namespace Cert.KernelIdeal.Lstm

open Idealize.ShloMosaic Idealize.ShloMosaic.TcCoe Idealize.ShloMosaic.Tactic
open Cert.KernelIdeal Cert.KernelIdeal.Gen
open Idealize.SL Idealize.SL.Sem

variable {F : FTy → Type} [FloatOps F]

/-- The kernel's operands and scratch buffers. -/
structure Refs where
  a0 : Memref sig .tc .vmem S16x512x256 .f32
  a1 : Memref sig .tc .vmem S16x256 .i32
  a2 : Memref sig .tc .vmem S16x256 .i32
  a3 : Memref sig .tc .vmem S256x1024 .bf16
  a4 : Memref sig .tc .vmem S256x1024 .bf16
  a5 : Memref sig .tc .vmem S256x1024 .bf16
  a6 : Memref sig .tc .vmem S256x1024 .bf16
  a7 : Memref sig .tc .vmem S1x1024 .f32
  a8 : Memref sig .tc .vmem S1x1024 .f32
  a9 : Memref sig .tc .vmem S16x512x256 .f32
  a10 : Memref sig .tc .vmem S16x64x256 .f32
  a11 : Memref sig .tc .vmem S8192x1024 .f32
  a12 : Memref sig .tc .vmem S2x8x16x256 .f32
  a13 : Memref sig .tc .vmem S8x16x256 .bf16
  h13 : a13.IsWhole

/-- The programs of this kernel that return an `α`. -/
abbrev P (F : FTy → Type) [FloatOps F] (α : Type) : Type 1 := Prog (TpuEff nD τ sig (Elt F) Λ₀ .tc) α

/-- A layer's vectors: sixteen sequences of 256 units. -/
abbrev V16 (F : FTy → Type) : Type := FVec F S16x256 .f32

/-! ## What the two layers compute -/

/-- The logistic function by the hyperbolic tangent: half of it, and a half. -/
def half (x : V16 F) : V16 F :=
  addf (mulf (broadcast S16x256 (Scalar.ofBits .f32 0x3F000000#32)) (tanh x)) (broadcast S16x256 (Scalar.ofBits .f32 0x3F000000#32))

/-- A layer's vectors times a weight matrix. -/
def dotW (h : V16 F) (w : Vec F S256x1024 .bf16) : FVec F S16x1024 .f32 :=
  matmul dot_S16x256_S256x1024_S16x1024_1_0_0_1_n_n none (truncf .bf16 h bitsLt_bf16_f32) (shapeCast S256x1024 w shapeCasts_S256x1024_S256x1024)
    (constant S16x1024 .f32 0x00000000#32)

/-- A bias row at every sequence. -/
def bias (b : Vec F S1x1024 .f32) : FVec F S16x1024 .f32 :=
  broadcastTo S16x1024 (shapeCast S1x1024 b shapeCasts_S1x1024_S1x1024) broadcasts_S1x1024_S16x1024

/-- The new cell state from the gates and the old one. -/
def cellC (g : FVec F S16x1024 .f32) (c : V16 F) : V16 F :=
  addf (mulf (half (extractStridedSlice S16x256 ![0, 256] g slices_S16x1024_o0_256_S16x256)) c)
    (mulf (half (extractStridedSlice S16x256 ![0, 0] g slices_S16x1024_o0_0_S16x256))
      (tanh (extractStridedSlice S16x256 ![0, 512] g slices_S16x1024_o0_512_S16x256)))

/-- The new hidden state from the gates and the old cell state. -/
def cellH (g : FVec F S16x1024 .f32) (c : V16 F) : V16 F :=
  mulf (half (extractStridedSlice S16x256 ![0, 768] g slices_S16x1024_o0_768_S16x256)) (tanh (cellC g c))

/-- The second layer's gates. -/
def gates1 (x h : V16 F) (wx wh : Vec F S256x1024 .bf16) (b : Vec F S1x1024 .f32) : FVec F S16x1024 .f32 :=
  addf (addf (dotW x wx) (dotW h wh)) (bias b)

/-- The sequences longer than `t`. -/
def longer (n : Vec F S16x256 .i32) (t : BitVec 32) : IVec S16x256 1 :=
  cmpi .sgt (shapeCast S16x256 n shapeCasts_S16x256_S16x256) (broadcast S16x256 t)

/-- A vector of zeros. -/
def zero16 : V16 F := broadcast S16x256 (Scalar.ofBits .f32 0x00000000#32)

/-- The states of the two layers: hidden and cell of the first, hidden and cell of the second. -/
abbrev St (F : FTy → Type) : Type := V16 F × V16 F × V16 F × V16 F

/-- One step of the two layers from the first layer's gates `g`, before the sequences that have ended keep their state. -/
def next (w1x w1h : Vec F S256x1024 .bf16) (b1 : Vec F S1x1024 .f32) (g : FVec F S16x1024 .f32) (s : St F) : St F :=
  let h0 := cellH g s.2.1
  let g1 := gates1 h0 s.2.2.1 w1x w1h b1
  (h0, cellC g s.2.1, cellH g1 s.2.2.2, cellC g1 s.2.2.2)

/-- The new states where `m`, the old ones elsewhere. -/
def keep (m : IVec S16x256 1) (n s : St F) : St F :=
  (select m n.1 s.1, select m n.2.1 s.2.1, select m n.2.2.1 s.2.2.1, select m n.2.2.2 s.2.2.2)

/-! ## The pieces of the program -/

/-- The parts of the input chunk that make one row pair of the staging buffer are packed. -/
theorem packed (b : Fin 16) : ∀ h, (Rect.unit (s := S8x16x256) ![0, 2 * (b.val / 2), 0] S8x2x256.size h).PackedRows (EltTy.packing .bf16) := by
  revert b; decide

theorem slices_row (b : Fin 16) : S8x2x256.Slices ![0, b.val % 2, 0] S8x1x256 := by revert b; decide
theorem inb_pair (b : Fin 16) : ∀ a, (![0, 2 * (b.val / 2), 0] : Fin 3 → ℕ) a + S8x2x256.size a ≤ S8x16x256.size a := by revert b; decide
theorem inb_row (b : Fin 16) : ∀ a, (![0, b.val, 0] : Fin 3 → ℕ) a + S8x1x256.size a ≤ S8x16x256.size a := by revert b; decide
theorem inb_in (b : Fin 16) (w : ℕ) (hw : w + 8 ≤ 512) : ∀ a, (![b.val, w, 0] : Fin 3 → ℕ) a + S1x8x256.size a ≤ S16x512x256.size a := by
  intro a; have := b.isLt
  match a with
  | 0 => show b.val + 1 ≤ 16; omega
  | 1 => exact hw
  | 2 => exact le_refl 256
theorem inb_pre (w : ℕ) (hw : w + 128 ≤ 8192) : ∀ a, (![w, 0] : Fin 2 → ℕ) a + S128x1024.size a ≤ S8192x1024.size a := by
  intro a
  match a with
  | 0 => exact hw
  | 1 => exact le_refl 1024
theorem inb_gate (w : ℕ) (hw : w + 16 ≤ 8192) : ∀ a, (![w, 0] : Fin 2 → ℕ) a + S16x1024.size a ≤ S8192x1024.size a := by
  intro a
  match a with
  | 0 => exact hw
  | 1 => exact le_refl 1024
theorem inb_step (w : ℕ) (i : Fin 8) (hw : w + 1 ≤ 2) : ∀ a, (![w, i.val, 0, 0] : Fin 4 → ℕ) a + S1x1x16x256.size a ≤ S2x8x16x256.size a := by
  intro a; have := i.isLt
  match a with
  | 0 => exact hw
  | 1 => show i.val + 1 ≤ 8; omega
  | 2 => exact le_refl 16
  | 3 => exact le_refl 256
theorem inb_col (w : ℕ) (b : Fin 16) (hw : w + 1 ≤ 2) : ∀ a, (![w, 0, b.val, 0] : Fin 4 → ℕ) a + S1x8x1x256.size a ≤ S2x8x16x256.size a := by
  intro a; have := b.isLt
  match a with
  | 0 => exact hw
  | 1 => exact le_refl 8
  | 2 => show b.val + 1 ≤ 16; omega
  | 3 => exact le_refl 256
theorem inb_dec (w : ℕ) (hw : w + 1 ≤ 64) : ∀ a, (![0, w, 0] : Fin 3 → ℕ) a + S16x1x256.size a ≤ S16x64x256.size a := by
  intro a
  match a with
  | 0 => exact le_refl 16
  | 1 => exact hw
  | 2 => exact le_refl 256

/-- The eight input rows of one sequence, as one row of the staging buffer. -/
def packVal (v : Vec F S1x8x256 .f32) : FVec F S8x1x256 .bf16 :=
  shapeCast S8x1x256 (truncf .bf16 (shapeCast S8x256 v shapeCasts_S1x8x256_S8x256) bitsLt_bf16_f32) shapeCasts_S8x256_S8x1x256

/-- Sequence `b`'s eight input rows from row `w` on go to the staging buffer. -/
def packRow (R : Refs) (w : ℕ) (hw : w + 8 ≤ 512) (b : Fin 16) : P F PUnit := do
  let v : Vec F S1x8x256 .f32 ← Prog.lift (.load R.a0 (Rect.unit (s := S16x512x256) ![b.val, w, 0] S1x8x256.size (inb_in b w hw)).toLoadRect (View.loadsAt_vmem h_S1x8x256))
  let _ : Vec F S8x1x256 .bf16 ← Prog.lift (.load R.a13 (Rect.unit (s := S8x16x256) ![0, b.val, 0] S8x1x256.size (inb_row b)).toLoadRect (View.loadsAt_vmem h_S8x1x256))
  storeSubelements R.a13 (Rect.unit (s := S8x16x256) ![0, 2 * (b.val / 2), 0] S8x2x256.size (inb_pair b))
    (fun old => updateSlice old (packVal v) ![0, b.val % 2, 0] (slices_row b)) (View.loadsAt_vmem h_S8x2x256)
    (View.stores_vmem h_S8x2x256 (R.h13.storeExact_slice rfl _ (packed b _)) (fun _ => rfl))

/-- The first `n` sequences' input rows. -/
def packRows (R : Refs) (w : ℕ) (hw : w + 8 ≤ 512) : (n : ℕ) → n ≤ 16 → P F PUnit
  | 0, _ => .ret ⟨⟩
  | n + 1, h => packRows R w hw n (Nat.le_of_succ_le h) >>= fun _ => packRow R w hw ⟨n, h⟩

/-- A chunk's gates of the first layer from its inputs. -/
def preVal (xs : Vec F S8x16x256 .bf16) (w : Vec F S256x1024 .bf16) (b : Vec F S1x1024 .f32) : FVec F S128x1024 .f32 :=
  shapeCast S128x1024
    (addf (matmul dot_S128x256_S256x1024_S128x1024_1_0_0_1_n_n none (shapeCast S128x256 xs shapeCasts_S8x16x256_S128x256)
        (shapeCast S256x1024 w shapeCasts_S256x1024_S256x1024) (constant S128x1024 .f32 0x00000000#32))
      (broadcastTo S128x1024 (shapeCast S1x1024 b shapeCasts_S1x1024_S1x1024) broadcasts_S1x1024_S128x1024))
    shapeCasts_S128x1024_S128x1024

/-- The chunk of eight input rows from row `w` on: its gates of the first layer, stored from row `o` on. -/
def preChunk (R : Refs) (w : ℕ) (hw : w + 8 ≤ 512) (o : ℕ) (ho : o + 128 ≤ 8192) : P F PUnit := do
  packRows R w hw 16 (le_refl 16)
  let xs : Vec F S8x16x256 .bf16 ← Prog.lift (.load R.a13 (Rect.unit (s := S8x16x256) ![0, 0, 0] S8x16x256.size inb_S8x16x256_S8x16x256_0_0_0).toLoadRect (View.loadsAt_vmem h_S8x16x256))
  let wv : Vec F S256x1024 .bf16 ← Prog.lift (.load R.a3 (Rect.unit (s := S256x1024) ![0, 0] S256x1024.size inb_S256x1024_S256x1024_0_0).toLoadRect (View.loadsAt_vmem h_S256x1024))
  let bv : Vec F S1x1024 .f32 ← Prog.lift (.load R.a7 (Rect.unit (s := S1x1024) ![0, 0] S1x1024.size inb_S1x1024_S1x1024_0_0).toLoadRect (View.loadsAt_vmem h_S1x1024))
  let _ : Vec F S128x1024 .f32 ← Prog.lift (.load R.a11 (Rect.unit (s := S8192x1024) ![o, 0] S128x1024.size (inb_pre o ho)).toLoadRect (View.loadsAt_vmem h_S128x1024))
  Prog.lift (.store R.a11 (Rect.unit (s := S8192x1024) ![o, 0] S128x1024.size (inb_pre o ho)) (preVal xs wv bv) Finset.univ (View.stores_vmem_bits_univ h_S128x1024 rfl) (.inl rfl))

/-- One step of the two layers at time `t`, its gates at row `o`, its result into place `i` of slot `u`. -/
def step (R : Refs) (t : BitVec 32) (o : ℕ) (ho : o + 16 ≤ 8192) (u : ℕ) (hu : u + 1 ≤ 2) (i : Fin 8) (s : St F) : P F (St F) := do
  let xg : Vec F S16x1024 .f32 ← Prog.lift (.load R.a11 (Rect.unit (s := S8192x1024) ![o, 0] S16x1024.size (inb_gate o ho)).toLoadRect (View.loadsAt_vmem h_S16x1024))
  let w0h : Vec F S256x1024 .bf16 ← Prog.lift (.load R.a4 (Rect.unit (s := S256x1024) ![0, 0] S256x1024.size inb_S256x1024_S256x1024_0_0).toLoadRect (View.loadsAt_vmem h_S256x1024))
  let w1x : Vec F S256x1024 .bf16 ← Prog.lift (.load R.a5 (Rect.unit (s := S256x1024) ![0, 0] S256x1024.size inb_S256x1024_S256x1024_0_0).toLoadRect (View.loadsAt_vmem h_S256x1024))
  let w1h : Vec F S256x1024 .bf16 ← Prog.lift (.load R.a6 (Rect.unit (s := S256x1024) ![0, 0] S256x1024.size inb_S256x1024_S256x1024_0_0).toLoadRect (View.loadsAt_vmem h_S256x1024))
  let b1 : Vec F S1x1024 .f32 ← Prog.lift (.load R.a8 (Rect.unit (s := S1x1024) ![0, 0] S1x1024.size inb_S1x1024_S1x1024_0_0).toLoadRect (View.loadsAt_vmem h_S1x1024))
  let n : Vec F S16x256 .i32 ← Prog.lift (.load R.a1 (Rect.unit (s := S16x256) ![0, 0] S16x256.size inb_S16x256_S16x256_0_0).toLoadRect (View.loadsAt_vmem h_S16x256))
  let _ : Vec F S1x1x16x256 .f32 ← Prog.lift (.load R.a12 (Rect.unit (s := S2x8x16x256) ![u, i.val, 0, 0] S1x1x16x256.size (inb_step u i hu)).toLoadRect (View.loadsAt_vmem h_S1x1x16x256))
  Prog.lift (.store R.a12 (Rect.unit (s := S2x8x16x256) ![u, i.val, 0, 0] S1x1x16x256.size (inb_step u i hu))
    (shapeCast S1x1x16x256 (select (longer n t) (next w1x w1h b1 (addf xg (dotW s.1 w0h)) s).2.2.1 zero16) shapeCasts_S16x256_S1x1x16x256)
    Finset.univ (View.stores_vmem_bits_univ h_S1x1x16x256 rfl) (.inl rfl))
  .ret (keep (longer n t) (next w1x w1h b1 (addf xg (dotW s.1 w0h)) s) s)

/-- Sequence `b`'s results of slot `u`, into the eight rows from row `w` on. -/
def flushRow (R : Refs) (u : ℕ) (hu : u + 1 ≤ 2) (w : ℕ) (hw : w + 8 ≤ 512) (b : Fin 16) : P F PUnit := do
  let v : Vec F S1x8x1x256 .f32 ← Prog.lift (.load R.a12 (Rect.unit (s := S2x8x16x256) ![u, 0, b.val, 0] S1x8x1x256.size (inb_col u b hu)).toLoadRect (View.loadsAt_vmem h_S1x8x1x256))
  let _ : Vec F S1x8x256 .f32 ← Prog.lift (.load R.a9 (Rect.unit (s := S16x512x256) ![b.val, w, 0] S1x8x256.size (inb_in b w hw)).toLoadRect (View.loadsAt_vmem h_S1x8x256))
  Prog.lift (.store R.a9 (Rect.unit (s := S16x512x256) ![b.val, w, 0] S1x8x256.size (inb_in b w hw))
    (shapeCast S1x8x256 (shapeCast S8x256 v shapeCasts_S1x8x1x256_S8x256) shapeCasts_S8x256_S1x8x256) Finset.univ (View.stores_vmem_bits_univ h_S1x8x256 rfl) (.inl rfl))

/-- The first `n` sequences' results. -/
def flushRows (R : Refs) (u : ℕ) (hu : u + 1 ≤ 2) (w : ℕ) (hw : w + 8 ≤ 512) : (n : ℕ) → n ≤ 16 → P F PUnit
  | 0, _ => .ret ⟨⟩
  | n + 1, h => flushRows R u hu w hw n (Nat.le_of_succ_le h) >>= fun _ => flushRow R u hu w hw ⟨n, h⟩

/-- A word's place modulo the sixty-four chunks, as the kernel computes it. -/
def wrap (x : BitVec 32) : BitVec 32 :=
  let d := Scalar.select (Scalar.cmpi .eq 64#32 0#32) 1#32 64#32
  let r := Scalar.remsi x d
  Scalar.select (Scalar.andi (Scalar.xori (Scalar.cmpi .slt r 0#32) (Scalar.cmpi .slt d 0#32)) (Scalar.cmpi .ne r 0#32)) (Scalar.addi r d) r

/-- The trip's number as a word. -/
abbrev iv (k : ℕ) : BitVec 32 := Scf.iv 0#32 1#32 k

def wIn (k : ℕ) : BitVec 32 := Scalar.muli (wrap (Scalar.addi (iv k) 1#32)) 8#32
def wPre (k : ℕ) : BitVec 32 := Scalar.muli (wrap (Scalar.addi (iv k) 1#32)) 128#32
def wTime (k : ℕ) (i : BitVec 32) : BitVec 32 := Scalar.addi (Scalar.muli (iv k) 8#32) i
def wGate (k : ℕ) (i : BitVec 32) : BitVec 32 := Scalar.muli (wTime k i) 16#32
def wSlot (k : ℕ) : BitVec 32 := Scalar.remsi (iv k) 2#32
def wOld (k : ℕ) : BitVec 32 := Scalar.subi 1#32 (wSlot k)
def wOut (k : ℕ) : BitVec 32 := Scalar.muli (Scalar.remsi (Scalar.subi (Scalar.addi (iv k) 64#32) 1#32) 64#32) 8#32

theorem wIn_eq : ∀ k : Fin 64, (wIn k.val).toNat = 8 * ((k.val + 1) % 64) := by decide +kernel
theorem wPre_eq : ∀ k : Fin 64, (wPre k.val).toNat = 128 * ((k.val + 1) % 64) := by decide +kernel
theorem wTime_eq : ∀ k : Fin 64, ∀ i : Fin 8, wTime k.val (BitVec.ofNat 32 i.val) = BitVec.ofNat 32 (8 * k.val + i.val) := by decide +kernel
theorem wGate_eq : ∀ k : Fin 64, ∀ i : Fin 8, (wGate k.val (BitVec.ofNat 32 i.val)).toNat = 16 * (8 * k.val + i.val) := by decide +kernel
theorem wSlot_eq : ∀ k : Fin 64, (wSlot k.val).toNat = k.val % 2 := by decide +kernel
theorem wOld_eq : ∀ k : Fin 64, (wOld k.val).toNat = (k.val + 1) % 2 := by decide +kernel
theorem wOut_eq : ∀ k : Fin 64, (wOut k.val).toNat = 8 * ((k.val + 63) % 64) := by decide +kernel

/-- The steps before step `n` of chunk `k`. -/
def steps (R : Refs) (k : Fin 64) (s : St F) : (n : ℕ) → n ≤ 8 → P F (St F)
  | 0, _ => .ret s
  | n + 1, h => steps R k s n (Nat.le_of_succ_le h) >>= fun s' =>
      step R (wTime k.val (BitVec.ofNat 32 n)) (wGate k.val (BitVec.ofNat 32 n)).toNat
        (by rw [wGate_eq k ⟨n, h⟩]; have := k.isLt; have : n < 8 := h; show 16 * (8 * k.val + n) + 16 ≤ 8192; omega)
        (wSlot k.val).toNat (by rw [wSlot_eq k]; omega) ⟨n, h⟩ s'

/-- One chunk: the next chunk's gates, the chunk's eight steps, the previous chunk's results. -/
def body (R : Refs) (k : Fin 64) (s : St F) : P F (St F) := do
  preChunk R (wIn k.val).toNat (by rw [wIn_eq k]; omega) (wPre k.val).toNat (by rw [wPre_eq k]; omega)
  let s' ← steps R k s 8 (le_refl 8)
  flushRows R (wOld k.val).toNat (by rw [wOld_eq k]; omega) (wOut k.val).toNat (by rw [wOut_eq k]; omega) 16 (le_refl 16)
  .ret s'

/-- The decoder's carried values: the two layers' states and the next input. -/
abbrev DSt (F : FTy → Type) : Type := V16 F × V16 F × V16 F × V16 F × V16 F

/-- The decoder's layer states. -/
def DSt.st (s : DSt F) : St F := (s.1, s.2.1, s.2.2.1, s.2.2.2.1)

theorem dec_lt (k : Fin 64) : (iv k.val).toNat + 1 ≤ 64 := by revert k; decide +kernel

/-- One step of the decoder, its input the last vector carried. -/
def decode (R : Refs) (k : Fin 64) (s : DSt F) : P F (DSt F) := do
  let w0x : Vec F S256x1024 .bf16 ← Prog.lift (.load R.a3 (Rect.unit (s := S256x1024) ![0, 0] S256x1024.size inb_S256x1024_S256x1024_0_0).toLoadRect (View.loadsAt_vmem h_S256x1024))
  let w0h : Vec F S256x1024 .bf16 ← Prog.lift (.load R.a4 (Rect.unit (s := S256x1024) ![0, 0] S256x1024.size inb_S256x1024_S256x1024_0_0).toLoadRect (View.loadsAt_vmem h_S256x1024))
  let b0 : Vec F S1x1024 .f32 ← Prog.lift (.load R.a7 (Rect.unit (s := S1x1024) ![0, 0] S1x1024.size inb_S1x1024_S1x1024_0_0).toLoadRect (View.loadsAt_vmem h_S1x1024))
  let w1x : Vec F S256x1024 .bf16 ← Prog.lift (.load R.a5 (Rect.unit (s := S256x1024) ![0, 0] S256x1024.size inb_S256x1024_S256x1024_0_0).toLoadRect (View.loadsAt_vmem h_S256x1024))
  let w1h : Vec F S256x1024 .bf16 ← Prog.lift (.load R.a6 (Rect.unit (s := S256x1024) ![0, 0] S256x1024.size inb_S256x1024_S256x1024_0_0).toLoadRect (View.loadsAt_vmem h_S256x1024))
  let b1 : Vec F S1x1024 .f32 ← Prog.lift (.load R.a8 (Rect.unit (s := S1x1024) ![0, 0] S1x1024.size inb_S1x1024_S1x1024_0_0).toLoadRect (View.loadsAt_vmem h_S1x1024))
  let n : Vec F S16x256 .i32 ← Prog.lift (.load R.a2 (Rect.unit (s := S16x256) ![0, 0] S16x256.size inb_S16x256_S16x256_0_0).toLoadRect (View.loadsAt_vmem h_S16x256))
  let _ : Vec F S16x1x256 .f32 ← Prog.lift (.load R.a10 (Rect.unit (s := S16x64x256) ![0, (iv k.val).toNat, 0] S16x1x256.size (inb_dec _ (dec_lt k))).toLoadRect (View.loadsAt_vmem h_S16x1x256))
  Prog.lift (.store R.a10 (Rect.unit (s := S16x64x256) ![0, (iv k.val).toNat, 0] S16x1x256.size (inb_dec _ (dec_lt k)))
    (shapeCast S16x1x256 (select (longer n (iv k.val)) (next w1x w1h b1 (gates1 s.2.2.2.2 s.1 w0x w0h b0) s.st).2.2.1 zero16) shapeCasts_S16x256_S16x1x256)
    Finset.univ (View.stores_vmem_bits_univ h_S16x1x256 rfl) (.inl rfl))
  let s' : St F := keep (longer n (iv k.val)) (next w1x w1h b1 (gates1 s.2.2.2.2 s.1 w0x w0h b0) s.st) s.st
  .ret (s'.1, s'.2.1, s'.2.2.1, s'.2.2.2, select (longer n (iv k.val)) (next w1x w1h b1 (gates1 s.2.2.2.2 s.1 w0x w0h b0) s.st).2.2.1 zero16)

theorem trips1_lt (k : Fin k0_t1_loop.trips) : k.val < 64 := Nat.lt_of_lt_of_le k.isLt k0_t1_abs.2.1
theorem trips2_lt (k : Fin k0_t2_loop.trips) : k.val < 64 := Nat.lt_of_lt_of_le k.isLt k0_t2_abs.2.1

/-- The first loop over the chunks, and the number of the last chunk. -/
def teacher (R : Refs) : P F (Σ' (_ : V16 F) (_ : V16 F) (_ : V16 F) (_ : V16 F), BitVec 32) := do
  let s ← Scf.Loop.for k0_t1_loop k0_t1_ok (zero16, zero16, zero16, zero16) (fun k s => body R ⟨k.val, trips1_lt k⟩ s)
  .ret ⟨s.1, s.2.1, s.2.2.1, s.2.2.2, 63#32⟩

/-- The whole kernel. -/
def kernel (R : Refs) : P F PUnit := do
  preChunk R 0 (by decide) 0 (by decide)
  let s ← teacher R
  flushRows R (Scalar.remsi 63#32 2#32 : BitVec 32).toNat (by decide +kernel) 504 (by decide) 16 (le_refl 16)
  let _ ← Scf.Loop.for k0_t2_loop k0_t2_ok (s.1, s.2.1, s.2.2.1, s.2.2.2.1, s.2.2.1) (fun k s => decode R ⟨k.val, trips2_lt k⟩ s)
  .ret ⟨⟩

end Cert.KernelIdeal.Lstm
end
-- ==== Proof.Runs.lean ====
/- What a program of this kernel does to the contents of its operands: `Runs X p a X'`, from the contents `X` the program
   `p` returns `a` and leaves `X'`. One law per way of putting programs together; the separation logic is used here only. -/
module

public import proofs.«01_k».proof.Proof.Program
public import proofs.«01_k».proof.Proof.Gen.KernelIdeal.Frame
public import Idealize.ShloMosaic.Lib.VecWindow

@[expose] public section

set_option maxRecDepth 65536

noncomputable section

namespace Cert.KernelIdeal.Lstm

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.VecWindow (window put)

variable {F : FTy → Type} [FloatOps F]

local notation "𝕄" => MT nD τ sig Unit (Elt F) ℕ (UR sig nD τ) ℕ

/-- The contents of the operands and scratch buffers. -/
structure Mem (F : FTy → Type) where
  x0 : Vec F S16x512x256 .f32
  x1 : Vec F S16x256 .i32
  x2 : Vec F S16x256 .i32
  x3 : Vec F S256x1024 .bf16
  x4 : Vec F S256x1024 .bf16
  x5 : Vec F S256x1024 .bf16
  x6 : Vec F S256x1024 .bf16
  x7 : Vec F S1x1024 .f32
  x8 : Vec F S1x1024 .f32
  x9 : Vec F S16x512x256 .f32
  x10 : Vec F S16x64x256 .f32
  x11 : Vec F S8192x1024 .f32
  x12 : Vec F S2x8x16x256 .f32
  x13 : Vec F S8x16x256 .bf16

section

variable (c : Dev nD)

/-- A buffer whole, at the contents `X`. -/
def pts {s : Shape} {e : EltTy} (m : Memref sig .tc .vmem s e) (X : Vec F s e) : sProp 𝕄 :=
  m.view.loc (c : Thread nD τ) ↦[m.view.set]{fullShare} m.view.rep X

/-- A list of resources, conjoined. -/
def sepL : List (sProp 𝕄) → sProp 𝕄
  | [] => iprop(emp)
  | p :: l => iprop(p ∗ sepL l)

/-- One resource of a list, taken out. -/
theorem sepL_split (l₁ l₂ : List (sProp 𝕄)) (p : sProp 𝕄) : sepL (l₁ ++ p :: l₂) ⊣⊢ sepL (l₁ ++ l₂) ∗ p := by
  induction l₁ with
  | nil => exact ⟨sep_comm, sep_comm⟩
  | cons q l ih => exact ⟨(sep_mono .rfl ih.1).trans sep_assoc.2, sep_assoc.1.trans (sep_mono .rfl ih.2)⟩

/-- The resources of the operands at the contents `X`, in order. -/
def parts (R : Refs) (X : Mem F) : List (sProp 𝕄) :=
  [pts c R.a0 X.x0, pts c R.a1 X.x1, pts c R.a2 X.x2, pts c R.a3 X.x3, pts c R.a4 X.x4, pts c R.a5 X.x5, pts c R.a6 X.x6,
    pts c R.a7 X.x7, pts c R.a8 X.x8, pts c R.a9 X.x9, pts c R.a10 X.x10, pts c R.a11 X.x11, pts c R.a12 X.x12, pts c R.a13 X.x13]

/-- The operands hold the contents `X`. -/
def Held (R : Refs) (X : Mem F) : sProp 𝕄 := sepL (parts c R X)

/-- One operand: how its contents are read off and replaced, and what is left of the resources without it. -/
structure Slot (R : Refs) {s : Shape} {e : EltTy} (m : Memref sig .tc .vmem s e) where
  get : Mem F → Vec F s e
  set : Mem F → Vec F s e → Mem F
  rest : Dev nD → Mem F → sProp 𝕄
  get_set : ∀ X, set X (get X) = X
  iso : ∀ c X v, Held c R (set X v) ⊣⊢ rest c X ∗ pts c m v

end

variable (R : Refs)

def slot0 : Slot (F := F) R R.a0 := ⟨Mem.x0, fun X v => { X with x0 := v }, fun c X => sepL ((parts c R X).eraseIdx 0), fun _ => rfl,
  fun c X _ => sepL_split [] ((parts c R X).drop 1) _⟩
def slot1 : Slot (F := F) R R.a1 := ⟨Mem.x1, fun X v => { X with x1 := v }, fun c X => sepL ((parts c R X).eraseIdx 1), fun _ => rfl,
  fun c X _ => sepL_split ((parts c R X).take 1) ((parts c R X).drop 2) _⟩
def slot2 : Slot (F := F) R R.a2 := ⟨Mem.x2, fun X v => { X with x2 := v }, fun c X => sepL ((parts c R X).eraseIdx 2), fun _ => rfl,
  fun c X _ => sepL_split ((parts c R X).take 2) ((parts c R X).drop 3) _⟩
def slot3 : Slot (F := F) R R.a3 := ⟨Mem.x3, fun X v => { X with x3 := v }, fun c X => sepL ((parts c R X).eraseIdx 3), fun _ => rfl,
  fun c X _ => sepL_split ((parts c R X).take 3) ((parts c R X).drop 4) _⟩
def slot4 : Slot (F := F) R R.a4 := ⟨Mem.x4, fun X v => { X with x4 := v }, fun c X => sepL ((parts c R X).eraseIdx 4), fun _ => rfl,
  fun c X _ => sepL_split ((parts c R X).take 4) ((parts c R X).drop 5) _⟩
def slot5 : Slot (F := F) R R.a5 := ⟨Mem.x5, fun X v => { X with x5 := v }, fun c X => sepL ((parts c R X).eraseIdx 5), fun _ => rfl,
  fun c X _ => sepL_split ((parts c R X).take 5) ((parts c R X).drop 6) _⟩
def slot6 : Slot (F := F) R R.a6 := ⟨Mem.x6, fun X v => { X with x6 := v }, fun c X => sepL ((parts c R X).eraseIdx 6), fun _ => rfl,
  fun c X _ => sepL_split ((parts c R X).take 6) ((parts c R X).drop 7) _⟩
def slot7 : Slot (F := F) R R.a7 := ⟨Mem.x7, fun X v => { X with x7 := v }, fun c X => sepL ((parts c R X).eraseIdx 7), fun _ => rfl,
  fun c X _ => sepL_split ((parts c R X).take 7) ((parts c R X).drop 8) _⟩
def slot8 : Slot (F := F) R R.a8 := ⟨Mem.x8, fun X v => { X with x8 := v }, fun c X => sepL ((parts c R X).eraseIdx 8), fun _ => rfl,
  fun c X _ => sepL_split ((parts c R X).take 8) ((parts c R X).drop 9) _⟩
def slot9 : Slot (F := F) R R.a9 := ⟨Mem.x9, fun X v => { X with x9 := v }, fun c X => sepL ((parts c R X).eraseIdx 9), fun _ => rfl,
  fun c X _ => sepL_split ((parts c R X).take 9) ((parts c R X).drop 10) _⟩
def slot10 : Slot (F := F) R R.a10 := ⟨Mem.x10, fun X v => { X with x10 := v }, fun c X => sepL ((parts c R X).eraseIdx 10), fun _ => rfl,
  fun c X _ => sepL_split ((parts c R X).take 10) ((parts c R X).drop 11) _⟩
def slot11 : Slot (F := F) R R.a11 := ⟨Mem.x11, fun X v => { X with x11 := v }, fun c X => sepL ((parts c R X).eraseIdx 11), fun _ => rfl,
  fun c X _ => sepL_split ((parts c R X).take 11) ((parts c R X).drop 12) _⟩
def slot12 : Slot (F := F) R R.a12 := ⟨Mem.x12, fun X v => { X with x12 := v }, fun c X => sepL ((parts c R X).eraseIdx 12), fun _ => rfl,
  fun c X _ => sepL_split ((parts c R X).take 12) ((parts c R X).drop 13) _⟩
def slot13 : Slot (F := F) R R.a13 := ⟨Mem.x13, fun X v => { X with x13 := v }, fun c X => sepL ((parts c R X).eraseIdx 13), fun _ => rfl,
  fun c X _ => sepL_split ((parts c R X).take 13) [] _⟩

/-- From the contents `X` the program `p` returns `a` and leaves the contents `X'`. -/
def Runs {α : Type} (X : Mem F) (p : P F α) (a : α) (X' : Mem F) : Prop :=
  ∀ (c : Dev nD) (Q : α → sProp 𝕄), (Held c R X' ⊢ Q a) →
    Held c R X ⊢ wp frame (wpE (defs₀ (F := F)) Variants.none (c : Thread nD τ) none) Set.univ p Q

variable {R} {α β : Type}

/-- A program that returns at once. -/
theorem Runs.ret (X : Mem F) (a : α) : Runs R X (.ret a) a X := fun c Q h => h.trans (le_wp_ret _ _ _ _ _)

/-- One program after another. -/
theorem Runs.bind {X X₁ X₂ : Mem F} {p : P F α} {a : α} {k : α → P F β} {b : β} (hp : Runs R X p a X₁) (hk : Runs R X₁ (k a) b X₂) :
    Runs R X (p >>= k) b X₂ := fun c Q h => by
  rw [wp_bind]
  exact hp c _ (hk c Q h)

/-- A load of a window. -/
theorem Runs.load {X : Mem F} {s : Shape} {e : EltTy} {m : Memref sig .tc .vmem s e} (S : Slot (F := F) R m) {off size : Fin s.rank → ℕ}
    {inb : ∀ a, off a + size a ≤ s.size a} {hl : m.view.LoadsAt (Rect.unit off size inb).toLoadRect} :
    Runs R X (Prog.lift (.load m (Rect.unit off size inb).toLoadRect hl)) (window (S.get X) off size inb) X := fun c Q h =>
  exec_load (c := (c : Thread nD τ)) Variants.none none Set.univ (P := Held c R X) (R := S.rest c X) (q := fullShare) (S := m.view.set)
    (by have := S.iso c X (S.get X); rw [S.get_set] at this; exact this)
    (View.setOn_subset_set _ _) _ (View.readAt_rep_unit m.view (S.get X) inb rfl inb) (h.trans (le_wp_ret _ _ _ _ _))

/-- A store of a window. -/
theorem Runs.store {X : Mem F} {s : Shape} {e : EltTy} {m : Memref sig .tc .vmem s e} (S : Slot (F := F) R m) {off size : Fin s.rank → ℕ}
    {inb : ∀ a, off a + size a ≤ s.size a} {w : (Rect.unit off size inb).shape.Idx → Elt F e}
    {hx : (m.access (Rect.unit off size inb)).Stores Finset.univ}
    {hm : Finset.univ = Finset.univ ∨ ∀ a, (Rect.unit off size inb).stride a = 1} :
    Runs R X (Prog.lift (.store m (Rect.unit off size inb) w Finset.univ hx hm)) ⟨⟩ (S.set X (put (S.get X) off size w)) := fun c Q h =>
  exec_store (c := (c : Thread nD τ)) Variants.none none Set.univ (P := Held c R X) (R := S.rest c X) (S := m.view.set) (L := [])
    (f := m.view.rep (S.get X)) (by have := S.iso c X (S.get X); rw [S.get_set] at this; exact this)
    ((Memref.set_access_subset_setOn m _).trans (View.setOn_subset_set _ _)) _ rfl ⟨.rfl, .rfl⟩
    (((sep_mono .rfl (pointsTo_rep_of_read (c : Thread nD τ) m _ _ _ (View.read_writes_rep_unit m.view (S.get X) inb w rfl))).trans
      (S.iso c X _).2).trans (h.trans (le_wp_ret _ _ _ _ _)))

/-- From the contents `X` the program `p` ends, and what it returns and leaves satisfy `Φ`. -/
def Does (R : Refs) (X : Mem F) (p : P F α) (Φ : α → Mem F → Prop) : Prop := ∃ a X', Runs R X p a X' ∧ Φ a X'

/-- A run known exactly. -/
theorem Runs.does {X X' : Mem F} {p : P F α} {a : α} {Φ : α → Mem F → Prop} (h : Runs R X p a X') (hΦ : Φ a X') : Does R X p Φ := ⟨a, X', h, hΦ⟩

/-- One program after another. -/
theorem Does.bind {X : Mem F} {p : P F α} {Φ : α → Mem F → Prop} {k : α → P F β} {Ψ : β → Mem F → Prop} (hp : Does R X p Φ)
    (hk : ∀ a X', Φ a X' → Does R X' (k a) Ψ) : Does R X (p >>= k) Ψ := by
  obtain ⟨a, X₁, h₁, hΦ⟩ := hp
  obtain ⟨b, X₂, h₂, hΨ⟩ := hk a X₁ hΦ
  exact ⟨b, X₂, h₁.bind h₂, hΨ⟩

/-- A run known exactly, and what follows it. -/
theorem Runs.then {X X₁ : Mem F} {p : P F α} {a : α} {k : α → P F β} {Ψ : β → Mem F → Prop} (hp : Runs R X p a X₁) (hk : Does R X₁ (k a) Ψ) :
    Does R X (p >>= k) Ψ := by
  obtain ⟨b, X₂, h₂, hΨ⟩ := hk
  exact ⟨b, X₂, hp.bind h₂, hΨ⟩

/-- A weaker conclusion. -/
theorem Does.mono {X : Mem F} {p : P F α} {Φ Ψ : α → Mem F → Prop} (h : Does R X p Φ) (hm : ∀ a X', Φ a X' → Ψ a X') : Does R X p Ψ := by
  obtain ⟨a, X', hr, hΦ⟩ := h
  exact ⟨a, X', hr, hm a X' hΦ⟩

/-- A counted loop, by what holds before each trip. -/
theorem Does.loop {σ : Type} (lb ub st : BitVec 32) (ok : Scf.OK lb ub st) (body : Fin (Scf.trips lb ub st) → σ → P F σ)
    (Inv : ℕ → σ → Mem F → Prop) {n : ℕ} (hn : Scf.trips lb ub st = n) {X : Mem F} {init : σ} (h0 : Inv 0 init X)
    (hs : ∀ (k : Fin (Scf.trips lb ub st)) a X, Inv k.val a X → Does R X (body k a) (Inv (k.val + 1))) :
    Does R X (Scf.for lb ub st ok init body) (Inv n) := by
  subst hn
  rw [Scf.for_eq]
  have key : ∀ (m j : ℕ), j + m = Scf.trips lb ub st → ∀ a X, Inv j a X →
      Does R X (Scf.forFrom body ((List.finRange (Scf.trips lb ub st)).drop j) a) (Inv (Scf.trips lb ub st)) := by
    intro m
    induction m with
    | zero =>
      intro j hj a X h
      have e : (List.finRange (Scf.trips lb ub st)).drop j = [] := List.drop_eq_nil_of_le (by rw [List.length_finRange]; omega)
      rw [e]
      have ej : j = Scf.trips lb ub st := by omega
      exact (Runs.ret X a).does (ej ▸ h)
    | succ m ih =>
      intro j hj a X h
      have hl : j < (List.finRange (Scf.trips lb ub st)).length := by rw [List.length_finRange]; omega
      rw [List.drop_eq_getElem_cons hl, List.getElem_finRange]
      exact (hs ⟨j, by omega⟩ a X h).bind fun a' X' h' => ih (j + 1) (by omega) a' X' h'
  exact key _ 0 (Nat.zero_add _) init X h0

end Cert.KernelIdeal.Lstm
end
-- ==== Proof.Pieces.lean ====
/- What the pieces of the program do: the staging buffer after a chunk's inputs are packed, the gates a chunk leaves, one
   step's result, the results copied out. -/
module

public import proofs.«01_k».proof.Proof.Runs
public import Idealize.ShloMosaic.Lib.ValueIdx
public import Idealize.ShloMosaic.Lib.Pipeline.Value

@[expose] public section

set_option maxRecDepth 65536

noncomputable section

namespace Cert.KernelIdeal.Lstm

open Idealize.ShloMosaic Idealize.ShloMosaic.TcCoe Idealize.ShloMosaic.Tactic Idealize.ShloMosaic.ValueIdx
open Cert.KernelIdeal Cert.KernelIdeal.Gen
open Idealize.SL Idealize.SL.Sem
open Idealize.ShloMosaic.VecWindow (window put)

variable {F : FTy → Type} [FloatOps F] {R : Refs}

/-! ## Windows -/

/-- A window read at a place. -/
theorem window_at {s : Shape} {α : Type} (x : s.Idx → α) (off size : Fin s.rank → ℕ) (inb : ∀ a, off a + size a ≤ s.size a)
    (y : (Rect.unit off size inb).shape.Idx) (z : s.Idx) (h : ∀ a, (z a).val = off a + (y a).val) : window x off size inb y = x z :=
  congrArg x (funext fun a => Fin.ext (by
    rw [h a]
    show off a + 1 * (y a).val = _
    omega))

/-- The whole as a window. -/
theorem window_full {s : Shape} {α : Type} (x : s.Idx → α) (off : Fin s.rank → ℕ) (inb : ∀ a, off a + s.size a ≤ s.size a) :
    window x off s.size inb = x := by
  funext y
  exact window_at x off s.size inb y y fun a => by have := inb a; omega

/-- A put read inside its window. -/
theorem put_in {s : Shape} {α : Type} (x : s.Idx → α) (off size : Fin s.rank → ℕ) (w : ((a : Fin s.rank) → Fin (size a)) → α)
    (y : s.Idx) (z : (a : Fin s.rank) → Fin (size a)) (h : ∀ a, (y a).val = off a + (z a).val) : put x off size w y = w z := by
  have hc : ∀ a, off a ≤ (y a).val ∧ (y a).val < off a + size a := fun a => by have := h a; have := (z a).isLt; omega
  refine (dif_pos hc).trans (congrArg w (funext fun a => Fin.ext ?_))
  show (y a).val - off a = (z a).val
  have := h a; omega

/-- A put read outside its window. -/
theorem put_out {s : Shape} {α : Type} (x : s.Idx → α) (off size : Fin s.rank → ℕ) (w : ((a : Fin s.rank) → Fin (size a)) → α)
    (y : s.Idx) (a : Fin s.rank) (h : (y a).val < off a ∨ off a + size a ≤ (y a).val) : put x off size w y = x y :=
  dif_neg fun hc => by have := hc a; omega

/-! ## Packing a chunk's inputs -/

/-- The chunk of eight input rows from row `w` on, step by step. -/
def pack (x : Vec F S16x512x256 .f32) (w : ℕ) (hw : w + 8 ≤ 512) : Vec F S8x16x256 .bf16 := fun y =>
  FloatOps.truncf .bf16 bitsLt_bf16_f32
    (x (ix3 (n0 := 16) (n1 := 512) (n2 := 256) (y 1) ⟨w + (y 0).val, by have : (y 0).val < 8 := (y 0).isLt; omega⟩ (y 2)))

/-- The staging buffer after sequence `b`'s rows have been packed into it. -/
def packOne (x : Vec F S16x512x256 .f32) (w : ℕ) (hw : w + 8 ≤ 512) (b : Fin 16) (o : Vec F S8x16x256 .bf16) : Vec F S8x16x256 .bf16 :=
  put o ![0, 2 * (b.val / 2), 0] S8x2x256.size
    (updateSlice (window o ![0, 2 * (b.val / 2), 0] S8x2x256.size (inb_pair b)) (packVal (window x ![b.val, w, 0] S1x8x256.size (inb_in b w hw)))
      ![0, b.val % 2, 0] (slices_row b))

/-- One sequence's row of the staging buffer. -/
theorem packVal_at (v : Vec F S1x8x256 .f32) (i : Fin 8) (d : Fin 256) :
    packVal v (ix3 (n0 := 8) (n1 := 1) (n2 := 256) i 0 d) = FloatOps.truncf .bf16 bitsLt_bf16_f32 (v (ix3 (n0 := 1) (n1 := 8) (n2 := 256) 0 i d)) := by
  unfold packVal
  rw [shapeCast_apply _ _ _ (ix2 (n0 := 8) (n1 := 256) i d) (by
    rw [Shape.rowMajor_val_three, Shape.rowMajor_val_two]
    show i.val * 256 + d.val = (i.val * 1 + 0) * 256 + d.val
    omega)]
  show FloatOps.truncf .bf16 bitsLt_bf16_f32 (shapeCast S8x256 v shapeCasts_S1x8x256_S8x256 (ix2 (n0 := 8) (n1 := 256) i d)) = _
  rw [shapeCast_apply _ _ _ (ix3 (n0 := 1) (n1 := 8) (n2 := 256) 0 i d) (by
    rw [Shape.rowMajor_val_three, Shape.rowMajor_val_two]
    show (0 * 8 + i.val) * 256 + d.val = i.val * 256 + d.val
    omega)]

/-- Packing one sequence's rows changes that sequence's rows only. -/
theorem packOne_at (x : Vec F S16x512x256 .f32) (w : ℕ) (hw : w + 8 ≤ 512) (b : Fin 16) (o : Vec F S8x16x256 .bf16) (i : Fin 8) (b' : Fin 16)
    (d : Fin 256) : packOne x w hw b o (ix3 (n0 := 8) (n1 := 16) (n2 := 256) i b' d)
      = if b' = b then pack x w hw (ix3 (n0 := 8) (n1 := 16) (n2 := 256) i b d) else o (ix3 (n0 := 8) (n1 := 16) (n2 := 256) i b' d) := by
  have hb := b.isLt
  have hb' := b'.isLt
  unfold packOne
  by_cases hp : b'.val / 2 = b.val / 2
  · rw [put_in o ![0, 2 * (b.val / 2), 0] S8x2x256.size _ (ix3 (n0 := 8) (n1 := 16) (n2 := 256) i b' d)
      (ix3 (n0 := 8) (n1 := 2) (n2 := 256) i ⟨b'.val % 2, by omega⟩ d) (fun a => by
        match a with
        | ⟨0, _⟩ => show i.val = 0 + i.val; omega
        | ⟨1, _⟩ => show b'.val = 2 * (b.val / 2) + b'.val % 2; omega
        | ⟨2, _⟩ => show d.val = 0 + d.val; omega)]
    rw [← VecWindow.put_eq_updateSlice (s := S8x2x256) _ ![0, b.val % 2, 0] S8x1x256.size (fun a => (slices_row b).2 a)]
    by_cases he : b' = b
    · subst he
      rw [if_pos rfl, put_in (s := S8x2x256) _ ![0, b'.val % 2, 0] S8x1x256.size _ _ (ix3 (n0 := 8) (n1 := 1) (n2 := 256) i 0 d) (fun a => by
        match a with
        | ⟨0, _⟩ => show i.val = 0 + i.val; omega
        | ⟨1, _⟩ => show b'.val % 2 = b'.val % 2 + 0; omega
        | ⟨2, _⟩ => show d.val = 0 + d.val; omega)]
      refine (packVal_at _ i d).trans ?_
      refine congrArg (FloatOps.truncf .bf16 bitsLt_bf16_f32) (window_at x _ _ _ _ _ fun a => ?_)
      match a with
      | ⟨0, _⟩ => show b'.val = b'.val + 0; omega
      | ⟨1, _⟩ => show w + i.val = w + i.val; rfl
      | ⟨2, _⟩ => show d.val = 0 + d.val; omega
    · have hne : b'.val ≠ b.val := fun h => he (Fin.ext h)
      rw [if_neg he, put_out (s := S8x2x256) _ ![0, b.val % 2, 0] S8x1x256.size _ _ (1 : Fin 3) (by
        show b'.val % 2 < b.val % 2 ∨ b.val % 2 + 1 ≤ b'.val % 2
        omega)]
      refine window_at o _ _ _ _ _ fun a => ?_
      match a with
      | ⟨0, _⟩ => show i.val = 0 + i.val; omega
      | ⟨1, _⟩ => show b'.val = 2 * (b.val / 2) + b'.val % 2; omega
      | ⟨2, _⟩ => show d.val = 0 + d.val; omega
  · have hne : b' ≠ b := fun h => hp (by rw [h])
    rw [if_neg hne]
    exact put_out o _ _ _ _ (1 : Fin 3) (by
      show b'.val < 2 * (b.val / 2) ∨ 2 * (b.val / 2) + 2 ≤ b'.val
      omega)

end Cert.KernelIdeal.Lstm
end
-- ==== Proof.Chunk.lean ====
/- What the pieces of the program do: the staging buffer after a chunk's inputs are packed, the gates a chunk leaves, one
   step's result, the results copied out. -/
module

public import proofs.«01_k».proof.Proof.Pieces
public import Idealize.ShloMosaic.Lib.ValueIdx
public import Idealize.ShloMosaic.Lib.Pipeline.Value

@[expose] public section

set_option maxRecDepth 65536

noncomputable section

namespace Cert.KernelIdeal.Lstm

open Idealize.ShloMosaic Idealize.ShloMosaic.TcCoe Idealize.ShloMosaic.Tactic Idealize.ShloMosaic.ValueIdx
open Cert.KernelIdeal Cert.KernelIdeal.Gen
open Idealize.SL Idealize.SL.Sem
open Idealize.ShloMosaic.VecWindow (window put)

variable {F : FTy → Type} [FloatOps F] {R : Refs}

/-! ## Windows -/

/-- A part of a buffer read, changed and stored back. -/
theorem Runs.change {X : Mem F} {s : Shape} {e : EltTy} {m : Memref sig .tc .vmem s e} (S : Slot (F := F) R m) (off size : Fin s.rank → ℕ)
    (inb : ∀ a, off a + size a ≤ s.size a) (w : ((Rect.unit off size inb).shape.Idx → Elt F e) → (Rect.unit off size inb).shape.Idx → Elt F e)
    (hl : m.view.LoadsAt (Rect.unit off size inb).toLoadRect) (hs : (m.access (Rect.unit off size inb)).Stores Finset.univ) :
    Runs R X (storeSubelements m (Rect.unit off size inb) w hl hs) ⟨⟩ (S.set X (put (S.get X) off size (w (window (S.get X) off size inb)))) := by
  have h := (Runs.load (X := X) S (inb := inb) (hl := hl)).bind
    (k := fun old => Prog.lift (.store m (Rect.unit off size inb) (w old) Finset.univ hs (.inl rfl))) (Runs.store S)
  exact h

/-- One sequence's rows packed. -/
theorem packRow_runs (X : Mem F) (w : ℕ) (hw : w + 8 ≤ 512) (b : Fin 16) :
    Runs R X (packRow R w hw b) ⟨⟩ { X with x13 := packOne X.x0 w hw b X.x13 } := by
  unfold packRow packOne
  refine Runs.bind (Runs.load (slot0 R)) ?_
  refine Runs.bind (Runs.load (slot13 R)) ?_
  exact Runs.change (slot13 R) _ _ _ _ _ _

/-- The first `n` sequences' rows packed. -/
theorem packRows_runs (X : Mem F) (w : ℕ) (hw : w + 8 ≤ 512) : ∀ (n : ℕ) (h : n ≤ 16), ∃ v, Runs R X (packRows R w hw n h) ⟨⟩ { X with x13 := v } ∧
    ∀ (i : Fin 8) (b : Fin 16) (d : Fin 256), b.val < n → v (ix3 (n0 := 8) (n1 := 16) (n2 := 256) i b d) = pack X.x0 w hw (ix3 (n0 := 8) (n1 := 16) (n2 := 256) i b d)
  | 0, _ => ⟨X.x13, Runs.ret X PUnit.unit, fun _ _ _ hb => absurd hb (Nat.not_lt_zero _)⟩
  | n + 1, h => by
    obtain ⟨v, hr, hv⟩ := packRows_runs X w hw n (Nat.le_of_succ_le h)
    refine ⟨packOne X.x0 w hw ⟨n, h⟩ v, hr.bind (packRow_runs _ w hw ⟨n, h⟩), fun i b d hb => ?_⟩
    rw [packOne_at]
    by_cases he : b = ⟨n, h⟩
    · rw [if_pos he, he]
    · rw [if_neg he]
      exact hv i b d (by have : b.val ≠ n := fun e => he (Fin.ext e); omega)

attribute [local irreducible] packRows

/-- All sequences' rows packed: the staging buffer holds the chunk. -/
theorem packAll_runs (X : Mem F) (w : ℕ) (hw : w + 8 ≤ 512) (n : ℕ) (hn : n ≤ 16) (h16 : n = 16) :
    Runs R X (packRows R w hw n hn) ⟨⟩ { X with x13 := pack X.x0 w hw } := by
  obtain ⟨v, hr, hv⟩ := packRows_runs (R := R) X w hw n hn
  have e : v = pack X.x0 w hw := by
    funext y
    rw [eq_ix3 (n0 := 8) (n1 := 16) (n2 := 256) y]
    exact hv _ _ _ (lt_of_lt_of_eq (y 1).isLt h16.symm)
  rw [e] at hr
  exact hr

/-- A chunk's gates, stored from row `o` on. -/
theorem preChunk_runs (X : Mem F) (w : ℕ) (hw : w + 8 ≤ 512) (o : ℕ) (ho : o + 128 ≤ 8192) :
    Runs R X (preChunk R w hw o ho) ⟨⟩
      { X with x13 := pack X.x0 w hw, x11 := put X.x11 ![o, 0] S128x1024.size (preVal (pack X.x0 w hw) X.x3 X.x7) } := by
  unfold preChunk
  have h := packAll_runs (R := R) X w hw 16 (le_refl 16) rfl
  refine h.bind ?_
  refine Runs.bind (Runs.load (slot13 R)) ?_
  refine Runs.bind (Runs.load (slot3 R)) ?_
  refine Runs.bind (Runs.load (slot7 R)) ?_
  refine Runs.bind (Runs.load (slot11 R)) ?_
  rw [window_full, window_full, window_full]
  exact Runs.store (slot11 R)

end Cert.KernelIdeal.Lstm
end
-- ==== Proof.Steps.lean ====
/- What the kernel's layers compute step by step from its operands, and what one chunk's steps and one chunk's copied
   results leave. -/
module

public import proofs.«01_k».proof.Proof.Chunk

@[expose] public section

set_option maxRecDepth 65536

noncomputable section

namespace Cert.KernelIdeal.Lstm

open Idealize.ShloMosaic Idealize.ShloMosaic.TcCoe Idealize.ShloMosaic.Tactic Idealize.ShloMosaic.ValueIdx
open Cert.KernelIdeal Cert.KernelIdeal.Gen
open Idealize.SL Idealize.SL.Sem
open Idealize.ShloMosaic.VecWindow (window put)

variable {F : FTy → Type} [FloatOps F] {R : Refs}

/-! ## The layers, step by step -/

/-- The kernel's operands' contents. -/
structure Ins (F : FTy → Type) where
  x : Vec F S16x512x256 .f32
  nIn : Vec F S16x256 .i32
  nAu : Vec F S16x256 .i32
  w0x : Vec F S256x1024 .bf16
  w0h : Vec F S256x1024 .bf16
  w1x : Vec F S256x1024 .bf16
  w1h : Vec F S256x1024 .bf16
  b0 : Vec F S1x1024 .f32
  b1 : Vec F S1x1024 .f32

/-- The operands held by the buffers. -/
def Mem.ins (X : Mem F) : Ins F := ⟨X.x0, X.x1, X.x2, X.x3, X.x4, X.x5, X.x6, X.x7, X.x8⟩

/-- Chunk `k`'s gates from the inputs: row `16 * i + b` for step `i` of sequence `b`. -/
def gate (I : Ins F) (k : Fin 64) : FVec F S128x1024 .f32 := preVal (pack I.x (8 * k.val) (by omega)) I.w0x I.b0

/-- Step `t`'s gates from the inputs. -/
def xgate (I : Ins F) (t : ℕ) : FVec F S16x1024 .f32 := fun y =>
  gate I ⟨t / 8 % 64, Nat.mod_lt _ (by decide)⟩
    (ix2 (n0 := 128) (n1 := 1024) ⟨16 * (t % 8) + (y 0).val, by have : (y 0).val < 16 := (y 0).isLt; omega⟩ (y 1))

/-- The states a step computes. -/
def nextAt (I : Ins F) (t : ℕ) (s : St F) : St F := next I.w1x I.w1h I.b1 (addf (xgate I t) (dotW s.1 I.w0h)) s

/-- The sequences that step `t` belongs to. -/
def live (I : Ins F) (t : ℕ) : IVec S16x256 1 := longer I.nIn (BitVec.ofNat 32 t)

/-- The states before step `t`. -/
def stAt (I : Ins F) : ℕ → St F
  | 0 => (zero16, zero16, zero16, zero16)
  | t + 1 => keep (live I t) (nextAt I t (stAt I t)) (stAt I t)

/-- Step `t`'s result. -/
def outAt (I : Ins F) (t : ℕ) : V16 F := select (live I t) (nextAt I t (stAt I t)).2.2.1 zero16

/-- The states a step of the decoder computes. -/
def decNext (I : Ins F) (s : DSt F) : St F := next I.w1x I.w1h I.b1 (gates1 s.2.2.2.2 s.1 I.w0x I.w0h I.b0) s.st

/-- The sequences that step `k` of the decoder belongs to. -/
def decLive (I : Ins F) (k : ℕ) : IVec S16x256 1 := longer I.nAu (iv k)

/-- The result of a step of the decoder from what it carries. -/
def decRes (I : Ins F) (k : ℕ) (s : DSt F) : V16 F := select (decLive I k) (decNext I s).2.2.1 zero16

/-- What the decoder carries before step `k`. -/
def decAt (I : Ins F) : ℕ → DSt F
  | 0 => ((stAt I 512).1, (stAt I 512).2.1, (stAt I 512).2.2.1, (stAt I 512).2.2.2, (stAt I 512).2.2.1)
  | k + 1 =>
    let s' := keep (decLive I k) (decNext I (decAt I k)) (decAt I k).st
    (s'.1, s'.2.1, s'.2.2.1, s'.2.2.2, decRes I k (decAt I k))

/-- The first result, whole. -/
def out9 (I : Ins F) : Vec F S16x512x256 .f32 := fun y => outAt I (y 1).val (ix2 (n0 := 16) (n1 := 256) (y 0) (y 2))

/-- The second result, whole. -/
def out10 (I : Ins F) : Vec F S16x64x256 .f32 := fun y => decRes I (y 1).val (decAt I (y 1).val) (ix2 (n0 := 16) (n1 := 256) (y 0) (y 2))

/-! ## One chunk's steps -/

/-- A place of the two slots of results. -/
abbrev at4 (u : Fin 2) (i : Fin 8) (b : Fin 16) (d : Fin 256) : S2x8x16x256.Idx := ix4 (n0 := 2) (n1 := 8) (n2 := 16) (n3 := 256) u i b d

/-- A step's result as it is stored. -/
theorem stored_at (v : V16 F) (b : Fin 16) (d : Fin 256) :
    shapeCast S1x1x16x256 v shapeCasts_S16x256_S1x1x16x256 (ix4 (n0 := 1) (n1 := 1) (n2 := 16) (n3 := 256) 0 0 b d) = v (ix2 (n0 := 16) (n1 := 256) b d) :=
  shapeCast_apply _ _ _ _ (by
    rw [Shape.rowMajor_val_two, Shape.rowMajor_val_four]
    show b.val * 256 + d.val = ((0 * 1 + 0) * 16 + b.val) * 256 + d.val
    omega)

/-- One step. -/
theorem step_runs (X : Mem F) (t : BitVec 32) (o : ℕ) (ho : o + 16 ≤ 8192) (u : ℕ) (hu : u + 1 ≤ 2) (i : Fin 8) (s : St F) :
    Runs R X (step R t o ho u hu i s)
      (keep (longer X.x1 t) (next X.x5 X.x6 X.x8 (addf (window X.x11 ![o, 0] S16x1024.size (inb_gate o ho)) (dotW s.1 X.x4)) s) s)
      { X with x12 := put X.x12 ![u, i.val, 0, 0] S1x1x16x256.size (shapeCast S1x1x16x256
        (select (longer X.x1 t) (next X.x5 X.x6 X.x8 (addf (window X.x11 ![o, 0] S16x1024.size (inb_gate o ho)) (dotW s.1 X.x4)) s).2.2.1 zero16)
        shapeCasts_S16x256_S1x1x16x256) } := by
  unfold step
  refine Runs.bind (Runs.load (slot11 R)) ?_
  refine Runs.bind (Runs.load (slot4 R)) ?_
  refine Runs.bind (Runs.load (slot5 R)) ?_
  refine Runs.bind (Runs.load (slot6 R)) ?_
  refine Runs.bind (Runs.load (slot8 R)) ?_
  refine Runs.bind (Runs.load (slot1 R)) ?_
  refine Runs.bind (Runs.load (slot12 R)) ?_
  rw [window_full, window_full, window_full, window_full, window_full]
  exact Runs.bind (Runs.store (slot12 R)) (Runs.ret _ _)

/-- One step, when its gates from the inputs are at row `o` and the states are the ones before step `t`. -/
theorem step_at (X : Mem F) (I : Ins F) (hI : X.ins = I) (t : ℕ) (tw : BitVec 32) (o : ℕ) (ho : o + 16 ≤ 8192) (u : ℕ) (hu : u + 1 ≤ 2) (i : Fin 8) (s : St F)
    (ht : tw = BitVec.ofNat 32 t) (hx : window X.x11 ![o, 0] S16x1024.size (inb_gate o ho) = xgate I t) (hs : s = stAt I t) :
    Runs R X (step R tw o ho u hu i s) (stAt I (t + 1))
      { X with x12 := (put X.x12 ![u, i.val, 0, 0] S1x1x16x256.size
        (shapeCast S1x1x16x256 (outAt I t) shapeCasts_S16x256_S1x1x16x256)) } := by
  subst hI
  have h := step_runs (R := R) X tw o ho u hu i s
  rw [hx, ht, hs] at h
  rw [ht, hs]
  exact h

/-- The steps up to step `n`, and that step. -/
theorem steps_succ (R : Refs) (k : Fin 64) (s : St F) (n : ℕ) (h : n + 1 ≤ 8) : steps R k s (n + 1) h
    = (steps R k s n (Nat.le_of_succ_le h) >>= fun s' => step R (wTime k.val (BitVec.ofNat 32 n)) (wGate k.val (BitVec.ofNat 32 n)).toNat
        (by rw [wGate_eq k ⟨n, h⟩]; have := k.isLt; have : n < 8 := h; show 16 * (8 * k.val + n) + 16 ≤ 8192; omega)
        (wSlot k.val).toNat (by rw [wSlot_eq k]; omega) ⟨n, h⟩ s') := rfl

/-- The first `n` steps of chunk `k`, when its gates are at their rows. -/
theorem steps_runs (X : Mem F) (k : Fin 64) (s : St F) (hs : s = stAt X.ins (8 * k.val))
    (hg : ∀ (r : Fin 128) (c : Fin 1024), X.x11 (ix2 (n0 := 8192) (n1 := 1024) ⟨128 * k.val + r.val, by omega⟩ c) = gate X.ins k (ix2 (n0 := 128) (n1 := 1024) r c)) :
    ∀ (n : ℕ) (h : n ≤ 8), ∃ v : Vec F S2x8x16x256 .f32, Runs R X (steps (F := F) R k s n h) (stAt X.ins (8 * k.val + n)) { X with x12 := v } ∧
      (∀ (u : Fin 2) (i : Fin 8) (b : Fin 16) (d : Fin 256), u.val = k.val % 2 → i.val < n →
        v (at4 u i b d) = outAt X.ins (8 * k.val + i.val) (ix2 (n0 := 16) (n1 := 256) b d)) ∧
      ∀ (u : Fin 2) (i : Fin 8) (b : Fin 16) (d : Fin 256), u.val ≠ k.val % 2 → v (at4 u i b d) = X.x12 (at4 u i b d) := by
  intro n
  induction n with
  | zero =>
    intro h
    subst hs
    exact ⟨X.x12, Runs.ret X _, fun _ _ _ _ _ hi => absurd hi (Nat.not_lt_zero _), fun _ _ _ _ _ => rfl⟩
  | succ n ih =>
    intro h
    obtain ⟨v, hr, hin, hout⟩ := ih (Nat.le_of_succ_le h)
    have hk := k.isLt
    have hw := wGate_eq k ⟨n, h⟩
    have ht := wTime_eq k ⟨n, h⟩
    have hu := wSlot_eq k
    have hx : window X.x11 ![(wGate k.val (BitVec.ofNat 32 n)).toNat, 0] S16x1024.size
        (inb_gate _ (by rw [hw]; show 16 * (8 * k.val + n) + 16 ≤ 8192; omega)) = xgate X.ins (8 * k.val + n) := by
      funext y
      have hy : (y 0).val < 16 := (y 0).isLt
      have e8 : (8 * k.val + n) / 8 % 64 = k.val := by omega
      have em : (8 * k.val + n) % 8 = n := by omega
      have ek : (⟨(8 * k.val + n) / 8 % 64, Nat.mod_lt _ (by decide)⟩ : Fin 64) = k := Fin.ext e8
      unfold xgate
      rw [ek]
      refine Eq.trans (window_at _ _ _ _ _ _ fun a => ?_) (hg ⟨16 * ((8 * k.val + n) % 8) + (y 0).val, by omega⟩ (y 1))
      match a with
      | ⟨0, _⟩ =>
        show 128 * k.val + (16 * ((8 * k.val + n) % 8) + (y 0).val) = (wGate k.val (BitVec.ofNat 32 n)).toNat + (y 0).val
        have hw' : (wGate k.val (BitVec.ofNat 32 n)).toNat = 16 * (8 * k.val + n) := hw
        omega
      | ⟨1, _⟩ => show (y 1).val = 0 + (y 1).val; omega
    have hst := step_at (R := R) { X with x12 := v } X.ins rfl (8 * k.val + n) (wTime k.val (BitVec.ofNat 32 n)) (wGate k.val (BitVec.ofNat 32 n)).toNat
      (by rw [hw]; show 16 * (8 * k.val + n) + 16 ≤ 8192; omega) (wSlot k.val).toNat (by rw [hu]; omega) ⟨n, h⟩ (stAt X.ins (8 * k.val + n))
      ht hx rfl
    refine ⟨put v ![(wSlot k.val).toNat, n, 0, 0] S1x1x16x256.size (shapeCast S1x1x16x256 (outAt X.ins (8 * k.val + n)) shapeCasts_S16x256_S1x1x16x256),
      by rw [steps_succ]; exact Runs.bind hr hst, fun u i b d hu' hi => ?_, fun u i b d hu' => ?_⟩
    · by_cases hin' : i.val = n
      · refine Eq.trans (put_in (s := S2x8x16x256) v ![(wSlot k.val).toNat, n, 0, 0] S1x1x16x256.size _ (at4 u i b d) (ix4 (n0 := 1) (n1 := 1) (n2 := 16) (n3 := 256) 0 0 b d) fun a => ?_) (Eq.trans (stored_at (F := F) _ b d) ?_)
        · match a with
          | ⟨0, _⟩ => show u.val = (wSlot k.val).toNat + 0; omega
          | ⟨1, _⟩ => show i.val = n + 0; omega
          | ⟨2, _⟩ => show b.val = 0 + b.val; omega
          | ⟨3, _⟩ => show d.val = 0 + d.val; omega
        · rw [hin']
      · refine (put_out _ _ _ _ _ (1 : Fin 4) ?_).trans (hin u i b d hu' (by omega))
        show i.val < n ∨ n + 1 ≤ i.val
        omega
    · refine (put_out _ _ _ _ _ (0 : Fin 4) ?_).trans (hout u i b d hu')
      show u.val < (wSlot k.val).toNat ∨ (wSlot k.val).toNat + 1 ≤ u.val
      omega

/-! ## One chunk's results copied out -/

/-- One sequence's results as they are stored. -/
theorem copied_at (v : Vec F S1x8x1x256 .f32) (i : Fin 8) (d : Fin 256) :
    shapeCast S1x8x256 (shapeCast S8x256 v shapeCasts_S1x8x1x256_S8x256) shapeCasts_S8x256_S1x8x256 (ix3 (n0 := 1) (n1 := 8) (n2 := 256) 0 i d)
      = v (ix4 (n0 := 1) (n1 := 8) (n2 := 1) (n3 := 256) 0 i 0 d) := by
  rw [shapeCast_apply _ _ _ (ix2 (n0 := 8) (n1 := 256) i d) (by
    rw [Shape.rowMajor_val_three, Shape.rowMajor_val_two]
    show i.val * 256 + d.val = (0 * 8 + i.val) * 256 + d.val
    omega)]
  exact shapeCast_apply _ _ _ _ (by
    rw [Shape.rowMajor_val_four, Shape.rowMajor_val_two]
    show ((0 * 8 + i.val) * 1 + 0) * 256 + d.val = i.val * 256 + d.val
    omega)

/-- One sequence's results copied out. -/
theorem flushRow_runs (X : Mem F) (u : ℕ) (hu : u + 1 ≤ 2) (w : ℕ) (hw : w + 8 ≤ 512) (b : Fin 16) :
    Runs R X (flushRow R u hu w hw b) ⟨⟩ { X with x9 := (put X.x9 ![b.val, w, 0] S1x8x256.size
      (shapeCast S1x8x256 (shapeCast S8x256 (window X.x12 ![u, 0, b.val, 0] S1x8x1x256.size (inb_col u b hu)) shapeCasts_S1x8x1x256_S8x256)
        shapeCasts_S8x256_S1x8x256)) } := by
  unfold flushRow
  refine Runs.bind (Runs.load (slot12 R)) ?_
  refine Runs.bind (Runs.load (slot9 R)) ?_
  exact Runs.store (slot9 R)

/-- A place of the first result. -/
abbrev at3 (b : Fin 16) (t : Fin 512) (d : Fin 256) : S16x512x256.Idx := ix3 (n0 := 16) (n1 := 512) (n2 := 256) b t d

/-- The first `n` sequences' results copied out. -/
theorem flushRows_runs (X : Mem F) (u : Fin 2) (hu : u.val + 1 ≤ 2) (w : ℕ) (hw : w + 8 ≤ 512) : ∀ (n : ℕ) (h : n ≤ 16),
    ∃ v : Vec F S16x512x256 .f32, Runs R X (flushRows (F := F) R u.val hu w hw n h) ⟨⟩ { X with x9 := v } ∧
      (∀ (b : Fin 16) (i : Fin 8) (d : Fin 256), b.val < n → v (at3 b ⟨w + i.val, by omega⟩ d) = X.x12 (at4 u i b d)) ∧
      ∀ (b : Fin 16) (t : Fin 512) (d : Fin 256), t.val < w ∨ w + 8 ≤ t.val → v (at3 b t d) = X.x9 (at3 b t d)
  | 0, _ => ⟨X.x9, Runs.ret X PUnit.unit, fun _ _ _ hb => absurd hb (Nat.not_lt_zero _), fun _ _ _ _ => rfl⟩
  | n + 1, h => by
    obtain ⟨v, hr, hin, hout⟩ := flushRows_runs X u hu w hw n (Nat.le_of_succ_le h)
    refine ⟨_, hr.bind (flushRow_runs (F := F) { X with x9 := v } u.val hu w hw ⟨n, h⟩), fun b i d hb => ?_, fun b t d ht => ?_⟩
    · by_cases he : b.val = n
      · refine Eq.trans (put_in (s := S16x512x256) v ![n, w, 0] S1x8x256.size _ (at3 b ⟨w + i.val, _⟩ d) (ix3 (n0 := 1) (n1 := 8) (n2 := 256) 0 i d) fun a => ?_) (Eq.trans (copied_at (F := F) _ i d) ?_)
        · match a with
          | ⟨0, _⟩ => show b.val = n + 0; omega
          | ⟨1, _⟩ => show w + i.val = w + i.val; rfl
          | ⟨2, _⟩ => show d.val = 0 + d.val; omega
        · refine window_at _ _ _ _ _ _ fun a => ?_
          match a with
          | ⟨0, _⟩ => show u.val = u.val + 0; omega
          | ⟨1, _⟩ => show i.val = 0 + i.val; omega
          | ⟨2, _⟩ => show b.val = n + 0; omega
          | ⟨3, _⟩ => show d.val = 0 + d.val; omega
      · refine (put_out _ _ _ _ _ (0 : Fin 3) ?_).trans (hin b i d (by omega))
        show b.val < n ∨ n + 1 ≤ b.val
        omega
    · refine (put_out _ _ _ _ _ (1 : Fin 3) ?_).trans (hout b t d ht)
      show t.val < w ∨ w + 8 ≤ t.val
      exact ht

end Cert.KernelIdeal.Lstm
end
-- ==== Proof.Whole.lean ====
/- The kernel's two loops: what holds before each chunk and before each step of the decoder, and what the whole kernel
   leaves in its two results. -/
module

public import proofs.«01_k».proof.Proof.Steps

@[expose] public section

set_option maxRecDepth 65536

noncomputable section

namespace Cert.KernelIdeal.Lstm

open Idealize.ShloMosaic Idealize.ShloMosaic.TcCoe Idealize.ShloMosaic.Tactic Idealize.ShloMosaic.ValueIdx
open Cert.KernelIdeal Cert.KernelIdeal.Gen
open Idealize.SL Idealize.SL.Sem
open Idealize.ShloMosaic.VecWindow (window put)

variable {F : FTy → Type} [FloatOps F] {R : Refs}

attribute [local irreducible] packRows steps flushRows preChunk

/-- What holds before chunk `k`: the states, the chunk's gates, the previous chunk's results in their slot, and the results
    of the chunks before that one. -/
def Before (I : Ins F) (z : Vec F S16x64x256 .f32) (k : ℕ) (s : St F) (X : Mem F) : Prop :=
  X.ins = I ∧ X.x10 = z ∧ s = stAt I (8 * k)
  ∧ (∀ (c : Fin 64), c.val = k → ∀ (r : Fin 128) (d : Fin 1024),
      X.x11 (ix2 (n0 := 8192) (n1 := 1024) ⟨128 * c.val + r.val, by omega⟩ d) = gate I c (ix2 (n0 := 128) (n1 := 1024) r d))
  ∧ (1 ≤ k → ∀ (u : Fin 2) (i : Fin 8) (b : Fin 16) (d : Fin 256), u.val = (k + 1) % 2 →
      X.x12 (at4 u i b d) = outAt I (8 * (k - 1) + i.val) (ix2 (n0 := 16) (n1 := 256) b d))
  ∧ (∀ (b : Fin 16) (t : Fin 512) (d : Fin 256), t.val + 8 < 8 * k + 0 → X.x9 (at3 b t d) = outAt I t.val (ix2 (n0 := 16) (n1 := 256) b d))

/-- A chunk's gates where they are stored. -/
theorem gates_at (x : Vec F S8192x1024 .f32) (o : ℕ) (w : FVec F S128x1024 .f32) (r : Fin 128) (d : Fin 1024) (h : o + r.val < 8192) :
    put x ![o, 0] S128x1024.size w (ix2 (n0 := 8192) (n1 := 1024) ⟨o + r.val, h⟩ d) = w (ix2 (n0 := 128) (n1 := 1024) r d) :=
  put_in (s := S8192x1024) x ![o, 0] S128x1024.size w _ (ix2 (n0 := 128) (n1 := 1024) r d) fun a => by
    match a with
    | ⟨0, _⟩ => rfl
    | ⟨1, _⟩ => show d.val = 0 + d.val; omega

/-- The gates of chunk `k` by the row they are computed from. -/
theorem gate_of (I : Ins F) (k : Fin 64) (w : ℕ) (hw : w + 8 ≤ 512) (e : w = 8 * k.val) : preVal (pack I.x w hw) I.w0x I.b0 = gate I k := by
  subst e; rfl

/-- One chunk. -/
theorem body_does (I : Ins F) (z : Vec F S16x64x256 .f32) (k : Fin 64) (s : St F) (X : Mem F) (h : Before I z k.val s X) :
    Does R X (body R k s) (Before I z (k.val + 1)) := by
  obtain ⟨rfl, rfl, hs, hg, ho, h9⟩ := h
  have hk := k.isLt
  have hwi := wIn_eq k
  have hwp := wPre_eq k
  have hws := wOld_eq k
  have hwo := wOut_eq k
  unfold body
  refine Runs.then (preChunk_runs X _ _ _ _) ?_
  obtain ⟨v12, hr, hin, hout⟩ := steps_runs (R := R) { X with x13 := pack X.x0 (wIn k.val).toNat (by omega), x11 := (put X.x11 ![(wPre k.val).toNat, 0] S128x1024.size (preVal (pack X.x0 (wIn k.val).toNat (by omega)) X.x3 X.x7)) }
    k s hs (fun r c => (put_out (s := S8192x1024) _ _ _ _ _ (0 : Fin 2) (by
      show 128 * k.val + r.val < (wPre k.val).toNat ∨ (wPre k.val).toNat + 128 ≤ 128 * k.val + r.val
      omega)).trans (hg k rfl r c)) 8 (le_refl 8)
  refine Runs.then hr ?_
  obtain ⟨v9, hr9, hin9, hout9⟩ := flushRows_runs (R := R) { X with x13 := pack X.x0 (wIn k.val).toNat (by omega), x11 := (put X.x11 ![(wPre k.val).toNat, 0] S128x1024.size (preVal (pack X.x0 (wIn k.val).toNat (by omega)) X.x3 X.x7)), x12 := v12 }
    ⟨(wOld k.val).toNat, by omega⟩ (by show (wOld k.val).toNat + 1 ≤ 2; omega) (wOut k.val).toNat (by omega) 16 (le_refl 16)
  refine Runs.then hr9 ?_
  refine (Runs.ret _ _).does ⟨rfl, rfl, rfl, ?_, ?_, ?_⟩
  · intro c hc r d
    have e : (wPre k.val).toNat = 128 * c.val := by omega
    have hgo := gate_of X.ins c (wIn k.val).toNat (by omega) (by omega)
    show put X.x11 ![(wPre k.val).toNat, 0] S128x1024.size (preVal (pack X.ins.x (wIn k.val).toNat _) X.ins.w0x X.ins.b0) _ = _
    rw [hgo]
    refine put_in (s := S8192x1024) X.x11 ![(wPre k.val).toNat, 0] S128x1024.size (gate X.ins c) _ (ix2 (n0 := 128) (n1 := 1024) r d) fun a => ?_
    match a with
    | ⟨0, _⟩ => show 128 * c.val + r.val = (wPre k.val).toNat + r.val; omega
    | ⟨1, _⟩ => show d.val = 0 + d.val; omega
  · intro _ u i b d hu
    exact hin u i b d (by omega) i.isLt
  · intro b t d ht
    by_cases hlt : t.val < (wOut k.val).toNat ∨ (wOut k.val).toNat + 8 ≤ t.val
    · exact (hout9 b t d hlt).trans (h9 b t d (by omega))
    · have hk1 : 1 ≤ k.val := by omega
      have ew : (wOut k.val).toNat = 8 * (k.val - 1) := by omega
      have hi : t.val - (wOut k.val).toNat < 8 := by omega
      have et : t = ⟨(wOut k.val).toNat + (⟨t.val - (wOut k.val).toNat, hi⟩ : Fin 8).val, by show (wOut k.val).toNat + (t.val - (wOut k.val).toNat) < 512; omega⟩ :=
        Fin.ext (by show t.val = (wOut k.val).toNat + (t.val - (wOut k.val).toNat); omega)
      have h1 := hin9 b ⟨t.val - (wOut k.val).toNat, hi⟩ d b.isLt
      have h2 := hout ⟨(wOld k.val).toNat, by omega⟩ ⟨t.val - (wOut k.val).toNat, hi⟩ b d (by show (wOld k.val).toNat ≠ k.val % 2; omega)
      have h3 := ho hk1 ⟨(wOld k.val).toNat, by omega⟩ ⟨t.val - (wOut k.val).toNat, hi⟩ b d hws
      have e3 : 8 * (k.val - 1) + (t.val - (wOut k.val).toNat) = t.val := by omega
      have h4 := h1.trans (h2.trans h3)
      rw [← et] at h4
      refine h4.trans ?_
      show outAt X.ins (8 * (k.val - 1) + (t.val - (wOut k.val).toNat)) _ = _
      rw [e3]

/-- What holds before step `k` of the decoder. -/
def DecBefore (I : Ins F) (o9 : Vec F S16x512x256 .f32) (k : ℕ) (s : DSt F) (X : Mem F) : Prop :=
  X.ins = I ∧ X.x9 = o9 ∧ s = decAt I k
  ∧ ∀ (b : Fin 16) (t : Fin 64) (d : Fin 256), t.val < k → X.x10 (ix3 (n0 := 16) (n1 := 64) (n2 := 256) b t d)
      = decRes I t.val (decAt I t.val) (ix2 (n0 := 16) (n1 := 256) b d)

theorem iv_toNat : ∀ k : Fin 64, (iv k.val).toNat = k.val := by decide +kernel

/-- A decoder step's result as it is stored. -/
theorem decStored_at (v : V16 F) (b : Fin 16) (d : Fin 256) :
    shapeCast S16x1x256 v shapeCasts_S16x256_S16x1x256 (ix3 (n0 := 16) (n1 := 1) (n2 := 256) b 0 d) = v (ix2 (n0 := 16) (n1 := 256) b d) :=
  shapeCast_apply _ _ _ _ (by
    rw [Shape.rowMajor_val_two, Shape.rowMajor_val_three]
    show b.val * 256 + d.val = (b.val * 1 + 0) * 256 + d.val
    omega)

/-- One step of the decoder. -/
theorem decode_runs (X : Mem F) (k : Fin 64) (s : DSt F) (hs : s = decAt X.ins k.val) :
    Runs R X (decode R k s) (decAt X.ins (k.val + 1))
      { X with x10 := (put X.x10 ![0, (iv k.val).toNat, 0] S16x1x256.size
        (shapeCast S16x1x256 (decRes X.ins k.val (decAt X.ins k.val)) shapeCasts_S16x256_S16x1x256)) } := by
  subst hs
  unfold decode
  refine Runs.bind (Runs.load (slot3 R)) ?_
  refine Runs.bind (Runs.load (slot4 R)) ?_
  refine Runs.bind (Runs.load (slot7 R)) ?_
  refine Runs.bind (Runs.load (slot5 R)) ?_
  refine Runs.bind (Runs.load (slot6 R)) ?_
  refine Runs.bind (Runs.load (slot8 R)) ?_
  refine Runs.bind (Runs.load (slot2 R)) ?_
  refine Runs.bind (Runs.load (slot10 R)) ?_
  rw [window_full, window_full, window_full, window_full, window_full, window_full, window_full]
  exact Runs.bind (Runs.store (slot10 R)) (Runs.ret _ _)

/-- One step of the decoder keeps what holds before it. -/
theorem decode_does (I : Ins F) (o9 : Vec F S16x512x256 .f32) (k : Fin 64) (s : DSt F) (X : Mem F) (h : DecBefore I o9 k.val s X) :
    Does R X (decode R k s) (DecBefore I o9 (k.val + 1)) := by
  obtain ⟨rfl, rfl, hs, h10⟩ := h
  refine (decode_runs X k s hs).does ⟨rfl, rfl, rfl, fun b t d ht => ?_⟩
  have hi := iv_toNat k
  by_cases he : t.val = k.val
  · refine Eq.trans (put_in (s := S16x64x256) X.x10 ![0, (iv k.val).toNat, 0] S16x1x256.size _ (ix3 (n0 := 16) (n1 := 64) (n2 := 256) b t d)
      (ix3 (n0 := 16) (n1 := 1) (n2 := 256) b 0 d) fun a => ?_) (Eq.trans (decStored_at (F := F) _ b d) ?_)
    · match a with
      | ⟨0, _⟩ => show b.val = 0 + b.val; omega
      | ⟨1, _⟩ => show t.val = (iv k.val).toNat + 0; omega
      | ⟨2, _⟩ => show d.val = 0 + d.val; omega
    · rw [he]
  · refine (put_out _ _ _ _ _ (1 : Fin 3) ?_).trans (h10 b t d (by omega))
    show t.val < (iv k.val).toNat ∨ (iv k.val).toNat + 1 ≤ t.val
    omega

theorem trips1 : k0_t1_loop.trips = 64 := by decide +kernel
theorem trips2 : k0_t2_loop.trips = 64 := by decide +kernel

/-- The whole kernel: its operands unchanged, its two results whole. -/
theorem kernel_does (X : Mem F) :
    Does R X (kernel R) (fun _ X' => X'.ins = X.ins ∧ X'.x9 = out9 X.ins ∧ X'.x10 = out10 X.ins) := by
  unfold kernel
  refine Runs.then (preChunk_runs X _ _ _ _) ?_
  refine Does.bind (Φ := fun s X' => Before X.ins X.x10 64 (s.1, s.2.1, s.2.2.1, s.2.2.2.1) X') ?_ ?_
  · unfold teacher
    refine Does.bind (Φ := Before X.ins X.x10 64) ?_ fun s X' h => (Runs.ret _ _).does h
    refine Does.loop _ _ _ _ _ (Before X.ins X.x10) trips1 ⟨rfl, rfl, rfl, ?_, fun h => absurd h (by decide), fun _ _ _ h => absurd h (by omega)⟩
      fun k a X' h => body_does X.ins X.x10 ⟨k.val, trips1_lt k⟩ a X' h
    intro c hc r d
    obtain rfl : c = 0 := Fin.ext hc
    refine put_in (s := S8192x1024) X.x11 ![0, 0] S128x1024.size (gate X.ins 0) _ (ix2 (n0 := 128) (n1 := 1024) r d) fun a => ?_
    match a with
    | ⟨0, _⟩ => show 128 * 0 + r.val = 0 + r.val; omega
    | ⟨1, _⟩ => show d.val = 0 + d.val; omega
  · rintro s X' ⟨hI, hz, hs, -, ho, h9⟩
    obtain ⟨v9, hr9, hin9, hout9⟩ := flushRows_runs (R := R) X' ⟨(Scalar.remsi 63#32 2#32 : BitVec 32).toNat, by decide +kernel⟩ (by decide +kernel) 504 (by decide) 16 (le_refl 16)
    refine Runs.then hr9 ?_
    refine Does.bind (Φ := DecBefore X.ins (out9 X.ins) 64) ?_ ?_
    · refine Does.loop _ _ _ _ _ (DecBefore X.ins (out9 X.ins)) trips2 ⟨hI, ?_, ?_, fun _ _ _ h => absurd h (Nat.not_lt_zero _)⟩
        fun k a X' h => decode_does X.ins (out9 X.ins) ⟨k.val, trips2_lt k⟩ a X' h
      · funext y
        rw [eq_ix3 (n0 := 16) (n1 := 512) (n2 := 256) y]
        generalize y 0 = b
        generalize y 1 = t
        generalize y 2 = d
        show v9 (at3 b t d) = outAt X.ins t.val (ix2 (n0 := 16) (n1 := 256) b d)
        have hlt : t.val < 512 := t.isLt
        by_cases hc : t.val < 504
        · exact (hout9 b t d (Or.inl hc)).trans (h9 b t d (by omega))
        · have hi : t.val - 504 < 8 := by omega
          have et : t = ⟨504 + (⟨t.val - 504, hi⟩ : Fin 8).val, by show 504 + (t.val - 504) < 512; omega⟩ :=
            Fin.ext (by show t.val = 504 + (t.val - 504); omega)
          have h4 := (hin9 b ⟨t.val - 504, hi⟩ d b.isLt).trans (ho (by decide) _ ⟨t.val - 504, hi⟩ b d (by decide +kernel))
          refine (congrArg (fun t' => v9 (at3 b t' d)) et).trans (h4.trans ?_)
          show outAt X.ins (8 * (64 - 1) + (t.val - 504)) _ = _
          rw [show 8 * (64 - 1) + (t.val - 504) = t.val by omega]
      · have h1 := congrArg Prod.fst hs
        have h2 := congrArg (fun p => p.2.1) hs
        have h3 := congrArg (fun p => p.2.2.1) hs
        have h4 := congrArg (fun p => p.2.2.2) hs
        simp only at h1 h2 h3 h4
        rw [h1, h2, h3, h4]
        rfl
    · rintro s' X'' ⟨hI', h9', -, h10⟩
      refine (Runs.ret _ _).does ⟨hI', h9', ?_⟩
      funext y
      rw [eq_ix3 (n0 := 16) (n1 := 64) (n2 := 256) y]
      exact h10 _ _ _ (y 1).isLt

end Cert.KernelIdeal.Lstm
end
-- ==== Proof.ProgramEq.lean ====
/- The printed kernel is the program of Program.lean. -/
module

public import proofs.«01_k».proof.Proof.Program

@[expose] public section

set_option maxRecDepth 65536
set_option maxHeartbeats 4000000

noncomputable section

namespace Cert.KernelIdeal.Lstm

open Idealize.ShloMosaic Idealize.ShloMosaic.TcCoe Idealize.ShloMosaic.Tactic
open Cert.KernelIdeal Cert.KernelIdeal.Gen
open Idealize.SL Idealize.SL.Sem

variable {F : FTy → Type} [FloatOps F]
variable (a0 : Memref sig .tc .vmem S16x512x256 .f32) (h0 : a0.IsWhole) (a1 : Memref sig .tc .vmem S16x256 .i32) (h1 : a1.IsWhole) (a2 : Memref sig .tc .vmem S16x256 .i32) (h2 : a2.IsWhole) (a3 : Memref sig .tc .vmem S256x1024 .bf16) (h3 : a3.IsWhole) (a4 : Memref sig .tc .vmem S256x1024 .bf16) (h4 : a4.IsWhole) (a5 : Memref sig .tc .vmem S256x1024 .bf16) (h5 : a5.IsWhole) (a6 : Memref sig .tc .vmem S256x1024 .bf16) (h6 : a6.IsWhole) (a7 : Memref sig .tc .vmem S1x1024 .f32) (h7 : a7.IsWhole) (a8 : Memref sig .tc .vmem S1x1024 .f32) (h8 : a8.IsWhole) (a9 : Memref sig .tc .vmem S16x512x256 .f32) (h9 : a9.IsWhole) (a10 : Memref sig .tc .vmem S16x64x256 .f32) (h10 : a10.IsWhole) (a11 : Memref sig .tc .vmem S8192x1024 .f32) (h11 : a11.IsWhole) (a12 : Memref sig .tc .vmem S2x8x16x256 .f32) (h12 : a12.IsWhole) (a13 : Memref sig .tc .vmem S8x16x256 .bf16) (h13 : a13.IsWhole)

/-- The printed decoder step. -/
theorem decode_eq (k : Fin k0_t2_loop.trips) (s : DSt F) :
    k0_t2_body a0 h0 a1 h1 a2 h2 a3 h3 a4 h4 a5 h5 a6 h6 a7 h7 a8 h8 a9 h9 a10 h10 a11 h11 a12 h12 a13 h13 k s = decode ⟨a0, a1, a2, a3, a4, a5, a6, a7, a8, a9, a10, a11, a12, a13, h13⟩ ⟨k.val, trips2_lt k⟩ s := by sl_kernel_rfl

/-- The printed trip over a chunk. -/
theorem body_eq (v0 : V16 F) (v81 : FVec F S8x256 .bf16) (k : Fin k0_t1_loop.trips) (s : St F) :
    k0_t1_body a0 h0 a1 h1 a2 h2 a3 h3 a4 h4 a5 h5 a6 h6 a7 h7 a8 h8 a9 h9 a10 h10 a11 h11 a12 h12 a13 h13 v0 v81 k s = body ⟨a0, a1, a2, a3, a4, a5, a6, a7, a8, a9, a10, a11, a12, a13, h13⟩ ⟨k.val, trips1_lt k⟩ s := by sl_kernel_rfl

/-- The printed kernel. -/
theorem kernel_eq : cc0__lstm_kernel (F := F) a0 h0 a1 h1 a2 h2 a3 h3 a4 h4 a5 h5 a6 h6 a7 h7 a8 h8 a9 h9 a10 h10 a11 h11 a12 h12 a13 h13 = kernel ⟨a0, a1, a2, a3, a4, a5, a6, a7, a8, a9, a10, a11, a12, a13, h13⟩ := by sl_kernel_rfl

end Cert.KernelIdeal.Lstm
end
-- ==== Proof.KernelRun.lean ====
/- The kernel's program run: the launch's one point hands the operands to the kernel and takes the two results back. -/
module

public import proofs.«01_k».proof.Proof.Whole
public import proofs.«01_k».proof.Proof.ProgramEq
public import Idealize.ShloMosaic.Lib.Pipeline.TableIdle
public import Idealize.ShloMosaic.Lib.Pipeline.Quiescent

@[expose] public section

set_option maxRecDepth 65536

noncomputable section

namespace Cert.KernelIdeal.Lstm

open Idealize.ShloMosaic Idealize.ShloMosaic.TcCoe Idealize.ShloMosaic.Tactic
open Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf ΦA)

variable {F : FTy → Type} [FloatOps F]

local notation "𝕄" => MT nD τ sig Unit (Elt F) ℕ (UR sig nD τ) ℕ

variable (m : (ℓ : Loc nD τ sig) → Buf (Elt F) ℓ) (ρ : Dev nD → PrngReg)

attribute [local irreducible] kernel

/-- What the kernel leaves in its operands. -/
def Left (X X' : Mem F) : Prop := X'.ins = X.ins ∧ X'.x9 = out9 X.ins ∧ X'.x10 = out10 X.ins

/-- The kernel's triple. -/
theorem sound (c : Dev nD) (R : Refs) (X : Mem F) (K : PUnit → sProp 𝕄) :
    iprop(Held c R X ∗ (iprop(∃ X', ⌜Left X X'⌝ ∗ Held c R X') -∗ K ⟨⟩))
      ⊢ wp frame (wpE (defs₀ (F := F)) Variants.none (c : Thread nD τ) none) Set.univ (kernel R) K := by
  obtain ⟨a, X', hr, hX⟩ := kernel_does (R := R) X
  have h := hr c (fun _ => iprop(∃ X', ⌜Left X X'⌝ ∗ Held c R X')) (by
    iintro H
    iexists X'
    isplitr
    · ipureintro; exact hX
    · iexact H)
  refine (sep_mono h .rfl).trans ((wp_frame_r _ _ _).trans (wp_mono _ _ _ fun a => ?_))
  iintro ⟨H, Hk⟩
  iapply Hk
  iexact H

/-- The operands' resources, one by one. -/
theorem held_eq (c : Dev nD) (R : Refs) (X : Mem F) : Held c R X = iprop(owns (c : Thread nD τ) R.a0 fullShare X.x0 ∗ owns (c : Thread nD τ) R.a1 fullShare X.x1 ∗ owns (c : Thread nD τ) R.a2 fullShare X.x2 ∗ owns (c : Thread nD τ) R.a3 fullShare X.x3 ∗ owns (c : Thread nD τ) R.a4 fullShare X.x4 ∗ owns (c : Thread nD τ) R.a5 fullShare X.x5 ∗ owns (c : Thread nD τ) R.a6 fullShare X.x6 ∗ owns (c : Thread nD τ) R.a7 fullShare X.x7 ∗ owns (c : Thread nD τ) R.a8 fullShare X.x8 ∗ owns (c : Thread nD τ) R.a9 fullShare X.x9 ∗ owns (c : Thread nD τ) R.a10 fullShare X.x10 ∗ owns (c : Thread nD τ) R.a11 fullShare X.x11 ∗ owns (c : Thread nD τ) R.a12 fullShare X.x12 ∗ owns (c : Thread nD τ) R.a13 fullShare X.x13 ∗ emp) := by
  unfold Held parts pts
  simp only [sepL, owns_eq_rep]

/-- What the kernel leaves, one by one. -/
theorem left_held (c : Dev nD) (R : Refs) (I : Ins F) (X X' : Mem F) (hXI : X.ins = I) (hX : Left X X') : Held c R X' ⊢ iprop(owns (c : Thread nD τ) R.a0 fullShare I.x ∗ owns (c : Thread nD τ) R.a1 fullShare I.nIn ∗ owns (c : Thread nD τ) R.a2 fullShare I.nAu ∗ owns (c : Thread nD τ) R.a3 fullShare I.w0x ∗ owns (c : Thread nD τ) R.a4 fullShare I.w0h ∗ owns (c : Thread nD τ) R.a5 fullShare I.w1x ∗ owns (c : Thread nD τ) R.a6 fullShare I.w1h ∗ owns (c : Thread nD τ) R.a7 fullShare I.b0 ∗ owns (c : Thread nD τ) R.a8 fullShare I.b1 ∗ owns (c : Thread nD τ) R.a9 fullShare (out9 I) ∗ owns (c : Thread nD τ) R.a10 fullShare (out10 I) ∗ (∃ X, owns (c : Thread nD τ) R.a11 fullShare X) ∗ (∃ X, owns (c : Thread nD τ) R.a12 fullShare X) ∗ (∃ X, owns (c : Thread nD τ) R.a13 fullShare X)) := by
  obtain ⟨hI, h9, h10⟩ := hX
  rw [hXI] at hI h9 h10
  rw [held_eq]
  have g0 : X'.x0 = I.x := congrArg Ins.x hI
  have g1 : X'.x1 = I.nIn := congrArg Ins.nIn hI
  have g2 : X'.x2 = I.nAu := congrArg Ins.nAu hI
  have g3 : X'.x3 = I.w0x := congrArg Ins.w0x hI
  have g4 : X'.x4 = I.w0h := congrArg Ins.w0h hI
  have g5 : X'.x5 = I.w1x := congrArg Ins.w1x hI
  have g6 : X'.x6 = I.w1h := congrArg Ins.w1h hI
  have g7 : X'.x7 = I.b0 := congrArg Ins.b0 hI
  have g8 : X'.x8 = I.b1 := congrArg Ins.b1 hI
  rw [g0, g1, g2, g3, g4, g5, g6, g7, g8, h9, h10]
  iintro ⟨H0, H1, H2, H3, H4, H5, H6, H7, H8, H9, H10, H11, H12, H13, -⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iexists _; iexact H13

/-- The printed kernel on whole operands: the inputs stay, the two results are `out9` and `out10`. -/
theorem sound_owns (c : Dev nD) (a0 : Memref sig .tc .vmem S16x512x256 .f32) (h0 : a0.IsWhole) (a1 : Memref sig .tc .vmem S16x256 .i32) (h1 : a1.IsWhole) (a2 : Memref sig .tc .vmem S16x256 .i32) (h2 : a2.IsWhole) (a3 : Memref sig .tc .vmem S256x1024 .bf16) (h3 : a3.IsWhole) (a4 : Memref sig .tc .vmem S256x1024 .bf16) (h4 : a4.IsWhole) (a5 : Memref sig .tc .vmem S256x1024 .bf16) (h5 : a5.IsWhole) (a6 : Memref sig .tc .vmem S256x1024 .bf16) (h6 : a6.IsWhole) (a7 : Memref sig .tc .vmem S1x1024 .f32) (h7 : a7.IsWhole) (a8 : Memref sig .tc .vmem S1x1024 .f32) (h8 : a8.IsWhole) (a9 : Memref sig .tc .vmem S16x512x256 .f32) (h9 : a9.IsWhole) (a10 : Memref sig .tc .vmem S16x64x256 .f32) (h10 : a10.IsWhole) (a11 : Memref sig .tc .vmem S8192x1024 .f32) (h11 : a11.IsWhole) (a12 : Memref sig .tc .vmem S2x8x16x256 .f32) (h12 : a12.IsWhole) (a13 : Memref sig .tc .vmem S8x16x256 .bf16) (h13 : a13.IsWhole)
    (I : Ins F) (d9 : Vec F S16x512x256 .f32) (d10 : Vec F S16x64x256 .f32) (d11 : Vec F S8192x1024 .f32) (d12 : Vec F S2x8x16x256 .f32)
    (d13 : Vec F S8x16x256 .bf16) (K : PUnit → sProp 𝕄) :
    iprop(owns (c : Thread nD τ) a0 fullShare I.x ∗ owns (c : Thread nD τ) a1 fullShare I.nIn ∗ owns (c : Thread nD τ) a2 fullShare I.nAu ∗ owns (c : Thread nD τ) a3 fullShare I.w0x ∗ owns (c : Thread nD τ) a4 fullShare I.w0h ∗ owns (c : Thread nD τ) a5 fullShare I.w1x ∗ owns (c : Thread nD τ) a6 fullShare I.w1h ∗ owns (c : Thread nD τ) a7 fullShare I.b0 ∗ owns (c : Thread nD τ) a8 fullShare I.b1 ∗ owns (c : Thread nD τ) a9 fullShare d9 ∗ owns (c : Thread nD τ) a10 fullShare d10 ∗ owns (c : Thread nD τ) a11 fullShare d11 ∗ owns (c : Thread nD τ) a12 fullShare d12 ∗ owns (c : Thread nD τ) a13 fullShare d13
        ∗ (iprop(owns (c : Thread nD τ) a0 fullShare I.x ∗ owns (c : Thread nD τ) a1 fullShare I.nIn ∗ owns (c : Thread nD τ) a2 fullShare I.nAu ∗ owns (c : Thread nD τ) a3 fullShare I.w0x ∗ owns (c : Thread nD τ) a4 fullShare I.w0h ∗ owns (c : Thread nD τ) a5 fullShare I.w1x ∗ owns (c : Thread nD τ) a6 fullShare I.w1h ∗ owns (c : Thread nD τ) a7 fullShare I.b0 ∗ owns (c : Thread nD τ) a8 fullShare I.b1 ∗ owns (c : Thread nD τ) a9 fullShare (out9 I) ∗ owns (c : Thread nD τ) a10 fullShare (out10 I) ∗ (∃ X, owns (c : Thread nD τ) a11 fullShare X) ∗ (∃ X, owns (c : Thread nD τ) a12 fullShare X) ∗ (∃ X, owns (c : Thread nD τ) a13 fullShare X)) -∗ K ⟨⟩))
      ⊢ wp frame (wpE (defs₀ (F := F)) Variants.none (c : Thread nD τ) none) Set.univ
          (cc0__lstm_kernel a0 h0 a1 h1 a2 h2 a3 h3 a4 h4 a5 h5 a6 h6 a7 h7 a8 h8 a9 h9 a10 h10 a11 h11 a12 h12 a13 h13) K := by
  rw [kernel_eq]
  refine BIBase.Entails.trans ?_ (sound c ⟨a0, a1, a2, a3, a4, a5, a6, a7, a8, a9, a10, a11, a12, a13, h13⟩ ⟨I.x, I.nIn, I.nAu, I.w0x, I.w0h, I.w1x, I.w1h, I.b0, I.b1, d9, d10, d11, d12, d13⟩ K)
  rw [held_eq]
  iintro ⟨H0, H1, H2, H3, H4, H5, H6, H7, H8, H9, H10, H11, H12, H13, Hk⟩
  isplitl [H0 H1 H2 H3 H4 H5 H6 H7 H8 H9 H10 H11 H12 H13]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iempintro
  iintro ⟨%X', %hX, H⟩
  have hl : Held c ⟨a0, a1, a2, a3, a4, a5, a6, a7, a8, a9, a10, a11, a12, a13, h13⟩ X' ⊢ iprop(owns (c : Thread nD τ) a0 fullShare I.x ∗ owns (c : Thread nD τ) a1 fullShare I.nIn ∗ owns (c : Thread nD τ) a2 fullShare I.nAu ∗ owns (c : Thread nD τ) a3 fullShare I.w0x ∗ owns (c : Thread nD τ) a4 fullShare I.w0h ∗ owns (c : Thread nD τ) a5 fullShare I.w1x ∗ owns (c : Thread nD τ) a6 fullShare I.w1h ∗ owns (c : Thread nD τ) a7 fullShare I.b0 ∗ owns (c : Thread nD τ) a8 fullShare I.b1 ∗ owns (c : Thread nD τ) a9 fullShare (out9 I) ∗ owns (c : Thread nD τ) a10 fullShare (out10 I) ∗ (∃ X, owns (c : Thread nD τ) a11 fullShare X) ∗ (∃ X, owns (c : Thread nD τ) a12 fullShare X) ∗ (∃ X, owns (c : Thread nD τ) a13 fullShare X)) := left_held c _ I _ X' rfl hX
  iapply Hk
  iapply hl
  iexact H

/-- The operands as the launch's point finds them. -/
def insAt (c : Dev nD) (t : Fin cfg0.N) : Ins F :=
  ⟨iblk m c 0 t, iblk m c 1 t, iblk m c 2 t, iblk m c 3 t, iblk m c 4 t, iblk m c 5 t, iblk m c 6 t, iblk m c 7 t, iblk m c 8 t⟩

/-- The launch's data: every operand stays, the two results are the kernel's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 (insAt m c t)
    | ⟨10, _⟩ => out10 (insAt m c t)
  Φ _ := ΦA spec0 c
  q _ := fullShare
  owed _ := 0

/-- What the body keeps between points: the three scratch buffers at any contents, and the generator's register. -/
theorem kept_eq (c : Dev nD) : (ΦA spec0 c : sProp 𝕄)
    = iprop(((∃ X, owns (c : Thread nD τ) (Memref.whole cc0_scratch0) fullShare X) ∗ (∃ X, owns (c : Thread nD τ) (Memref.whole cc0_scratch1) fullShare X)
        ∗ ∃ X, owns (c : Thread nD τ) (Memref.whole cc0_scratch2) fullShare X) ∗ ∃ r, prngReg c r) := by
  unfold ΦA
  rw [scopedRest0_eq, Memref.IsWhole.exists_owns_eq (Memref.isWhole_whole cc0_scratch0), Memref.IsWhole.exists_owns_eq (Memref.isWhole_whole cc0_scratch1),
    Memref.IsWhole.exists_owns_eq (Memref.isWhole_whole cc0_scratch2)]

theorem A_eq (c : Dev nD) (w : Fin cfg0.W) : (dats m 0 c).A w = V m c (Pipeline.arrRef spec0 w) := rfl
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = out9 (insAt m c t) := by dsimp only [dats]
theorem after10 (c : Dev nD) (t : Fin cfg0.N) : (dats m 0 c).after 10 t = out10 (insAt m c t) := by dsimp only [dats]

set_option maxHeartbeats 2000000 in
/-- The launch's one body meets its obligation. -/
theorem body_obligation (c : Dev nD) : BodyObligation (dats (F := F) m 0 c) (defs₀ (F := F)) Variants.none () Set.univ := fun t => by
  rw [bigSep_W0, bigSep_W0]
  rw [show (dats m 0 c).Φ t.succ = ΦA spec0 c from rfl, show (dats m 0 c).Φ t.castSucc = ΦA spec0 c from rfl,
    show (dats m 0 c).owesAt () t.succ = (dats m 0 c).owesAt () t.castSucc from rfl, kept_eq,
    after0, after1, after2, after3, after4, after5, after6, after7, after8, after9, after10]
  have e0 := before0_0_of m (dats m 0 c) (A_eq m c 0) (after0 m c) t
  have e1 := before0_1_of m (dats m 0 c) (A_eq m c 1) (after1 m c) t
  have e2 := before0_2_of m (dats m 0 c) (A_eq m c 2) (after2 m c) t
  have e3 := before0_3_of m (dats m 0 c) (A_eq m c 3) (after3 m c) t
  have e4 := before0_4_of m (dats m 0 c) (A_eq m c 4) (after4 m c) t
  have e5 := before0_5_of m (dats m 0 c) (A_eq m c 5) (after5 m c) t
  have e6 := before0_6_of m (dats m 0 c) (A_eq m c 6) (after6 m c) t
  have e7 := before0_7_of m (dats m 0 c) (A_eq m c 7) (after7 m c) t
  have e8 := before0_8_of m (dats m 0 c) (A_eq m c 8) (after8 m c) t
  simp only [e0, e1, e2, e3, e4, e5, e6, e7, e8]
  iintro ⟨⟨⟨⟨%d11, H11⟩, ⟨%d12, H12⟩, ⟨%d13, H13⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  sl_whnfR [defs₀, Defs.onTc]
  iapply (sound_owns c _ _ _ _ _ _ _ _ _ _ _ _ _ _ _ _ _ _ _ _ _ _ _ _ _ _ _ _ (insAt m c t) ((dats m 0 c).before 9 t d9) ((dats m 0 c).before 10 t d10) d11 d12 d13 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H0, H1, H2, H3, H4, H5, H6, H7, H8, H9, H10, H11, H12, H13⟩
  isplitl [H11 H12 H13 Hp]
  · isplitl [H11 H12 H13]
    · isplitl [H11]; · iexact H11
      isplitl [H12]; · iexact H12
      iexact H13
    · iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-! ## The run and the frame -/

set_option backward.isDefEq.respectTransparency.types false in
/-- Every run of the program ends, every array at what the launch's data say, every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The arguments unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_with_sems (frame_of m ρ (dats m) fun _ _ => rfl) (run_main m ρ)

end Cert.KernelIdeal.Lstm
end
-- ==== Proof.Transfer.lean ====
module
public import proofs.«01_k».proof.Defs
public import proofs.«01_k».proof.Proof.KernelRun
public import proofs.«01_k».proof.Proof.Gen.Kernel
public import Idealize.ShloMosaic.Lib.Tactic

@[expose] public section

set_option maxRecDepth 65536

/-! The printed kernel and its idealized form are one program, so what was proved of the idealized form at every
    reading of the floats holds of the printed kernel at the machine's reading. -/

namespace Cert.Kernel.Lstm

open Idealize.ShloMosaic Idealize.ShloMosaic.Tactic Idealize.SL.Sem

instance : Cert.Kernel.Facts := Cert.Kernel.Gen.facts
instance : Cert.KernelIdeal.Facts := Cert.KernelIdeal.Gen.facts

/-- The two main programs are the same. -/
theorem main_same : Cert.Kernel.main (F := Bits) = Cert.KernelIdeal.main (F := Bits) := by sl_kernel_rfl

/-- The two kernel bodies are the same. -/
theorem defs_same : Cert.Kernel.defs (F := Bits) = Cert.KernelIdeal.defs (F := Bits) := by sl_kernel_rfl

/-- The printed kernel runs, leaves its arguments alone and every semaphore at zero. -/
theorem quiet : Cert.quiescent_Kernel := by
  intro m g _
  rw [main_same, defs_same]
  exact Cert.KernelIdeal.Lstm.frame_run (F := Bits) m g

/-- The idealized kernel runs, leaves its arguments alone and every semaphore at zero. -/
theorem quiet_ideal : Cert.quiescent_KernelIdeal := by
  intro m g _
  exact Cert.KernelIdeal.Lstm.frame_run (F := Ideal) m g

/-- The same, of inputs whose mask is a prefix. -/
theorem quiet_ideal_prefix [Cert.Pre_mask_is_prefix.Facts] : Cert.quiescent_KernelIdeal_pre_mask_is_prefix := by
  intro m g _
  exact Cert.KernelIdeal.Lstm.frame_run (F := Ideal) m g

end Cert.Kernel.Lstm
-- ==== Proof.RefOps.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

@[expose] public section

set_option maxRecDepth 8192

noncomputable section

/-! The reference's operations, stretch by stretch: what each stretch touches, and that the two loop bodies and the
    main program are these stretches in order. -/

namespace Cert.ReferenceIdeal.Lstm

open Cert.ReferenceIdeal Cert.ReferenceIdeal.Gen
open Idealize.ShloMosaic Idealize.ShloMosaic.TcCoe Idealize.ShloMosaic.StableHlo
open Idealize.SL Idealize.SL.Sem

variable {F : FTy → Type} [FloatOps F]

/-- Operations of one teacher-forced trip, in their order. -/
abbrev t_c0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v5_0 : StableHlo.TRef sig ⟨S512x16x256, .f32⟩) ![(.of main_v5_11 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x16x256, .f32⟩) (fun x i => Host.dynamicSlice S1x16x256 x (fun k => (i k (Shape.Idx.first h_S_)).toInt) sliceFits_S512x16x256_S1x16x256),
    StableHlo.TRef.reshape (.of main_while0b_call0_v0 : StableHlo.TRef sig ⟨S1x16x256, .f32⟩) (.of main_while0b_v36 : StableHlo.TRef sig ⟨S16x256, .f32⟩) (rfl : (.f32 : EltTy) = .f32) shapeCasts_S1x16x256_S16x256 ]

/-- These operations touch device arrays only. -/
theorem t_c0_sub : (t_c0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

/-- None of these operations allocates. -/
theorem t_c0_fresh : (t_c0 : List (HloOp τ sig (Elt F))).Forall fun op => op.fresh = ∅ :=
  StableHlo.forall_fresh_of_map rfl

/-- The arrays that these operations write. -/
abbrev t_c0_W : List (Ref sig .tc) := [main_while0b_call0_c, main_while0b_call0_c_0, main_while0b_call0_v0, main_while0b_v36]

/-- They write nothing else. -/
theorem t_c0_keep (V : Valuation τ sig (Elt F)) {r : Ref sig .tc} (h : r ∉ t_c0_W) :
    after t_c0 V (Proc.devRef .tc r) = V (Proc.devRef .tc r) :=
  after_of_writes_sub t_c0 V (StableHlo.forall_writes_sub_of_map rfl) h

/-- Operations of one teacher-forced trip, in their order. -/
abbrev t_c1 : List (HloOp τ sig (Elt F)) :=
  [ StableHlo.TRef.unaryIndexed (.of main_v5_1 : StableHlo.TRef sig ⟨S512, .i32⟩) ![(.of main_v5_11 : StableHlo.TRef sig ⟨S_, .i32⟩)] (.of main_while0b_call1_v0 : StableHlo.TRef sig ⟨S1, .i32⟩) (fun x i => Host.dynamicSlice S1 x (fun k => (i k (Shape.Idx.first h_S_)).toInt) sliceFits_S512_S1),
    StableHlo.TRef.reshape (.of main_while0b_call1_v0 : StableHlo.TRef sig ⟨S1, .i32⟩) (.of main_while0b_v37 : StableHlo.TRef sig ⟨S_, .i32⟩) (rfl : (.i32 : EltTy) = .i32) shapeCasts_S1_S_ ]

/-- These operations touch device arrays only. -/
theorem t_c1_sub : (t_c1 : List (HloOp τ sig (Elt F))).Forall fun op => op.bufs ⊆ StableHlo.tcRefs τ sig :=
  ⟨StableHlo.unaryIndexed_bufs_sub .., StableHlo.reshape_bufs_sub ..⟩

/-- None of these operations allocates. -/
theorem t_c1_fresh : (t_c1 : List (HloOp τ sig (Elt F))).Forall fun op => op.fresh = ∅ :=
  StableHlo.forall_fresh_of_map rfl

/-- The arrays that these operations write. -/
abbrev t_c1_W : List (Ref sig .tc) := [main_while0b_call1_v0, main_while0b_v37]

/-- They write nothing else. -/
theorem t_c1_keep (V : Valuation τ sig (Elt F)) {r : Ref sig .tc} (h : r ∉ t_c1_W) :
    after t_c1 V (Proc.devRef .tc r) = V (Proc.devRef .tc r) :=
  after_of_writes_sub t_c1 V (StableHlo.forall_writes_sub_of_map rfl) h

/-- Operations of one teacher-forced trip, in their order. -/
abbrev t_g0 : List (HloOp τ sig (Elt F)) :=
  [ StableHlo.unary main_v5_12 main_while0b_v38 ((extractStridedSlice S1x16x256 ![0, 0, 0] · slices_S2x16x256_S1x16x256_0_0_0) : (⟨S2x16x256, .f32⟩ : BufTy).Contents (Elt F) → (⟨S1x16x256, .f32⟩ : BufTy).Contents (Elt F)),
    StableHlo.reshape main_while0b_v38 main_while0b_v39 (rfl : (.f32 : EltTy) = .f32) shapeCasts_S1x16x256_S16x256,
    StableHlo.unary main_v5_13 main_while0b_v40 ((extractStridedSlice S1x16x256 ![0, 0, 0] · slices_S2x16x256_S1x16x256_0_0_0) : (⟨S2x16x256, .f32⟩ : BufTy).Contents (Elt F) → (⟨S1x16x256, .f32⟩ : BufTy).Contents (Elt F)),
    StableHlo.reshape main_while0b_v40 main_while0b_v41 (rfl : (.f32 : EltTy) = .f32) shapeCasts_S1x16x256_S16x256,
    StableHlo.unary main_v5_2 main_while0b_v42 ((transpose S256x1024 [1, 0] · transposes_S1024x256_S256x1024_1_0) : (⟨S1024x256, .f32⟩ : BufTy).Contents (Elt F) → (⟨S256x1024, .f32⟩ : BufTy).Contents (Elt F)),
    StableHlo.binary main_while0b_v36 main_while0b_v42 main_while0b_v43 ((fun l r => Host.dotGeneral dot_S16x256_S256x1024_S16x1024_1_0_0_1_n_n none l r) : (⟨S16x256, .f32⟩ : BufTy).Contents (Elt F) → (⟨S256x1024, .f32⟩ : BufTy).Contents (Elt F) → (⟨S16x1024, .f32⟩ : BufTy).Contents (Elt F)),
    StableHlo.unary main_v5_3 main_while0b_v44 ((transpose S256x1024 [1, 0] · transposes_S1024x256_S256x1024_1_0) : (⟨S1024x256, .f32⟩ : BufTy).Contents (Elt F) → (⟨S256x1024, .f32⟩ : BufTy).Contents (Elt F)),
    StableHlo.binary main_while0b_v39 main_while0b_v44 main_while0b_v45 ((fun l r => Host.dotGeneral dot_S16x256_S256x1024_S16x1024_1_0_0_1_n_n none l r) : (⟨S16x256, .f32⟩ : BufTy).Contents (Elt F) → (⟨S256x1024, .f32⟩ : BufTy).Contents (Elt F) → (⟨S16x1024, .f32⟩ : BufTy).Contents (Elt F)),
    StableHlo.binary main_while0b_v43 main_while0b_v45 main_while0b_v46 (addf : (⟨S16x1024, .f32⟩ : BufTy).Contents (Elt F) → (⟨S16x1024, .f32⟩ : BufTy).Contents (Elt F) → (⟨S16x1024, .f32⟩ : BufTy).Contents (Elt F)),
    StableHlo.unary main_v5_4 main_while0b_v47 (broadcastInDim S1x1024 ![1] bcast_S1024_S1x1024_1 : (⟨S1024, .f32⟩ : BufTy).Contents (Elt F) → (⟨S1x1024, .f32⟩ : BufTy).Contents (Elt F)),
    StableHlo.unary main_while0b_v47 main_while0b_v48 (broadcastInDim S16x1024 ![0, 1] bcast_S1x1024_S16x1024_0_1 : (⟨S1x1024, .f32⟩ : BufTy).Contents (Elt F) → (⟨S16x1024, .f32⟩ : BufTy).Contents (Elt F)),
    StableHlo.binary main_while0b_v46 main_while0b_v48 main_while0b_v49 (addf : (⟨S16x1024, .f32⟩ : BufTy).Contents (Elt F) → (⟨S16x1024, .f32⟩ : BufTy).Contents (Elt F) → (⟨S16x1024, .f32⟩ : BufTy).Contents (Elt F)),
    StableHlo.unary main_v5_5 main_while0b_v50 (broadcastInDim S1x1024 ![1] bcast_S1024_S1x1024_1 : (⟨S1024, .f32⟩ : BufTy).Contents (Elt F) → (⟨S1x1024, .f32⟩ : BufTy).Contents (Elt F)),
    StableHlo.unary main_while0b_v50 main_while0b_v51 (broadcastInDim S16x1024 ![0, 1] bcast_S1x1024_S16x1024_0_1 : (⟨S1x1024, .f32⟩ : BufTy).Contents (Elt F) → (⟨S16x1024, .f32⟩ : BufTy).Contents (Elt F)),
    StableHlo.binary main_while0b_v49 main_while0b_v51 main_while0b_v52 (addf : (⟨S16x1024, .f32⟩ : BufTy).Contents (Elt F) → (⟨S16x1024, .f32⟩ : BufTy).Contents (Elt F) → (⟨S16x1024, .f32⟩ : BufTy).Contents (Elt F)) ]

/-- These operations touch device arrays only. -/
theorem t_g0_sub : (t_g0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

/-- None of these operations allocates. -/
theorem t_g0_fresh : (t_g0 : List (HloOp τ sig (Elt F))).Forall fun op => op.fresh = ∅ :=
  StableHlo.forall_fresh_of_map rfl

/-- The arrays that these operations write. -/
abbrev t_g0_W : List (Ref sig .tc) := [main_while0b_v38, main_while0b_v39, main_while0b_v40, main_while0b_v41, main_while0b_v42, main_while0b_v43, main_while0b_v44, main_while0b_v45, main_while0b_v46, main_while0b_v47, main_while0b_v48, main_while0b_v49, main_while0b_v50, main_while0b_v51, main_while0b_v52]

/-- They write nothing else. -/
theorem t_g0_keep (V : Valuation τ sig (Elt F)) {r : Ref sig .tc} (h : r ∉ t_g0_W) :
    after t_g0 V (Proc.devRef .tc r) = V (Proc.devRef .tc r) :=
  after_of_writes_sub t_g0 V (StableHlo.forall_writes_sub_of_map rfl) h

/-- Operations of one teacher-forced trip, in their order. -/
abbrev t_s0 : List (HloOp τ sig (Elt F)) :=
  [ StableHlo.unary main_while0b_v52 main_while0b_v53 ((extractStridedSlice S16x256 ![0, 0] · slices_S16x1024_S16x256_0_0) : (⟨S16x1024, .f32⟩ : BufTy).Contents (Elt F) → (⟨S16x256, .f32⟩ : BufTy).Contents (Elt F)),
    StableHlo.unary main_while0b_v53 main_while0b_v54 (Host.negf : (⟨S16x256, .f32⟩ : BufTy).Contents (Elt F) → (⟨S16x256, .f32⟩ : BufTy).Contents (Elt F)),
    StableHlo.unary main_while0b_v54 main_while0b_v55 (Host.exp : (⟨S16x256, .f32⟩ : BufTy).Contents (Elt F) → (⟨S16x256, .f32⟩ : BufTy).Contents (Elt F)),
    StableHlo.nullary main_while0b_cst_24 (constant S_ .f32 0x3F800000#32),
    StableHlo.unary main_while0b_cst_24 main_while0b_v56 (broadcastInDim S16x256 ![] bcast_S_S16x256 : (⟨S_, .f32⟩ : BufTy).Contents (Elt F) → (⟨S16x256, .f32⟩ : BufTy).Contents (Elt F)),
    StableHlo.binary main_while0b_v56 main_while0b_v55 main_while0b_v57 (addf : (⟨S16x256, .f32⟩ : BufTy).Contents (Elt F) → (⟨S16x256, .f32⟩ : BufTy).Contents (Elt F) → (⟨S16x256, .f32⟩ : BufTy).Contents (Elt F)),
    StableHlo.nullary main_while0b_cst_25 (constant S_ .f32 0x3F800000#32),
    StableHlo.unary main_while0b_cst_25 main_while0b_v58 (broadcastInDim S16x256 ![] bcast_S_S16x256 : (⟨S_, .f32⟩ : BufTy).Contents (Elt F) → (⟨S16x256, .f32⟩ : BufTy).Contents (Elt F)),
    StableHlo.binary main_while0b_v58 main_while0b_v57 main_while0b_v59 (Host.divf : (⟨S16x256, .f32⟩ : BufTy).Contents (Elt F) → (⟨S16x256, .f32⟩ : BufTy).Contents (Elt F) → (⟨S16x256, .f32⟩ : BufTy).Contents (Elt F)),
    StableHlo.unary main_while0b_v52 main_while0b_v60 ((extractStridedSlice S16x256 ![0, 256] · slices_S16x1024_S16x256_0_256) : (⟨S16x1024, .f32⟩ : BufTy).Contents (Elt F) → (⟨S16x256, .f32⟩ : BufTy).Contents (Elt F)),
    StableHlo.unary main_while0b_v60 main_while0b_v61 (Host.negf : (⟨S16x256, .f32⟩ : BufTy).Contents (Elt F) → (⟨S16x256, .f32⟩ : BufTy).Contents (Elt F)),
    StableHlo.unary main_while0b_v61 main_while0b_v62 (Host.exp : (⟨S16x256, .f32⟩ : BufTy).Contents (Elt F) → (⟨S16x256, .f32⟩ : BufTy).Contents (Elt F)),
    StableHlo.nullary main_while0b_cst_26 (constant S_ .f32 0x3F800000#32),
    StableHlo.unary main_while0b_cst_26 main_while0b_v63 (broadcastInDim S16x256 ![] bcast_S_S16x256 : (⟨S_, .f32⟩ : BufTy).Contents (Elt F) → (⟨S16x256, .f32⟩ : BufTy).Contents (Elt F)),
    StableHlo.binary main_while0b_v63 main_while0b_v62 main_while0b_v64 (addf : (⟨S16x256, .f32⟩ : BufTy).Contents (Elt F) → (⟨S16x256, .f32⟩ : BufTy).Contents (Elt F) → (⟨S16x256, .f32⟩ : BufTy).Contents (Elt F)),
    StableHlo.nullary main_while0b_cst_27 (constant S_ .f32 0x3F800000#32),
    StableHlo.unary main_while0b_cst_27 main_while0b_v65 (broadcastInDim S16x256 ![] bcast_S_S16x256 : (⟨S_, .f32⟩ : BufTy).Contents (Elt F) → (⟨S16x256, .f32⟩ : BufTy).Contents (Elt F)),
    StableHlo.binary main_while0b_v65 main_while0b_v64 main_while0b_v66 (Host.divf : (⟨S16x256, .f32⟩ : BufTy).Contents (Elt F) → (⟨S16x256, .f32⟩ : BufTy).Contents (Elt F) → (⟨S16x256, .f32⟩ : BufTy).Contents (Elt F)),
    StableHlo.unary main_while0b_v52 main_while0b_v67 ((extractStridedSlice S16x256 ![0, 512] · slices_S16x1024_S16x256_0_512) : (⟨S16x1024, .f32⟩ : BufTy).Contents (Elt F) → (⟨S16x256, .f32⟩ : BufTy).Contents (Elt F)),
    StableHlo.unary main_while0b_v67 main_while0b_v68 (Host.tanh : (⟨S16x256, .f32⟩ : BufTy).Contents (Elt F) → (⟨S16x256, .f32⟩ : BufTy).Contents (Elt F)),
    StableHlo.unary main_while0b_v52 main_while0b_v69 ((extractStridedSlice S16x256 ![0, 768] · slices_S16x1024_S16x256_0_768) : (⟨S16x1024, .f32⟩ : BufTy).Contents (Elt F) → (⟨S16x256, .f32⟩ : BufTy).Contents (Elt F)),
    StableHlo.unary main_while0b_v69 main_while0b_v70 (Host.negf : (⟨S16x256, .f32⟩ : BufTy).Contents (Elt F) → (⟨S16x256, .f32⟩ : BufTy).Contents (Elt F)),
    StableHlo.unary main_while0b_v70 main_while0b_v71 (Host.exp : (⟨S16x256, .f32⟩ : BufTy).Contents (Elt F) → (⟨S16x256, .f32⟩ : BufTy).Contents (Elt F)),
    StableHlo.nullary main_while0b_cst_28 (constant S_ .f32 0x3F800000#32),
    StableHlo.unary main_while0b_cst_28 main_while0b_v72 (broadcastInDim S16x256 ![] bcast_S_S16x256 : (⟨S_, .f32⟩ : BufTy).Contents (Elt F) → (⟨S16x256, .f32⟩ : BufTy).Contents (Elt F)),
    StableHlo.binary main_while0b_v72 main_while0b_v71 main_while0b_v73 (addf : (⟨S16x256, .f32⟩ : BufTy).Contents (Elt F) → (⟨S16x256, .f32⟩ : BufTy).Contents (Elt F) → (⟨S16x256, .f32⟩ : BufTy).Contents (Elt F)),
    StableHlo.nullary main_while0b_cst_29 (constant S_ .f32 0x3F800000#32),
    StableHlo.unary main_while0b_cst_29 main_while0b_v74 (broadcastInDim S16x256 ![] bcast_S_S16x256 : (⟨S_, .f32⟩ : BufTy).Contents (Elt F) → (⟨S16x256, .f32⟩ : BufTy).Contents (Elt F)),
    StableHlo.binary main_while0b_v74 main_while0b_v73 main_while0b_v75 (Host.divf : (⟨S16x256, .f32⟩ : BufTy).Contents (Elt F) → (⟨S16x256, .f32⟩ : BufTy).Contents (Elt F) → (⟨S16x256, .f32⟩ : BufTy).Contents (Elt F)),
    StableHlo.binary main_while0b_v66 main_while0b_v41 main_while0b_v76 (mulf : (⟨S16x256, .f32⟩ : BufTy).Contents (Elt F) → (⟨S16x256, .f32⟩ : BufTy).Contents (Elt F) → (⟨S16x256, .f32⟩ : BufTy).Contents (Elt F)),
    StableHlo.binary main_while0b_v59 main_while0b_v68 main_while0b_v77 (mulf : (⟨S16x256, .f32⟩ : BufTy).Contents (Elt F) → (⟨S16x256, .f32⟩ : BufTy).Contents (Elt F) → (⟨S16x256, .f32⟩ : BufTy).Contents (Elt F)),
    StableHlo.binary main_while0b_v76 main_while0b_v77 main_while0b_v78 (addf : (⟨S16x256, .f32⟩ : BufTy).Contents (Elt F) → (⟨S16x256, .f32⟩ : BufTy).Contents (Elt F) → (⟨S16x256, .f32⟩ : BufTy).Contents (Elt F)),
    StableHlo.unary main_while0b_v78 main_while0b_v79 (Host.tanh : (⟨S16x256, .f32⟩ : BufTy).Contents (Elt F) → (⟨S16x256, .f32⟩ : BufTy).Contents (Elt F)),
    StableHlo.binary main_while0b_v75 main_while0b_v79 main_while0b_v80 (mulf : (⟨S16x256, .f32⟩ : BufTy).Contents (Elt F) → (⟨S16x256, .f32⟩ : BufTy).Contents (Elt F) → (⟨S16x256, .f32⟩ : BufTy).Contents (Elt F)) ]

/-- These operations touch device arrays only. -/
theorem t_s0_sub : (t_s0 : List (HloOp τ sig (Elt F))).Forall fun op => op.bufs ⊆ StableHlo.tcRefs τ sig :=
  ⟨StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub ..⟩

/-- None of these operations allocates. -/
theorem t_s0_fresh : (t_s0 : List (HloOp τ sig (Elt F))).Forall fun op => op.fresh = ∅ :=
  StableHlo.forall_fresh_of_map rfl

/-- The arrays that these operations write. -/
abbrev t_s0_W : List (Ref sig .tc) := [main_while0b_v53, main_while0b_v54, main_while0b_v55, main_while0b_cst_24, main_while0b_v56, main_while0b_v57, main_while0b_cst_25, main_while0b_v58, main_while0b_v59, main_while0b_v60, main_while0b_v61, main_while0b_v62, main_while0b_cst_26, main_while0b_v63, main_while0b_v64, main_while0b_cst_27, main_while0b_v65, main_while0b_v66, main_while0b_v67, main_while0b_v68, main_while0b_v69, main_while0b_v70, main_while0b_v71, main_while0b_cst_28, main_while0b_v72, main_while0b_v73, main_while0b_cst_29, main_while0b_v74, main_while0b_v75, main_while0b_v76, main_while0b_v77, main_while0b_v78, main_while0b_v79, main_while0b_v80]

/-- They write nothing else. -/
theorem t_s0_keep (V : Valuation τ sig (Elt F)) {r : Ref sig .tc} (h : r ∉ t_s0_W) :
    after t_s0 V (Proc.devRef .tc r) = V (Proc.devRef .tc r) :=
  after_of_writes_sub t_s0 V (StableHlo.forall_writes_sub_of_map rfl) h

/-- Operations of one teacher-forced trip, in their order. -/
abbrev t_g1 : List (HloOp τ sig (Elt F)) :=
  [ StableHlo.unary main_v5_12 main_while0b_v81 ((extractStridedSlice S1x16x256 ![1, 0, 0] · slices_S2x16x256_S1x16x256_1_0_0) : (⟨S2x16x256, .f32⟩ : BufTy).Contents (Elt F) → (⟨S1x16x256, .f32⟩ : BufTy).Contents (Elt F)),
    StableHlo.reshape main_while0b_v81 main_while0b_v82 (rfl : (.f32 : EltTy) = .f32) shapeCasts_S1x16x256_S16x256,
    StableHlo.unary main_v5_13 main_while0b_v83 ((extractStridedSlice S1x16x256 ![1, 0, 0] · slices_S2x16x256_S1x16x256_1_0_0) : (⟨S2x16x256, .f32⟩ : BufTy).Contents (Elt F) → (⟨S1x16x256, .f32⟩ : BufTy).Contents (Elt F)),
    StableHlo.reshape main_while0b_v83 main_while0b_v84 (rfl : (.f32 : EltTy) = .f32) shapeCasts_S1x16x256_S16x256,
    StableHlo.unary main_v5_6 main_while0b_v85 ((transpose S256x1024 [1, 0] · transposes_S1024x256_S256x1024_1_0) : (⟨S1024x256, .f32⟩ : BufTy).Contents (Elt F) → (⟨S256x1024, .f32⟩ : BufTy).Contents (Elt F)),
    StableHlo.binary main_while0b_v80 main_while0b_v85 main_while0b_v86 ((fun l r => Host.dotGeneral dot_S16x256_S256x1024_S16x1024_1_0_0_1_n_n none l r) : (⟨S16x256, .f32⟩ : BufTy).Contents (Elt F) → (⟨S256x1024, .f32⟩ : BufTy).Contents (Elt F) → (⟨S16x1024, .f32⟩ : BufTy).Contents (Elt F)),
    StableHlo.unary main_v5_7 main_while0b_v87 ((transpose S256x1024 [1, 0] · transposes_S1024x256_S256x1024_1_0) : (⟨S1024x256, .f32⟩ : BufTy).Contents (Elt F) → (⟨S256x1024, .f32⟩ : BufTy).Contents (Elt F)),
    StableHlo.binary main_while0b_v82 main_while0b_v87 main_while0b_v88 ((fun l r => Host.dotGeneral dot_S16x256_S256x1024_S16x1024_1_0_0_1_n_n none l r) : (⟨S16x256, .f32⟩ : BufTy).Contents (Elt F) → (⟨S256x1024, .f32⟩ : BufTy).Contents (Elt F) → (⟨S16x1024, .f32⟩ : BufTy).Contents (Elt F)),
    StableHlo.binary main_while0b_v86 main_while0b_v88 main_while0b_v89 (addf : (⟨S16x1024, .f32⟩ : BufTy).Contents (Elt F) → (⟨S16x1024, .f32⟩ : BufTy).Contents (Elt F) → (⟨S16x1024, .f32⟩ : BufTy).Contents (Elt F)),
    StableHlo.unary main_v5_8 main_while0b_v90 (broadcastInDim S1x1024 ![1] bcast_S1024_S1x1024_1 : (⟨S1024, .f32⟩ : BufTy).Contents (Elt F) → (⟨S1x1024, .f32⟩ : BufTy).Contents (Elt F)),
    StableHlo.unary main_while0b_v90 main_while0b_v91 (broadcastInDim S16x1024 ![0, 1] bcast_S1x1024_S16x1024_0_1 : (⟨S1x1024, .f32⟩ : BufTy).Contents (Elt F) → (⟨S16x1024, .f32⟩ : BufTy).Contents (Elt F)),
    StableHlo.binary main_while0b_v89 main_while0b_v91 main_while0b_v92 (addf : (⟨S16x1024, .f32⟩ : BufTy).Contents (Elt F) → (⟨S16x1024, .f32⟩ : BufTy).Contents (Elt F) → (⟨S16x1024, .f32⟩ : BufTy).Contents (Elt F)),
    StableHlo.unary main_v5_9 main_while0b_v93 (broadcastInDim S1x1024 ![1] bcast_S1024_S1x1024_1 : (⟨S1024, .f32⟩ : BufTy).Contents (Elt F) → (⟨S1x1024, .f32⟩ : BufTy).Contents (Elt F)),
    StableHlo.unary main_while0b_v93 main_while0b_v94 (broadcastInDim S16x1024 ![0, 1] bcast_S1x1024_S16x1024_0_1 : (⟨S1x1024, .f32⟩ : BufTy).Contents (Elt F) → (⟨S16x1024, .f32⟩ : BufTy).Contents (Elt F)),
    StableHlo.binary main_while0b_v92 main_while0b_v94 main_while0b_v95 (addf : (⟨S16x1024, .f32⟩ : BufTy).Contents (Elt F) → (⟨S16x1024, .f32⟩ : BufTy).Contents (Elt F) → (⟨S16x1024, .f32⟩ : BufTy).Contents (Elt F)) ]

/-- These operations touch device arrays only. -/
theorem t_g1_sub : (t_g1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

/-- None of these operations allocates. -/
theorem t_g1_fresh : (t_g1 : List (HloOp τ sig (Elt F))).Forall fun op => op.fresh = ∅ :=
  StableHlo.forall_fresh_of_map rfl

/-- The arrays that these operations write. -/
abbrev t_g1_W : List (Ref sig .tc) := [main_while0b_v81, main_while0b_v82, main_while0b_v83, main_while0b_v84, main_while0b_v85, main_while0b_v86, main_while0b_v87, main_while0b_v88, main_while0b_v89, main_while0b_v90, main_while0b_v91, main_while0b_v92, main_while0b_v93, main_while0b_v94, main_while0b_v95]

/-- They write nothing else. -/
theorem t_g1_keep (V : Valuation τ sig (Elt F)) {r : Ref sig .tc} (h : r ∉ t_g1_W) :
    after t_g1 V (Proc.devRef .tc r) = V (Proc.devRef .tc r) :=
  after_of_writes_sub t_g1 V (StableHlo.forall_writes_sub_of_map rfl) h

/-- Operations of one teacher-forced trip, in their order. -/
abbrev t_s1 : List (HloOp τ sig (Elt F)) :=
  [ StableHlo.unary main_while0b_v95 main_while0b_v96 ((extractStridedSlice S16x256 ![0, 0] · slices_S16x1024_S16x256_0_0) : (⟨S16x1024, .f32⟩ : BufTy).Contents (Elt F) → (⟨S16x256, .f32⟩ : BufTy).Contents (Elt F)),
    StableHlo.unary main_while0b_v96 main_while0b_v97 (Host.negf : (⟨S16x256, .f32⟩ : BufTy).Contents (Elt F) → (⟨S16x256, .f32⟩ : BufTy).Contents (Elt F)),
    StableHlo.unary main_while0b_v97 main_while0b_v98 (Host.exp : (⟨S16x256, .f32⟩ : BufTy).Contents (Elt F) → (⟨S16x256, .f32⟩ : BufTy).Contents (Elt F)),
    StableHlo.nullary main_while0b_cst_30 (constant S_ .f32 0x3F800000#32),
    StableHlo.unary main_while0b_cst_30 main_while0b_v99 (broadcastInDim S16x256 ![] bcast_S_S16x256 : (⟨S_, .f32⟩ : BufTy).Contents (Elt F) → (⟨S16x256, .f32⟩ : BufTy).Contents (Elt F)),
    StableHlo.binary main_while0b_v99 main_while0b_v98 main_while0b_v100 (addf : (⟨S16x256, .f32⟩ : BufTy).Contents (Elt F) → (⟨S16x256, .f32⟩ : BufTy).Contents (Elt F) → (⟨S16x256, .f32⟩ : BufTy).Contents (Elt F)),
    StableHlo.nullary main_while0b_cst_31 (constant S_ .f32 0x3F800000#32),
    StableHlo.unary main_while0b_cst_31 main_while0b_v101 (broadcastInDim S16x256 ![] bcast_S_S16x256 : (⟨S_, .f32⟩ : BufTy).Contents (Elt F) → (⟨S16x256, .f32⟩ : BufTy).Contents (Elt F)),
    StableHlo.binary main_while0b_v101 main_while0b_v100 main_while0b_v102 (Host.divf : (⟨S16x256, .f32⟩ : BufTy).Contents (Elt F) → (⟨S16x256, .f32⟩ : BufTy).Contents (Elt F) → (⟨S16x256, .f32⟩ : BufTy).Contents (Elt F)),
    StableHlo.unary main_while0b_v95 main_while0b_v103 ((extractStridedSlice S16x256 ![0, 256] · slices_S16x1024_S16x256_0_256) : (⟨S16x1024, .f32⟩ : BufTy).Contents (Elt F) → (⟨S16x256, .f32⟩ : BufTy).Contents (Elt F)),
    StableHlo.unary main_while0b_v103 main_while0b_v104 (Host.negf : (⟨S16x256, .f32⟩ : BufTy).Contents (Elt F) → (⟨S16x256, .f32⟩ : BufTy).Contents (Elt F)),
    StableHlo.unary main_while0b_v104 main_while0b_v105 (Host.exp : (⟨S16x256, .f32⟩ : BufTy).Contents (Elt F) → (⟨S16x256, .f32⟩ : BufTy).Contents (Elt F)),
    StableHlo.nullary main_while0b_cst_32 (constant S_ .f32 0x3F800000#32),
    StableHlo.unary main_while0b_cst_32 main_while0b_v106 (broadcastInDim S16x256 ![] bcast_S_S16x256 : (⟨S_, .f32⟩ : BufTy).Contents (Elt F) → (⟨S16x256, .f32⟩ : BufTy).Contents (Elt F)),
    StableHlo.binary main_while0b_v106 main_while0b_v105 main_while0b_v107 (addf : (⟨S16x256, .f32⟩ : BufTy).Contents (Elt F) → (⟨S16x256, .f32⟩ : BufTy).Contents (Elt F) → (⟨S16x256, .f32⟩ : BufTy).Contents (Elt F)),
    StableHlo.nullary main_while0b_cst_33 (constant S_ .f32 0x3F800000#32),
    StableHlo.unary main_while0b_cst_33 main_while0b_v108 (broadcastInDim S16x256 ![] bcast_S_S16x256 : (⟨S_, .f32⟩ : BufTy).Contents (Elt F) → (⟨S16x256, .f32⟩ : BufTy).Contents (Elt F)),
    StableHlo.binary main_while0b_v108 main_while0b_v107 main_while0b_v109 (Host.divf : (⟨S16x256, .f32⟩ : BufTy).Contents (Elt F) → (⟨S16x256, .f32⟩ : BufTy).Contents (Elt F) → (⟨S16x256, .f32⟩ : BufTy).Contents (Elt F)),
    StableHlo.unary main_while0b_v95 main_while0b_v110 ((extractStridedSlice S16x256 ![0, 512] · slices_S16x1024_S16x256_0_512) : (⟨S16x1024, .f32⟩ : BufTy).Contents (Elt F) → (⟨S16x256, .f32⟩ : BufTy).Contents (Elt F)),
    StableHlo.unary main_while0b_v110 main_while0b_v111 (Host.tanh : (⟨S16x256, .f32⟩ : BufTy).Contents (Elt F) → (⟨S16x256, .f32⟩ : BufTy).Contents (Elt F)),
    StableHlo.unary main_while0b_v95 main_while0b_v112 ((extractStridedSlice S16x256 ![0, 768] · slices_S16x1024_S16x256_0_768) : (⟨S16x1024, .f32⟩ : BufTy).Contents (Elt F) → (⟨S16x256, .f32⟩ : BufTy).Contents (Elt F)),
    StableHlo.unary main_while0b_v112 main_while0b_v113 (Host.negf : (⟨S16x256, .f32⟩ : BufTy).Contents (Elt F) → (⟨S16x256, .f32⟩ : BufTy).Contents (Elt F)),
    StableHlo.unary main_while0b_v113 main_while0b_v114 (Host.exp : (⟨S16x256, .f32⟩ : BufTy).Contents (Elt F) → (⟨S16x256, .f32⟩ : BufTy).Contents (Elt F)),
    StableHlo.nullary main_while0b_cst_34 (constant S_ .f32 0x3F800000#32),
    StableHlo.unary main_while0b_cst_34 main_while0b_v115 (broadcastInDim S16x256 ![] bcast_S_S16x256 : (⟨S_, .f32⟩ : BufTy).Contents (Elt F) → (⟨S16x256, .f32⟩ : BufTy).Contents (Elt F)),
    StableHlo.binary main_while0b_v115 main_while0b_v114 main_while0b_v116 (addf : (⟨S16x256, .f32⟩ : BufTy).Contents (Elt F) → (⟨S16x256, .f32⟩ : BufTy).Contents (Elt F) → (⟨S16x256, .f32⟩ : BufTy).Contents (Elt F)),
    StableHlo.nullary main_while0b_cst_35 (constant S_ .f32 0x3F800000#32),
    StableHlo.unary main_while0b_cst_35 main_while0b_v117 (broadcastInDim S16x256 ![] bcast_S_S16x256 : (⟨S_, .f32⟩ : BufTy).Contents (Elt F) → (⟨S16x256, .f32⟩ : BufTy).Contents (Elt F)),
    StableHlo.binary main_while0b_v117 main_while0b_v116 main_while0b_v118 (Host.divf : (⟨S16x256, .f32⟩ : BufTy).Contents (Elt F) → (⟨S16x256, .f32⟩ : BufTy).Contents (Elt F) → (⟨S16x256, .f32⟩ : BufTy).Contents (Elt F)),
    StableHlo.binary main_while0b_v109 main_while0b_v84 main_while0b_v119 (mulf : (⟨S16x256, .f32⟩ : BufTy).Contents (Elt F) → (⟨S16x256, .f32⟩ : BufTy).Contents (Elt F) → (⟨S16x256, .f32⟩ : BufTy).Contents (Elt F)),
    StableHlo.binary main_while0b_v102 main_while0b_v111 main_while0b_v120 (mulf : (⟨S16x256, .f32⟩ : BufTy).Contents (Elt F) → (⟨S16x256, .f32⟩ : BufTy).Contents (Elt F) → (⟨S16x256, .f32⟩ : BufTy).Contents (Elt F)),
    StableHlo.binary main_while0b_v119 main_while0b_v120 main_while0b_v121 (addf : (⟨S16x256, .f32⟩ : BufTy).Contents (Elt F) → (⟨S16x256, .f32⟩ : BufTy).Contents (Elt F) → (⟨S16x256, .f32⟩ : BufTy).Contents (Elt F)),
    StableHlo.unary main_while0b_v121 main_while0b_v122 (Host.tanh : (⟨S16x256, .f32⟩ : BufTy).Contents (Elt F) → (⟨S16x256, .f32⟩ : BufTy).Contents (Elt F)),
    StableHlo.binary main_while0b_v118 main_while0b_v122 main_while0b_v123 (mulf : (⟨S16x256, .f32⟩ : BufTy).Contents (Elt F) → (⟨S16x256, .f32⟩ : BufTy).Contents (Elt F) → (⟨S16x256, .f32⟩ : BufTy).Contents (Elt F)) ]

/-- These operations touch device arrays only. -/
theorem t_s1_sub : (t_s1 : List (HloOp τ sig (Elt F))).Forall fun op => op.bufs ⊆ StableHlo.tcRefs τ sig :=
  ⟨StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub ..⟩

/-- None of these operations allocates. -/
theorem t_s1_fresh : (t_s1 : List (HloOp τ sig (Elt F))).Forall fun op => op.fresh = ∅ :=
  StableHlo.forall_fresh_of_map rfl

/-- The arrays that these operations write. -/
abbrev t_s1_W : List (Ref sig .tc) := [main_while0b_v96, main_while0b_v97, main_while0b_v98, main_while0b_cst_30, main_while0b_v99, main_while0b_v100, main_while0b_cst_31, main_while0b_v101, main_while0b_v102, main_while0b_v103, main_while0b_v104, main_while0b_v105, main_while0b_cst_32, main_while0b_v106, main_while0b_v107, main_while0b_cst_33, main_while0b_v108, main_while0b_v109, main_while0b_v110, main_while0b_v111, main_while0b_v112, main_while0b_v113, main_while0b_v114, main_while0b_cst_34, main_while0b_v115, main_while0b_v116, main_while0b_cst_35, main_while0b_v117, main_while0b_v118, main_while0b_v119, main_while0b_v120, main_while0b_v121, main_while0b_v122, main_while0b_v123]

/-- They write nothing else. -/
theorem t_s1_keep (V : Valuation τ sig (Elt F)) {r : Ref sig .tc} (h : r ∉ t_s1_W) :
    after t_s1 V (Proc.devRef .tc r) = V (Proc.devRef .tc r) :=
  after_of_writes_sub t_s1 V (StableHlo.forall_writes_sub_of_map rfl) h

/-- Operations of one teacher-forced trip, in their order. -/
abbrev t_x0 : List (HloOp τ sig (Elt F)) :=
  [ StableHlo.unary main_while0b_v80 main_while0b_v124 (broadcastInDim S1x16x256 ![1, 2] bcast_S16x256_S1x16x256_1_2 : (⟨S16x256, .f32⟩ : BufTy).Contents (Elt F) → (⟨S1x16x256, .f32⟩ : BufTy).Contents (Elt F)),
    StableHlo.unary main_while0b_v123 main_while0b_v125 (broadcastInDim S1x16x256 ![1, 2] bcast_S16x256_S1x16x256_1_2 : (⟨S16x256, .f32⟩ : BufTy).Contents (Elt F) → (⟨S1x16x256, .f32⟩ : BufTy).Contents (Elt F)),
    StableHlo.binary main_while0b_v124 main_while0b_v125 main_while0b_v126 ((fun a b => concatenate S2x16x256 0 [⟨S1x16x256, a⟩, ⟨S1x16x256, b⟩] concatenates_S1x16x256_S1x16x256_S2x16x256_d0) : (⟨S1x16x256, .f32⟩ : BufTy).Contents (Elt F) → (⟨S1x16x256, .f32⟩ : BufTy).Contents (Elt F) → (⟨S2x16x256, .f32⟩ : BufTy).Contents (Elt F)),
    StableHlo.unary main_while0b_v78 main_while0b_v127 (broadcastInDim S1x16x256 ![1, 2] bcast_S16x256_S1x16x256_1_2 : (⟨S16x256, .f32⟩ : BufTy).Contents (Elt F) → (⟨S1x16x256, .f32⟩ : BufTy).Contents (Elt F)),
    StableHlo.unary main_while0b_v121 main_while0b_v128 (broadcastInDim S1x16x256 ![1, 2] bcast_S16x256_S1x16x256_1_2 : (⟨S16x256, .f32⟩ : BufTy).Contents (Elt F) → (⟨S1x16x256, .f32⟩ : BufTy).Contents (Elt F)),
    StableHlo.binary main_while0b_v127 main_while0b_v128 main_while0b_v129 ((fun a b => concatenate S2x16x256 0 [⟨S1x16x256, a⟩, ⟨S1x16x256, b⟩] concatenates_S1x16x256_S1x16x256_S2x16x256_d0) : (⟨S1x16x256, .f32⟩ : BufTy).Contents (Elt F) → (⟨S1x16x256, .f32⟩ : BufTy).Contents (Elt F) → (⟨S2x16x256, .f32⟩ : BufTy).Contents (Elt F)),
    StableHlo.unary main_while0b_v37 main_while0b_v130 (broadcastInDim S16 ![] bcast_S_S16 : (⟨S_, .i32⟩ : BufTy).Contents (Elt F) → (⟨S16, .i32⟩ : BufTy).Contents (Elt F)),
    StableHlo.binary main_while0b_v130 main_v5_10 main_while0b_v131 (cmpi .slt : (⟨S16, .i32⟩ : BufTy).Contents (Elt F) → (⟨S16, .i32⟩ : BufTy).Contents (Elt F) → (⟨S16, .i1⟩ : BufTy).Contents (Elt F)),
    StableHlo.unary main_while0b_v131 main_while0b_v132 (broadcastInDim S1x16x1 ![1] bcast_S16_S1x16x1_1 : (⟨S16, .i1⟩ : BufTy).Contents (Elt F) → (⟨S1x16x1, .i1⟩ : BufTy).Contents (Elt F)) ]

/-- These operations touch device arrays only. -/
theorem t_x0_sub : (t_x0 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.unary_bufs_sub ..⟩

/-- None of these operations allocates. -/
theorem t_x0_fresh : (t_x0 : List (HloOp τ sig (Elt F))).Forall fun op => op.fresh = ∅ :=
  StableHlo.forall_fresh_of_map rfl

/-- The arrays that these operations write. -/
abbrev t_x0_W : List (Ref sig .tc) := [main_while0b_v124, main_while0b_v125, main_while0b_v126, main_while0b_v127, main_while0b_v128, main_while0b_v129, main_while0b_v130, main_while0b_v131, main_while0b_v132]

/-- They write nothing else. -/
theorem t_x0_keep (V : Valuation τ sig (Elt F)) {r : Ref sig .tc} (h : r ∉ t_x0_W) :
    after t_x0 V (Proc.devRef .tc r) = V (Proc.devRef .tc r) :=
  after_of_writes_sub t_x0 V (StableHlo.forall_writes_sub_of_map rfl) h

/-- Operations of one teacher-forced trip, in their order. -/
abbrev t_c2 : List (HloOp τ sig (Elt F)) :=
  [ StableHlo.TRef.unary (.of main_while0b_v132 : StableHlo.TRef sig ⟨S1x16x1, .i1⟩) (.of main_while0b_call2_v0 : StableHlo.TRef sig ⟨S2x16x256, .i1⟩) (broadcastInDim S2x16x256 ![0, 1, 2] bcast_S1x16x1_S2x16x256_0_1_2),
    StableHlo.TRef.ternary (.of main_while0b_call2_v0 : StableHlo.TRef sig ⟨S2x16x256, .i1⟩) (.of main_while0b_v126 : StableHlo.TRef sig ⟨S2x16x256, .f32⟩) (.of main_v5_12 : StableHlo.TRef sig ⟨S2x16x256, .f32⟩) (.of main_while0b_v133 : StableHlo.TRef sig ⟨S2x16x256, .f32⟩) select ]

/-- These operations touch device arrays only. -/
theorem t_c2_sub : (t_c2 : List (HloOp τ sig (Elt F))).Forall fun op => op.bufs ⊆ StableHlo.tcRefs τ sig :=
  ⟨StableHlo.unary_bufs_sub .., StableHlo.ternary_bufs_sub ..⟩

/-- None of these operations allocates. -/
theorem t_c2_fresh : (t_c2 : List (HloOp τ sig (Elt F))).Forall fun op => op.fresh = ∅ :=
  StableHlo.forall_fresh_of_map rfl

/-- The arrays that these operations write. -/
abbrev t_c2_W : List (Ref sig .tc) := [main_while0b_call2_v0, main_while0b_v133]

/-- They write nothing else. -/
theorem t_c2_keep (V : Valuation τ sig (Elt F)) {r : Ref sig .tc} (h : r ∉ t_c2_W) :
    after t_c2 V (Proc.devRef .tc r) = V (Proc.devRef .tc r) :=
  after_of_writes_sub t_c2 V (StableHlo.forall_writes_sub_of_map rfl) h

/-- Operations of one teacher-forced trip, in their order. -/
abbrev t_x1 : List (HloOp τ sig (Elt F)) :=
  [ StableHlo.unary main_while0b_v131 main_while0b_v134 (broadcastInDim S1x16x1 ![1] bcast_S16_S1x16x1_1 : (⟨S16, .i1⟩ : BufTy).Contents (Elt F) → (⟨S1x16x1, .i1⟩ : BufTy).Contents (Elt F)) ]

/-- These operations touch device arrays only. -/
theorem t_x1_sub : (t_x1 : List (HloOp τ sig (Elt F))).Forall fun op => op.bufs ⊆ StableHlo.tcRefs τ sig :=
  StableHlo.unary_bufs_sub ..

/-- None of these operations allocates. -/
theorem t_x1_fresh : (t_x1 : List (HloOp τ sig (Elt F))).Forall fun op => op.fresh = ∅ :=
  StableHlo.forall_fresh_of_map rfl

/-- The arrays that these operations write. -/
abbrev t_x1_W : List (Ref sig .tc) := [main_while0b_v134]

/-- They write nothing else. -/
theorem t_x1_keep (V : Valuation τ sig (Elt F)) {r : Ref sig .tc} (h : r ∉ t_x1_W) :
    after t_x1 V (Proc.devRef .tc r) = V (Proc.devRef .tc r) :=
  after_of_writes_sub t_x1 V (StableHlo.forall_writes_sub_of_map rfl) h

/-- Operations of one teacher-forced trip, in their order. -/
abbrev t_c3 : List (HloOp τ sig (Elt F)) :=
  [ StableHlo.TRef.unary (.of main_while0b_v134 : StableHlo.TRef sig ⟨S1x16x1, .i1⟩) (.of main_while0b_call3_v0 : StableHlo.TRef sig ⟨S2x16x256, .i1⟩) (broadcastInDim S2x16x256 ![0, 1, 2] bcast_S1x16x1_S2x16x256_0_1_2),
    StableHlo.TRef.ternary (.of main_while0b_call3_v0 : StableHlo.TRef sig ⟨S2x16x256, .i1⟩) (.of main_while0b_v129 : StableHlo.TRef sig ⟨S2x16x256, .f32⟩) (.of main_v5_13 : StableHlo.TRef sig ⟨S2x16x256, .f32⟩) (.of main_while0b_v135 : StableHlo.TRef sig ⟨S2x16x256, .f32⟩) select ]

/-- These operations touch device arrays only. -/
theorem t_c3_sub : (t_c3 : List (HloOp τ sig (Elt F))).Forall fun op => op.bufs ⊆ StableHlo.tcRefs τ sig :=
  ⟨StableHlo.unary_bufs_sub .., StableHlo.ternary_bufs_sub ..⟩

/-- None of these operations allocates. -/
theorem t_c3_fresh : (t_c3 : List (HloOp τ sig (Elt F))).Forall fun op => op.fresh = ∅ :=
  StableHlo.forall_fresh_of_map rfl

/-- The arrays that these operations write. -/
abbrev t_c3_W : List (Ref sig .tc) := [main_while0b_call3_v0, main_while0b_v135]

/-- They write nothing else. -/
theorem t_c3_keep (V : Valuation τ sig (Elt F)) {r : Ref sig .tc} (h : r ∉ t_c3_W) :
    after t_c3 V (Proc.devRef .tc r) = V (Proc.devRef .tc r) :=
  after_of_writes_sub t_c3 V (StableHlo.forall_writes_sub_of_map rfl) h

/-- Operations of one teacher-forced trip, in their order. -/
abbrev t_x2 : List (HloOp τ sig (Elt F)) :=
  [ StableHlo.unary main_while0b_v131 main_while0b_v136 (broadcastInDim S16x1 ![0] bcast_S16_S16x1_0 : (⟨S16, .i1⟩ : BufTy).Contents (Elt F) → (⟨S16x1, .i1⟩ : BufTy).Contents (Elt F)),
    StableHlo.nullary main_while0b_cst_36 (constant S_ .f32 0x00000000#32) ]

/-- These operations touch device arrays only. -/
theorem t_x2_sub : (t_x2 : List (HloOp τ sig (Elt F))).Forall fun op => op.bufs ⊆ StableHlo.tcRefs τ sig :=
  ⟨StableHlo.unary_bufs_sub .., StableHlo.nullary_bufs_sub ..⟩

/-- None of these operations allocates. -/
theorem t_x2_fresh : (t_x2 : List (HloOp τ sig (Elt F))).Forall fun op => op.fresh = ∅ :=
  StableHlo.forall_fresh_of_map rfl

/-- The arrays that these operations write. -/
abbrev t_x2_W : List (Ref sig .tc) := [main_while0b_v136, main_while0b_cst_36]

/-- They write nothing else. -/
theorem t_x2_keep (V : Valuation τ sig (Elt F)) {r : Ref sig .tc} (h : r ∉ t_x2_W) :
    after t_x2 V (Proc.devRef .tc r) = V (Proc.devRef .tc r) :=
  after_of_writes_sub t_x2 V (StableHlo.forall_writes_sub_of_map rfl) h

/-- Operations of one teacher-forced trip, in their order. -/
abbrev t_c4 : List (HloOp τ sig (Elt F)) :=
  [ StableHlo.TRef.unary (.of main_while0b_cst_36 : StableHlo.TRef sig ⟨S_, .f32⟩) (.of main_while0b_call4_v0 : StableHlo.TRef sig ⟨S_, .f32⟩) id,
    StableHlo.TRef.unary (.of main_while0b_v136 : StableHlo.TRef sig ⟨S16x1, .i1⟩) (.of main_while0b_call4_v1 : StableHlo.TRef sig ⟨S16x256, .i1⟩) (broadcastInDim S16x256 ![0, 1] bcast_S16x1_S16x256_0_1),
    StableHlo.TRef.unary (.of main_while0b_call4_v0 : StableHlo.TRef sig ⟨S_, .f32⟩) (.of main_while0b_call4_v2 : StableHlo.TRef sig ⟨S16x256, .f32⟩) (broadcastInDim S16x256 ![] bcast_S_S16x256),
    StableHlo.TRef.ternary (.of main_while0b_call4_v1 : StableHlo.TRef sig ⟨S16x256, .i1⟩) (.of main_while0b_v123 : StableHlo.TRef sig ⟨S16x256, .f32⟩) (.of main_while0b_call4_v2 : StableHlo.TRef sig ⟨S16x256, .f32⟩) (.of main_while0b_v137 : StableHlo.TRef sig ⟨S16x256, .f32⟩) select ]

/-- These operations touch device arrays only. -/
theorem t_c4_sub : (t_c4 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩

/-- None of these operations allocates. -/
theorem t_c4_fresh : (t_c4 : List (HloOp τ sig (Elt F))).Forall fun op => op.fresh = ∅ :=
  StableHlo.forall_fresh_of_map rfl

/-- The arrays that these operations write. -/
abbrev t_c4_W : List (Ref sig .tc) := [main_while0b_call4_v0, main_while0b_call4_v1, main_while0b_call4_v2, main_while0b_v137]

/-- They write nothing else. -/
theorem t_c4_keep (V : Valuation τ sig (Elt F)) {r : Ref sig .tc} (h : r ∉ t_c4_W) :
    after t_c4 V (Proc.devRef .tc r) = V (Proc.devRef .tc r) :=
  after_of_writes_sub t_c4 V (StableHlo.forall_writes_sub_of_map rfl) h

/-- Operations of one teacher-forced trip, in their order. -/
abbrev t_c5 : List (HloOp τ sig (Elt F)) :=
  [ StableHlo.TRef.unary (.of main_while0b_v137 : StableHlo.TRef sig ⟨S16x256, .f32⟩) (.of main_while0b_call5_v0 : StableHlo.TRef sig ⟨S1x16x256, .f32⟩) (broadcastInDim S1x16x256 ![1, 2] bcast_S16x256_S1x16x256_1_2),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.binaryIndexed (.of main_v5_14 : StableHlo.TRef sig ⟨S512x16x256, .f32⟩) (.of main_while0b_call5_v0 : StableHlo.TRef sig ⟨S1x16x256, .f32⟩) ![(.of main_v5_11 : StableHlo.TRef sig ⟨S_, .i32⟩), (.of main_while0b_call5_c : StableHlo.TRef sig ⟨S_, .i32⟩), (.of main_while0b_call5_c_0 : StableHlo.TRef sig ⟨S_, .i32⟩)] (.of main_while0b_v138 : StableHlo.TRef sig ⟨S512x16x256, .f32⟩) (fun x u i => Host.dynamicUpdateSlice x u (fun k => (i k (Shape.Idx.first h_S_)).toInt) updateFits_S512x16x256_S1x16x256) ]

/-- These operations touch device arrays only. -/
theorem t_c5_sub : (t_c5 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- None of these operations allocates. -/
theorem t_c5_fresh : (t_c5 : List (HloOp τ sig (Elt F))).Forall fun op => op.fresh = ∅ :=
  StableHlo.forall_fresh_of_map rfl

/-- The arrays that these operations write. -/
abbrev t_c5_W : List (Ref sig .tc) := [main_while0b_call5_v0, main_while0b_call5_c, main_while0b_call5_c_0, main_while0b_v138]

/-- They write nothing else. -/
theorem t_c5_keep (V : Valuation τ sig (Elt F)) {r : Ref sig .tc} (h : r ∉ t_c5_W) :
    after t_c5 V (Proc.devRef .tc r) = V (Proc.devRef .tc r) :=
  after_of_writes_sub t_c5 V (StableHlo.forall_writes_sub_of_map rfl) h

/-- Operations of one teacher-forced trip, in their order. -/
abbrev t_x3 : List (HloOp τ sig (Elt F)) :=
  [ StableHlo.nullary main_while0b_c_37 (constantI S_ 32 1#32),
    StableHlo.binary main_v5_11 main_while0b_c_37 main_while0b_v139 (addi : (⟨S_, .i32⟩ : BufTy).Contents (Elt F) → (⟨S_, .i32⟩ : BufTy).Contents (Elt F) → (⟨S_, .i32⟩ : BufTy).Contents (Elt F)),
    StableHlo.unary main_while0b_v139 main_v5_11 id,
    StableHlo.unary main_while0b_v133 main_v5_12 id,
    StableHlo.unary main_while0b_v135 main_v5_13 id,
    StableHlo.unary main_while0b_v138 main_v5_14 id ]

/-- These operations touch device arrays only. -/
theorem t_x3_sub : (t_x3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩

/-- None of these operations allocates. -/
theorem t_x3_fresh : (t_x3 : List (HloOp τ sig (Elt F))).Forall fun op => op.fresh = ∅ :=
  StableHlo.forall_fresh_of_map rfl

/-- The arrays that these operations write. -/
abbrev t_x3_W : List (Ref sig .tc) := [main_while0b_c_37, main_while0b_v139, main_v5_11, main_v5_12, main_v5_13, main_v5_14]

/-- They write nothing else. -/
theorem t_x3_keep (V : Valuation τ sig (Elt F)) {r : Ref sig .tc} (h : r ∉ t_x3_W) :
    after t_x3 V (Proc.devRef .tc r) = V (Proc.devRef .tc r) :=
  after_of_writes_sub t_x3 V (StableHlo.forall_writes_sub_of_map rfl) h

/-- Operations of one autoregressive trip, in their order. -/
abbrev d_c6 : List (HloOp τ sig (Elt F)) :=
  [ StableHlo.TRef.nullary (.of main_while1b_call6_c : StableHlo.TRef sig ⟨S_, .i32⟩) (constantI S_ 32 0#32),
    StableHlo.TRef.unaryIndexed (.of main_v26_0 : StableHlo.TRef sig ⟨S64x16, .i1⟩) ![(.of main_v26_9 : StableHlo.TRef sig ⟨S_, .i32⟩), (.of main_while1b_call6_c : StableHlo.TRef sig ⟨S_, .i32⟩)] (.of main_while1b_call6_v0 : StableHlo.TRef sig ⟨S1x16, .i1⟩) (fun x i => Host.dynamicSlice S1x16 x (fun k => (i k (Shape.Idx.first h_S_)).toInt) sliceFits_S64x16_S1x16),
    StableHlo.TRef.reshape (.of main_while1b_call6_v0 : StableHlo.TRef sig ⟨S1x16, .i1⟩) (.of main_while1b_v36 : StableHlo.TRef sig ⟨S16, .i1⟩) (rfl : (.i1 : EltTy) = .i1) shapeCasts_S1x16_S16 ]

/-- These operations touch device arrays only. -/
theorem d_c6_sub : (d_c6 : List (HloOp τ sig (Elt F))).Forall fun op => op.bufs ⊆ StableHlo.tcRefs τ sig :=
  ⟨StableHlo.nullary_bufs_sub .., StableHlo.unaryIndexed_bufs_sub .., StableHlo.reshape_bufs_sub ..⟩

/-- None of these operations allocates. -/
theorem d_c6_fresh : (d_c6 : List (HloOp τ sig (Elt F))).Forall fun op => op.fresh = ∅ :=
  StableHlo.forall_fresh_of_map rfl

/-- The arrays that these operations write. -/
abbrev d_c6_W : List (Ref sig .tc) := [main_while1b_call6_c, main_while1b_call6_v0, main_while1b_v36]

/-- They write nothing else. -/
theorem d_c6_keep (V : Valuation τ sig (Elt F)) {r : Ref sig .tc} (h : r ∉ d_c6_W) :
    after d_c6 V (Proc.devRef .tc r) = V (Proc.devRef .tc r) :=
  after_of_writes_sub d_c6 V (StableHlo.forall_writes_sub_of_map rfl) h

/-- Operations of one autoregressive trip, in their order. -/
abbrev d_g0 : List (HloOp τ sig (Elt F)) :=
  [ StableHlo.unary main_v26_10 main_while1b_v37 ((extractStridedSlice S1x16x256 ![0, 0, 0] · slices_S2x16x256_S1x16x256_0_0_0) : (⟨S2x16x256, .f32⟩ : BufTy).Contents (Elt F) → (⟨S1x16x256, .f32⟩ : BufTy).Contents (Elt F)),
    StableHlo.reshape main_while1b_v37 main_while1b_v38 (rfl : (.f32 : EltTy) = .f32) shapeCasts_S1x16x256_S16x256,
    StableHlo.unary main_v26_11 main_while1b_v39 ((extractStridedSlice S1x16x256 ![0, 0, 0] · slices_S2x16x256_S1x16x256_0_0_0) : (⟨S2x16x256, .f32⟩ : BufTy).Contents (Elt F) → (⟨S1x16x256, .f32⟩ : BufTy).Contents (Elt F)),
    StableHlo.reshape main_while1b_v39 main_while1b_v40 (rfl : (.f32 : EltTy) = .f32) shapeCasts_S1x16x256_S16x256,
    StableHlo.unary main_v26_1 main_while1b_v41 ((transpose S256x1024 [1, 0] · transposes_S1024x256_S256x1024_1_0) : (⟨S1024x256, .f32⟩ : BufTy).Contents (Elt F) → (⟨S256x1024, .f32⟩ : BufTy).Contents (Elt F)),
    StableHlo.binary main_v26_12 main_while1b_v41 main_while1b_v42 ((fun l r => Host.dotGeneral dot_S16x256_S256x1024_S16x1024_1_0_0_1_n_n none l r) : (⟨S16x256, .f32⟩ : BufTy).Contents (Elt F) → (⟨S256x1024, .f32⟩ : BufTy).Contents (Elt F) → (⟨S16x1024, .f32⟩ : BufTy).Contents (Elt F)),
    StableHlo.unary main_v26_2 main_while1b_v43 ((transpose S256x1024 [1, 0] · transposes_S1024x256_S256x1024_1_0) : (⟨S1024x256, .f32⟩ : BufTy).Contents (Elt F) → (⟨S256x1024, .f32⟩ : BufTy).Contents (Elt F)),
    StableHlo.binary main_while1b_v38 main_while1b_v43 main_while1b_v44 ((fun l r => Host.dotGeneral dot_S16x256_S256x1024_S16x1024_1_0_0_1_n_n none l r) : (⟨S16x256, .f32⟩ : BufTy).Contents (Elt F) → (⟨S256x1024, .f32⟩ : BufTy).Contents (Elt F) → (⟨S16x1024, .f32⟩ : BufTy).Contents (Elt F)),
    StableHlo.binary main_while1b_v42 main_while1b_v44 main_while1b_v45 (addf : (⟨S16x1024, .f32⟩ : BufTy).Contents (Elt F) → (⟨S16x1024, .f32⟩ : BufTy).Contents (Elt F) → (⟨S16x1024, .f32⟩ : BufTy).Contents (Elt F)),
    StableHlo.unary main_v26_3 main_while1b_v46 (broadcastInDim S1x1024 ![1] bcast_S1024_S1x1024_1 : (⟨S1024, .f32⟩ : BufTy).Contents (Elt F) → (⟨S1x1024, .f32⟩ : BufTy).Contents (Elt F)),
    StableHlo.unary main_while1b_v46 main_while1b_v47 (broadcastInDim S16x1024 ![0, 1] bcast_S1x1024_S16x1024_0_1 : (⟨S1x1024, .f32⟩ : BufTy).Contents (Elt F) → (⟨S16x1024, .f32⟩ : BufTy).Contents (Elt F)),
    StableHlo.binary main_while1b_v45 main_while1b_v47 main_while1b_v48 (addf : (⟨S16x1024, .f32⟩ : BufTy).Contents (Elt F) → (⟨S16x1024, .f32⟩ : BufTy).Contents (Elt F) → (⟨S16x1024, .f32⟩ : BufTy).Contents (Elt F)),
    StableHlo.unary main_v26_4 main_while1b_v49 (broadcastInDim S1x1024 ![1] bcast_S1024_S1x1024_1 : (⟨S1024, .f32⟩ : BufTy).Contents (Elt F) → (⟨S1x1024, .f32⟩ : BufTy).Contents (Elt F)),
    StableHlo.unary main_while1b_v49 main_while1b_v50 (broadcastInDim S16x1024 ![0, 1] bcast_S1x1024_S16x1024_0_1 : (⟨S1x1024, .f32⟩ : BufTy).Contents (Elt F) → (⟨S16x1024, .f32⟩ : BufTy).Contents (Elt F)),
    StableHlo.binary main_while1b_v48 main_while1b_v50 main_while1b_v51 (addf : (⟨S16x1024, .f32⟩ : BufTy).Contents (Elt F) → (⟨S16x1024, .f32⟩ : BufTy).Contents (Elt F) → (⟨S16x1024, .f32⟩ : BufTy).Contents (Elt F)) ]

/-- These operations touch device arrays only. -/
theorem d_g0_sub : (d_g0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

/-- None of these operations allocates. -/
theorem d_g0_fresh : (d_g0 : List (HloOp τ sig (Elt F))).Forall fun op => op.fresh = ∅ :=
  StableHlo.forall_fresh_of_map rfl

/-- The arrays that these operations write. -/
abbrev d_g0_W : List (Ref sig .tc) := [main_while1b_v37, main_while1b_v38, main_while1b_v39, main_while1b_v40, main_while1b_v41, main_while1b_v42, main_while1b_v43, main_while1b_v44, main_while1b_v45, main_while1b_v46, main_while1b_v47, main_while1b_v48, main_while1b_v49, main_while1b_v50, main_while1b_v51]

/-- They write nothing else. -/
theorem d_g0_keep (V : Valuation τ sig (Elt F)) {r : Ref sig .tc} (h : r ∉ d_g0_W) :
    after d_g0 V (Proc.devRef .tc r) = V (Proc.devRef .tc r) :=
  after_of_writes_sub d_g0 V (StableHlo.forall_writes_sub_of_map rfl) h

/-- Operations of one autoregressive trip, in their order. -/
abbrev d_s0 : List (HloOp τ sig (Elt F)) :=
  [ StableHlo.unary main_while1b_v51 main_while1b_v52 ((extractStridedSlice S16x256 ![0, 0] · slices_S16x1024_S16x256_0_0) : (⟨S16x1024, .f32⟩ : BufTy).Contents (Elt F) → (⟨S16x256, .f32⟩ : BufTy).Contents (Elt F)),
    StableHlo.unary main_while1b_v52 main_while1b_v53 (Host.negf : (⟨S16x256, .f32⟩ : BufTy).Contents (Elt F) → (⟨S16x256, .f32⟩ : BufTy).Contents (Elt F)),
    StableHlo.unary main_while1b_v53 main_while1b_v54 (Host.exp : (⟨S16x256, .f32⟩ : BufTy).Contents (Elt F) → (⟨S16x256, .f32⟩ : BufTy).Contents (Elt F)),
    StableHlo.nullary main_while1b_cst_23 (constant S_ .f32 0x3F800000#32),
    StableHlo.unary main_while1b_cst_23 main_while1b_v55 (broadcastInDim S16x256 ![] bcast_S_S16x256 : (⟨S_, .f32⟩ : BufTy).Contents (Elt F) → (⟨S16x256, .f32⟩ : BufTy).Contents (Elt F)),
    StableHlo.binary main_while1b_v55 main_while1b_v54 main_while1b_v56 (addf : (⟨S16x256, .f32⟩ : BufTy).Contents (Elt F) → (⟨S16x256, .f32⟩ : BufTy).Contents (Elt F) → (⟨S16x256, .f32⟩ : BufTy).Contents (Elt F)),
    StableHlo.nullary main_while1b_cst_24 (constant S_ .f32 0x3F800000#32),
    StableHlo.unary main_while1b_cst_24 main_while1b_v57 (broadcastInDim S16x256 ![] bcast_S_S16x256 : (⟨S_, .f32⟩ : BufTy).Contents (Elt F) → (⟨S16x256, .f32⟩ : BufTy).Contents (Elt F)),
    StableHlo.binary main_while1b_v57 main_while1b_v56 main_while1b_v58 (Host.divf : (⟨S16x256, .f32⟩ : BufTy).Contents (Elt F) → (⟨S16x256, .f32⟩ : BufTy).Contents (Elt F) → (⟨S16x256, .f32⟩ : BufTy).Contents (Elt F)),
    StableHlo.unary main_while1b_v51 main_while1b_v59 ((extractStridedSlice S16x256 ![0, 256] · slices_S16x1024_S16x256_0_256) : (⟨S16x1024, .f32⟩ : BufTy).Contents (Elt F) → (⟨S16x256, .f32⟩ : BufTy).Contents (Elt F)),
    StableHlo.unary main_while1b_v59 main_while1b_v60 (Host.negf : (⟨S16x256, .f32⟩ : BufTy).Contents (Elt F) → (⟨S16x256, .f32⟩ : BufTy).Contents (Elt F)),
    StableHlo.unary main_while1b_v60 main_while1b_v61 (Host.exp : (⟨S16x256, .f32⟩ : BufTy).Contents (Elt F) → (⟨S16x256, .f32⟩ : BufTy).Contents (Elt F)),
    StableHlo.nullary main_while1b_cst_25 (constant S_ .f32 0x3F800000#32),
    StableHlo.unary main_while1b_cst_25 main_while1b_v62 (broadcastInDim S16x256 ![] bcast_S_S16x256 : (⟨S_, .f32⟩ : BufTy).Contents (Elt F) → (⟨S16x256, .f32⟩ : BufTy).Contents (Elt F)),
    StableHlo.binary main_while1b_v62 main_while1b_v61 main_while1b_v63 (addf : (⟨S16x256, .f32⟩ : BufTy).Contents (Elt F) → (⟨S16x256, .f32⟩ : BufTy).Contents (Elt F) → (⟨S16x256, .f32⟩ : BufTy).Contents (Elt F)),
    StableHlo.nullary main_while1b_cst_26 (constant S_ .f32 0x3F800000#32),
    StableHlo.unary main_while1b_cst_26 main_while1b_v64 (broadcastInDim S16x256 ![] bcast_S_S16x256 : (⟨S_, .f32⟩ : BufTy).Contents (Elt F) → (⟨S16x256, .f32⟩ : BufTy).Contents (Elt F)),
    StableHlo.binary main_while1b_v64 main_while1b_v63 main_while1b_v65 (Host.divf : (⟨S16x256, .f32⟩ : BufTy).Contents (Elt F) → (⟨S16x256, .f32⟩ : BufTy).Contents (Elt F) → (⟨S16x256, .f32⟩ : BufTy).Contents (Elt F)),
    StableHlo.unary main_while1b_v51 main_while1b_v66 ((extractStridedSlice S16x256 ![0, 512] · slices_S16x1024_S16x256_0_512) : (⟨S16x1024, .f32⟩ : BufTy).Contents (Elt F) → (⟨S16x256, .f32⟩ : BufTy).Contents (Elt F)),
    StableHlo.unary main_while1b_v66 main_while1b_v67 (Host.tanh : (⟨S16x256, .f32⟩ : BufTy).Contents (Elt F) → (⟨S16x256, .f32⟩ : BufTy).Contents (Elt F)),
    StableHlo.unary main_while1b_v51 main_while1b_v68 ((extractStridedSlice S16x256 ![0, 768] · slices_S16x1024_S16x256_0_768) : (⟨S16x1024, .f32⟩ : BufTy).Contents (Elt F) → (⟨S16x256, .f32⟩ : BufTy).Contents (Elt F)),
    StableHlo.unary main_while1b_v68 main_while1b_v69 (Host.negf : (⟨S16x256, .f32⟩ : BufTy).Contents (Elt F) → (⟨S16x256, .f32⟩ : BufTy).Contents (Elt F)),
    StableHlo.unary main_while1b_v69 main_while1b_v70 (Host.exp : (⟨S16x256, .f32⟩ : BufTy).Contents (Elt F) → (⟨S16x256, .f32⟩ : BufTy).Contents (Elt F)),
    StableHlo.nullary main_while1b_cst_27 (constant S_ .f32 0x3F800000#32),
    StableHlo.unary main_while1b_cst_27 main_while1b_v71 (broadcastInDim S16x256 ![] bcast_S_S16x256 : (⟨S_, .f32⟩ : BufTy).Contents (Elt F) → (⟨S16x256, .f32⟩ : BufTy).Contents (Elt F)),
    StableHlo.binary main_while1b_v71 main_while1b_v70 main_while1b_v72 (addf : (⟨S16x256, .f32⟩ : BufTy).Contents (Elt F) → (⟨S16x256, .f32⟩ : BufTy).Contents (Elt F) → (⟨S16x256, .f32⟩ : BufTy).Contents (Elt F)),
    StableHlo.nullary main_while1b_cst_28 (constant S_ .f32 0x3F800000#32),
    StableHlo.unary main_while1b_cst_28 main_while1b_v73 (broadcastInDim S16x256 ![] bcast_S_S16x256 : (⟨S_, .f32⟩ : BufTy).Contents (Elt F) → (⟨S16x256, .f32⟩ : BufTy).Contents (Elt F)),
    StableHlo.binary main_while1b_v73 main_while1b_v72 main_while1b_v74 (Host.divf : (⟨S16x256, .f32⟩ : BufTy).Contents (Elt F) → (⟨S16x256, .f32⟩ : BufTy).Contents (Elt F) → (⟨S16x256, .f32⟩ : BufTy).Contents (Elt F)),
    StableHlo.binary main_while1b_v65 main_while1b_v40 main_while1b_v75 (mulf : (⟨S16x256, .f32⟩ : BufTy).Contents (Elt F) → (⟨S16x256, .f32⟩ : BufTy).Contents (Elt F) → (⟨S16x256, .f32⟩ : BufTy).Contents (Elt F)),
    StableHlo.binary main_while1b_v58 main_while1b_v67 main_while1b_v76 (mulf : (⟨S16x256, .f32⟩ : BufTy).Contents (Elt F) → (⟨S16x256, .f32⟩ : BufTy).Contents (Elt F) → (⟨S16x256, .f32⟩ : BufTy).Contents (Elt F)),
    StableHlo.binary main_while1b_v75 main_while1b_v76 main_while1b_v77 (addf : (⟨S16x256, .f32⟩ : BufTy).Contents (Elt F) → (⟨S16x256, .f32⟩ : BufTy).Contents (Elt F) → (⟨S16x256, .f32⟩ : BufTy).Contents (Elt F)),
    StableHlo.unary main_while1b_v77 main_while1b_v78 (Host.tanh : (⟨S16x256, .f32⟩ : BufTy).Contents (Elt F) → (⟨S16x256, .f32⟩ : BufTy).Contents (Elt F)),
    StableHlo.binary main_while1b_v74 main_while1b_v78 main_while1b_v79 (mulf : (⟨S16x256, .f32⟩ : BufTy).Contents (Elt F) → (⟨S16x256, .f32⟩ : BufTy).Contents (Elt F) → (⟨S16x256, .f32⟩ : BufTy).Contents (Elt F)) ]

/-- These operations touch device arrays only. -/
theorem d_s0_sub : (d_s0 : List (HloOp τ sig (Elt F))).Forall fun op => op.bufs ⊆ StableHlo.tcRefs τ sig :=
  ⟨StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub ..⟩

/-- None of these operations allocates. -/
theorem d_s0_fresh : (d_s0 : List (HloOp τ sig (Elt F))).Forall fun op => op.fresh = ∅ :=
  StableHlo.forall_fresh_of_map rfl

/-- The arrays that these operations write. -/
abbrev d_s0_W : List (Ref sig .tc) := [main_while1b_v52, main_while1b_v53, main_while1b_v54, main_while1b_cst_23, main_while1b_v55, main_while1b_v56, main_while1b_cst_24, main_while1b_v57, main_while1b_v58, main_while1b_v59, main_while1b_v60, main_while1b_v61, main_while1b_cst_25, main_while1b_v62, main_while1b_v63, main_while1b_cst_26, main_while1b_v64, main_while1b_v65, main_while1b_v66, main_while1b_v67, main_while1b_v68, main_while1b_v69, main_while1b_v70, main_while1b_cst_27, main_while1b_v71, main_while1b_v72, main_while1b_cst_28, main_while1b_v73, main_while1b_v74, main_while1b_v75, main_while1b_v76, main_while1b_v77, main_while1b_v78, main_while1b_v79]

/-- They write nothing else. -/
theorem d_s0_keep (V : Valuation τ sig (Elt F)) {r : Ref sig .tc} (h : r ∉ d_s0_W) :
    after d_s0 V (Proc.devRef .tc r) = V (Proc.devRef .tc r) :=
  after_of_writes_sub d_s0 V (StableHlo.forall_writes_sub_of_map rfl) h

/-- Operations of one autoregressive trip, in their order. -/
abbrev d_g1 : List (HloOp τ sig (Elt F)) :=
  [ StableHlo.unary main_v26_10 main_while1b_v80 ((extractStridedSlice S1x16x256 ![1, 0, 0] · slices_S2x16x256_S1x16x256_1_0_0) : (⟨S2x16x256, .f32⟩ : BufTy).Contents (Elt F) → (⟨S1x16x256, .f32⟩ : BufTy).Contents (Elt F)),
    StableHlo.reshape main_while1b_v80 main_while1b_v81 (rfl : (.f32 : EltTy) = .f32) shapeCasts_S1x16x256_S16x256,
    StableHlo.unary main_v26_11 main_while1b_v82 ((extractStridedSlice S1x16x256 ![1, 0, 0] · slices_S2x16x256_S1x16x256_1_0_0) : (⟨S2x16x256, .f32⟩ : BufTy).Contents (Elt F) → (⟨S1x16x256, .f32⟩ : BufTy).Contents (Elt F)),
    StableHlo.reshape main_while1b_v82 main_while1b_v83 (rfl : (.f32 : EltTy) = .f32) shapeCasts_S1x16x256_S16x256,
    StableHlo.unary main_v26_5 main_while1b_v84 ((transpose S256x1024 [1, 0] · transposes_S1024x256_S256x1024_1_0) : (⟨S1024x256, .f32⟩ : BufTy).Contents (Elt F) → (⟨S256x1024, .f32⟩ : BufTy).Contents (Elt F)),
    StableHlo.binary main_while1b_v79 main_while1b_v84 main_while1b_v85 ((fun l r => Host.dotGeneral dot_S16x256_S256x1024_S16x1024_1_0_0_1_n_n none l r) : (⟨S16x256, .f32⟩ : BufTy).Contents (Elt F) → (⟨S256x1024, .f32⟩ : BufTy).Contents (Elt F) → (⟨S16x1024, .f32⟩ : BufTy).Contents (Elt F)),
    StableHlo.unary main_v26_6 main_while1b_v86 ((transpose S256x1024 [1, 0] · transposes_S1024x256_S256x1024_1_0) : (⟨S1024x256, .f32⟩ : BufTy).Contents (Elt F) → (⟨S256x1024, .f32⟩ : BufTy).Contents (Elt F)),
    StableHlo.binary main_while1b_v81 main_while1b_v86 main_while1b_v87 ((fun l r => Host.dotGeneral dot_S16x256_S256x1024_S16x1024_1_0_0_1_n_n none l r) : (⟨S16x256, .f32⟩ : BufTy).Contents (Elt F) → (⟨S256x1024, .f32⟩ : BufTy).Contents (Elt F) → (⟨S16x1024, .f32⟩ : BufTy).Contents (Elt F)),
    StableHlo.binary main_while1b_v85 main_while1b_v87 main_while1b_v88 (addf : (⟨S16x1024, .f32⟩ : BufTy).Contents (Elt F) → (⟨S16x1024, .f32⟩ : BufTy).Contents (Elt F) → (⟨S16x1024, .f32⟩ : BufTy).Contents (Elt F)),
    StableHlo.unary main_v26_7 main_while1b_v89 (broadcastInDim S1x1024 ![1] bcast_S1024_S1x1024_1 : (⟨S1024, .f32⟩ : BufTy).Contents (Elt F) → (⟨S1x1024, .f32⟩ : BufTy).Contents (Elt F)),
    StableHlo.unary main_while1b_v89 main_while1b_v90 (broadcastInDim S16x1024 ![0, 1] bcast_S1x1024_S16x1024_0_1 : (⟨S1x1024, .f32⟩ : BufTy).Contents (Elt F) → (⟨S16x1024, .f32⟩ : BufTy).Contents (Elt F)),
    StableHlo.binary main_while1b_v88 main_while1b_v90 main_while1b_v91 (addf : (⟨S16x1024, .f32⟩ : BufTy).Contents (Elt F) → (⟨S16x1024, .f32⟩ : BufTy).Contents (Elt F) → (⟨S16x1024, .f32⟩ : BufTy).Contents (Elt F)),
    StableHlo.unary main_v26_8 main_while1b_v92 (broadcastInDim S1x1024 ![1] bcast_S1024_S1x1024_1 : (⟨S1024, .f32⟩ : BufTy).Contents (Elt F) → (⟨S1x1024, .f32⟩ : BufTy).Contents (Elt F)),
    StableHlo.unary main_while1b_v92 main_while1b_v93 (broadcastInDim S16x1024 ![0, 1] bcast_S1x1024_S16x1024_0_1 : (⟨S1x1024, .f32⟩ : BufTy).Contents (Elt F) → (⟨S16x1024, .f32⟩ : BufTy).Contents (Elt F)),
    StableHlo.binary main_while1b_v91 main_while1b_v93 main_while1b_v94 (addf : (⟨S16x1024, .f32⟩ : BufTy).Contents (Elt F) → (⟨S16x1024, .f32⟩ : BufTy).Contents (Elt F) → (⟨S16x1024, .f32⟩ : BufTy).Contents (Elt F)) ]

/-- These operations touch device arrays only. -/
theorem d_g1_sub : (d_g1 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

/-- None of these operations allocates. -/
theorem d_g1_fresh : (d_g1 : List (HloOp τ sig (Elt F))).Forall fun op => op.fresh = ∅ :=
  StableHlo.forall_fresh_of_map rfl

/-- The arrays that these operations write. -/
abbrev d_g1_W : List (Ref sig .tc) := [main_while1b_v80, main_while1b_v81, main_while1b_v82, main_while1b_v83, main_while1b_v84, main_while1b_v85, main_while1b_v86, main_while1b_v87, main_while1b_v88, main_while1b_v89, main_while1b_v90, main_while1b_v91, main_while1b_v92, main_while1b_v93, main_while1b_v94]

/-- They write nothing else. -/
theorem d_g1_keep (V : Valuation τ sig (Elt F)) {r : Ref sig .tc} (h : r ∉ d_g1_W) :
    after d_g1 V (Proc.devRef .tc r) = V (Proc.devRef .tc r) :=
  after_of_writes_sub d_g1 V (StableHlo.forall_writes_sub_of_map rfl) h

/-- Operations of one autoregressive trip, in their order. -/
abbrev d_s1 : List (HloOp τ sig (Elt F)) :=
  [ StableHlo.unary main_while1b_v94 main_while1b_v95 ((extractStridedSlice S16x256 ![0, 0] · slices_S16x1024_S16x256_0_0) : (⟨S16x1024, .f32⟩ : BufTy).Contents (Elt F) → (⟨S16x256, .f32⟩ : BufTy).Contents (Elt F)),
    StableHlo.unary main_while1b_v95 main_while1b_v96 (Host.negf : (⟨S16x256, .f32⟩ : BufTy).Contents (Elt F) → (⟨S16x256, .f32⟩ : BufTy).Contents (Elt F)),
    StableHlo.unary main_while1b_v96 main_while1b_v97 (Host.exp : (⟨S16x256, .f32⟩ : BufTy).Contents (Elt F) → (⟨S16x256, .f32⟩ : BufTy).Contents (Elt F)),
    StableHlo.nullary main_while1b_cst_29 (constant S_ .f32 0x3F800000#32),
    StableHlo.unary main_while1b_cst_29 main_while1b_v98 (broadcastInDim S16x256 ![] bcast_S_S16x256 : (⟨S_, .f32⟩ : BufTy).Contents (Elt F) → (⟨S16x256, .f32⟩ : BufTy).Contents (Elt F)),
    StableHlo.binary main_while1b_v98 main_while1b_v97 main_while1b_v99 (addf : (⟨S16x256, .f32⟩ : BufTy).Contents (Elt F) → (⟨S16x256, .f32⟩ : BufTy).Contents (Elt F) → (⟨S16x256, .f32⟩ : BufTy).Contents (Elt F)),
    StableHlo.nullary main_while1b_cst_30 (constant S_ .f32 0x3F800000#32),
    StableHlo.unary main_while1b_cst_30 main_while1b_v100 (broadcastInDim S16x256 ![] bcast_S_S16x256 : (⟨S_, .f32⟩ : BufTy).Contents (Elt F) → (⟨S16x256, .f32⟩ : BufTy).Contents (Elt F)),
    StableHlo.binary main_while1b_v100 main_while1b_v99 main_while1b_v101 (Host.divf : (⟨S16x256, .f32⟩ : BufTy).Contents (Elt F) → (⟨S16x256, .f32⟩ : BufTy).Contents (Elt F) → (⟨S16x256, .f32⟩ : BufTy).Contents (Elt F)),
    StableHlo.unary main_while1b_v94 main_while1b_v102 ((extractStridedSlice S16x256 ![0, 256] · slices_S16x1024_S16x256_0_256) : (⟨S16x1024, .f32⟩ : BufTy).Contents (Elt F) → (⟨S16x256, .f32⟩ : BufTy).Contents (Elt F)),
    StableHlo.unary main_while1b_v102 main_while1b_v103 (Host.negf : (⟨S16x256, .f32⟩ : BufTy).Contents (Elt F) → (⟨S16x256, .f32⟩ : BufTy).Contents (Elt F)),
    StableHlo.unary main_while1b_v103 main_while1b_v104 (Host.exp : (⟨S16x256, .f32⟩ : BufTy).Contents (Elt F) → (⟨S16x256, .f32⟩ : BufTy).Contents (Elt F)),
    StableHlo.nullary main_while1b_cst_31 (constant S_ .f32 0x3F800000#32),
    StableHlo.unary main_while1b_cst_31 main_while1b_v105 (broadcastInDim S16x256 ![] bcast_S_S16x256 : (⟨S_, .f32⟩ : BufTy).Contents (Elt F) → (⟨S16x256, .f32⟩ : BufTy).Contents (Elt F)),
    StableHlo.binary main_while1b_v105 main_while1b_v104 main_while1b_v106 (addf : (⟨S16x256, .f32⟩ : BufTy).Contents (Elt F) → (⟨S16x256, .f32⟩ : BufTy).Contents (Elt F) → (⟨S16x256, .f32⟩ : BufTy).Contents (Elt F)),
    StableHlo.nullary main_while1b_cst_32 (constant S_ .f32 0x3F800000#32),
    StableHlo.unary main_while1b_cst_32 main_while1b_v107 (broadcastInDim S16x256 ![] bcast_S_S16x256 : (⟨S_, .f32⟩ : BufTy).Contents (Elt F) → (⟨S16x256, .f32⟩ : BufTy).Contents (Elt F)),
    StableHlo.binary main_while1b_v107 main_while1b_v106 main_while1b_v108 (Host.divf : (⟨S16x256, .f32⟩ : BufTy).Contents (Elt F) → (⟨S16x256, .f32⟩ : BufTy).Contents (Elt F) → (⟨S16x256, .f32⟩ : BufTy).Contents (Elt F)),
    StableHlo.unary main_while1b_v94 main_while1b_v109 ((extractStridedSlice S16x256 ![0, 512] · slices_S16x1024_S16x256_0_512) : (⟨S16x1024, .f32⟩ : BufTy).Contents (Elt F) → (⟨S16x256, .f32⟩ : BufTy).Contents (Elt F)),
    StableHlo.unary main_while1b_v109 main_while1b_v110 (Host.tanh : (⟨S16x256, .f32⟩ : BufTy).Contents (Elt F) → (⟨S16x256, .f32⟩ : BufTy).Contents (Elt F)),
    StableHlo.unary main_while1b_v94 main_while1b_v111 ((extractStridedSlice S16x256 ![0, 768] · slices_S16x1024_S16x256_0_768) : (⟨S16x1024, .f32⟩ : BufTy).Contents (Elt F) → (⟨S16x256, .f32⟩ : BufTy).Contents (Elt F)),
    StableHlo.unary main_while1b_v111 main_while1b_v112 (Host.negf : (⟨S16x256, .f32⟩ : BufTy).Contents (Elt F) → (⟨S16x256, .f32⟩ : BufTy).Contents (Elt F)),
    StableHlo.unary main_while1b_v112 main_while1b_v113 (Host.exp : (⟨S16x256, .f32⟩ : BufTy).Contents (Elt F) → (⟨S16x256, .f32⟩ : BufTy).Contents (Elt F)),
    StableHlo.nullary main_while1b_cst_33 (constant S_ .f32 0x3F800000#32),
    StableHlo.unary main_while1b_cst_33 main_while1b_v114 (broadcastInDim S16x256 ![] bcast_S_S16x256 : (⟨S_, .f32⟩ : BufTy).Contents (Elt F) → (⟨S16x256, .f32⟩ : BufTy).Contents (Elt F)),
    StableHlo.binary main_while1b_v114 main_while1b_v113 main_while1b_v115 (addf : (⟨S16x256, .f32⟩ : BufTy).Contents (Elt F) → (⟨S16x256, .f32⟩ : BufTy).Contents (Elt F) → (⟨S16x256, .f32⟩ : BufTy).Contents (Elt F)),
    StableHlo.nullary main_while1b_cst_34 (constant S_ .f32 0x3F800000#32),
    StableHlo.unary main_while1b_cst_34 main_while1b_v116 (broadcastInDim S16x256 ![] bcast_S_S16x256 : (⟨S_, .f32⟩ : BufTy).Contents (Elt F) → (⟨S16x256, .f32⟩ : BufTy).Contents (Elt F)),
    StableHlo.binary main_while1b_v116 main_while1b_v115 main_while1b_v117 (Host.divf : (⟨S16x256, .f32⟩ : BufTy).Contents (Elt F) → (⟨S16x256, .f32⟩ : BufTy).Contents (Elt F) → (⟨S16x256, .f32⟩ : BufTy).Contents (Elt F)),
    StableHlo.binary main_while1b_v108 main_while1b_v83 main_while1b_v118 (mulf : (⟨S16x256, .f32⟩ : BufTy).Contents (Elt F) → (⟨S16x256, .f32⟩ : BufTy).Contents (Elt F) → (⟨S16x256, .f32⟩ : BufTy).Contents (Elt F)),
    StableHlo.binary main_while1b_v101 main_while1b_v110 main_while1b_v119 (mulf : (⟨S16x256, .f32⟩ : BufTy).Contents (Elt F) → (⟨S16x256, .f32⟩ : BufTy).Contents (Elt F) → (⟨S16x256, .f32⟩ : BufTy).Contents (Elt F)),
    StableHlo.binary main_while1b_v118 main_while1b_v119 main_while1b_v120 (addf : (⟨S16x256, .f32⟩ : BufTy).Contents (Elt F) → (⟨S16x256, .f32⟩ : BufTy).Contents (Elt F) → (⟨S16x256, .f32⟩ : BufTy).Contents (Elt F)),
    StableHlo.unary main_while1b_v120 main_while1b_v121 (Host.tanh : (⟨S16x256, .f32⟩ : BufTy).Contents (Elt F) → (⟨S16x256, .f32⟩ : BufTy).Contents (Elt F)),
    StableHlo.binary main_while1b_v117 main_while1b_v121 main_while1b_v122 (mulf : (⟨S16x256, .f32⟩ : BufTy).Contents (Elt F) → (⟨S16x256, .f32⟩ : BufTy).Contents (Elt F) → (⟨S16x256, .f32⟩ : BufTy).Contents (Elt F)) ]

/-- These operations touch device arrays only. -/
theorem d_s1_sub : (d_s1 : List (HloOp τ sig (Elt F))).Forall fun op => op.bufs ⊆ StableHlo.tcRefs τ sig :=
  ⟨StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub ..⟩

/-- None of these operations allocates. -/
theorem d_s1_fresh : (d_s1 : List (HloOp τ sig (Elt F))).Forall fun op => op.fresh = ∅ :=
  StableHlo.forall_fresh_of_map rfl

/-- The arrays that these operations write. -/
abbrev d_s1_W : List (Ref sig .tc) := [main_while1b_v95, main_while1b_v96, main_while1b_v97, main_while1b_cst_29, main_while1b_v98, main_while1b_v99, main_while1b_cst_30, main_while1b_v100, main_while1b_v101, main_while1b_v102, main_while1b_v103, main_while1b_v104, main_while1b_cst_31, main_while1b_v105, main_while1b_v106, main_while1b_cst_32, main_while1b_v107, main_while1b_v108, main_while1b_v109, main_while1b_v110, main_while1b_v111, main_while1b_v112, main_while1b_v113, main_while1b_cst_33, main_while1b_v114, main_while1b_v115, main_while1b_cst_34, main_while1b_v116, main_while1b_v117, main_while1b_v118, main_while1b_v119, main_while1b_v120, main_while1b_v121, main_while1b_v122]

/-- They write nothing else. -/
theorem d_s1_keep (V : Valuation τ sig (Elt F)) {r : Ref sig .tc} (h : r ∉ d_s1_W) :
    after d_s1 V (Proc.devRef .tc r) = V (Proc.devRef .tc r) :=
  after_of_writes_sub d_s1 V (StableHlo.forall_writes_sub_of_map rfl) h

/-- Operations of one autoregressive trip, in their order. -/
abbrev d_x0 : List (HloOp τ sig (Elt F)) :=
  [ StableHlo.unary main_while1b_v79 main_while1b_v123 (broadcastInDim S1x16x256 ![1, 2] bcast_S16x256_S1x16x256_1_2 : (⟨S16x256, .f32⟩ : BufTy).Contents (Elt F) → (⟨S1x16x256, .f32⟩ : BufTy).Contents (Elt F)),
    StableHlo.unary main_while1b_v122 main_while1b_v124 (broadcastInDim S1x16x256 ![1, 2] bcast_S16x256_S1x16x256_1_2 : (⟨S16x256, .f32⟩ : BufTy).Contents (Elt F) → (⟨S1x16x256, .f32⟩ : BufTy).Contents (Elt F)),
    StableHlo.binary main_while1b_v123 main_while1b_v124 main_while1b_v125 ((fun a b => concatenate S2x16x256 0 [⟨S1x16x256, a⟩, ⟨S1x16x256, b⟩] concatenates_S1x16x256_S1x16x256_S2x16x256_d0) : (⟨S1x16x256, .f32⟩ : BufTy).Contents (Elt F) → (⟨S1x16x256, .f32⟩ : BufTy).Contents (Elt F) → (⟨S2x16x256, .f32⟩ : BufTy).Contents (Elt F)),
    StableHlo.unary main_while1b_v77 main_while1b_v126 (broadcastInDim S1x16x256 ![1, 2] bcast_S16x256_S1x16x256_1_2 : (⟨S16x256, .f32⟩ : BufTy).Contents (Elt F) → (⟨S1x16x256, .f32⟩ : BufTy).Contents (Elt F)),
    StableHlo.unary main_while1b_v120 main_while1b_v127 (broadcastInDim S1x16x256 ![1, 2] bcast_S16x256_S1x16x256_1_2 : (⟨S16x256, .f32⟩ : BufTy).Contents (Elt F) → (⟨S1x16x256, .f32⟩ : BufTy).Contents (Elt F)),
    StableHlo.binary main_while1b_v126 main_while1b_v127 main_while1b_v128 ((fun a b => concatenate S2x16x256 0 [⟨S1x16x256, a⟩, ⟨S1x16x256, b⟩] concatenates_S1x16x256_S1x16x256_S2x16x256_d0) : (⟨S1x16x256, .f32⟩ : BufTy).Contents (Elt F) → (⟨S1x16x256, .f32⟩ : BufTy).Contents (Elt F) → (⟨S2x16x256, .f32⟩ : BufTy).Contents (Elt F)),
    StableHlo.unary main_while1b_v36 main_while1b_v129 (broadcastInDim S1x16x1 ![1] bcast_S16_S1x16x1_1 : (⟨S16, .i1⟩ : BufTy).Contents (Elt F) → (⟨S1x16x1, .i1⟩ : BufTy).Contents (Elt F)) ]

/-- These operations touch device arrays only. -/
theorem d_x0_sub : (d_x0 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub .., StableHlo.unary_bufs_sub ..⟩

/-- None of these operations allocates. -/
theorem d_x0_fresh : (d_x0 : List (HloOp τ sig (Elt F))).Forall fun op => op.fresh = ∅ :=
  StableHlo.forall_fresh_of_map rfl

/-- The arrays that these operations write. -/
abbrev d_x0_W : List (Ref sig .tc) := [main_while1b_v123, main_while1b_v124, main_while1b_v125, main_while1b_v126, main_while1b_v127, main_while1b_v128, main_while1b_v129]

/-- They write nothing else. -/
theorem d_x0_keep (V : Valuation τ sig (Elt F)) {r : Ref sig .tc} (h : r ∉ d_x0_W) :
    after d_x0 V (Proc.devRef .tc r) = V (Proc.devRef .tc r) :=
  after_of_writes_sub d_x0 V (StableHlo.forall_writes_sub_of_map rfl) h

/-- Operations of one autoregressive trip, in their order. -/
abbrev d_c7 : List (HloOp τ sig (Elt F)) :=
  [ StableHlo.TRef.unary (.of main_while1b_v129 : StableHlo.TRef sig ⟨S1x16x1, .i1⟩) (.of main_while1b_call7_v0 : StableHlo.TRef sig ⟨S2x16x256, .i1⟩) (broadcastInDim S2x16x256 ![0, 1, 2] bcast_S1x16x1_S2x16x256_0_1_2),
    StableHlo.TRef.ternary (.of main_while1b_call7_v0 : StableHlo.TRef sig ⟨S2x16x256, .i1⟩) (.of main_while1b_v125 : StableHlo.TRef sig ⟨S2x16x256, .f32⟩) (.of main_v26_10 : StableHlo.TRef sig ⟨S2x16x256, .f32⟩) (.of main_while1b_v130 : StableHlo.TRef sig ⟨S2x16x256, .f32⟩) select ]

/-- These operations touch device arrays only. -/
theorem d_c7_sub : (d_c7 : List (HloOp τ sig (Elt F))).Forall fun op => op.bufs ⊆ StableHlo.tcRefs τ sig :=
  ⟨StableHlo.unary_bufs_sub .., StableHlo.ternary_bufs_sub ..⟩

/-- None of these operations allocates. -/
theorem d_c7_fresh : (d_c7 : List (HloOp τ sig (Elt F))).Forall fun op => op.fresh = ∅ :=
  StableHlo.forall_fresh_of_map rfl

/-- The arrays that these operations write. -/
abbrev d_c7_W : List (Ref sig .tc) := [main_while1b_call7_v0, main_while1b_v130]

/-- They write nothing else. -/
theorem d_c7_keep (V : Valuation τ sig (Elt F)) {r : Ref sig .tc} (h : r ∉ d_c7_W) :
    after d_c7 V (Proc.devRef .tc r) = V (Proc.devRef .tc r) :=
  after_of_writes_sub d_c7 V (StableHlo.forall_writes_sub_of_map rfl) h

/-- Operations of one autoregressive trip, in their order. -/
abbrev d_x1 : List (HloOp τ sig (Elt F)) :=
  [ StableHlo.unary main_while1b_v36 main_while1b_v131 (broadcastInDim S1x16x1 ![1] bcast_S16_S1x16x1_1 : (⟨S16, .i1⟩ : BufTy).Contents (Elt F) → (⟨S1x16x1, .i1⟩ : BufTy).Contents (Elt F)) ]

/-- These operations touch device arrays only. -/
theorem d_x1_sub : (d_x1 : List (HloOp τ sig (Elt F))).Forall fun op => op.bufs ⊆ StableHlo.tcRefs τ sig :=
  StableHlo.unary_bufs_sub ..

/-- None of these operations allocates. -/
theorem d_x1_fresh : (d_x1 : List (HloOp τ sig (Elt F))).Forall fun op => op.fresh = ∅ :=
  StableHlo.forall_fresh_of_map rfl

/-- The arrays that these operations write. -/
abbrev d_x1_W : List (Ref sig .tc) := [main_while1b_v131]

/-- They write nothing else. -/
theorem d_x1_keep (V : Valuation τ sig (Elt F)) {r : Ref sig .tc} (h : r ∉ d_x1_W) :
    after d_x1 V (Proc.devRef .tc r) = V (Proc.devRef .tc r) :=
  after_of_writes_sub d_x1 V (StableHlo.forall_writes_sub_of_map rfl) h

/-- Operations of one autoregressive trip, in their order. -/
abbrev d_c8 : List (HloOp τ sig (Elt F)) :=
  [ StableHlo.TRef.unary (.of main_while1b_v131 : StableHlo.TRef sig ⟨S1x16x1, .i1⟩) (.of main_while1b_call8_v0 : StableHlo.TRef sig ⟨S2x16x256, .i1⟩) (broadcastInDim S2x16x256 ![0, 1, 2] bcast_S1x16x1_S2x16x256_0_1_2),
    StableHlo.TRef.ternary (.of main_while1b_call8_v0 : StableHlo.TRef sig ⟨S2x16x256, .i1⟩) (.of main_while1b_v128 : StableHlo.TRef sig ⟨S2x16x256, .f32⟩) (.of main_v26_11 : StableHlo.TRef sig ⟨S2x16x256, .f32⟩) (.of main_while1b_v132 : StableHlo.TRef sig ⟨S2x16x256, .f32⟩) select ]

/-- These operations touch device arrays only. -/
theorem d_c8_sub : (d_c8 : List (HloOp τ sig (Elt F))).Forall fun op => op.bufs ⊆ StableHlo.tcRefs τ sig :=
  ⟨StableHlo.unary_bufs_sub .., StableHlo.ternary_bufs_sub ..⟩

/-- None of these operations allocates. -/
theorem d_c8_fresh : (d_c8 : List (HloOp τ sig (Elt F))).Forall fun op => op.fresh = ∅ :=
  StableHlo.forall_fresh_of_map rfl

/-- The arrays that these operations write. -/
abbrev d_c8_W : List (Ref sig .tc) := [main_while1b_call8_v0, main_while1b_v132]

/-- They write nothing else. -/
theorem d_c8_keep (V : Valuation τ sig (Elt F)) {r : Ref sig .tc} (h : r ∉ d_c8_W) :
    after d_c8 V (Proc.devRef .tc r) = V (Proc.devRef .tc r) :=
  after_of_writes_sub d_c8 V (StableHlo.forall_writes_sub_of_map rfl) h

/-- Operations of one autoregressive trip, in their order. -/
abbrev d_x2 : List (HloOp τ sig (Elt F)) :=
  [ StableHlo.unary main_while1b_v36 main_while1b_v133 (broadcastInDim S16x1 ![0] bcast_S16_S16x1_0 : (⟨S16, .i1⟩ : BufTy).Contents (Elt F) → (⟨S16x1, .i1⟩ : BufTy).Contents (Elt F)),
    StableHlo.nullary main_while1b_cst_35 (constant S_ .f32 0x00000000#32) ]

/-- These operations touch device arrays only. -/
theorem d_x2_sub : (d_x2 : List (HloOp τ sig (Elt F))).Forall fun op => op.bufs ⊆ StableHlo.tcRefs τ sig :=
  ⟨StableHlo.unary_bufs_sub .., StableHlo.nullary_bufs_sub ..⟩

/-- None of these operations allocates. -/
theorem d_x2_fresh : (d_x2 : List (HloOp τ sig (Elt F))).Forall fun op => op.fresh = ∅ :=
  StableHlo.forall_fresh_of_map rfl

/-- The arrays that these operations write. -/
abbrev d_x2_W : List (Ref sig .tc) := [main_while1b_v133, main_while1b_cst_35]

/-- They write nothing else. -/
theorem d_x2_keep (V : Valuation τ sig (Elt F)) {r : Ref sig .tc} (h : r ∉ d_x2_W) :
    after d_x2 V (Proc.devRef .tc r) = V (Proc.devRef .tc r) :=
  after_of_writes_sub d_x2 V (StableHlo.forall_writes_sub_of_map rfl) h

/-- Operations of one autoregressive trip, in their order. -/
abbrev d_c9 : List (HloOp τ sig (Elt F)) :=
  [ StableHlo.TRef.unary (.of main_while1b_cst_35 : StableHlo.TRef sig ⟨S_, .f32⟩) (.of main_while1b_call9_v0 : StableHlo.TRef sig ⟨S_, .f32⟩) id,
    StableHlo.TRef.unary (.of main_while1b_v133 : StableHlo.TRef sig ⟨S16x1, .i1⟩) (.of main_while1b_call9_v1 : StableHlo.TRef sig ⟨S16x256, .i1⟩) (broadcastInDim S16x256 ![0, 1] bcast_S16x1_S16x256_0_1),
    StableHlo.TRef.unary (.of main_while1b_call9_v0 : StableHlo.TRef sig ⟨S_, .f32⟩) (.of main_while1b_call9_v2 : StableHlo.TRef sig ⟨S16x256, .f32⟩) (broadcastInDim S16x256 ![] bcast_S_S16x256),
    StableHlo.TRef.ternary (.of main_while1b_call9_v1 : StableHlo.TRef sig ⟨S16x256, .i1⟩) (.of main_while1b_v122 : StableHlo.TRef sig ⟨S16x256, .f32⟩) (.of main_while1b_call9_v2 : StableHlo.TRef sig ⟨S16x256, .f32⟩) (.of main_while1b_v134 : StableHlo.TRef sig ⟨S16x256, .f32⟩) select ]

/-- These operations touch device arrays only. -/
theorem d_c9_sub : (d_c9 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩

/-- None of these operations allocates. -/
theorem d_c9_fresh : (d_c9 : List (HloOp τ sig (Elt F))).Forall fun op => op.fresh = ∅ :=
  StableHlo.forall_fresh_of_map rfl

/-- The arrays that these operations write. -/
abbrev d_c9_W : List (Ref sig .tc) := [main_while1b_call9_v0, main_while1b_call9_v1, main_while1b_call9_v2, main_while1b_v134]

/-- They write nothing else. -/
theorem d_c9_keep (V : Valuation τ sig (Elt F)) {r : Ref sig .tc} (h : r ∉ d_c9_W) :
    after d_c9 V (Proc.devRef .tc r) = V (Proc.devRef .tc r) :=
  after_of_writes_sub d_c9 V (StableHlo.forall_writes_sub_of_map rfl) h

/-- Operations of one autoregressive trip, in their order. -/
abbrev d_c10 : List (HloOp τ sig (Elt F)) :=
  [ StableHlo.TRef.unary (.of main_while1b_v134 : StableHlo.TRef sig ⟨S16x256, .f32⟩) (.of main_while1b_call10_v0 : StableHlo.TRef sig ⟨S1x16x256, .f32⟩) (broadcastInDim S1x16x256 ![1, 2] bcast_S16x256_S1x16x256_1_2),
    StableHlo.TRef.nullary (.of main_while1b_call10_c : StableHlo.TRef sig ⟨S_, .i32⟩) (constantI S_ 32 0#32),
    StableHlo.TRef.nullary (.of main_while1b_call10_c_0 : StableHlo.TRef sig ⟨S_, .i32⟩) (constantI S_ 32 0#32),
    StableHlo.TRef.binaryIndexed (.of main_v26_13 : StableHlo.TRef sig ⟨S64x16x256, .f32⟩) (.of main_while1b_call10_v0 : StableHlo.TRef sig ⟨S1x16x256, .f32⟩) ![(.of main_v26_9 : StableHlo.TRef sig ⟨S_, .i32⟩), (.of main_while1b_call10_c : StableHlo.TRef sig ⟨S_, .i32⟩), (.of main_while1b_call10_c_0 : StableHlo.TRef sig ⟨S_, .i32⟩)] (.of main_while1b_v135 : StableHlo.TRef sig ⟨S64x16x256, .f32⟩) (fun x u i => Host.dynamicUpdateSlice x u (fun k => (i k (Shape.Idx.first h_S_)).toInt) updateFits_S64x16x256_S1x16x256) ]

/-- These operations touch device arrays only. -/
theorem d_c10_sub : (d_c10 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

/-- None of these operations allocates. -/
theorem d_c10_fresh : (d_c10 : List (HloOp τ sig (Elt F))).Forall fun op => op.fresh = ∅ :=
  StableHlo.forall_fresh_of_map rfl

/-- The arrays that these operations write. -/
abbrev d_c10_W : List (Ref sig .tc) := [main_while1b_call10_v0, main_while1b_call10_c, main_while1b_call10_c_0, main_while1b_v135]

/-- They write nothing else. -/
theorem d_c10_keep (V : Valuation τ sig (Elt F)) {r : Ref sig .tc} (h : r ∉ d_c10_W) :
    after d_c10 V (Proc.devRef .tc r) = V (Proc.devRef .tc r) :=
  after_of_writes_sub d_c10 V (StableHlo.forall_writes_sub_of_map rfl) h

/-- Operations of one autoregressive trip, in their order. -/
abbrev d_x3 : List (HloOp τ sig (Elt F)) :=
  [ StableHlo.nullary main_while1b_c_36 (constantI S_ 32 1#32),
    StableHlo.binary main_v26_9 main_while1b_c_36 main_while1b_v136 (addi : (⟨S_, .i32⟩ : BufTy).Contents (Elt F) → (⟨S_, .i32⟩ : BufTy).Contents (Elt F) → (⟨S_, .i32⟩ : BufTy).Contents (Elt F)),
    StableHlo.unary main_while1b_v136 main_v26_9 id,
    StableHlo.unary main_while1b_v130 main_v26_10 id,
    StableHlo.unary main_while1b_v132 main_v26_11 id,
    StableHlo.unary main_while1b_v134 main_v26_12 id,
    StableHlo.unary main_while1b_v135 main_v26_13 id ]

/-- These operations touch device arrays only. -/
theorem d_x3_sub : (d_x3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub ..⟩

/-- None of these operations allocates. -/
theorem d_x3_fresh : (d_x3 : List (HloOp τ sig (Elt F))).Forall fun op => op.fresh = ∅ :=
  StableHlo.forall_fresh_of_map rfl

/-- The arrays that these operations write. -/
abbrev d_x3_W : List (Ref sig .tc) := [main_while1b_c_36, main_while1b_v136, main_v26_9, main_v26_10, main_v26_11, main_v26_12, main_v26_13]

/-- They write nothing else. -/
theorem d_x3_keep (V : Valuation τ sig (Elt F)) {r : Ref sig .tc} (h : r ∉ d_x3_W) :
    after d_x3 V (Proc.devRef .tc r) = V (Proc.devRef .tc r) :=
  after_of_writes_sub d_x3 V (StableHlo.forall_writes_sub_of_map rfl) h

/-- Operations of the main program, in their order. -/
abbrev m_x0 : List (HloOp τ sig (Elt F)) :=
  [ StableHlo.nullary main_cst (constant S_ .f32 0x00000000#32),
    StableHlo.unary main_cst main_v0 (broadcastInDim S2x16x256 ![] bcast_S_S2x16x256 : (⟨S_, .f32⟩ : BufTy).Contents (Elt F) → (⟨S2x16x256, .f32⟩ : BufTy).Contents (Elt F)),
    StableHlo.nullary main_cst_0 (constant S_ .f32 0x00000000#32),
    StableHlo.unary main_cst_0 main_v1 (broadcastInDim S2x16x256 ![] bcast_S_S2x16x256 : (⟨S_, .f32⟩ : BufTy).Contents (Elt F) → (⟨S2x16x256, .f32⟩ : BufTy).Contents (Elt F)),
    StableHlo.unary main_arg0 main_v2 ((transpose S512x16x256 [1, 0, 2] · transposes_S16x512x256_S512x16x256_1_0_2) : (⟨S16x512x256, .f32⟩ : BufTy).Contents (Elt F) → (⟨S512x16x256, .f32⟩ : BufTy).Contents (Elt F)),
    StableHlo.nullary main_v3 (iotaInDim S512 32 0),
    StableHlo.nullary main_cst_1 (constant S_ .f32 0x00000000#32),
    StableHlo.unary main_cst_1 main_v4 (broadcastInDim S512x16x256 ![] bcast_S_S512x16x256 : (⟨S_, .f32⟩ : BufTy).Contents (Elt F) → (⟨S512x16x256, .f32⟩ : BufTy).Contents (Elt F)),
    StableHlo.nullary main_c (constantI S_ 32 0#32),
    StableHlo.unary main_v2 main_v5_0 id,
    StableHlo.unary main_v3 main_v5_1 id,
    StableHlo.unary main_arg4 main_v5_2 id,
    StableHlo.unary main_arg5 main_v5_3 id,
    StableHlo.unary main_arg6 main_v5_4 id,
    StableHlo.unary main_arg7 main_v5_5 id,
    StableHlo.unary main_arg8 main_v5_6 id,
    StableHlo.unary main_arg9 main_v5_7 id,
    StableHlo.unary main_arg10 main_v5_8 id,
    StableHlo.unary main_arg11 main_v5_9 id,
    StableHlo.unary main_arg1 main_v5_10 id,
    StableHlo.unary main_c main_v5_11 id,
    StableHlo.unary main_v0 main_v5_12 id,
    StableHlo.unary main_v1 main_v5_13 id,
    StableHlo.unary main_v4 main_v5_14 id ]

/-- These operations touch device arrays only. -/
theorem m_x0_sub : (m_x0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.nullary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- None of these operations allocates. -/
theorem m_x0_fresh : (m_x0 : List (HloOp τ sig (Elt F))).Forall fun op => op.fresh = ∅ :=
  StableHlo.forall_fresh_of_map rfl

/-- The arrays that these operations write. -/
abbrev m_x0_W : List (Ref sig .tc) := [main_cst, main_v0, main_cst_0, main_v1, main_v2, main_v3, main_cst_1, main_v4, main_c, main_v5_0, main_v5_1, main_v5_2, main_v5_3, main_v5_4, main_v5_5, main_v5_6, main_v5_7, main_v5_8, main_v5_9, main_v5_10, main_v5_11, main_v5_12, main_v5_13, main_v5_14]

/-- They write nothing else. -/
theorem m_x0_keep (V : Valuation τ sig (Elt F)) {r : Ref sig .tc} (h : r ∉ m_x0_W) :
    after m_x0 V (Proc.devRef .tc r) = V (Proc.devRef .tc r) :=
  after_of_writes_sub m_x0 V (StableHlo.forall_writes_sub_of_map rfl) h

/-- Operations of the main program, in their order. -/
abbrev m_seed : List (HloOp τ sig (Elt F)) :=
  [ StableHlo.unary main_v5_14 main_v6 ((transpose S16x512x256 [1, 0, 2] · transposes_S512x16x256_S16x512x256_1_0_2) : (⟨S512x16x256, .f32⟩ : BufTy).Contents (Elt F) → (⟨S16x512x256, .f32⟩ : BufTy).Contents (Elt F)),
    StableHlo.nullary main_v7 (iotaInDim S16 32 0),
    StableHlo.nullary main_c_2 (constantI S_ 32 1#32),
    StableHlo.unary main_c_2 main_v8 (broadcastInDim S16 ![] bcast_S_S16 : (⟨S_, .i32⟩ : BufTy).Contents (Elt F) → (⟨S16, .i32⟩ : BufTy).Contents (Elt F)),
    StableHlo.binary main_arg1 main_v8 main_v9 (subi : (⟨S16, .i32⟩ : BufTy).Contents (Elt F) → (⟨S16, .i32⟩ : BufTy).Contents (Elt F) → (⟨S16, .i32⟩ : BufTy).Contents (Elt F)),
    StableHlo.nullary main_c_3 (constantI S_ 32 0#32),
    StableHlo.unary main_c_3 main_v10 (broadcastInDim S16 ![] bcast_S_S16 : (⟨S_, .i32⟩ : BufTy).Contents (Elt F) → (⟨S16, .i32⟩ : BufTy).Contents (Elt F)),
    StableHlo.binary main_v7 main_v10 main_v11 (cmpi .slt : (⟨S16, .i32⟩ : BufTy).Contents (Elt F) → (⟨S16, .i32⟩ : BufTy).Contents (Elt F) → (⟨S16, .i1⟩ : BufTy).Contents (Elt F)),
    StableHlo.nullary main_c_4 (constantI S_ 32 16#32),
    StableHlo.unary main_c_4 main_v12 (broadcastInDim S16 ![] bcast_S_S16 : (⟨S_, .i32⟩ : BufTy).Contents (Elt F) → (⟨S16, .i32⟩ : BufTy).Contents (Elt F)),
    StableHlo.binary main_v7 main_v12 main_v13 (addi : (⟨S16, .i32⟩ : BufTy).Contents (Elt F) → (⟨S16, .i32⟩ : BufTy).Contents (Elt F) → (⟨S16, .i32⟩ : BufTy).Contents (Elt F)),
    StableHlo.ternary main_v11 main_v13 main_v7 main_v14 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.nullary main_c_5 (constantI S_ 32 0#32),
    StableHlo.unary main_c_5 main_v15 (broadcastInDim S16 ![] bcast_S_S16 : (⟨S_, .i32⟩ : BufTy).Contents (Elt F) → (⟨S16, .i32⟩ : BufTy).Contents (Elt F)),
    StableHlo.binary main_v9 main_v15 main_v16 (cmpi .slt : (⟨S16, .i32⟩ : BufTy).Contents (Elt F) → (⟨S16, .i32⟩ : BufTy).Contents (Elt F) → (⟨S16, .i1⟩ : BufTy).Contents (Elt F)),
    StableHlo.nullary main_c_6 (constantI S_ 32 512#32),
    StableHlo.unary main_c_6 main_v17 (broadcastInDim S16 ![] bcast_S_S16 : (⟨S_, .i32⟩ : BufTy).Contents (Elt F) → (⟨S16, .i32⟩ : BufTy).Contents (Elt F)),
    StableHlo.binary main_v9 main_v17 main_v18 (addi : (⟨S16, .i32⟩ : BufTy).Contents (Elt F) → (⟨S16, .i32⟩ : BufTy).Contents (Elt F) → (⟨S16, .i32⟩ : BufTy).Contents (Elt F)),
    StableHlo.ternary main_v16 main_v18 main_v9 main_v19 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.unary main_v14 main_v20 (broadcastInDim S16x1 ![0] bcast_S16_S16x1_0 : (⟨S16, .i32⟩ : BufTy).Contents (Elt F) → (⟨S16x1, .i32⟩ : BufTy).Contents (Elt F)),
    StableHlo.unary main_v19 main_v21 (broadcastInDim S16x1 ![0] bcast_S16_S16x1_0 : (⟨S16, .i32⟩ : BufTy).Contents (Elt F) → (⟨S16x1, .i32⟩ : BufTy).Contents (Elt F)),
    StableHlo.binary main_v20 main_v21 main_v22 ((fun a b => concatenate S16x2 1 [⟨S16x1, a⟩, ⟨S16x1, b⟩] concatenates_S16x1_S16x1_S16x2_d1) : (⟨S16x1, .i32⟩ : BufTy).Contents (Elt F) → (⟨S16x1, .i32⟩ : BufTy).Contents (Elt F) → (⟨S16x2, .i32⟩ : BufTy).Contents (Elt F)),
    StableHlo.binary main_v6 main_v22 main_v23 ((fun x i => Host.gather gather_S16x512x256_S16x2_S16x256_1_01_n_n_01_1_11256 x i) : (⟨S16x512x256, .f32⟩ : BufTy).Contents (Elt F) → (⟨S16x2, .i32⟩ : BufTy).Contents (Elt F) → (⟨S16x256, .f32⟩ : BufTy).Contents (Elt F)) ]

/-- These operations touch device arrays only. -/
theorem m_seed_sub : (m_seed : List (HloOp τ sig (Elt F))).Forall fun op => op.bufs ⊆ StableHlo.tcRefs τ sig :=
  ⟨StableHlo.unary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub ..⟩

/-- None of these operations allocates. -/
theorem m_seed_fresh : (m_seed : List (HloOp τ sig (Elt F))).Forall fun op => op.fresh = ∅ :=
  StableHlo.forall_fresh_of_map rfl

/-- The arrays that these operations write. -/
abbrev m_seed_W : List (Ref sig .tc) := [main_v6, main_v7, main_c_2, main_v8, main_v9, main_c_3, main_v10, main_v11, main_c_4, main_v12, main_v13, main_v14, main_c_5, main_v15, main_v16, main_c_6, main_v17, main_v18, main_v19, main_v20, main_v21, main_v22, main_v23]

/-- They write nothing else. -/
theorem m_seed_keep (V : Valuation τ sig (Elt F)) {r : Ref sig .tc} (h : r ∉ m_seed_W) :
    after m_seed V (Proc.devRef .tc r) = V (Proc.devRef .tc r) :=
  after_of_writes_sub m_seed V (StableHlo.forall_writes_sub_of_map rfl) h

/-- Operations of the main program, in their order. -/
abbrev m_x1 : List (HloOp τ sig (Elt F)) :=
  [ StableHlo.unary main_arg3 main_v24 ((transpose S64x16 [1, 0] · transposes_S16x64_S64x16_1_0) : (⟨S16x64, .i1⟩ : BufTy).Contents (Elt F) → (⟨S64x16, .i1⟩ : BufTy).Contents (Elt F)),
    StableHlo.nullary main_cst_7 (constant S_ .f32 0x00000000#32),
    StableHlo.unary main_cst_7 main_v25 (broadcastInDim S64x16x256 ![] bcast_S_S64x16x256 : (⟨S_, .f32⟩ : BufTy).Contents (Elt F) → (⟨S64x16x256, .f32⟩ : BufTy).Contents (Elt F)),
    StableHlo.nullary main_c_8 (constantI S_ 32 0#32),
    StableHlo.unary main_v24 main_v26_0 id,
    StableHlo.unary main_arg4 main_v26_1 id,
    StableHlo.unary main_arg5 main_v26_2 id,
    StableHlo.unary main_arg6 main_v26_3 id,
    StableHlo.unary main_arg7 main_v26_4 id,
    StableHlo.unary main_arg8 main_v26_5 id,
    StableHlo.unary main_arg9 main_v26_6 id,
    StableHlo.unary main_arg10 main_v26_7 id,
    StableHlo.unary main_arg11 main_v26_8 id,
    StableHlo.unary main_c_8 main_v26_9 id,
    StableHlo.unary main_v5_12 main_v26_10 id,
    StableHlo.unary main_v5_13 main_v26_11 id,
    StableHlo.unary main_v23 main_v26_12 id,
    StableHlo.unary main_v25 main_v26_13 id ]

/-- These operations touch device arrays only. -/
theorem m_x1_sub : (m_x1 : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- None of these operations allocates. -/
theorem m_x1_fresh : (m_x1 : List (HloOp τ sig (Elt F))).Forall fun op => op.fresh = ∅ :=
  StableHlo.forall_fresh_of_map rfl

/-- The arrays that these operations write. -/
abbrev m_x1_W : List (Ref sig .tc) := [main_v24, main_cst_7, main_v25, main_c_8, main_v26_0, main_v26_1, main_v26_2, main_v26_3, main_v26_4, main_v26_5, main_v26_6, main_v26_7, main_v26_8, main_v26_9, main_v26_10, main_v26_11, main_v26_12, main_v26_13]

/-- They write nothing else. -/
theorem m_x1_keep (V : Valuation τ sig (Elt F)) {r : Ref sig .tc} (h : r ∉ m_x1_W) :
    after m_x1 V (Proc.devRef .tc r) = V (Proc.devRef .tc r) :=
  after_of_writes_sub m_x1 V (StableHlo.forall_writes_sub_of_map rfl) h

/-- Operations of the main program, in their order. -/
abbrev m_x2 : List (HloOp τ sig (Elt F)) :=
  [ StableHlo.unary main_v26_13 main_v27 ((transpose S16x64x256 [1, 0, 2] · transposes_S64x16x256_S16x64x256_1_0_2) : (⟨S64x16x256, .f32⟩ : BufTy).Contents (Elt F) → (⟨S16x64x256, .f32⟩ : BufTy).Contents (Elt F)),
    StableHlo.nullary main_v28 (iotaInDim S64 32 0),
    StableHlo.unary main_v28 main_v29 (broadcastInDim S1x64 ![1] bcast_S64_S1x64_1 : (⟨S64, .i32⟩ : BufTy).Contents (Elt F) → (⟨S1x64, .i32⟩ : BufTy).Contents (Elt F)),
    StableHlo.unary main_arg2 main_v30 (broadcastInDim S16x1 ![0] bcast_S16_S16x1_0 : (⟨S16, .i32⟩ : BufTy).Contents (Elt F) → (⟨S16x1, .i32⟩ : BufTy).Contents (Elt F)),
    StableHlo.unary main_v29 main_v31 (broadcastInDim S16x64 ![0, 1] bcast_S1x64_S16x64_0_1 : (⟨S1x64, .i32⟩ : BufTy).Contents (Elt F) → (⟨S16x64, .i32⟩ : BufTy).Contents (Elt F)),
    StableHlo.unary main_v30 main_v32 (broadcastInDim S16x64 ![0, 1] bcast_S16x1_S16x64_0_1 : (⟨S16x1, .i32⟩ : BufTy).Contents (Elt F) → (⟨S16x64, .i32⟩ : BufTy).Contents (Elt F)),
    StableHlo.binary main_v31 main_v32 main_v33 (cmpi .slt : (⟨S16x64, .i32⟩ : BufTy).Contents (Elt F) → (⟨S16x64, .i32⟩ : BufTy).Contents (Elt F) → (⟨S16x64, .i1⟩ : BufTy).Contents (Elt F)),
    StableHlo.unary main_v33 main_v34 (broadcastInDim S16x64x1 ![0, 1] bcast_S16x64_S16x64x1_0_1 : (⟨S16x64, .i1⟩ : BufTy).Contents (Elt F) → (⟨S16x64x1, .i1⟩ : BufTy).Contents (Elt F)),
    StableHlo.nullary main_cst_9 (constant S_ .f32 0x00000000#32) ]

/-- These operations touch device arrays only. -/
theorem m_x2_sub : (m_x2 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub ..⟩

/-- None of these operations allocates. -/
theorem m_x2_fresh : (m_x2 : List (HloOp τ sig (Elt F))).Forall fun op => op.fresh = ∅ :=
  StableHlo.forall_fresh_of_map rfl

/-- The arrays that these operations write. -/
abbrev m_x2_W : List (Ref sig .tc) := [main_v27, main_v28, main_v29, main_v30, main_v31, main_v32, main_v33, main_v34, main_cst_9]

/-- They write nothing else. -/
theorem m_x2_keep (V : Valuation τ sig (Elt F)) {r : Ref sig .tc} (h : r ∉ m_x2_W) :
    after m_x2 V (Proc.devRef .tc r) = V (Proc.devRef .tc r) :=
  after_of_writes_sub m_x2 V (StableHlo.forall_writes_sub_of_map rfl) h

/-- Operations of the main program, in their order. -/
abbrev m_c11 : List (HloOp τ sig (Elt F)) :=
  [ StableHlo.TRef.unary (.of main_cst_9 : StableHlo.TRef sig ⟨S_, .f32⟩) (.of main_call11_v0 : StableHlo.TRef sig ⟨S_, .f32⟩) id,
    StableHlo.TRef.unary (.of main_v34 : StableHlo.TRef sig ⟨S16x64x1, .i1⟩) (.of main_call11_v1 : StableHlo.TRef sig ⟨S16x64x256, .i1⟩) (broadcastInDim S16x64x256 ![0, 1, 2] bcast_S16x64x1_S16x64x256_0_1_2),
    StableHlo.TRef.unary (.of main_call11_v0 : StableHlo.TRef sig ⟨S_, .f32⟩) (.of main_call11_v2 : StableHlo.TRef sig ⟨S16x64x256, .f32⟩) (broadcastInDim S16x64x256 ![] bcast_S_S16x64x256),
    StableHlo.TRef.ternary (.of main_call11_v1 : StableHlo.TRef sig ⟨S16x64x256, .i1⟩) (.of main_v27 : StableHlo.TRef sig ⟨S16x64x256, .f32⟩) (.of main_call11_v2 : StableHlo.TRef sig ⟨S16x64x256, .f32⟩) (.of main_v35 : StableHlo.TRef sig ⟨S16x64x256, .f32⟩) select ]

/-- These operations touch device arrays only. -/
theorem m_c11_sub : (m_c11 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩

/-- None of these operations allocates. -/
theorem m_c11_fresh : (m_c11 : List (HloOp τ sig (Elt F))).Forall fun op => op.fresh = ∅ :=
  StableHlo.forall_fresh_of_map rfl

/-- The arrays that these operations write. -/
abbrev m_c11_W : List (Ref sig .tc) := [main_call11_v0, main_call11_v1, main_call11_v2, main_v35]

/-- They write nothing else. -/
theorem m_c11_keep (V : Valuation τ sig (Elt F)) {r : Ref sig .tc} (h : r ∉ m_c11_W) :
    after m_c11 V (Proc.devRef .tc r) = V (Proc.devRef .tc r) :=
  after_of_writes_sub m_c11 V (StableHlo.forall_writes_sub_of_map rfl) h

/-- These stretches, in order. -/
abbrev teach : List (List (HloOp τ sig (Elt F))) := [t_c0, t_c1, t_g0, t_s0, t_g1, t_s1, t_x0, t_c2, t_x1, t_c3, t_x2, t_c4, t_c5, t_x3]

/-- They are plain host operations. -/
theorem teach_plain : Plain (teach (F := F)) := (.cons t_c0_sub (hf := List.forall_iff_forall_mem.mp t_c0_fresh) (.cons t_c1_sub (hf := List.forall_iff_forall_mem.mp t_c1_fresh) (.cons t_g0_sub (hf := List.forall_iff_forall_mem.mp t_g0_fresh) (.cons t_s0_sub (hf := List.forall_iff_forall_mem.mp t_s0_fresh) (.cons t_g1_sub (hf := List.forall_iff_forall_mem.mp t_g1_fresh) (.cons t_s1_sub (hf := List.forall_iff_forall_mem.mp t_s1_fresh) (.cons t_x0_sub (hf := List.forall_iff_forall_mem.mp t_x0_fresh) (.cons t_c2_sub (hf := List.forall_iff_forall_mem.mp t_c2_fresh) (.cons t_x1_sub (hf := List.forall_iff_forall_mem.mp t_x1_fresh) (.cons t_c3_sub (hf := List.forall_iff_forall_mem.mp t_c3_fresh) (.cons t_x2_sub (hf := List.forall_iff_forall_mem.mp t_x2_fresh) (.cons t_c4_sub (hf := List.forall_iff_forall_mem.mp t_c4_fresh) (.cons t_c5_sub (hf := List.forall_iff_forall_mem.mp t_c5_fresh) (.cons t_x3_sub (hf := List.forall_iff_forall_mem.mp t_x3_fresh) .nil))))))))))))))

/-- These stretches, in order. -/
abbrev deco : List (List (HloOp τ sig (Elt F))) := [d_c6, d_g0, d_s0, d_g1, d_s1, d_x0, d_c7, d_x1, d_c8, d_x2, d_c9, d_c10, d_x3]

/-- They are plain host operations. -/
theorem deco_plain : Plain (deco (F := F)) := (.cons d_c6_sub (hf := List.forall_iff_forall_mem.mp d_c6_fresh) (.cons d_g0_sub (hf := List.forall_iff_forall_mem.mp d_g0_fresh) (.cons d_s0_sub (hf := List.forall_iff_forall_mem.mp d_s0_fresh) (.cons d_g1_sub (hf := List.forall_iff_forall_mem.mp d_g1_fresh) (.cons d_s1_sub (hf := List.forall_iff_forall_mem.mp d_s1_fresh) (.cons d_x0_sub (hf := List.forall_iff_forall_mem.mp d_x0_fresh) (.cons d_c7_sub (hf := List.forall_iff_forall_mem.mp d_c7_fresh) (.cons d_x1_sub (hf := List.forall_iff_forall_mem.mp d_x1_fresh) (.cons d_c8_sub (hf := List.forall_iff_forall_mem.mp d_c8_fresh) (.cons d_x2_sub (hf := List.forall_iff_forall_mem.mp d_x2_fresh) (.cons d_c9_sub (hf := List.forall_iff_forall_mem.mp d_c9_fresh) (.cons d_c10_sub (hf := List.forall_iff_forall_mem.mp d_c10_fresh) (.cons d_x3_sub (hf := List.forall_iff_forall_mem.mp d_x3_fresh) .nil)))))))))))))

/-- These stretches, in order. -/
abbrev before : List (List (HloOp τ sig (Elt F))) := [m_x0]

/-- They are plain host operations. -/
theorem before_plain : Plain (before (F := F)) := (.cons m_x0_sub (hf := List.forall_iff_forall_mem.mp m_x0_fresh) .nil)

/-- These stretches, in order. -/
abbrev between : List (List (HloOp τ sig (Elt F))) := [m_seed, m_x1]

/-- They are plain host operations. -/
theorem between_plain : Plain (between (F := F)) := (.cons m_seed_sub (hf := List.forall_iff_forall_mem.mp m_seed_fresh) (.cons m_x1_sub (hf := List.forall_iff_forall_mem.mp m_x1_fresh) .nil))

/-- These stretches, in order. -/
abbrev behind : List (List (HloOp τ sig (Elt F))) := [m_x2, m_c11]

/-- They are plain host operations. -/
theorem behind_plain : Plain (behind (F := F)) := (.cons m_x2_sub (hf := List.forall_iff_forall_mem.mp m_x2_fresh) (.cons m_c11_sub (hf := List.forall_iff_forall_mem.mp m_c11_fresh) .nil))

/-- Operations of the loop's test. -/
abbrev t_cond : List (HloOp τ sig (Elt F)) :=
  [ StableHlo.nullary main_while0c_c_24 (constantI S_ 32 512#32),
    StableHlo.binary main_v5_11 main_while0c_c_24 main_while0c_v36 (cmpi .slt : (⟨S_, .i32⟩ : BufTy).Contents (Elt F) → (⟨S_, .i32⟩ : BufTy).Contents (Elt F) → (⟨S_, .i1⟩ : BufTy).Contents (Elt F)) ]

/-- These operations touch device arrays only. -/
theorem t_cond_sub : (t_cond : List (HloOp τ sig (Elt F))).Forall fun op => op.bufs ⊆ StableHlo.tcRefs τ sig :=
  ⟨StableHlo.nullary_bufs_sub .., StableHlo.binary_bufs_sub ..⟩

/-- None of these operations allocates. -/
theorem t_cond_fresh : (t_cond : List (HloOp τ sig (Elt F))).Forall fun op => op.fresh = ∅ :=
  StableHlo.forall_fresh_of_map rfl

/-- The arrays that these operations write. -/
abbrev t_cond_W : List (Ref sig .tc) := [main_while0c_c_24, main_while0c_v36]

/-- They write nothing else. -/
theorem t_cond_keep (V : Valuation τ sig (Elt F)) {r : Ref sig .tc} (h : r ∉ t_cond_W) :
    after t_cond V (Proc.devRef .tc r) = V (Proc.devRef .tc r) :=
  after_of_writes_sub t_cond V (StableHlo.forall_writes_sub_of_map rfl) h

/-- Operations of the loop's test. -/
abbrev d_cond : List (HloOp τ sig (Elt F)) :=
  [ StableHlo.nullary main_while1c_c_23 (constantI S_ 32 64#32),
    StableHlo.binary main_v26_9 main_while1c_c_23 main_while1c_v36 (cmpi .slt : (⟨S_, .i32⟩ : BufTy).Contents (Elt F) → (⟨S_, .i32⟩ : BufTy).Contents (Elt F) → (⟨S_, .i1⟩ : BufTy).Contents (Elt F)) ]

/-- These operations touch device arrays only. -/
theorem d_cond_sub : (d_cond : List (HloOp τ sig (Elt F))).Forall fun op => op.bufs ⊆ StableHlo.tcRefs τ sig :=
  ⟨StableHlo.nullary_bufs_sub .., StableHlo.binary_bufs_sub ..⟩

/-- None of these operations allocates. -/
theorem d_cond_fresh : (d_cond : List (HloOp τ sig (Elt F))).Forall fun op => op.fresh = ∅ :=
  StableHlo.forall_fresh_of_map rfl

/-- The arrays that these operations write. -/
abbrev d_cond_W : List (Ref sig .tc) := [main_while1c_c_23, main_while1c_v36]

/-- They write nothing else. -/
theorem d_cond_keep (V : Valuation τ sig (Elt F)) {r : Ref sig .tc} (h : r ∉ d_cond_W) :
    after d_cond V (Proc.devRef .tc r) = V (Proc.devRef .tc r) :=
  after_of_writes_sub d_cond V (StableHlo.forall_writes_sub_of_map rfl) h

/-- One teacher-forced trip is its stretches in order. -/
theorem teach_chain : main_while0_body (F := F) = (Pipeline.chain
  [ StableHlo.seq t_c0,
    StableHlo.seq t_c1,
    StableHlo.seq t_g0,
    StableHlo.seq t_s0,
    StableHlo.seq t_g1,
    StableHlo.seq t_s1,
    StableHlo.seq t_x0,
    StableHlo.seq t_c2,
    StableHlo.seq t_x1,
    StableHlo.seq t_c3,
    StableHlo.seq t_x2,
    StableHlo.seq t_c4,
    StableHlo.seq t_c5,
    StableHlo.seq t_x3 ] : (Prog (TpuEff nD τ sig (Elt F) (HostLoop.Sig (Pipeline.Sig Λ₀ (Fin 0) fun p => (pcfgs (F := F) p).Adm) 2) .tc) PUnit)) := by
  rewrite [Pipeline.chain_cons, Pipeline.chain_cons, StableHlo.chain_seq_cons, StableHlo.chain_seq_cons, StableHlo.chain_seq_cons, StableHlo.chain_seq_cons, StableHlo.chain_seq_cons, Pipeline.chain_cons, StableHlo.chain_seq_cons, Pipeline.chain_cons, StableHlo.chain_seq_cons, Pipeline.chain_cons, Pipeline.chain_cons, StableHlo.chain_seq_cons]
  chain_rfl

/-- One autoregressive trip is its stretches in order. -/
theorem deco_chain : main_while1_body (F := F) = (Pipeline.chain
  [ StableHlo.seq d_c6,
    StableHlo.seq d_g0,
    StableHlo.seq d_s0,
    StableHlo.seq d_g1,
    StableHlo.seq d_s1,
    StableHlo.seq d_x0,
    StableHlo.seq d_c7,
    StableHlo.seq d_x1,
    StableHlo.seq d_c8,
    StableHlo.seq d_x2,
    StableHlo.seq d_c9,
    StableHlo.seq d_c10,
    StableHlo.seq d_x3 ] : (Prog (TpuEff nD τ sig (Elt F) (HostLoop.Sig (Pipeline.Sig Λ₀ (Fin 0) fun p => (pcfgs (F := F) p).Adm) 2) .tc) PUnit)) := by
  rewrite [Pipeline.chain_cons, StableHlo.chain_seq_cons, StableHlo.chain_seq_cons, StableHlo.chain_seq_cons, StableHlo.chain_seq_cons, StableHlo.chain_seq_cons, Pipeline.chain_cons, StableHlo.chain_seq_cons, Pipeline.chain_cons, StableHlo.chain_seq_cons, Pipeline.chain_cons, Pipeline.chain_cons, StableHlo.chain_seq_cons]
  chain_rfl

/-- The main program is its stretches and its two loops in order. -/
theorem main_chain (c : Dev nD) : main (F := F) c = (Pipeline.chain
  [ StableHlo.seq m_x0,
    HostLoop.enter 0,
    StableHlo.seq m_seed,
    StableHlo.seq m_x1,
    HostLoop.enter 1,
    StableHlo.seq m_x2,
    StableHlo.seq m_c11 ] : (Prog (TpuEff nD τ sig (Elt F) (HostLoop.Sig (Pipeline.Sig Λ₀ (Fin 0) fun p => (pcfgs (F := F) p).Adm) 2) .tc) PUnit)) := by
  rewrite [StableHlo.chain_seq_cons, Pipeline.chain_cons, StableHlo.chain_seq_cons, StableHlo.chain_seq_cons, Pipeline.chain_cons, StableHlo.chain_seq_cons, Pipeline.chain_cons]
  chain_rfl

end Cert.ReferenceIdeal.Lstm
-- ==== Proof.RefRun.lean ====
module

public import proofs.«01_k».proof.Proof.RefOps
public import Idealize.ShloMosaic.Lib.Scf.ExitTest
public import Idealize.ShloMosaic.Lib.Scf.Counter

@[expose] public section

set_option maxRecDepth 8192

noncomputable section

/-! The run of the reference: stretches of host operations, the teacher-forced loop, more stretches, the
    autoregressive loop, and the last stretches. -/

namespace Cert.ReferenceIdeal.Lstm

open Cert.ReferenceIdeal Cert.ReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs sub_ucRefs)

variable {F : FTy → Type} [FloatOps F]

/-- The reference launches no kernel: nothing is admitted. -/
abbrev noAdm : (p : Fin 0) → (pcfgs (F := F) p).Adm := fun p => p.elim0
/-- No ticket is handed out. -/
abbrev noTick : Fin 0 → Ticket (Ix := Unit) (Name := ℕ) (U := Option PUnit) (Lvl := ℕ) (nD := nD) (τ := τ) (pcfgs (F := F)) noAdm :=
  fun j => j.elim0
/-- No semaphore is spoken of. -/
abbrev noSem : GSem nD τ sig → Finset Unit := fun _ => ∅
/-- No level is given. -/
abbrev noLevel : GSem nD τ sig → Unit → ℕ := fun _ _ => 0
/-- What rides beside the arrays: the core owes nothing. -/
abbrev Rest (c : Dev nD) : sProp (MT nD τ sig Unit (Elt F) ℕ (Option PUnit) ℕ) :=
  iprop(∃ W, owes (c : Thread nD τ) (0 : CellTallies nD τ sig Unit) W)

/-! ## The two counters -/

/-- One teacher-forced trip adds one to its counter. -/
theorem t_ctr_step (V : Valuation τ sig (Elt F)) :
    afterL teach V (Proc.devRef .tc main_v5_11) = addi (V (Proc.devRef .tc main_v5_11)) (constantI S_ 32 1#32) := by
  rw [afterL_cons, afterL_cons, afterL_cons, afterL_cons, afterL_cons, afterL_cons, afterL_cons, afterL_cons, afterL_cons, afterL_cons, afterL_cons, afterL_cons, afterL_cons, afterL_cons, afterL_nil]
  have h : ∀ U : Valuation τ sig (Elt F), after t_x3 U (Proc.devRef .tc main_v5_11) = addi (U (Proc.devRef .tc main_v5_11)) (constantI S_ 32 1#32) := by
    intro U
    after_results
    rfl
  rw [h, t_c5_keep _ (r := main_v5_11) (by decide), t_c4_keep _ (r := main_v5_11) (by decide), t_x2_keep _ (r := main_v5_11) (by decide), t_c3_keep _ (r := main_v5_11) (by decide), t_x1_keep _ (r := main_v5_11) (by decide), t_c2_keep _ (r := main_v5_11) (by decide), t_x0_keep _ (r := main_v5_11) (by decide), t_s1_keep _ (r := main_v5_11) (by decide), t_g1_keep _ (r := main_v5_11) (by decide), t_s0_keep _ (r := main_v5_11) (by decide), t_g0_keep _ (r := main_v5_11) (by decide), t_c1_keep _ (r := main_v5_11) (by decide), t_c0_keep _ (r := main_v5_11) (by decide)]

/-- One autoregressive trip adds one to its counter. -/
theorem d_ctr_step (V : Valuation τ sig (Elt F)) :
    afterL deco V (Proc.devRef .tc main_v26_9) = addi (V (Proc.devRef .tc main_v26_9)) (constantI S_ 32 1#32) := by
  rw [afterL_cons, afterL_cons, afterL_cons, afterL_cons, afterL_cons, afterL_cons, afterL_cons, afterL_cons, afterL_cons, afterL_cons, afterL_cons, afterL_cons, afterL_cons, afterL_nil]
  have h : ∀ U : Valuation τ sig (Elt F), after d_x3 U (Proc.devRef .tc main_v26_9) = addi (U (Proc.devRef .tc main_v26_9)) (constantI S_ 32 1#32) := by
    intro U
    after_results
    rfl
  rw [h, d_c10_keep _ (r := main_v26_9) (by decide), d_c9_keep _ (r := main_v26_9) (by decide), d_x2_keep _ (r := main_v26_9) (by decide), d_c8_keep _ (r := main_v26_9) (by decide), d_x1_keep _ (r := main_v26_9) (by decide), d_c7_keep _ (r := main_v26_9) (by decide), d_x0_keep _ (r := main_v26_9) (by decide), d_s1_keep _ (r := main_v26_9) (by decide), d_g1_keep _ (r := main_v26_9) (by decide), d_s0_keep _ (r := main_v26_9) (by decide), d_g0_keep _ (r := main_v26_9) (by decide), d_c6_keep _ (r := main_v26_9) (by decide)]

/-- Before the `k`-th test the teacher-forced counter is `k`. -/
theorem t_ctr (W : Dev nD → Valuation τ sig (Elt F)) (hW : ∀ c, W c (Proc.devRef .tc main_v5_11) = fun _ => (0#32 : BitVec 32))
    (c : Dev nD) (k : ℕ) : atTrip t_cond teach W k c (Proc.devRef .tc main_v5_11) = fun _ => Scf.iv 0#32 1#32 k := by
  induction k with
  | zero => rw [atTrip_zero, hW, Scf.iv_zero]
  | succ k ih =>
    rw [atTrip_succ, t_ctr_step, t_cond_keep _ (show main_v5_11 ∉ t_cond_W by decide), ih, Scf.iv_succ]
    rfl

/-- Before the `k`-th test the autoregressive counter is `k`. -/
theorem d_ctr (W : Dev nD → Valuation τ sig (Elt F)) (hW : ∀ c, W c (Proc.devRef .tc main_v26_9) = fun _ => (0#32 : BitVec 32))
    (c : Dev nD) (k : ℕ) : atTrip d_cond deco W k c (Proc.devRef .tc main_v26_9) = fun _ => Scf.iv 0#32 1#32 k := by
  induction k with
  | zero => rw [atTrip_zero, hW, Scf.iv_zero]
  | succ k ih =>
    rw [atTrip_succ, d_ctr_step, d_cond_keep _ (show main_v26_9 ∉ d_cond_W by decide), ih, Scf.iv_succ]
    rfl

set_option backward.isDefEq.respectTransparency.types false in
/-- The teacher-forced loop's test answers whether trips are left. -/
theorem t_test (W : Dev nD → Valuation τ sig (Elt F)) (hW : ∀ c, W c (Proc.devRef .tc main_v5_11) = fun _ => (0#32 : BitVec 32)) :
    LoopCond (pcfgs (F := F)) defs₀ Variants.none loops Rest (main_while0_cond (F := F)) t_cond teach W 512 := by
  intro k hk c bd
  have hctr := t_ctr W hW c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip t_cond teach W k c) main_v5_11 HostLoop.idx0)
        (HloOp.result _ (atTrip t_cond teach W k c) main_while0c_c_24 HostLoop.idx0) = 1#1) (k < 512)
    rw [nullary_result_ne _ _ _ _ (by decide), nullary_result, hctr]
    exact Scf.cmpi_slt_iv_ub_iff (lb := 0#32) (ub := 512#32) (st := 1#32) (by decide) (show k ≤ Scf.trips 0#32 512#32 1#32 from hk)
  isplitl [Hb]; · iexact Hb
  isplitl [Hh]
  · rw [after_cons, after_cons, after_nil]; iexact Hh
  iexact HR

set_option backward.isDefEq.respectTransparency.types false in
/-- The autoregressive loop's test answers whether trips are left. -/
theorem d_test (W : Dev nD → Valuation τ sig (Elt F)) (hW : ∀ c, W c (Proc.devRef .tc main_v26_9) = fun _ => (0#32 : BitVec 32)) :
    LoopCond (pcfgs (F := F)) defs₀ Variants.none loops Rest (main_while1_cond (F := F)) d_cond deco W 64 := by
  intro k hk c bd
  have hctr := d_ctr W hW c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip d_cond deco W k c) main_v26_9 HostLoop.idx0)
        (HloOp.result _ (atTrip d_cond deco W k c) main_while1c_c_23 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  isplitl [Hh]
  · rw [after_cons, after_cons, after_nil]; iexact Hh
  iexact HR

/-! ## The contents along the run -/

variable (m : (ℓ : Loc nD τ sig) → Buf (Elt F) ℓ) (ρ : Dev nD → PrngReg)

/-- The arrays where the teacher-forced loop starts. -/
abbrev W0 (c : Dev nD) : Valuation τ sig (Elt F) := afterL before (launchContents m c)
/-- The arrays where the teacher-forced loop ends. -/
abbrev W1 (c : Dev nD) : Valuation τ sig (Elt F) := after t_cond (atTrip t_cond teach (W0 m) 512 c)
/-- The arrays where the autoregressive loop starts. -/
abbrev W2 (c : Dev nD) : Valuation τ sig (Elt F) := afterL between (W1 m c)
/-- The arrays where the autoregressive loop ends. -/
abbrev W3 (c : Dev nD) : Valuation τ sig (Elt F) := after d_cond (atTrip d_cond deco (W2 m) 64 c)
/-- The arrays at the end. -/
abbrev W4 (c : Dev nD) : Valuation τ sig (Elt F) := afterL behind (W3 m c)

/-- The teacher-forced counter starts at zero. -/
theorem t_start (c : Dev nD) : W0 m c (Proc.devRef .tc main_v5_11) = fun _ => (0#32 : BitVec 32) := by
  simp only [W0, before, afterL_cons, afterL_nil]
  after_reads_simp
  rfl

/-- The autoregressive counter starts at zero. -/
theorem d_start (c : Dev nD) : W2 m c (Proc.devRef .tc main_v26_9) = fun _ => (0#32 : BitVec 32) := by
  simp only [W2, between, afterL_cons, afterL_nil]
  generalize W1 m c = V
  after_reads_simp
  rfl

/-- The main program as segments. -/
def segs : List (CSeg (pcfgs (F := F)) noAdm defs₀ Variants.none noSem noLevel loops noTick) :=
  segsOf _ _ _ _ _ _ _ _ Rest before before_plain (launchContents m)
    ++ (loopSeg _ _ _ _ _ _ _ _ 0 main_while0_cond main_while0_body rfl t_cond teach teach_plain (by rw [teach_chain]; rfl) 512 (W0 m) Rest (t_test _ (t_start m))
    :: (segsOf _ _ _ _ _ _ _ _ Rest between between_plain (W1 m)
    ++ (loopSeg _ _ _ _ _ _ _ _ 1 main_while1_cond main_while1_body rfl d_cond deco deco_plain (by rw [deco_chain]; rfl) 64 (W2 m) Rest (d_test _ (d_start m))
    :: segsOf _ _ _ _ _ _ _ _ Rest behind behind_plain (W3 m))))

/-- The segments' programs are the main program's items. -/
theorem segs_prog : (segs m).map CSeg.prog
    = (before.map fun ops => (seq ops : Prog _ PUnit)) ++ (HostLoop.enter 0 :: ((between.map fun ops => (seq ops : Prog _ PUnit))
        ++ (HostLoop.enter 1 :: behind.map fun ops => (seq ops : Prog _ PUnit)))) := by
  unfold segs
  rw [List.map_append, List.map_cons, List.map_append, List.map_cons, segsOf_prog, segsOf_prog, segsOf_prog]
  rfl

/-- The segments lead from the launch to the end. -/
theorem segs_chains :
    CSeg.Chains (fun c => iprop(held (c : Thread nD τ) (ucRefs τ sig) (launchContents m c) ∗ Rest c)) (segs m)
      (fun c => iprop(iprop(held (c : Thread nD τ) (ucRefs τ sig) (W4 m c)) ∗ ∃ W, owes (c : Thread nD τ) (0 : CellTallies nD τ sig Unit) W)) := by
  unfold segs
  exact CSeg.Chains.append (segsOf_chains _ _ _ _ _ _ _ _ Rest before before_plain _) ⟨fun _ => .rfl,
    CSeg.Chains.append (segsOf_chains _ _ _ _ _ _ _ _ Rest between between_plain _) ⟨fun _ => .rfl,
      segsOf_chains _ _ _ _ _ _ _ _ Rest behind behind_plain _⟩⟩

set_option maxRecDepth 100000 in
/-- The reference runs, and every array ends at `W4`. -/
theorem run : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = W4 m c (Proc.devRef .tc b)) :=
  Pipeline.θ_run_regions_loop_kit (Ix := Unit) (Name := ℕ) (U := Option PUnit) (Lvl := ℕ) (J := Fin 0) (P := Fin 0) (Val := Elt F)
    (pcfgs (F := F)) noAdm (fun k => k.1.elim0) defs₀ Variants.none noSem noLevel loops noTick m ρ main
    (segs m)
    (fun c Q => by
      rw [main_chain c]
      show wp _ _ _ (Pipeline.chain ((segs m).map CSeg.prog)) Q ⊢ _
      rw [segs_prog]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp (MT nD τ sig Unit (Elt F) ℕ (Option PUnit) ℕ)) ⊢ bigSep Finset.univ (fun _ : Dev nD => (BI.emp : sProp (MT nD τ sig Unit (Elt F) ℕ (Option PUnit) ℕ))) from by rw [BI.bigSep_emp_const])
        iempintro)
    (T₀ := fun c => iprop(held (c : Thread nD τ) (ucRefs τ sig) (launchContents m c) ∗ Rest c))
    (Tₙ := fun c => iprop(held (c : Thread nD τ) (ucRefs τ sig) (W4 m c)))
    (hch := segs_chains m)
    (hinit := by
      refine Pipeline.initEach noSem noLevel fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = W4 m c b)
    (hfin := fun c s' => by
      unfold held
      iintro ⟨Hh, HSI⟩
      ihave Hr := (pointsTo_read_all (ucRefs τ sig) (fun b => ((c : Dev nD), b)) (fun b => W4 m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.ReferenceIdeal.Lstm
-- ==== Proof.RefFrame.lean ====
module

public import proofs.«01_k».proof.Defs
public import proofs.«01_k».proof.Proof.RefRun
public import Idealize.ShloMosaic.Lib.Quiescent

@[expose] public section

set_option maxRecDepth 8192

noncomputable section

/-! The reference leaves its arguments alone. -/

namespace Cert.ReferenceIdeal.Lstm

open Cert.ReferenceIdeal Cert.ReferenceIdeal.Gen
open Idealize.ShloMosaic Idealize.ShloMosaic.TcCoe Idealize.ShloMosaic.StableHlo
open Idealize.SL Idealize.SL.Sem

variable {F : FTy → Type} [FloatOps F]

/-- The arrays that the stretches of `teach` write. -/
abbrev teach_Ws : List (List (Ref sig .tc)) := [t_c0_W, t_c1_W, t_g0_W, t_s0_W, t_g1_W, t_s1_W, t_x0_W, t_c2_W, t_x1_W, t_c3_W, t_x2_W, t_c4_W, t_c5_W, t_x3_W]

/-- The stretches of `teach` leave every other array alone. -/
theorem teach_keep (V : Valuation τ sig (Elt F)) {r : Ref sig .tc} (h : ∀ W ∈ teach_Ws, r ∉ W) :
    afterL teach V (Proc.devRef .tc r) = V (Proc.devRef .tc r) := by
  rw [afterL_cons, afterL_cons, afterL_cons, afterL_cons, afterL_cons, afterL_cons, afterL_cons, afterL_cons, afterL_cons, afterL_cons, afterL_cons, afterL_cons, afterL_cons, afterL_cons, afterL_nil]
  rw [t_x3_keep _ (h _ (by simp only [teach_Ws, List.mem_cons, true_or, or_true])), t_c5_keep _ (h _ (by simp only [teach_Ws, List.mem_cons, true_or, or_true])), t_c4_keep _ (h _ (by simp only [teach_Ws, List.mem_cons, true_or, or_true])), t_x2_keep _ (h _ (by simp only [teach_Ws, List.mem_cons, true_or, or_true])), t_c3_keep _ (h _ (by simp only [teach_Ws, List.mem_cons, true_or, or_true])), t_x1_keep _ (h _ (by simp only [teach_Ws, List.mem_cons, true_or, or_true])), t_c2_keep _ (h _ (by simp only [teach_Ws, List.mem_cons, true_or, or_true])), t_x0_keep _ (h _ (by simp only [teach_Ws, List.mem_cons, true_or, or_true])), t_s1_keep _ (h _ (by simp only [teach_Ws, List.mem_cons, true_or, or_true])), t_g1_keep _ (h _ (by simp only [teach_Ws, List.mem_cons, true_or, or_true])), t_s0_keep _ (h _ (by simp only [teach_Ws, List.mem_cons, true_or, or_true])), t_g0_keep _ (h _ (by simp only [teach_Ws, List.mem_cons, true_or, or_true])), t_c1_keep _ (h _ (by simp only [teach_Ws, List.mem_cons, true_or, or_true])), t_c0_keep _ (h _ (by simp only [teach_Ws, List.mem_cons, true_or, or_true]))]

/-- The arrays that the stretches of `deco` write. -/
abbrev deco_Ws : List (List (Ref sig .tc)) := [d_c6_W, d_g0_W, d_s0_W, d_g1_W, d_s1_W, d_x0_W, d_c7_W, d_x1_W, d_c8_W, d_x2_W, d_c9_W, d_c10_W, d_x3_W]

/-- The stretches of `deco` leave every other array alone. -/
theorem deco_keep (V : Valuation τ sig (Elt F)) {r : Ref sig .tc} (h : ∀ W ∈ deco_Ws, r ∉ W) :
    afterL deco V (Proc.devRef .tc r) = V (Proc.devRef .tc r) := by
  rw [afterL_cons, afterL_cons, afterL_cons, afterL_cons, afterL_cons, afterL_cons, afterL_cons, afterL_cons, afterL_cons, afterL_cons, afterL_cons, afterL_cons, afterL_cons, afterL_nil]
  rw [d_x3_keep _ (h _ (by simp only [deco_Ws, List.mem_cons, true_or, or_true])), d_c10_keep _ (h _ (by simp only [deco_Ws, List.mem_cons, true_or, or_true])), d_c9_keep _ (h _ (by simp only [deco_Ws, List.mem_cons, true_or, or_true])), d_x2_keep _ (h _ (by simp only [deco_Ws, List.mem_cons, true_or, or_true])), d_c8_keep _ (h _ (by simp only [deco_Ws, List.mem_cons, true_or, or_true])), d_x1_keep _ (h _ (by simp only [deco_Ws, List.mem_cons, true_or, or_true])), d_c7_keep _ (h _ (by simp only [deco_Ws, List.mem_cons, true_or, or_true])), d_x0_keep _ (h _ (by simp only [deco_Ws, List.mem_cons, true_or, or_true])), d_s1_keep _ (h _ (by simp only [deco_Ws, List.mem_cons, true_or, or_true])), d_g1_keep _ (h _ (by simp only [deco_Ws, List.mem_cons, true_or, or_true])), d_s0_keep _ (h _ (by simp only [deco_Ws, List.mem_cons, true_or, or_true])), d_g0_keep _ (h _ (by simp only [deco_Ws, List.mem_cons, true_or, or_true])), d_c6_keep _ (h _ (by simp only [deco_Ws, List.mem_cons, true_or, or_true]))]

/-- The arrays that the stretches of `before` write. -/
abbrev before_Ws : List (List (Ref sig .tc)) := [m_x0_W]

/-- The stretches of `before` leave every other array alone. -/
theorem before_keep (V : Valuation τ sig (Elt F)) {r : Ref sig .tc} (h : ∀ W ∈ before_Ws, r ∉ W) :
    afterL before V (Proc.devRef .tc r) = V (Proc.devRef .tc r) := by
  rw [afterL_cons, afterL_nil]
  rw [m_x0_keep _ (h _ (by simp only [before_Ws, List.mem_cons, true_or, or_true]))]

/-- The arrays that the stretches of `between` write. -/
abbrev between_Ws : List (List (Ref sig .tc)) := [m_seed_W, m_x1_W]

/-- The stretches of `between` leave every other array alone. -/
theorem between_keep (V : Valuation τ sig (Elt F)) {r : Ref sig .tc} (h : ∀ W ∈ between_Ws, r ∉ W) :
    afterL between V (Proc.devRef .tc r) = V (Proc.devRef .tc r) := by
  rw [afterL_cons, afterL_cons, afterL_nil]
  rw [m_x1_keep _ (h _ (by simp only [between_Ws, List.mem_cons, true_or, or_true])), m_seed_keep _ (h _ (by simp only [between_Ws, List.mem_cons, true_or, or_true]))]

/-- The arrays that the stretches of `behind` write. -/
abbrev behind_Ws : List (List (Ref sig .tc)) := [m_x2_W, m_c11_W]

/-- The stretches of `behind` leave every other array alone. -/
theorem behind_keep (V : Valuation τ sig (Elt F)) {r : Ref sig .tc} (h : ∀ W ∈ behind_Ws, r ∉ W) :
    afterL behind V (Proc.devRef .tc r) = V (Proc.devRef .tc r) := by
  rw [afterL_cons, afterL_cons, afterL_nil]
  rw [m_c11_keep _ (h _ (by simp only [behind_Ws, List.mem_cons, true_or, or_true])), m_x2_keep _ (h _ (by simp only [behind_Ws, List.mem_cons, true_or, or_true]))]

/-- Along the teacher-forced loop, an array that no trip writes keeps its contents. -/
theorem t_trips_keep (W : Dev nD → Valuation τ sig (Elt F)) (c : Dev nD) {r : Ref sig .tc} (h : ∀ W ∈ teach_Ws, r ∉ W) (h' : r ∉ t_cond_W)
    (k : ℕ) : atTrip t_cond teach W k c (Proc.devRef .tc r) = W c (Proc.devRef .tc r) := by
  induction k with
  | zero => rfl
  | succ k ih => rw [atTrip_succ, teach_keep _ h, t_cond_keep _ h', ih]

/-- Along the autoregressive loop, an array that no trip writes keeps its contents. -/
theorem d_trips_keep (W : Dev nD → Valuation τ sig (Elt F)) (c : Dev nD) {r : Ref sig .tc} (h : ∀ W ∈ deco_Ws, r ∉ W) (h' : r ∉ d_cond_W)
    (k : ℕ) : atTrip d_cond deco W k c (Proc.devRef .tc r) = W c (Proc.devRef .tc r) := by
  induction k with
  | zero => rfl
  | succ k ih => rw [atTrip_succ, deco_keep _ h, d_cond_keep _ h', ih]

variable (m : (ℓ : Loc nD τ sig) → Buf (Elt F) ℓ) (ρ : Dev nD → PrngReg)

/-- An array that nothing writes before or in the teacher-forced loop is as it was launched. -/
theorem W1_keep (c : Dev nD) {r : Ref sig .tc} (h0 : ∀ W ∈ before_Ws, r ∉ W) (h1 : ∀ W ∈ teach_Ws, r ∉ W) (h2 : r ∉ t_cond_W) :
    W1 m c (Proc.devRef .tc r) = m ((c.tc : Thread nD τ).loc r) := by
  rw [W1, t_cond_keep _ h2, t_trips_keep _ _ h1 h2, W0, before_keep _ h0]

/-- An array that nothing writes is at the end as it was launched. -/
theorem W4_keep (c : Dev nD) {r : Ref sig .tc} (h0 : ∀ W ∈ before_Ws, r ∉ W) (h1 : ∀ W ∈ teach_Ws, r ∉ W) (h2 : r ∉ t_cond_W)
    (h3 : ∀ W ∈ between_Ws, r ∉ W) (h4 : ∀ W ∈ deco_Ws, r ∉ W) (h5 : r ∉ d_cond_W) (h6 : ∀ W ∈ behind_Ws, r ∉ W) :
    W4 m c (Proc.devRef .tc r) = m ((c.tc : Thread nD τ).loc r) := by
  rw [W4, behind_keep _ h6, W3, d_cond_keep _ h5, d_trips_keep _ _ h4 h5, W2, between_keep _ h3, W1_keep m c h0 h1 h2]

/-- Argument `main_arg0` is left alone. -/
theorem end_main_arg0 (c : Dev nD) : W4 m c (Proc.devRef .tc main_arg0) = m ((c.tc : Thread nD τ).loc main_arg0) :=
  W4_keep m c (by decide) (by decide) (by decide) (by decide) (by decide) (by decide) (by decide)

/-- Argument `main_arg1` is left alone. -/
theorem end_main_arg1 (c : Dev nD) : W4 m c (Proc.devRef .tc main_arg1) = m ((c.tc : Thread nD τ).loc main_arg1) :=
  W4_keep m c (by decide) (by decide) (by decide) (by decide) (by decide) (by decide) (by decide)

/-- Argument `main_arg2` is left alone. -/
theorem end_main_arg2 (c : Dev nD) : W4 m c (Proc.devRef .tc main_arg2) = m ((c.tc : Thread nD τ).loc main_arg2) :=
  W4_keep m c (by decide) (by decide) (by decide) (by decide) (by decide) (by decide) (by decide)

/-- Argument `main_arg3` is left alone. -/
theorem end_main_arg3 (c : Dev nD) : W4 m c (Proc.devRef .tc main_arg3) = m ((c.tc : Thread nD τ).loc main_arg3) :=
  W4_keep m c (by decide) (by decide) (by decide) (by decide) (by decide) (by decide) (by decide)

/-- Argument `main_arg4` is left alone. -/
theorem end_main_arg4 (c : Dev nD) : W4 m c (Proc.devRef .tc main_arg4) = m ((c.tc : Thread nD τ).loc main_arg4) :=
  W4_keep m c (by decide) (by decide) (by decide) (by decide) (by decide) (by decide) (by decide)

/-- Argument `main_arg5` is left alone. -/
theorem end_main_arg5 (c : Dev nD) : W4 m c (Proc.devRef .tc main_arg5) = m ((c.tc : Thread nD τ).loc main_arg5) :=
  W4_keep m c (by decide) (by decide) (by decide) (by decide) (by decide) (by decide) (by decide)

/-- Argument `main_arg6` is left alone. -/
theorem end_main_arg6 (c : Dev nD) : W4 m c (Proc.devRef .tc main_arg6) = m ((c.tc : Thread nD τ).loc main_arg6) :=
  W4_keep m c (by decide) (by decide) (by decide) (by decide) (by decide) (by decide) (by decide)

/-- Argument `main_arg7` is left alone. -/
theorem end_main_arg7 (c : Dev nD) : W4 m c (Proc.devRef .tc main_arg7) = m ((c.tc : Thread nD τ).loc main_arg7) :=
  W4_keep m c (by decide) (by decide) (by decide) (by decide) (by decide) (by decide) (by decide)

/-- Argument `main_arg8` is left alone. -/
theorem end_main_arg8 (c : Dev nD) : W4 m c (Proc.devRef .tc main_arg8) = m ((c.tc : Thread nD τ).loc main_arg8) :=
  W4_keep m c (by decide) (by decide) (by decide) (by decide) (by decide) (by decide) (by decide)

/-- Argument `main_arg9` is left alone. -/
theorem end_main_arg9 (c : Dev nD) : W4 m c (Proc.devRef .tc main_arg9) = m ((c.tc : Thread nD τ).loc main_arg9) :=
  W4_keep m c (by decide) (by decide) (by decide) (by decide) (by decide) (by decide) (by decide)

/-- Argument `main_arg10` is left alone. -/
theorem end_main_arg10 (c : Dev nD) : W4 m c (Proc.devRef .tc main_arg10) = m ((c.tc : Thread nD τ).loc main_arg10) :=
  W4_keep m c (by decide) (by decide) (by decide) (by decide) (by decide) (by decide) (by decide)

/-- Argument `main_arg11` is left alone. -/
theorem end_main_arg11 (c : Dev nD) : W4 m c (Proc.devRef .tc main_arg11) = m ((c.tc : Thread nD τ).loc main_arg11) :=
  W4_keep m c (by decide) (by decide) (by decide) (by decide) (by decide) (by decide) (by decide)

/-- The reference runs, leaves its arguments alone and every semaphore at zero. -/
theorem quiet : Cert.quiescent_ReferenceIdeal := by
  intro m g _
  refine (θ_run _ _ _).mono (fun r h => ⟨fun c => ⟨(h c main_arg0 rfl).trans (end_main_arg0 m c), (h c main_arg1 rfl).trans (end_main_arg1 m c), (h c main_arg2 rfl).trans (end_main_arg2 m c), (h c main_arg3 rfl).trans (end_main_arg3 m c), (h c main_arg4 rfl).trans (end_main_arg4 m c), (h c main_arg5 rfl).trans (end_main_arg5 m c), (h c main_arg6 rfl).trans (end_main_arg6 m c), (h c main_arg7 rfl).trans (end_main_arg7 m c), (h c main_arg8 rfl).trans (end_main_arg8 m c), (h c main_arg9 rfl).trans (end_main_arg9 m c), (h c main_arg10 rfl).trans (end_main_arg10 m c), (h c main_arg11 rfl).trans (end_main_arg11 m c)⟩, sem_eq_zero_of_no_sems (by decide) r.2⟩) (run (F := Ideal) m g)

/-- The same, of inputs whose mask is a prefix. -/
theorem quiet_prefix [Cert.Pre_mask_is_prefix.Facts] : Cert.quiescent_ReferenceIdeal_pre_mask_is_prefix := by
  intro m g _
  exact quiet m g trivial

end Cert.ReferenceIdeal.Lstm
-- ==== Proof.KernelVals.lean ====
module

public import proofs.«01_k».proof.Proof.KernelRun
public import Idealize.ShloMosaic.Lib.Pipeline.Value

@[expose] public section

set_option maxRecDepth 65536

noncomputable section

/-! The kernel's two result arrays after the run, from the arguments: its operands are what the host operations before
    the launch make of them, and its one point's blocks are the whole arrays. -/

namespace Cert.KernelIdeal.Lstm

open Idealize.ShloMosaic Idealize.ShloMosaic.TcCoe Idealize.ShloMosaic.Tactic
open Cert.KernelIdeal Cert.KernelIdeal.Gen
open Idealize.SL Idealize.SL.Sem
open Idealize.ShloMosaic.Pipeline (Dat)

variable {F : FTy → Type} [FloatOps F]
variable (m : (ℓ : Loc nD τ sig) → Buf (Elt F) ℓ) (ρ : Dev nD → PrngReg)

/-! ## What the host operations make of the arguments -/

/-- The factor of each gate column: a half for the logistic gates, one for the cell's. -/
def factor : FVec F S1024 .f32 :=
  concatenate S1024 0 [⟨S512, broadcastInDim S512 ![] bcast_S_S512 (constant S_ .f32 0x3F000000#32)⟩,
    ⟨S256, broadcastInDim S256 ![] bcast_S_S256 (constant S_ .f32 0x3F800000#32)⟩,
    ⟨S256, broadcastInDim S256 ![] bcast_S_S256 (constant S_ .f32 0x3F000000#32)⟩] concatenates_S512_S256_S256_S1024_d0

/-- A weight matrix transposed, its columns times their factors. -/
def wOf (w : FVec F S1024x256 .f32) : Vec F S256x1024 .bf16 :=
  truncf .bf16 (mulf (transpose S256x1024 [1, 0] w transposes_S1024x256_S256x1024_1_0)
    (broadcastInDim S256x1024 ![0, 1] bcast_S1x1024_S256x1024_0_1 (broadcastInDim S1x1024 ![1] bcast_S1024_S1x1024_1 factor))) bitsLt_bf16_f32

/-- The sum of two biases, times the columns' factors. -/
def bOf (bi bh : FVec F S1024 .f32) : Vec F S1x1024 .f32 :=
  shapeCast S1x1024 (mulf (addf bi bh) factor) shapeCasts_S1024_S1x1024

/-- The sequences' lengths at every unit. -/
def nOf (n : IVec S16 32) : Vec F S16x256 .i32 :=
  broadcastInDim S16x256 ![0, 1] bcast_S16x1_S16x256_0_1 (broadcastInDim S16x1 ![0] bcast_S16_S16x1_0 n)

/-- The kernel's operands from the arguments. -/
def insOf (c : Dev nD) : Ins F :=
  ⟨m ((c.tc : Thread nD τ).loc main_arg0), nOf (m ((c.tc : Thread nD τ).loc main_arg1)), nOf (m ((c.tc : Thread nD τ).loc main_arg2)),
    wOf (m ((c.tc : Thread nD τ).loc main_arg4)), wOf (m ((c.tc : Thread nD τ).loc main_arg5)),
    wOf (m ((c.tc : Thread nD τ).loc main_arg8)), wOf (m ((c.tc : Thread nD τ).loc main_arg9)),
    bOf (m ((c.tc : Thread nD τ).loc main_arg6)) (m ((c.tc : Thread nD τ).loc main_arg7)),
    bOf (m ((c.tc : Thread nD τ).loc main_arg10)) (m ((c.tc : Thread nD τ).loc main_arg11))⟩

/-- What the launch finds in `main_v33`. -/
theorem found_v33 (c : Dev nD) : V m c main_v33 = nOf (F := F) (m ((c.tc : Thread nD τ).loc main_arg1)) := by
  unfold V
  after_results
  first | done | rfl

/-- What the launch finds in `main_v35`. -/
theorem found_v35 (c : Dev nD) : V m c main_v35 = nOf (F := F) (m ((c.tc : Thread nD τ).loc main_arg2)) := by
  unfold V
  after_results
  first | done | rfl

/-- What the launch finds in `main_v10`. -/
theorem found_v10 (c : Dev nD) : V m c main_v10 = wOf (m ((c.tc : Thread nD τ).loc main_arg4)) := by
  unfold V
  after_results
  first | done | rfl

/-- What the launch finds in `main_v15`. -/
theorem found_v15 (c : Dev nD) : V m c main_v15 = wOf (m ((c.tc : Thread nD τ).loc main_arg5)) := by
  unfold V
  after_results
  first | done | rfl

/-- What the launch finds in `main_v20`. -/
theorem found_v20 (c : Dev nD) : V m c main_v20 = wOf (m ((c.tc : Thread nD τ).loc main_arg8)) := by
  unfold V
  after_results
  first | done | rfl

/-- What the launch finds in `main_v25`. -/
theorem found_v25 (c : Dev nD) : V m c main_v25 = wOf (m ((c.tc : Thread nD τ).loc main_arg9)) := by
  unfold V
  after_results
  first | done | rfl

/-- What the launch finds in `main_v28`. -/
theorem found_v28 (c : Dev nD) : V m c main_v28 = bOf (m ((c.tc : Thread nD τ).loc main_arg6)) (m ((c.tc : Thread nD τ).loc main_arg7)) := by
  unfold V
  after_results
  first | done | rfl

/-- What the launch finds in `main_v31`. -/
theorem found_v31 (c : Dev nD) : V m c main_v31 = bOf (m ((c.tc : Thread nD τ).loc main_arg10)) (m ((c.tc : Thread nD τ).loc main_arg11)) := by
  unfold V
  after_results
  first | done | rfl

/-! ## The blocks are the arrays -/

/-- Window 0's block is its array. -/
theorem whole_0 (c : Dev nD) (f : Buf (Elt F) ((c : Thread nD τ).loc main_arg0)) : (win0_0.blk t0_0).view.read (Elt F) f = f :=
  Memref.read_access_unit_zero (Elt F) main_arg0
    (show (fun a => (win0_0.index t0_0) a * main_arg0.ty.shape.size a) = fun _ => 0 from
      funext fun a => by fin_cases a <;> decide) (fun a => by fin_cases a <;> decide) f

/-- Window 1's block is its array. -/
theorem whole_1 (c : Dev nD) (f : Buf (Elt F) ((c : Thread nD τ).loc main_v33)) : (win0_1.blk t0_0).view.read (Elt F) f = f :=
  Memref.read_access_unit_zero (Elt F) main_v33
    (show (fun a => (win0_1.index t0_0) a * main_v33.ty.shape.size a) = fun _ => 0 from
      funext fun a => by fin_cases a <;> decide) (fun a => by fin_cases a <;> decide) f

/-- Window 2's block is its array. -/
theorem whole_2 (c : Dev nD) (f : Buf (Elt F) ((c : Thread nD τ).loc main_v35)) : (win0_2.blk t0_0).view.read (Elt F) f = f :=
  Memref.read_access_unit_zero (Elt F) main_v35
    (show (fun a => (win0_2.index t0_0) a * main_v35.ty.shape.size a) = fun _ => 0 from
      funext fun a => by fin_cases a <;> decide) (fun a => by fin_cases a <;> decide) f

/-- Window 3's block is its array. -/
theorem whole_3 (c : Dev nD) (f : Buf (Elt F) ((c : Thread nD τ).loc main_v10)) : (win0_3.blk t0_0).view.read (Elt F) f = f :=
  Memref.read_access_unit_zero (Elt F) main_v10
    (show (fun a => (win0_3.index t0_0) a * main_v10.ty.shape.size a) = fun _ => 0 from
      funext fun a => by fin_cases a <;> decide) (fun a => by fin_cases a <;> decide) f

/-- Window 4's block is its array. -/
theorem whole_4 (c : Dev nD) (f : Buf (Elt F) ((c : Thread nD τ).loc main_v15)) : (win0_4.blk t0_0).view.read (Elt F) f = f :=
  Memref.read_access_unit_zero (Elt F) main_v15
    (show (fun a => (win0_4.index t0_0) a * main_v15.ty.shape.size a) = fun _ => 0 from
      funext fun a => by fin_cases a <;> decide) (fun a => by fin_cases a <;> decide) f

/-- Window 5's block is its array. -/
theorem whole_5 (c : Dev nD) (f : Buf (Elt F) ((c : Thread nD τ).loc main_v20)) : (win0_5.blk t0_0).view.read (Elt F) f = f :=
  Memref.read_access_unit_zero (Elt F) main_v20
    (show (fun a => (win0_5.index t0_0) a * main_v20.ty.shape.size a) = fun _ => 0 from
      funext fun a => by fin_cases a <;> decide) (fun a => by fin_cases a <;> decide) f

/-- Window 6's block is its array. -/
theorem whole_6 (c : Dev nD) (f : Buf (Elt F) ((c : Thread nD τ).loc main_v25)) : (win0_6.blk t0_0).view.read (Elt F) f = f :=
  Memref.read_access_unit_zero (Elt F) main_v25
    (show (fun a => (win0_6.index t0_0) a * main_v25.ty.shape.size a) = fun _ => 0 from
      funext fun a => by fin_cases a <;> decide) (fun a => by fin_cases a <;> decide) f

/-- Window 7's block is its array. -/
theorem whole_7 (c : Dev nD) (f : Buf (Elt F) ((c : Thread nD τ).loc main_v28)) : (win0_7.blk t0_0).view.read (Elt F) f = f :=
  Memref.read_access_unit_zero (Elt F) main_v28
    (show (fun a => (win0_7.index t0_0) a * main_v28.ty.shape.size a) = fun _ => 0 from
      funext fun a => by fin_cases a <;> decide) (fun a => by fin_cases a <;> decide) f

/-- Window 8's block is its array. -/
theorem whole_8 (c : Dev nD) (f : Buf (Elt F) ((c : Thread nD τ).loc main_v31)) : (win0_8.blk t0_0).view.read (Elt F) f = f :=
  Memref.read_access_unit_zero (Elt F) main_v31
    (show (fun a => (win0_8.index t0_0) a * main_v31.ty.shape.size a) = fun _ => 0 from
      funext fun a => by fin_cases a <;> decide) (fun a => by fin_cases a <;> decide) f

/-- Window 9's block is its array. -/
theorem whole_9 (c : Dev nD) (f : Buf (Elt F) ((c : Thread nD τ).loc main_v36_0)) : (win0_9.blk t0_0).view.read (Elt F) f = f :=
  Memref.read_access_unit_zero (Elt F) main_v36_0
    (show (fun a => (win0_9.index t0_0) a * main_v36_0.ty.shape.size a) = fun _ => 0 from
      funext fun a => by fin_cases a <;> decide) (fun a => by fin_cases a <;> decide) f

/-- Window 10's block is its array. -/
theorem whole_10 (c : Dev nD) (f : Buf (Elt F) ((c : Thread nD τ).loc main_v36_1)) : (win0_10.blk t0_0).view.read (Elt F) f = f :=
  Memref.read_access_unit_zero (Elt F) main_v36_1
    (show (fun a => (win0_10.index t0_0) a * main_v36_1.ty.shape.size a) = fun _ => 0 from
      funext fun a => by fin_cases a <;> decide) (fun a => by fin_cases a <;> decide) f

/-- The operands at the launch's point are the ones from the arguments. -/
theorem ins_eq (c : Dev nD) : insAt m c t0_0 = insOf m c := by
  have e0 : iblk m c 0 t0_0 = V m c main_arg0 := whole_0 c (V m c main_arg0)
  have e1 : iblk m c 1 t0_0 = V m c main_v33 := whole_1 c (V m c main_v33)
  have e2 : iblk m c 2 t0_0 = V m c main_v35 := whole_2 c (V m c main_v35)
  have e3 : iblk m c 3 t0_0 = V m c main_v10 := whole_3 c (V m c main_v10)
  have e4 : iblk m c 4 t0_0 = V m c main_v15 := whole_4 c (V m c main_v15)
  have e5 : iblk m c 5 t0_0 = V m c main_v20 := whole_5 c (V m c main_v20)
  have e6 : iblk m c 6 t0_0 = V m c main_v25 := whole_6 c (V m c main_v25)
  have e7 : iblk m c 7 t0_0 = V m c main_v28 := whole_7 c (V m c main_v28)
  have e8 : iblk m c 8 t0_0 = V m c main_v31 := whole_8 c (V m c main_v31)
  unfold insAt insOf
  rw [e0, V_main_arg0, e1, found_v33, e2, found_v35, e3, found_v10, e4, found_v15, e5, found_v20, e6, found_v25, e7, found_v28, e8, found_v31]

/-- Result 1 after the run. -/
theorem result_9 (c : Dev nD) : (dats m 0 c).arrAt 9 cfg0.N = out9 (insOf m c) := by
  have hf : (dats m 0 c).flushed 9 t0_0 = out9 (insOf m c) := by
    show (cfg0.win 9).cut _ ((dats m 0 c).after 9 t0_0) = _
    rw [after9, ins_eq]
    exact funext fun _ => rfl
  have hw : ((cfg0.win 9).blk t0_0).view.read (Elt F) ((dats m 0 c).arrAt 9 cfg0.N) = (dats m 0 c).flushed 9 t0_0 := by
    rw [show cfg0.N = t0_0.val + 1 from rfl, (dats m 0 c).arrAt_succ (9 : Fin 11) t0_0, flush0_9, if_pos rfl]
    exact View.read_write_univ _ _
  rw [hf] at hw
  exact (whole_9 c _).symm.trans hw

/-- Result 2 after the run. -/
theorem result_10 (c : Dev nD) : (dats m 0 c).arrAt 10 cfg0.N = out10 (insOf m c) := by
  have hf : (dats m 0 c).flushed 10 t0_0 = out10 (insOf m c) := by
    show (cfg0.win 10).cut _ ((dats m 0 c).after 10 t0_0) = _
    rw [after10, ins_eq]
    exact funext fun _ => rfl
  have hw : ((cfg0.win 10).blk t0_0).view.read (Elt F) ((dats m 0 c).arrAt 10 cfg0.N) = (dats m 0 c).flushed 10 t0_0 := by
    rw [show cfg0.N = t0_0.val + 1 from rfl, (dats m 0 c).arrAt_succ (10 : Fin 11) t0_0, flush0_10, if_pos rfl]
    exact View.read_write_univ _ _
  rw [hf] at hw
  exact (whole_10 c _).symm.trans hw

/-- The run: the two results as the layers computed them, the arguments as they were. -/
theorem value_run : θ_run defs (onTc (τ := τ) (main (F := F))) ⟨m, fun _ => 0, ρ⟩ (fun r => ∀ c : Dev nD,
      r.2.mem ((c.tc : Thread nD τ).loc main_v36_0) = out9 (insOf m c) ∧ r.2.mem ((c.tc : Thread nD τ).loc main_v36_1) = out10 (insOf m c)) :=
  (θ_run _ _ _).mono (fun r h c => ⟨((h.1 c).1 9).trans (result_9 m c), ((h.1 c).1 10).trans (result_10 m c)⟩) (run_main m ρ)

end Cert.KernelIdeal.Lstm
-- ==== Proof.Scalars.lean ====
module

public import Idealize.ShloMosaic.PureOps.Ideal
public import Idealize.ShloMosaic.Lib.IdealHost
public import Mathlib.Analysis.SpecialFunctions.Trigonometric.DerivHyp

@[expose] public section

noncomputable section

/-! The scalar facts of the equation: the logistic function by the hyperbolic tangent, and factors moved through sums. -/

namespace Cert.Lstm

open Idealize.ShloMosaic

/-- One half. -/
def hf : EReal := ((1 / 2 : ℝ) : EReal)

/-- The pattern of one half. -/
theorem ofBits_half : Ideal.ofBits .f32 0x3F000000#32 = hf := by
  unfold hf
  simp [Ideal.ofBits, Ideal.ieee, -EReal.coe_mul]; norm_num

/-- The logistic function of a real number. -/
theorem real_logistic (r : ℝ) : (1 / 2) * Real.tanh (1 / 2 * r) + 1 / 2 = (1 + Real.exp (-r))⁻¹ := by
  rw [Real.tanh_eq_sinh_div_cosh, Real.sinh_eq, Real.cosh_eq]
  have e : Real.exp (-r) = Real.exp (-(1 / 2 * r)) * Real.exp (-(1 / 2 * r)) := by rw [← Real.exp_add]; congr 1; ring
  have e' : Real.exp (1 / 2 * r) * Real.exp (-(1 / 2 * r)) = 1 := by rw [← Real.exp_add]; simp
  have p := Real.exp_pos (1 / 2 * r)
  have q := Real.exp_pos (-(1 / 2 * r))
  rw [e]
  generalize Real.exp (1 / 2 * r) = a at *
  generalize Real.exp (-(1 / 2 * r)) = b at *
  have h : (0 : ℝ) < 1 + b * b := by positivity
  have k : (0 : ℝ) < a + b := by positivity
  apply eq_inv_of_mul_eq_one_left
  field_simp
  linear_combination (2 * b) * e'

/-- The logistic function by the hyperbolic tangent of half the argument, at the infinities too. -/
theorem half_tanh (z : EReal) : hf * Ideal.tanh (hf * z) + hf = Ideal.div 1 (1 + Ideal.exp (-z)) := by
  unfold hf
  induction z using EReal.rec with
  | bot =>
    rw [EReal.coe_mul_bot_of_pos (by norm_num)]
    show ((1 / 2 : ℝ) : EReal) * (-1) + ((1 / 2 : ℝ) : EReal) = Ideal.div 1 (1 + Ideal.exp (-⊥))
    rw [EReal.neg_bot]
    show _ = Ideal.div 1 (1 + ⊤)
    rw [show (1 : EReal) + ⊤ = ⊤ from rfl]
    unfold Ideal.div
    rw [if_neg (by simp), EReal.inv_top, mul_zero, show (-1 : EReal) = ((-1 : ℝ) : EReal) from rfl, ← EReal.coe_mul, ← EReal.coe_add]
    norm_num
  | top =>
    rw [EReal.coe_mul_top_of_pos (by norm_num)]
    show ((1 / 2 : ℝ) : EReal) * 1 + ((1 / 2 : ℝ) : EReal) = Ideal.div 1 (1 + Ideal.exp (-⊤))
    rw [EReal.neg_top]
    show _ = Ideal.div 1 (1 + 0)
    unfold Ideal.div
    rw [add_zero, if_neg (by simp), mul_one, ← EReal.coe_add]
    norm_num
  | coe r =>
    rw [← EReal.coe_mul]
    show ((1 / 2 : ℝ) : EReal) * ((Real.tanh (1 / 2 * r) : ℝ) : EReal) + ((1 / 2 : ℝ) : EReal) = Ideal.div 1 (1 + Ideal.exp (-(r : EReal)))
    rw [← EReal.coe_neg]
    show _ = Ideal.div 1 (1 + ((Real.exp (-r) : ℝ) : EReal))
    have p : (0 : ℝ) < 1 + Real.exp (-r) := by positivity
    unfold Ideal.div
    rw [show (1 : EReal) + ((Real.exp (-r) : ℝ) : EReal) = ((1 + Real.exp (-r) : ℝ) : EReal) from rfl, if_neg (by
      intro h; exact p.ne' (EReal.coe_eq_zero.1 h)), ← EReal.coe_mul, ← EReal.coe_add, real_logistic, one_mul, EReal.coe_inv]

/-- The factors of the gates' columns. -/
def fac (j : Fin 1024) : EReal := if 512 ≤ j.val ∧ j.val < 768 then 1 else hf

theorem fac_nonneg (j : Fin 1024) : 0 ≤ fac j := by
  unfold fac hf; split
  · exact zero_le_one
  · exact EReal.coe_nonneg.2 (by norm_num)

theorem fac_ne_top (j : Fin 1024) : fac j ≠ ⊤ := by
  unfold fac hf; split
  · exact EReal.coe_ne_top 1
  · exact EReal.coe_ne_top _

/-- A factor over a sum. -/
theorem fac_add (j : Fin 1024) (a b : EReal) : fac j * (a + b) = fac j * a + fac j * b :=
  EReal.left_distrib_of_nonneg_of_ne_top (fac_nonneg j) (fac_ne_top j) a b

/-- A factor over a finite sum. -/
theorem fac_sum (j : Fin 1024) {n : ℕ} (f : Fin n → EReal) : fac j * ∑ k, f k = ∑ k, fac j * f k := by
  classical
  induction (Finset.univ : Finset (Fin n)) using Finset.induction_on with
  | empty => simp
  | insert a s ha ih => rw [Finset.sum_insert ha, Finset.sum_insert ha, fac_add, ih]

/-- A product of a vector with scaled columns. -/
theorem fac_dot (j : Fin 1024) (x w : Fin 256 → EReal) : ∑ k, x k * (w k * fac j) = fac j * ∑ k, x k * w k := by
  rw [fac_sum]
  exact Finset.sum_congr rfl fun k _ => by rw [mul_comm (w k), mul_left_comm]

/-- A column of the gates with its factor: the two products and the biases. -/
theorem fac_gate (j : Fin 1024) (x w h v : Fin 256 → EReal) (a b : EReal) :
    (∑ k, x k * (w k * fac j)) + (∑ k, h k * (v k * fac j)) + (a + b) * fac j
      = fac j * ((∑ k, x k * w k) + (∑ k, h k * v k) + a + b) := by
  rw [fac_dot, fac_dot, mul_comm (a + b), ← fac_add, ← fac_add, add_assoc _ a b]

/-- The same with the bias added to the first product. -/
theorem fac_gate' (j : Fin 1024) (x w h v : Fin 256 → EReal) (a b : EReal) :
    (∑ k, x k * (w k * fac j)) + (a + b) * fac j + (∑ k, h k * (v k * fac j))
      = fac j * ((∑ k, x k * w k) + (∑ k, h k * v k) + a + b) := by
  rw [← fac_gate, add_right_comm]

end Cert.Lstm
-- ==== Proof.KernelPts.lean ====
module

public import proofs.«01_k».proof.Proof.KernelVals
public import proofs.«01_k».proof.Proof.Scalars
public import Idealize.ShloMosaic.Lib.MatmulPlain
public import Idealize.ShloMosaic.Lib.Pipeline.Value

@[expose] public section

noncomputable section

/-! The kernel's vectors entry by entry, over the extended reals. -/

namespace Cert.KernelIdeal.Lstm

open Idealize.ShloMosaic
open Idealize.ShloMosaic.ValueIdx
open Idealize.ShloMosaic.TcCoe
open Cert.KernelIdeal Cert.KernelIdeal.Gen
open Cert.Lstm

/-- A logistic gate's value from its scaled argument. -/
def lg (x : EReal) : EReal := hf * Ideal.tanh x + hf

/-- The first run of equal factors. -/
def run0 : S512.Idx → EReal := broadcastInDim S512 ![] bcast_S_S512 (constant (F := Ideal) S_ .f32 0x3F000000#32)

/-- The second. -/
def run1 : S256.Idx → EReal := broadcastInDim S256 ![] bcast_S_S256 (constant (F := Ideal) S_ .f32 0x3F800000#32)

/-- The third. -/
def run2 : S256.Idx → EReal := broadcastInDim S256 ![] bcast_S_S256 (constant (F := Ideal) S_ .f32 0x3F000000#32)

/-- The three of them. -/
def runs : List ((s : Shape) × (s.Idx → EReal)) := [⟨S512, run0⟩, ⟨S256, run1⟩, ⟨S256, run2⟩]

/-- The columns' factors. -/
theorem factor_at (j : Fin 1024) : factor (F := Ideal) (ix1 (n := 1024) j) = fac j := by
  have hj := j.isLt
  unfold factor fac
  by_cases h1 : j.val < 512
  · rw [if_neg (by omega)]
    exact (concatenate_apply_piece (t := S1024) (0 : Fin 1) runs concatenates_S512_S256_S256_S1024_d0 (ix1 (n := 1024) j) 0 (by decide) S512 run0 rfl rfl 0 rfl (ix1 (n := 512) ⟨j.val, h1⟩)
      (fun b hb => absurd (Subsingleton.elim _ _) hb) (Nat.zero_add _)).trans ofBits_half
  · by_cases h2 : j.val < 768
    · rw [if_pos ⟨by omega, h2⟩]
      exact (concatenate_apply_piece (t := S1024) (0 : Fin 1) runs concatenates_S512_S256_S256_S1024_d0 (ix1 (n := 1024) j) 1 (by decide) S256 run1 rfl rfl 512 rfl (ix1 (n := 256) ⟨j.val - 512, by omega⟩)
        (fun b hb => absurd (Subsingleton.elim _ _) hb) (show 512 + (j.val - 512) = j.val by omega)).trans Ideal.ofBits_one_f32
    · rw [if_neg (by omega)]
      exact (concatenate_apply_piece (t := S1024) (0 : Fin 1) runs concatenates_S512_S256_S256_S1024_d0 (ix1 (n := 1024) j) 2 (by decide) S256 run2 rfl rfl 768 rfl (ix1 (n := 256) ⟨j.val - 768, by omega⟩)
        (fun b hb => absurd (Subsingleton.elim _ _) hb) (show 768 + (j.val - 768) = j.val by omega)).trans ofBits_half

/-- A prepared weight. -/
theorem wOf_at (w : FVec Ideal S1024x256 .f32) (k : Fin 256) (j : Fin 1024) :
    wOf w (ix2 (n0 := 256) (n1 := 1024) k j) = w (ix2 (n0 := 1024) (n1 := 256) j k) * fac j := by
  rw [← factor_at]
  show transpose S256x1024 [1, 0] w transposes_S1024x256_S256x1024_1_0 (ix2 (n0 := 256) (n1 := 1024) k j)
    * broadcastInDim S256x1024 ![0, 1] bcast_S1x1024_S256x1024_0_1 (broadcastInDim S1x1024 ![1] bcast_S1024_S1x1024_1 factor) (ix2 (n0 := 256) (n1 := 1024) k j) = _
  rw [transpose_apply _ _ _ _ (ix2 (n0 := 1024) (n1 := 256) j k) (fun b => match b with | ⟨0, _⟩ => rfl | ⟨1, _⟩ => rfl),
    broadcastInDim_apply _ _ _ _ (ix2 (n0 := 1) (n1 := 1024) 0 j) (fun a => match a with | ⟨0, _⟩ => rfl | ⟨1, _⟩ => rfl),
    broadcastInDim_apply _ _ _ _ (ix1 (n := 1024) j) (fun a => match a with | ⟨0, _⟩ => rfl)]

/-- A prepared bias. -/
theorem bOf_at (bi bh : FVec Ideal S1024 .f32) (j : Fin 1024) :
    bOf bi bh (ix2 (n0 := 1) (n1 := 1024) 0 j) = (bi (ix1 (n := 1024) j) + bh (ix1 (n := 1024) j)) * fac j := by
  rw [← factor_at]
  unfold bOf
  rw [shapeCast_apply _ _ _ (ix1 (n := 1024) j) (by
    rw [Shape.rowMajor_val_one, Shape.rowMajor_val_two]
    show j.val = 0 * 1024 + j.val
    omega)]
  rfl

/-- The lengths at every unit. -/
theorem nOf_at (n : IVec S16 32) (b : Fin 16) (d : Fin 256) : nOf (F := Ideal) n (ix2 (n0 := 16) (n1 := 256) b d) = n (ix1 (n := 16) b) := by
  unfold nOf
  rw [broadcastInDim_apply _ _ _ _ (ix2 (n0 := 16) (n1 := 1) b 0) (fun a => match a with | ⟨0, _⟩ => rfl | ⟨1, _⟩ => rfl),
    broadcastInDim_apply _ _ _ _ (ix1 (n := 16) b) (fun a => match a with | ⟨0, _⟩ => rfl)]

/-- A reshape to the same shape. -/
theorem cast_self {s : Shape} {α : Type} (x : s.Idx → α) (h : s.ShapeCasts s) : shapeCast s x h = x :=
  funext fun j => shapeCast_apply x h j j rfl

/-- A product with the weights. -/
theorem dotW_at (h : V16 Ideal) (w : Vec Ideal S256x1024 .bf16) (b : Fin 16) (j : Fin 1024) :
    dotW h w (ix2 (n0 := 16) (n1 := 1024) b j) = ∑ k : Fin 256, h (ix2 (n0 := 16) (n1 := 256) b k) * w (ix2 (n0 := 256) (n1 := 1024) k j) := by
  unfold dotW
  rw [cast_self]
  refine (Ideal.matmul_plain_apply (M := 16) (K := 256) (N := 1024) none _ _ _ b j).trans ?_
  show Ideal.ofBits .f32 0x00000000#32 + _ = _
  rw [Ideal.ofBits_zero_f32, zero_add]
  rfl

/-- A bias row at a sequence. -/
theorem bias_at (v : Vec Ideal S1x1024 .f32) (b : Fin 16) (j : Fin 1024) :
    bias v (ix2 (n0 := 16) (n1 := 1024) b j) = v (ix2 (n0 := 1) (n1 := 1024) 0 j) := by
  unfold bias
  rw [cast_self, broadcastTo_apply _ _ _ (ix2 (n0 := 1) (n1 := 1024) 0 j) (fun a => match a with | ⟨0, _⟩ => rfl | ⟨1, _⟩ => rfl)]

/-- A column of the gates. -/
theorem gates1_at (x h : V16 Ideal) (wx wh : Vec Ideal S256x1024 .bf16) (v : Vec Ideal S1x1024 .f32) (b : Fin 16) (j : Fin 1024) :
    gates1 x h wx wh v (ix2 (n0 := 16) (n1 := 1024) b j)
      = (∑ k : Fin 256, x (ix2 (n0 := 16) (n1 := 256) b k) * wx (ix2 (n0 := 256) (n1 := 1024) k j))
        + (∑ k : Fin 256, h (ix2 (n0 := 16) (n1 := 256) b k) * wh (ix2 (n0 := 256) (n1 := 1024) k j)) + v (ix2 (n0 := 1) (n1 := 1024) 0 j) := by
  show dotW x wx _ + dotW h wh _ + bias v _ = _
  rw [dotW_at, dotW_at, bias_at]

/-- A chunk's gates at step `i` of sequence `b`. -/
theorem preVal_at (xs : Vec Ideal S8x16x256 .bf16) (w : Vec Ideal S256x1024 .bf16) (v : Vec Ideal S1x1024 .f32) (i : Fin 8) (b : Fin 16) (j : Fin 1024) :
    preVal xs w v (ix2 (n0 := 128) (n1 := 1024) ⟨16 * i.val + b.val, by omega⟩ j)
      = (∑ k : Fin 256, xs (ix3 (n0 := 8) (n1 := 16) (n2 := 256) i b k) * w (ix2 (n0 := 256) (n1 := 1024) k j)) + v (ix2 (n0 := 1) (n1 := 1024) 0 j) := by
  unfold preVal
  rw [cast_self]
  show matmul dot_S128x256_S256x1024_S128x1024_1_0_0_1_n_n none _ _ _ _ + broadcastTo S128x1024 _ _ _ = _
  rw [cast_self, cast_self, broadcastTo_apply _ _ _ (ix2 (n0 := 1) (n1 := 1024) 0 j) (fun a => match a with | ⟨0, _⟩ => rfl | ⟨1, _⟩ => rfl)]
  refine congrArg (· + v (ix2 (n0 := 1) (n1 := 1024) 0 j)) ?_
  refine (Ideal.matmul_plain_apply (M := 128) (K := 256) (N := 1024) none _ _ _ _ j).trans ?_
  show Ideal.ofBits .f32 0x00000000#32 + _ = _
  rw [Ideal.ofBits_zero_f32, zero_add]
  refine Finset.sum_congr rfl fun k _ => ?_
  rw [shapeCast_apply _ _ _ (ix3 (n0 := 8) (n1 := 16) (n2 := 256) i b k) (by
    rw [Shape.rowMajor_val_two, Shape.rowMajor_val_three]
    show (i.val * 16 + b.val) * 256 + k.val = (16 * i.val + b.val) * 256 + k.val
    omega)]

/-- A step's gates from the inputs. -/
theorem xgate_at (I : Ins Ideal) (t : ℕ) (ht : t < 512) (b : Fin 16) (j : Fin 1024) :
    xgate I t (ix2 (n0 := 16) (n1 := 1024) b j)
      = (∑ k : Fin 256, I.x (ix3 (n0 := 16) (n1 := 512) (n2 := 256) b ⟨t, ht⟩ k) * I.w0x (ix2 (n0 := 256) (n1 := 1024) k j))
        + I.b0 (ix2 (n0 := 1) (n1 := 1024) 0 j) := by
  refine (preVal_at _ I.w0x I.b0 ⟨t % 8, Nat.mod_lt _ (by decide)⟩ b j).trans ?_
  refine congrArg (· + I.b0 (ix2 (n0 := 1) (n1 := 1024) 0 j)) (Finset.sum_congr rfl fun k _ => ?_)
  refine congrArg (· * I.w0x (ix2 (n0 := 256) (n1 := 1024) k j)) ?_
  show I.x (ix3 (n0 := 16) (n1 := 512) (n2 := 256) b ⟨8 * (t / 8 % 64) + t % 8, _⟩ k) = _
  have e : 8 * (t / 8 % 64) + t % 8 = t := by omega
  simp only [e]

/-- A gate's part of the columns. -/
theorem part_at (o : ℕ) (ho : o + 256 ≤ 1024) (g : FVec Ideal S16x1024 .f32) (hs : S16x1024.Slices ![0, o] S16x256) (b : Fin 16) (d : Fin 256) :
    extractStridedSlice S16x256 ![0, o] g hs (ix2 (n0 := 16) (n1 := 256) b d) = g (ix2 (n0 := 16) (n1 := 1024) b ⟨o + d.val, by omega⟩) :=
  extractStridedSlice_apply _ _ _ _ _ (fun a => match a with
    | ⟨0, _⟩ => (Nat.zero_add b.val).symm
    | ⟨1, _⟩ => rfl)

/-- The logistic function's entries. -/
theorem half_at (x : V16 Ideal) (y : S16x256.Idx) : half x y = lg (x y) := by
  show Ideal.ofBits .f32 0x3F000000#32 * Ideal.tanh (x y) + Ideal.ofBits .f32 0x3F000000#32 = _
  rw [ofBits_half]
  rfl

/-- The new cell state's entries. -/
theorem cellC_at (g : FVec Ideal S16x1024 .f32) (c : V16 Ideal) (b : Fin 16) (d : Fin 256) :
    cellC g c (ix2 (n0 := 16) (n1 := 256) b d)
      = lg (g (ix2 (n0 := 16) (n1 := 1024) b ⟨256 + d.val, by omega⟩)) * c (ix2 (n0 := 16) (n1 := 256) b d)
        + lg (g (ix2 (n0 := 16) (n1 := 1024) b ⟨0 + d.val, by omega⟩)) * Ideal.tanh (g (ix2 (n0 := 16) (n1 := 1024) b ⟨512 + d.val, by omega⟩)) := by
  show (half (F := Ideal) _ _) * c _ + (half (F := Ideal) _ _) * Ideal.tanh (extractStridedSlice S16x256 ![0, 512] g _ _) = _
  rw [half_at, half_at, part_at 256 (by decide), part_at 0 (by decide), part_at 512 (by decide)]

/-- The new hidden state's entries. -/
theorem cellH_at (g : FVec Ideal S16x1024 .f32) (c : V16 Ideal) (b : Fin 16) (d : Fin 256) :
    cellH g c (ix2 (n0 := 16) (n1 := 256) b d)
      = lg (g (ix2 (n0 := 16) (n1 := 1024) b ⟨768 + d.val, by omega⟩)) * Ideal.tanh (cellC g c (ix2 (n0 := 16) (n1 := 256) b d)) := by
  show (half (F := Ideal) _ _) * Ideal.tanh (cellC g c _) = _
  rw [half_at, part_at 768 (by decide)]

/-- The mask of the sequences longer than `t`. -/
theorem longer_at (n : IVec S16 32) (t : BitVec 32) (y : S16x256.Idx) :
    longer (nOf (F := Ideal) n) t y = BitVec.ofBool (t.slt (n (ix1 (n := 16) (y 0)))) := by
  have e : nOf (F := Ideal) n y = n (ix1 (n := 16) (y 0)) := by
    rw [← nOf_at n (y 0) (y 1)]
    exact congrArg _ (funext fun a => match a with | ⟨0, _⟩ => rfl | ⟨1, _⟩ => rfl)
  unfold longer
  rw [cast_self, ← e]
  rfl

end Cert.KernelIdeal.Lstm
-- ==== Proof.RefVals.lean ====
module

public import proofs.«01_k».proof.Proof.RefFrame
public import Idealize.ShloMosaic.Lib.Tactic

@[expose] public section

set_option maxRecDepth 65536

noncomputable section

/-! What each stretch of the reference's host operations leaves in the arrays that later stretches read, and what one
    trip of each loop leaves in the arrays it carries. -/

namespace Cert.ReferenceIdeal.Lstm

open Cert.ReferenceIdeal Cert.ReferenceIdeal.Gen
open Idealize.ShloMosaic Idealize.ShloMosaic.TcCoe Idealize.ShloMosaic.StableHlo Idealize.ShloMosaic.Tactic

variable {F : FTy → Type} [FloatOps F]

/-! ## The functions the stretches compute -/

/-- The first layer's part of a pair of states. -/
def low (h : FVec F S2x16x256 .f32) : FVec F S16x256 .f32 :=
  shapeCast S16x256 (extractStridedSlice S1x16x256 ![0, 0, 0] h slices_S2x16x256_S1x16x256_0_0_0) shapeCasts_S1x16x256_S16x256

/-- The second layer's part of a pair of states. -/
def high (h : FVec F S2x16x256 .f32) : FVec F S16x256 .f32 :=
  shapeCast S16x256 (extractStridedSlice S1x16x256 ![1, 0, 0] h slices_S2x16x256_S1x16x256_1_0_0) shapeCasts_S1x16x256_S16x256

/-- A product with a transposed weight matrix. -/
def times (x : FVec F S16x256 .f32) (w : FVec F S1024x256 .f32) : FVec F S16x1024 .f32 :=
  Host.dotGeneral dot_S16x256_S256x1024_S16x1024_1_0_0_1_n_n none x (transpose S256x1024 [1, 0] w transposes_S1024x256_S256x1024_1_0)

/-- A bias at every sequence. -/
def spread (b : FVec F S1024 .f32) : FVec F S16x1024 .f32 :=
  broadcastInDim S16x1024 ![0, 1] bcast_S1x1024_S16x1024_0_1 (broadcastInDim S1x1024 ![1] bcast_S1024_S1x1024_1 b)

/-- A layer's gates. -/
def gates (x h : FVec F S16x256 .f32) (wi wh : FVec F S1024x256 .f32) (bi bh : FVec F S1024 .f32) : FVec F S16x1024 .f32 :=
  addf (addf (addf (times x wi) (times h wh)) (spread bi)) (spread bh)

/-- A one everywhere. -/
def ones16 : FVec F S16x256 .f32 := broadcastInDim S16x256 ![] bcast_S_S16x256 (constant S_ .f32 0x3F800000#32)

/-- The logistic function. -/
def sig' (x : FVec F S16x256 .f32) : FVec F S16x256 .f32 := Host.divf ones16 (addf ones16 (Host.exp (Host.negf x)))

/-- The new cell state. -/
def newC (g : FVec F S16x1024 .f32) (c : FVec F S16x256 .f32) : FVec F S16x256 .f32 :=
  addf (mulf (sig' (extractStridedSlice S16x256 ![0, 256] g slices_S16x1024_S16x256_0_256)) c)
    (mulf (sig' (extractStridedSlice S16x256 ![0, 0] g slices_S16x1024_S16x256_0_0))
      (Host.tanh (extractStridedSlice S16x256 ![0, 512] g slices_S16x1024_S16x256_0_512)))

/-- The new hidden state. -/
def newH (g : FVec F S16x1024 .f32) (c : FVec F S16x256 .f32) : FVec F S16x256 .f32 :=
  mulf (sig' (extractStridedSlice S16x256 ![0, 768] g slices_S16x1024_S16x256_0_768)) (Host.tanh (newC g c))

/-- The two layers' vectors as one array. -/
def stack (a b : FVec F S16x256 .f32) : FVec F S2x16x256 .f32 :=
  concatenate S2x16x256 0 [⟨S1x16x256, broadcastInDim S1x16x256 ![1, 2] bcast_S16x256_S1x16x256_1_2 a⟩,
    ⟨S1x16x256, broadcastInDim S1x16x256 ![1, 2] bcast_S16x256_S1x16x256_1_2 b⟩] concatenates_S1x16x256_S1x16x256_S2x16x256_d0

/-- The sequences that step `t` belongs to. -/
def before' (t : IVec S_ 32) (n : IVec S16 32) : IVec S16 1 := cmpi .slt (broadcastInDim S16 ![] bcast_S_S16 t) n

/-- The new pair of states where the mask holds, the old one elsewhere. -/
def freeze (m : IVec S16 1) (a b : FVec F S2x16x256 .f32) : FVec F S2x16x256 .f32 :=
  select (broadcastInDim S2x16x256 ![0, 1, 2] bcast_S1x16x1_S2x16x256_0_1_2 (broadcastInDim S1x16x1 ![1] bcast_S16_S1x16x1_1 m)) a b

/-- A vector where the mask holds, zero elsewhere. -/
def blank (m : IVec S16 1) (a : FVec F S16x256 .f32) : FVec F S16x256 .f32 :=
  select (broadcastInDim S16x256 ![0, 1] bcast_S16x1_S16x256_0_1 (broadcastInDim S16x1 ![0] bcast_S16_S16x1_0 m)) a
    (broadcastInDim S16x256 ![] bcast_S_S16x256 (constant S_ .f32 0x00000000#32))

/-- A teacher-forced step's place in an array of rows, as the counter gives it. -/
def place3 (k : IVec S_ 32) : Fin 3 → ℤ := fun i => ((![k, constantI S_ 32 0#32, constantI S_ 32 0#32] : Fin 3 → IVec S_ 32) i (Shape.Idx.first h_S_)).toInt

/-- Row `k` of the inputs. -/
def inRow (x : FVec F S512x16x256 .f32) (k : IVec S_ 32) : FVec F S16x256 .f32 :=
  shapeCast S16x256 (Host.dynamicSlice S1x16x256 x (place3 k) sliceFits_S512x16x256_S1x16x256) shapeCasts_S1x16x256_S16x256

/-- Entry `k` of the steps' numbers. -/
def inNum (x : IVec S512 32) (k : IVec S_ 32) : IVec S_ 32 :=
  shapeCast S_ (Host.dynamicSlice S1 x (fun i => ((![k] : Fin 1 → IVec S_ 32) i (Shape.Idx.first h_S_)).toInt) sliceFits_S512_S1) shapeCasts_S1_S_

/-- Row `k` of the autoregressive steps' masks. -/
def inMask (x : IVec S64x16 1) (k : IVec S_ 32) : IVec S16 1 :=
  shapeCast S16 (Host.dynamicSlice S1x16 x (fun i => ((![k, constantI S_ 32 0#32] : Fin 2 → IVec S_ 32) i (Shape.Idx.first h_S_)).toInt) sliceFits_S64x16_S1x16)
    shapeCasts_S1x16_S16

/-- The teacher-forced results with row `k` stored. -/
def setRow (x : FVec F S512x16x256 .f32) (u : FVec F S16x256 .f32) (k : IVec S_ 32) : FVec F S512x16x256 .f32 :=
  Host.dynamicUpdateSlice x (broadcastInDim S1x16x256 ![1, 2] bcast_S16x256_S1x16x256_1_2 u) (place3 k) updateFits_S512x16x256_S1x16x256

/-- The autoregressive results with row `k` stored. -/
def setRow' (x : FVec F S64x16x256 .f32) (u : FVec F S16x256 .f32) (k : IVec S_ 32) : FVec F S64x16x256 .f32 :=
  Host.dynamicUpdateSlice x (broadcastInDim S1x16x256 ![1, 2] bcast_S16x256_S1x16x256_1_2 u) (place3 k) updateFits_S64x16x256_S1x16x256

/-! ## What the stretches leave -/

/-- What these operations leave in this array. -/
theorem t_c0_v36 (V : Valuation τ sig (Elt F)) :
    after t_c0 V (Proc.devRef .tc main_while0b_v36) = inRow (V (Proc.devRef .tc main_v5_0)) (V (Proc.devRef .tc main_v5_11)) := by
  after_results_entrywise [cast_eq]

/-- What these operations leave in this array. -/
theorem t_c1_v37 (V : Valuation τ sig (Elt F)) :
    after t_c1 V (Proc.devRef .tc main_while0b_v37) = inNum (V (Proc.devRef .tc main_v5_1)) (V (Proc.devRef .tc main_v5_11)) := by
  after_results_entrywise [cast_eq]

/-- What these operations leave in this array. -/
theorem t_g0_v52 (V : Valuation τ sig (Elt F)) :
    after t_g0 V (Proc.devRef .tc main_while0b_v52) = gates (V (Proc.devRef .tc main_while0b_v36)) (low (V (Proc.devRef .tc main_v5_12))) (V (Proc.devRef .tc main_v5_2)) (V (Proc.devRef .tc main_v5_3)) (V (Proc.devRef .tc main_v5_4)) (V (Proc.devRef .tc main_v5_5)) := by
  after_results
  first | done | rfl

/-- What these operations leave in this array. -/
theorem t_g0_v41 (V : Valuation τ sig (Elt F)) :
    after t_g0 V (Proc.devRef .tc main_while0b_v41) = low (V (Proc.devRef .tc main_v5_13)) := by
  after_results
  first | done | rfl

/-- What these operations leave in this array. -/
theorem t_s0_v78 (V : Valuation τ sig (Elt F)) :
    after t_s0 V (Proc.devRef .tc main_while0b_v78) = newC (V (Proc.devRef .tc main_while0b_v52)) (V (Proc.devRef .tc main_while0b_v41)) := by
  after_results
  first | done | rfl

/-- What these operations leave in this array. -/
theorem t_s0_v80 (V : Valuation τ sig (Elt F)) :
    after t_s0 V (Proc.devRef .tc main_while0b_v80) = newH (V (Proc.devRef .tc main_while0b_v52)) (V (Proc.devRef .tc main_while0b_v41)) := by
  after_results
  first | done | rfl

/-- What these operations leave in this array. -/
theorem t_g1_v95 (V : Valuation τ sig (Elt F)) :
    after t_g1 V (Proc.devRef .tc main_while0b_v95) = gates (V (Proc.devRef .tc main_while0b_v80)) (high (V (Proc.devRef .tc main_v5_12))) (V (Proc.devRef .tc main_v5_6)) (V (Proc.devRef .tc main_v5_7)) (V (Proc.devRef .tc main_v5_8)) (V (Proc.devRef .tc main_v5_9)) := by
  after_results
  first | done | rfl

/-- What these operations leave in this array. -/
theorem t_g1_v84 (V : Valuation τ sig (Elt F)) :
    after t_g1 V (Proc.devRef .tc main_while0b_v84) = high (V (Proc.devRef .tc main_v5_13)) := by
  after_results
  first | done | rfl

/-- What these operations leave in this array. -/
theorem t_s1_v121 (V : Valuation τ sig (Elt F)) :
    after t_s1 V (Proc.devRef .tc main_while0b_v121) = newC (V (Proc.devRef .tc main_while0b_v95)) (V (Proc.devRef .tc main_while0b_v84)) := by
  after_results
  first | done | rfl

/-- What these operations leave in this array. -/
theorem t_s1_v123 (V : Valuation τ sig (Elt F)) :
    after t_s1 V (Proc.devRef .tc main_while0b_v123) = newH (V (Proc.devRef .tc main_while0b_v95)) (V (Proc.devRef .tc main_while0b_v84)) := by
  after_results
  first | done | rfl

/-- What these operations leave in this array. -/
theorem t_x0_v126 (V : Valuation τ sig (Elt F)) :
    after t_x0 V (Proc.devRef .tc main_while0b_v126) = stack (V (Proc.devRef .tc main_while0b_v80)) (V (Proc.devRef .tc main_while0b_v123)) := by
  after_results
  first | done | rfl

/-- What these operations leave in this array. -/
theorem t_x0_v129 (V : Valuation τ sig (Elt F)) :
    after t_x0 V (Proc.devRef .tc main_while0b_v129) = stack (V (Proc.devRef .tc main_while0b_v78)) (V (Proc.devRef .tc main_while0b_v121)) := by
  after_results
  first | done | rfl

/-- What these operations leave in this array. -/
theorem t_x0_v131 (V : Valuation τ sig (Elt F)) :
    after t_x0 V (Proc.devRef .tc main_while0b_v131) = before' (V (Proc.devRef .tc main_while0b_v37)) (V (Proc.devRef .tc main_v5_10)) := by
  after_results
  first | done | rfl

/-- What these operations leave in this array. -/
theorem t_x0_v132 (V : Valuation τ sig (Elt F)) :
    after t_x0 V (Proc.devRef .tc main_while0b_v132) = broadcastInDim S1x16x1 ![1] bcast_S16_S1x16x1_1 (before' (V (Proc.devRef .tc main_while0b_v37)) (V (Proc.devRef .tc main_v5_10))) := by
  after_results
  rfl

/-- What these operations leave in this array. -/
theorem t_c2_v133 (V : Valuation τ sig (Elt F)) :
    after t_c2 V (Proc.devRef .tc main_while0b_v133) = select (broadcastInDim S2x16x256 ![0, 1, 2] bcast_S1x16x1_S2x16x256_0_1_2 (V (Proc.devRef .tc main_while0b_v132))) (V (Proc.devRef .tc main_while0b_v126)) (V (Proc.devRef .tc main_v5_12)) := by
  after_results
  first | done | rfl

/-- What these operations leave in this array. -/
theorem t_x1_v134 (V : Valuation τ sig (Elt F)) :
    after t_x1 V (Proc.devRef .tc main_while0b_v134) = broadcastInDim S1x16x1 ![1] bcast_S16_S1x16x1_1 (V (Proc.devRef .tc main_while0b_v131)) := by
  after_results
  first | done | rfl

/-- What these operations leave in this array. -/
theorem t_c3_v135 (V : Valuation τ sig (Elt F)) :
    after t_c3 V (Proc.devRef .tc main_while0b_v135) = select (broadcastInDim S2x16x256 ![0, 1, 2] bcast_S1x16x1_S2x16x256_0_1_2 (V (Proc.devRef .tc main_while0b_v134))) (V (Proc.devRef .tc main_while0b_v129)) (V (Proc.devRef .tc main_v5_13)) := by
  after_results
  first | done | rfl

/-- What these operations leave in this array. -/
theorem t_x2_v136 (V : Valuation τ sig (Elt F)) :
    after t_x2 V (Proc.devRef .tc main_while0b_v136) = broadcastInDim S16x1 ![0] bcast_S16_S16x1_0 (V (Proc.devRef .tc main_while0b_v131)) := by
  after_results
  first | done | rfl

/-- What these operations leave in this array. -/
theorem t_x2_cst_36 (V : Valuation τ sig (Elt F)) :
    after t_x2 V (Proc.devRef .tc main_while0b_cst_36) = constant S_ .f32 0x00000000#32 := by
  after_results
  first | done | rfl

/-- What these operations leave in this array. -/
theorem t_c4_v137 (V : Valuation τ sig (Elt F)) :
    after t_c4 V (Proc.devRef .tc main_while0b_v137) = select (broadcastInDim S16x256 ![0, 1] bcast_S16x1_S16x256_0_1 (V (Proc.devRef .tc main_while0b_v136))) (V (Proc.devRef .tc main_while0b_v123)) (broadcastInDim S16x256 ![] bcast_S_S16x256 (V (Proc.devRef .tc main_while0b_cst_36))) := by
  after_results
  first | done | rfl

/-- What these operations leave in this array. -/
theorem t_c5_v138 (V : Valuation τ sig (Elt F)) :
    after t_c5 V (Proc.devRef .tc main_while0b_v138) = setRow (V (Proc.devRef .tc main_v5_14)) (V (Proc.devRef .tc main_while0b_v137)) (V (Proc.devRef .tc main_v5_11)) := by
  after_results_entrywise [cast_eq]

/-- What these operations leave in this array. -/
theorem t_x3_v5_12 (V : Valuation τ sig (Elt F)) :
    after t_x3 V (Proc.devRef .tc main_v5_12) = (V (Proc.devRef .tc main_while0b_v133)) := by
  after_results
  first | done | rfl

/-- What these operations leave in this array. -/
theorem t_x3_v5_13 (V : Valuation τ sig (Elt F)) :
    after t_x3 V (Proc.devRef .tc main_v5_13) = (V (Proc.devRef .tc main_while0b_v135)) := by
  after_results
  first | done | rfl

/-- What these operations leave in this array. -/
theorem t_x3_v5_14 (V : Valuation τ sig (Elt F)) :
    after t_x3 V (Proc.devRef .tc main_v5_14) = (V (Proc.devRef .tc main_while0b_v138)) := by
  after_results
  first | done | rfl

/-- What these operations leave in this array. -/
theorem d_c6_v36 (V : Valuation τ sig (Elt F)) :
    after d_c6 V (Proc.devRef .tc main_while1b_v36) = inMask (V (Proc.devRef .tc main_v26_0)) (V (Proc.devRef .tc main_v26_9)) := by
  after_results_entrywise [cast_eq]

/-- What these operations leave in this array. -/
theorem d_g0_v51 (V : Valuation τ sig (Elt F)) :
    after d_g0 V (Proc.devRef .tc main_while1b_v51) = gates (V (Proc.devRef .tc main_v26_12)) (low (V (Proc.devRef .tc main_v26_10))) (V (Proc.devRef .tc main_v26_1)) (V (Proc.devRef .tc main_v26_2)) (V (Proc.devRef .tc main_v26_3)) (V (Proc.devRef .tc main_v26_4)) := by
  after_results
  first | done | rfl

/-- What these operations leave in this array. -/
theorem d_g0_v40 (V : Valuation τ sig (Elt F)) :
    after d_g0 V (Proc.devRef .tc main_while1b_v40) = low (V (Proc.devRef .tc main_v26_11)) := by
  after_results
  first | done | rfl

/-- What these operations leave in this array. -/
theorem d_s0_v77 (V : Valuation τ sig (Elt F)) :
    after d_s0 V (Proc.devRef .tc main_while1b_v77) = newC (V (Proc.devRef .tc main_while1b_v51)) (V (Proc.devRef .tc main_while1b_v40)) := by
  after_results
  first | done | rfl

/-- What these operations leave in this array. -/
theorem d_s0_v79 (V : Valuation τ sig (Elt F)) :
    after d_s0 V (Proc.devRef .tc main_while1b_v79) = newH (V (Proc.devRef .tc main_while1b_v51)) (V (Proc.devRef .tc main_while1b_v40)) := by
  after_results
  first | done | rfl

/-- What these operations leave in this array. -/
theorem d_g1_v94 (V : Valuation τ sig (Elt F)) :
    after d_g1 V (Proc.devRef .tc main_while1b_v94) = gates (V (Proc.devRef .tc main_while1b_v79)) (high (V (Proc.devRef .tc main_v26_10))) (V (Proc.devRef .tc main_v26_5)) (V (Proc.devRef .tc main_v26_6)) (V (Proc.devRef .tc main_v26_7)) (V (Proc.devRef .tc main_v26_8)) := by
  after_results
  first | done | rfl

/-- What these operations leave in this array. -/
theorem d_g1_v83 (V : Valuation τ sig (Elt F)) :
    after d_g1 V (Proc.devRef .tc main_while1b_v83) = high (V (Proc.devRef .tc main_v26_11)) := by
  after_results
  first | done | rfl

/-- What these operations leave in this array. -/
theorem d_s1_v120 (V : Valuation τ sig (Elt F)) :
    after d_s1 V (Proc.devRef .tc main_while1b_v120) = newC (V (Proc.devRef .tc main_while1b_v94)) (V (Proc.devRef .tc main_while1b_v83)) := by
  after_results
  first | done | rfl

/-- What these operations leave in this array. -/
theorem d_s1_v122 (V : Valuation τ sig (Elt F)) :
    after d_s1 V (Proc.devRef .tc main_while1b_v122) = newH (V (Proc.devRef .tc main_while1b_v94)) (V (Proc.devRef .tc main_while1b_v83)) := by
  after_results
  first | done | rfl

/-- What these operations leave in this array. -/
theorem d_x0_v125 (V : Valuation τ sig (Elt F)) :
    after d_x0 V (Proc.devRef .tc main_while1b_v125) = stack (V (Proc.devRef .tc main_while1b_v79)) (V (Proc.devRef .tc main_while1b_v122)) := by
  after_results
  first | done | rfl

/-- What these operations leave in this array. -/
theorem d_x0_v128 (V : Valuation τ sig (Elt F)) :
    after d_x0 V (Proc.devRef .tc main_while1b_v128) = stack (V (Proc.devRef .tc main_while1b_v77)) (V (Proc.devRef .tc main_while1b_v120)) := by
  after_results
  first | done | rfl

/-- What these operations leave in this array. -/
theorem d_x0_v129 (V : Valuation τ sig (Elt F)) :
    after d_x0 V (Proc.devRef .tc main_while1b_v129) = broadcastInDim S1x16x1 ![1] bcast_S16_S1x16x1_1 (V (Proc.devRef .tc main_while1b_v36)) := by
  after_results
  first | done | rfl

/-- What these operations leave in this array. -/
theorem d_c7_v130 (V : Valuation τ sig (Elt F)) :
    after d_c7 V (Proc.devRef .tc main_while1b_v130) = select (broadcastInDim S2x16x256 ![0, 1, 2] bcast_S1x16x1_S2x16x256_0_1_2 (V (Proc.devRef .tc main_while1b_v129))) (V (Proc.devRef .tc main_while1b_v125)) (V (Proc.devRef .tc main_v26_10)) := by
  after_results
  first | done | rfl

/-- What these operations leave in this array. -/
theorem d_x1_v131 (V : Valuation τ sig (Elt F)) :
    after d_x1 V (Proc.devRef .tc main_while1b_v131) = broadcastInDim S1x16x1 ![1] bcast_S16_S1x16x1_1 (V (Proc.devRef .tc main_while1b_v36)) := by
  after_results
  first | done | rfl

/-- What these operations leave in this array. -/
theorem d_c8_v132 (V : Valuation τ sig (Elt F)) :
    after d_c8 V (Proc.devRef .tc main_while1b_v132) = select (broadcastInDim S2x16x256 ![0, 1, 2] bcast_S1x16x1_S2x16x256_0_1_2 (V (Proc.devRef .tc main_while1b_v131))) (V (Proc.devRef .tc main_while1b_v128)) (V (Proc.devRef .tc main_v26_11)) := by
  after_results
  first | done | rfl

/-- What these operations leave in this array. -/
theorem d_x2_v133 (V : Valuation τ sig (Elt F)) :
    after d_x2 V (Proc.devRef .tc main_while1b_v133) = broadcastInDim S16x1 ![0] bcast_S16_S16x1_0 (V (Proc.devRef .tc main_while1b_v36)) := by
  after_results
  first | done | rfl

/-- What these operations leave in this array. -/
theorem d_x2_cst_35 (V : Valuation τ sig (Elt F)) :
    after d_x2 V (Proc.devRef .tc main_while1b_cst_35) = constant S_ .f32 0x00000000#32 := by
  after_results
  first | done | rfl

/-- What these operations leave in this array. -/
theorem d_c9_v134 (V : Valuation τ sig (Elt F)) :
    after d_c9 V (Proc.devRef .tc main_while1b_v134) = select (broadcastInDim S16x256 ![0, 1] bcast_S16x1_S16x256_0_1 (V (Proc.devRef .tc main_while1b_v133))) (V (Proc.devRef .tc main_while1b_v122)) (broadcastInDim S16x256 ![] bcast_S_S16x256 (V (Proc.devRef .tc main_while1b_cst_35))) := by
  after_results
  first | done | rfl

/-- What these operations leave in this array. -/
theorem d_c10_v135 (V : Valuation τ sig (Elt F)) :
    after d_c10 V (Proc.devRef .tc main_while1b_v135) = setRow' (V (Proc.devRef .tc main_v26_13)) (V (Proc.devRef .tc main_while1b_v134)) (V (Proc.devRef .tc main_v26_9)) := by
  after_results_entrywise [cast_eq]

/-- What these operations leave in this array. -/
theorem d_x3_v26_10 (V : Valuation τ sig (Elt F)) :
    after d_x3 V (Proc.devRef .tc main_v26_10) = (V (Proc.devRef .tc main_while1b_v130)) := by
  after_results
  first | done | rfl

/-- What these operations leave in this array. -/
theorem d_x3_v26_11 (V : Valuation τ sig (Elt F)) :
    after d_x3 V (Proc.devRef .tc main_v26_11) = (V (Proc.devRef .tc main_while1b_v132)) := by
  after_results
  first | done | rfl

/-- What these operations leave in this array. -/
theorem d_x3_v26_12 (V : Valuation τ sig (Elt F)) :
    after d_x3 V (Proc.devRef .tc main_v26_12) = (V (Proc.devRef .tc main_while1b_v134)) := by
  after_results
  first | done | rfl

/-- What these operations leave in this array. -/
theorem d_x3_v26_13 (V : Valuation τ sig (Elt F)) :
    after d_x3 V (Proc.devRef .tc main_v26_13) = (V (Proc.devRef .tc main_while1b_v135)) := by
  after_results
  first | done | rfl

/-! ## One trip of each loop -/

/-- The two layers' weights and biases. -/
structure Par (F : FTy → Type) where
  wi0 : FVec F S1024x256 .f32
  wh0 : FVec F S1024x256 .f32
  bi0 : FVec F S1024 .f32
  bh0 : FVec F S1024 .f32
  wi1 : FVec F S1024x256 .f32
  wh1 : FVec F S1024x256 .f32
  bi1 : FVec F S1024 .f32
  bh1 : FVec F S1024 .f32

/-- The hidden states of both layers and their cell states. -/
abbrev St2 (F : FTy → Type) : Type := FVec F S2x16x256 .f32 × FVec F S2x16x256 .f32

/-- The first layer's gates in one step. -/
def g0 (P : Par F) (x : FVec F S16x256 .f32) (s : St2 F) : FVec F S16x1024 .f32 := gates x (low s.1) P.wi0 P.wh0 P.bi0 P.bh0

/-- The first layer's new hidden state. -/
def h0 (P : Par F) (x : FVec F S16x256 .f32) (s : St2 F) : FVec F S16x256 .f32 := newH (g0 P x s) (low s.2)

/-- The second layer's gates in one step. -/
def g1 (P : Par F) (x : FVec F S16x256 .f32) (s : St2 F) : FVec F S16x1024 .f32 := gates (h0 P x s) (high s.1) P.wi1 P.wh1 P.bi1 P.bh1

/-- The second layer's new hidden state. -/
def h1 (P : Par F) (x : FVec F S16x256 .f32) (s : St2 F) : FVec F S16x256 .f32 := newH (g1 P x s) (high s.2)

/-- One step of the two layers, kept where the mask does not hold. -/
def stepSt (P : Par F) (m : IVec S16 1) (x : FVec F S16x256 .f32) (s : St2 F) : St2 F :=
  (freeze m (stack (h0 P x s) (h1 P x s)) s.1, freeze m (stack (newC (g0 P x s) (low s.2)) (newC (g1 P x s) (high s.2))) s.2)

/-- The weights and biases as the teacher-forced loop carries them. -/
def parT (V : Valuation τ sig (Elt F)) : Par F :=
  ⟨V (Proc.devRef .tc main_v5_2), V (Proc.devRef .tc main_v5_3), V (Proc.devRef .tc main_v5_4), V (Proc.devRef .tc main_v5_5),
    V (Proc.devRef .tc main_v5_6), V (Proc.devRef .tc main_v5_7), V (Proc.devRef .tc main_v5_8), V (Proc.devRef .tc main_v5_9)⟩

/-- The weights and biases as the autoregressive loop carries them. -/
def parD (V : Valuation τ sig (Elt F)) : Par F :=
  ⟨V (Proc.devRef .tc main_v26_1), V (Proc.devRef .tc main_v26_2), V (Proc.devRef .tc main_v26_3), V (Proc.devRef .tc main_v26_4),
    V (Proc.devRef .tc main_v26_5), V (Proc.devRef .tc main_v26_6), V (Proc.devRef .tc main_v26_7), V (Proc.devRef .tc main_v26_8)⟩

/-- The states as the teacher-forced loop carries them. -/
def stT (V : Valuation τ sig (Elt F)) : St2 F := (V (Proc.devRef .tc main_v5_12), V (Proc.devRef .tc main_v5_13))

/-- The states as the autoregressive loop carries them. -/
def stD (V : Valuation τ sig (Elt F)) : St2 F := (V (Proc.devRef .tc main_v26_10), V (Proc.devRef .tc main_v26_11))

/-- The mask of a teacher-forced trip. -/
def maskT (V : Valuation τ sig (Elt F)) : IVec S16 1 :=
  before' (inNum (V (Proc.devRef .tc main_v5_1)) (V (Proc.devRef .tc main_v5_11))) (V (Proc.devRef .tc main_v5_10))

/-- The input of a teacher-forced trip. -/
def rowT (V : Valuation τ sig (Elt F)) : FVec F S16x256 .f32 := inRow (V (Proc.devRef .tc main_v5_0)) (V (Proc.devRef .tc main_v5_11))

/-- The mask of an autoregressive trip. -/
def maskD (V : Valuation τ sig (Elt F)) : IVec S16 1 := inMask (V (Proc.devRef .tc main_v26_0)) (V (Proc.devRef .tc main_v26_9))

/-- The input of an autoregressive trip. -/
def rowD (V : Valuation τ sig (Elt F)) : FVec F S16x256 .f32 := V (Proc.devRef .tc main_v26_12)

/-- The hidden states after a teacher-forced trip. -/
theorem t_trip_h (V : Valuation τ sig (Elt F)) : afterL teach V (Proc.devRef .tc main_v5_12) = (stepSt (parT V) (maskT V) (rowT V) (stT V)).1 := by
  rw [afterL_cons, afterL_cons, afterL_cons, afterL_cons, afterL_cons, afterL_cons, afterL_cons, afterL_cons, afterL_cons, afterL_cons, afterL_cons, afterL_cons, afterL_cons, afterL_cons, afterL_nil]
  rw [t_x3_v5_12, t_c5_keep _ (r := main_while0b_v133) (by decide), t_c4_keep _ (r := main_while0b_v133) (by decide), t_x2_keep _ (r := main_while0b_v133) (by decide),
    t_c3_keep _ (r := main_while0b_v133) (by decide), t_x1_keep _ (r := main_while0b_v133) (by decide), t_c2_v133, t_x0_v132,
    t_x0_v126, t_x0_keep _ (r := main_v5_12) (by decide), t_s1_keep _ (r := main_while0b_v37) (by decide), t_s1_keep _ (r := main_v5_10) (by decide),
    t_s1_keep _ (r := main_while0b_v80) (by decide), t_s1_v123, t_s1_keep _ (r := main_v5_12) (by decide), t_g1_keep _ (r := main_while0b_v37) (by decide),
    t_g1_keep _ (r := main_v5_10) (by decide), t_g1_keep _ (r := main_while0b_v80) (by decide), t_g1_v95, t_g1_v84,
    t_g1_keep _ (r := main_v5_12) (by decide), t_s0_keep _ (r := main_while0b_v37) (by decide), t_s0_keep _ (r := main_v5_10) (by decide), t_s0_v80,
    t_s0_keep _ (r := main_v5_12) (by decide), t_s0_keep _ (r := main_v5_6) (by decide), t_s0_keep _ (r := main_v5_7) (by decide), t_s0_keep _ (r := main_v5_8) (by decide),
    t_s0_keep _ (r := main_v5_9) (by decide), t_s0_keep _ (r := main_v5_13) (by decide), t_g0_keep _ (r := main_while0b_v37) (by decide), t_g0_keep _ (r := main_v5_10) (by decide),
    t_g0_v52, t_g0_v41, t_g0_keep _ (r := main_v5_12) (by decide), t_g0_keep _ (r := main_v5_6) (by decide),
    t_g0_keep _ (r := main_v5_7) (by decide), t_g0_keep _ (r := main_v5_8) (by decide), t_g0_keep _ (r := main_v5_9) (by decide), t_g0_keep _ (r := main_v5_13) (by decide),
    t_c1_v37, t_c1_keep _ (r := main_v5_10) (by decide), t_c1_keep _ (r := main_while0b_v36) (by decide), t_c1_keep _ (r := main_v5_12) (by decide),
    t_c1_keep _ (r := main_v5_2) (by decide), t_c1_keep _ (r := main_v5_3) (by decide), t_c1_keep _ (r := main_v5_4) (by decide), t_c1_keep _ (r := main_v5_5) (by decide),
    t_c1_keep _ (r := main_v5_13) (by decide), t_c1_keep _ (r := main_v5_6) (by decide), t_c1_keep _ (r := main_v5_7) (by decide), t_c1_keep _ (r := main_v5_8) (by decide),
    t_c1_keep _ (r := main_v5_9) (by decide), t_c0_keep _ (r := main_v5_1) (by decide), t_c0_keep _ (r := main_v5_11) (by decide), t_c0_keep _ (r := main_v5_10) (by decide),
    t_c0_v36, t_c0_keep _ (r := main_v5_12) (by decide), t_c0_keep _ (r := main_v5_2) (by decide), t_c0_keep _ (r := main_v5_3) (by decide),
    t_c0_keep _ (r := main_v5_4) (by decide), t_c0_keep _ (r := main_v5_5) (by decide), t_c0_keep _ (r := main_v5_13) (by decide), t_c0_keep _ (r := main_v5_6) (by decide),
    t_c0_keep _ (r := main_v5_7) (by decide), t_c0_keep _ (r := main_v5_8) (by decide), t_c0_keep _ (r := main_v5_9) (by decide)]
  rfl

/-- The cell states after a teacher-forced trip. -/
theorem t_trip_c (V : Valuation τ sig (Elt F)) : afterL teach V (Proc.devRef .tc main_v5_13) = (stepSt (parT V) (maskT V) (rowT V) (stT V)).2 := by
  rw [afterL_cons, afterL_cons, afterL_cons, afterL_cons, afterL_cons, afterL_cons, afterL_cons, afterL_cons, afterL_cons, afterL_cons, afterL_cons, afterL_cons, afterL_cons, afterL_cons, afterL_nil]
  rw [t_x3_v5_13, t_c5_keep _ (r := main_while0b_v135) (by decide), t_c4_keep _ (r := main_while0b_v135) (by decide), t_x2_keep _ (r := main_while0b_v135) (by decide),
    t_c3_v135, t_x1_v134, t_x1_keep _ (r := main_while0b_v129) (by decide), t_x1_keep _ (r := main_v5_13) (by decide),
    t_c2_keep _ (r := main_while0b_v131) (by decide), t_c2_keep _ (r := main_while0b_v129) (by decide), t_c2_keep _ (r := main_v5_13) (by decide), t_x0_v131,
    t_x0_v129, t_x0_keep _ (r := main_v5_13) (by decide), t_s1_keep _ (r := main_while0b_v37) (by decide), t_s1_keep _ (r := main_v5_10) (by decide),
    t_s1_keep _ (r := main_while0b_v78) (by decide), t_s1_v121, t_s1_keep _ (r := main_v5_13) (by decide), t_g1_keep _ (r := main_while0b_v37) (by decide),
    t_g1_keep _ (r := main_v5_10) (by decide), t_g1_keep _ (r := main_while0b_v78) (by decide), t_g1_v95, t_g1_v84,
    t_g1_keep _ (r := main_v5_13) (by decide), t_s0_keep _ (r := main_while0b_v37) (by decide), t_s0_keep _ (r := main_v5_10) (by decide), t_s0_v78,
    t_s0_v80, t_s0_keep _ (r := main_v5_12) (by decide), t_s0_keep _ (r := main_v5_6) (by decide), t_s0_keep _ (r := main_v5_7) (by decide),
    t_s0_keep _ (r := main_v5_8) (by decide), t_s0_keep _ (r := main_v5_9) (by decide), t_s0_keep _ (r := main_v5_13) (by decide), t_g0_keep _ (r := main_while0b_v37) (by decide),
    t_g0_keep _ (r := main_v5_10) (by decide), t_g0_v52, t_g0_v41, t_g0_keep _ (r := main_v5_12) (by decide),
    t_g0_keep _ (r := main_v5_6) (by decide), t_g0_keep _ (r := main_v5_7) (by decide), t_g0_keep _ (r := main_v5_8) (by decide), t_g0_keep _ (r := main_v5_9) (by decide),
    t_g0_keep _ (r := main_v5_13) (by decide), t_c1_v37, t_c1_keep _ (r := main_v5_10) (by decide), t_c1_keep _ (r := main_while0b_v36) (by decide),
    t_c1_keep _ (r := main_v5_12) (by decide), t_c1_keep _ (r := main_v5_2) (by decide), t_c1_keep _ (r := main_v5_3) (by decide), t_c1_keep _ (r := main_v5_4) (by decide),
    t_c1_keep _ (r := main_v5_5) (by decide), t_c1_keep _ (r := main_v5_13) (by decide), t_c1_keep _ (r := main_v5_6) (by decide), t_c1_keep _ (r := main_v5_7) (by decide),
    t_c1_keep _ (r := main_v5_8) (by decide), t_c1_keep _ (r := main_v5_9) (by decide), t_c0_keep _ (r := main_v5_1) (by decide), t_c0_keep _ (r := main_v5_11) (by decide),
    t_c0_keep _ (r := main_v5_10) (by decide), t_c0_v36, t_c0_keep _ (r := main_v5_12) (by decide), t_c0_keep _ (r := main_v5_2) (by decide),
    t_c0_keep _ (r := main_v5_3) (by decide), t_c0_keep _ (r := main_v5_4) (by decide), t_c0_keep _ (r := main_v5_5) (by decide), t_c0_keep _ (r := main_v5_13) (by decide),
    t_c0_keep _ (r := main_v5_6) (by decide), t_c0_keep _ (r := main_v5_7) (by decide), t_c0_keep _ (r := main_v5_8) (by decide), t_c0_keep _ (r := main_v5_9) (by decide)]
  rfl

/-- The results after a teacher-forced trip. -/
theorem t_trip_o (V : Valuation τ sig (Elt F)) : afterL teach V (Proc.devRef .tc main_v5_14) = setRow (V (Proc.devRef .tc main_v5_14)) (blank (maskT V) (h1 (parT V) (rowT V) (stT V))) (V (Proc.devRef .tc main_v5_11)) := by
  rw [afterL_cons, afterL_cons, afterL_cons, afterL_cons, afterL_cons, afterL_cons, afterL_cons, afterL_cons, afterL_cons, afterL_cons, afterL_cons, afterL_cons, afterL_cons, afterL_cons, afterL_nil]
  rw [t_x3_v5_14, t_c5_v138, t_c4_keep _ (r := main_v5_14) (by decide), t_c4_v137,
    t_c4_keep _ (r := main_v5_11) (by decide), t_x2_keep _ (r := main_v5_14) (by decide), t_x2_v136, t_x2_keep _ (r := main_while0b_v123) (by decide),
    t_x2_cst_36, t_x2_keep _ (r := main_v5_11) (by decide), t_c3_keep _ (r := main_v5_14) (by decide), t_c3_keep _ (r := main_while0b_v131) (by decide),
    t_c3_keep _ (r := main_while0b_v123) (by decide), t_c3_keep _ (r := main_v5_11) (by decide), t_x1_keep _ (r := main_v5_14) (by decide), t_x1_keep _ (r := main_while0b_v131) (by decide),
    t_x1_keep _ (r := main_while0b_v123) (by decide), t_x1_keep _ (r := main_v5_11) (by decide), t_c2_keep _ (r := main_v5_14) (by decide), t_c2_keep _ (r := main_while0b_v131) (by decide),
    t_c2_keep _ (r := main_while0b_v123) (by decide), t_c2_keep _ (r := main_v5_11) (by decide), t_x0_keep _ (r := main_v5_14) (by decide), t_x0_v131,
    t_x0_keep _ (r := main_while0b_v123) (by decide), t_x0_keep _ (r := main_v5_11) (by decide), t_s1_keep _ (r := main_v5_14) (by decide), t_s1_keep _ (r := main_while0b_v37) (by decide),
    t_s1_keep _ (r := main_v5_10) (by decide), t_s1_v123, t_s1_keep _ (r := main_v5_11) (by decide), t_g1_keep _ (r := main_v5_14) (by decide),
    t_g1_keep _ (r := main_while0b_v37) (by decide), t_g1_keep _ (r := main_v5_10) (by decide), t_g1_v95, t_g1_v84,
    t_g1_keep _ (r := main_v5_11) (by decide), t_s0_keep _ (r := main_v5_14) (by decide), t_s0_keep _ (r := main_while0b_v37) (by decide), t_s0_keep _ (r := main_v5_10) (by decide),
    t_s0_v80, t_s0_keep _ (r := main_v5_12) (by decide), t_s0_keep _ (r := main_v5_6) (by decide), t_s0_keep _ (r := main_v5_7) (by decide),
    t_s0_keep _ (r := main_v5_8) (by decide), t_s0_keep _ (r := main_v5_9) (by decide), t_s0_keep _ (r := main_v5_13) (by decide), t_s0_keep _ (r := main_v5_11) (by decide),
    t_g0_keep _ (r := main_v5_14) (by decide), t_g0_keep _ (r := main_while0b_v37) (by decide), t_g0_keep _ (r := main_v5_10) (by decide), t_g0_v52,
    t_g0_v41, t_g0_keep _ (r := main_v5_12) (by decide), t_g0_keep _ (r := main_v5_6) (by decide), t_g0_keep _ (r := main_v5_7) (by decide),
    t_g0_keep _ (r := main_v5_8) (by decide), t_g0_keep _ (r := main_v5_9) (by decide), t_g0_keep _ (r := main_v5_13) (by decide), t_g0_keep _ (r := main_v5_11) (by decide),
    t_c1_keep _ (r := main_v5_14) (by decide), t_c1_v37, t_c1_keep _ (r := main_v5_10) (by decide), t_c1_keep _ (r := main_while0b_v36) (by decide),
    t_c1_keep _ (r := main_v5_12) (by decide), t_c1_keep _ (r := main_v5_2) (by decide), t_c1_keep _ (r := main_v5_3) (by decide), t_c1_keep _ (r := main_v5_4) (by decide),
    t_c1_keep _ (r := main_v5_5) (by decide), t_c1_keep _ (r := main_v5_13) (by decide), t_c1_keep _ (r := main_v5_6) (by decide), t_c1_keep _ (r := main_v5_7) (by decide),
    t_c1_keep _ (r := main_v5_8) (by decide), t_c1_keep _ (r := main_v5_9) (by decide), t_c1_keep _ (r := main_v5_11) (by decide), t_c0_keep _ (r := main_v5_14) (by decide),
    t_c0_keep _ (r := main_v5_1) (by decide), t_c0_keep _ (r := main_v5_11) (by decide), t_c0_keep _ (r := main_v5_10) (by decide), t_c0_v36,
    t_c0_keep _ (r := main_v5_12) (by decide), t_c0_keep _ (r := main_v5_2) (by decide), t_c0_keep _ (r := main_v5_3) (by decide), t_c0_keep _ (r := main_v5_4) (by decide),
    t_c0_keep _ (r := main_v5_5) (by decide), t_c0_keep _ (r := main_v5_13) (by decide), t_c0_keep _ (r := main_v5_6) (by decide), t_c0_keep _ (r := main_v5_7) (by decide),
    t_c0_keep _ (r := main_v5_8) (by decide), t_c0_keep _ (r := main_v5_9) (by decide)]
  rfl

/-- The hidden states after an autoregressive trip. -/
theorem d_trip_h (V : Valuation τ sig (Elt F)) : afterL deco V (Proc.devRef .tc main_v26_10) = (stepSt (parD V) (maskD V) (rowD V) (stD V)).1 := by
  rw [afterL_cons, afterL_cons, afterL_cons, afterL_cons, afterL_cons, afterL_cons, afterL_cons, afterL_cons, afterL_cons, afterL_cons, afterL_cons, afterL_cons, afterL_cons, afterL_nil]
  rw [d_x3_v26_10, d_c10_keep _ (r := main_while1b_v130) (by decide), d_c9_keep _ (r := main_while1b_v130) (by decide), d_x2_keep _ (r := main_while1b_v130) (by decide),
    d_c8_keep _ (r := main_while1b_v130) (by decide), d_x1_keep _ (r := main_while1b_v130) (by decide), d_c7_v130, d_x0_v129,
    d_x0_v125, d_x0_keep _ (r := main_v26_10) (by decide), d_s1_keep _ (r := main_while1b_v36) (by decide), d_s1_keep _ (r := main_while1b_v79) (by decide),
    d_s1_v122, d_s1_keep _ (r := main_v26_10) (by decide), d_g1_keep _ (r := main_while1b_v36) (by decide), d_g1_keep _ (r := main_while1b_v79) (by decide),
    d_g1_v94, d_g1_v83, d_g1_keep _ (r := main_v26_10) (by decide), d_s0_keep _ (r := main_while1b_v36) (by decide),
    d_s0_v79, d_s0_keep _ (r := main_v26_10) (by decide), d_s0_keep _ (r := main_v26_5) (by decide), d_s0_keep _ (r := main_v26_6) (by decide),
    d_s0_keep _ (r := main_v26_7) (by decide), d_s0_keep _ (r := main_v26_8) (by decide), d_s0_keep _ (r := main_v26_11) (by decide), d_g0_keep _ (r := main_while1b_v36) (by decide),
    d_g0_v51, d_g0_v40, d_g0_keep _ (r := main_v26_10) (by decide), d_g0_keep _ (r := main_v26_5) (by decide),
    d_g0_keep _ (r := main_v26_6) (by decide), d_g0_keep _ (r := main_v26_7) (by decide), d_g0_keep _ (r := main_v26_8) (by decide), d_g0_keep _ (r := main_v26_11) (by decide),
    d_c6_v36, d_c6_keep _ (r := main_v26_12) (by decide), d_c6_keep _ (r := main_v26_10) (by decide), d_c6_keep _ (r := main_v26_1) (by decide),
    d_c6_keep _ (r := main_v26_2) (by decide), d_c6_keep _ (r := main_v26_3) (by decide), d_c6_keep _ (r := main_v26_4) (by decide), d_c6_keep _ (r := main_v26_11) (by decide),
    d_c6_keep _ (r := main_v26_5) (by decide), d_c6_keep _ (r := main_v26_6) (by decide), d_c6_keep _ (r := main_v26_7) (by decide), d_c6_keep _ (r := main_v26_8) (by decide)]
  rfl

/-- The cell states after an autoregressive trip. -/
theorem d_trip_c (V : Valuation τ sig (Elt F)) : afterL deco V (Proc.devRef .tc main_v26_11) = (stepSt (parD V) (maskD V) (rowD V) (stD V)).2 := by
  rw [afterL_cons, afterL_cons, afterL_cons, afterL_cons, afterL_cons, afterL_cons, afterL_cons, afterL_cons, afterL_cons, afterL_cons, afterL_cons, afterL_cons, afterL_cons, afterL_nil]
  rw [d_x3_v26_11, d_c10_keep _ (r := main_while1b_v132) (by decide), d_c9_keep _ (r := main_while1b_v132) (by decide), d_x2_keep _ (r := main_while1b_v132) (by decide),
    d_c8_v132, d_x1_v131, d_x1_keep _ (r := main_while1b_v128) (by decide), d_x1_keep _ (r := main_v26_11) (by decide),
    d_c7_keep _ (r := main_while1b_v36) (by decide), d_c7_keep _ (r := main_while1b_v128) (by decide), d_c7_keep _ (r := main_v26_11) (by decide), d_x0_keep _ (r := main_while1b_v36) (by decide),
    d_x0_v128, d_x0_keep _ (r := main_v26_11) (by decide), d_s1_keep _ (r := main_while1b_v36) (by decide), d_s1_keep _ (r := main_while1b_v77) (by decide),
    d_s1_v120, d_s1_keep _ (r := main_v26_11) (by decide), d_g1_keep _ (r := main_while1b_v36) (by decide), d_g1_keep _ (r := main_while1b_v77) (by decide),
    d_g1_v94, d_g1_v83, d_g1_keep _ (r := main_v26_11) (by decide), d_s0_keep _ (r := main_while1b_v36) (by decide),
    d_s0_v77, d_s0_v79, d_s0_keep _ (r := main_v26_10) (by decide), d_s0_keep _ (r := main_v26_5) (by decide),
    d_s0_keep _ (r := main_v26_6) (by decide), d_s0_keep _ (r := main_v26_7) (by decide), d_s0_keep _ (r := main_v26_8) (by decide), d_s0_keep _ (r := main_v26_11) (by decide),
    d_g0_keep _ (r := main_while1b_v36) (by decide), d_g0_v51, d_g0_v40, d_g0_keep _ (r := main_v26_10) (by decide),
    d_g0_keep _ (r := main_v26_5) (by decide), d_g0_keep _ (r := main_v26_6) (by decide), d_g0_keep _ (r := main_v26_7) (by decide), d_g0_keep _ (r := main_v26_8) (by decide),
    d_g0_keep _ (r := main_v26_11) (by decide), d_c6_v36, d_c6_keep _ (r := main_v26_12) (by decide), d_c6_keep _ (r := main_v26_10) (by decide),
    d_c6_keep _ (r := main_v26_1) (by decide), d_c6_keep _ (r := main_v26_2) (by decide), d_c6_keep _ (r := main_v26_3) (by decide), d_c6_keep _ (r := main_v26_4) (by decide),
    d_c6_keep _ (r := main_v26_11) (by decide), d_c6_keep _ (r := main_v26_5) (by decide), d_c6_keep _ (r := main_v26_6) (by decide), d_c6_keep _ (r := main_v26_7) (by decide),
    d_c6_keep _ (r := main_v26_8) (by decide)]
  rfl

/-- The next input after an autoregressive trip. -/
theorem d_trip_x (V : Valuation τ sig (Elt F)) : afterL deco V (Proc.devRef .tc main_v26_12) = blank (maskD V) (h1 (parD V) (rowD V) (stD V)) := by
  rw [afterL_cons, afterL_cons, afterL_cons, afterL_cons, afterL_cons, afterL_cons, afterL_cons, afterL_cons, afterL_cons, afterL_cons, afterL_cons, afterL_cons, afterL_cons, afterL_nil]
  rw [d_x3_v26_12, d_c10_keep _ (r := main_while1b_v134) (by decide), d_c9_v134, d_x2_v133,
    d_x2_keep _ (r := main_while1b_v122) (by decide), d_x2_cst_35, d_c8_keep _ (r := main_while1b_v36) (by decide), d_c8_keep _ (r := main_while1b_v122) (by decide),
    d_x1_keep _ (r := main_while1b_v36) (by decide), d_x1_keep _ (r := main_while1b_v122) (by decide), d_c7_keep _ (r := main_while1b_v36) (by decide), d_c7_keep _ (r := main_while1b_v122) (by decide),
    d_x0_keep _ (r := main_while1b_v36) (by decide), d_x0_keep _ (r := main_while1b_v122) (by decide), d_s1_keep _ (r := main_while1b_v36) (by decide), d_s1_v122,
    d_g1_keep _ (r := main_while1b_v36) (by decide), d_g1_v94, d_g1_v83, d_s0_keep _ (r := main_while1b_v36) (by decide),
    d_s0_v79, d_s0_keep _ (r := main_v26_10) (by decide), d_s0_keep _ (r := main_v26_5) (by decide), d_s0_keep _ (r := main_v26_6) (by decide),
    d_s0_keep _ (r := main_v26_7) (by decide), d_s0_keep _ (r := main_v26_8) (by decide), d_s0_keep _ (r := main_v26_11) (by decide), d_g0_keep _ (r := main_while1b_v36) (by decide),
    d_g0_v51, d_g0_v40, d_g0_keep _ (r := main_v26_10) (by decide), d_g0_keep _ (r := main_v26_5) (by decide),
    d_g0_keep _ (r := main_v26_6) (by decide), d_g0_keep _ (r := main_v26_7) (by decide), d_g0_keep _ (r := main_v26_8) (by decide), d_g0_keep _ (r := main_v26_11) (by decide),
    d_c6_v36, d_c6_keep _ (r := main_v26_12) (by decide), d_c6_keep _ (r := main_v26_10) (by decide), d_c6_keep _ (r := main_v26_1) (by decide),
    d_c6_keep _ (r := main_v26_2) (by decide), d_c6_keep _ (r := main_v26_3) (by decide), d_c6_keep _ (r := main_v26_4) (by decide), d_c6_keep _ (r := main_v26_11) (by decide),
    d_c6_keep _ (r := main_v26_5) (by decide), d_c6_keep _ (r := main_v26_6) (by decide), d_c6_keep _ (r := main_v26_7) (by decide), d_c6_keep _ (r := main_v26_8) (by decide)]
  rfl

/-- The results after an autoregressive trip. -/
theorem d_trip_o (V : Valuation τ sig (Elt F)) : afterL deco V (Proc.devRef .tc main_v26_13) = setRow' (V (Proc.devRef .tc main_v26_13)) (blank (maskD V) (h1 (parD V) (rowD V) (stD V))) (V (Proc.devRef .tc main_v26_9)) := by
  rw [afterL_cons, afterL_cons, afterL_cons, afterL_cons, afterL_cons, afterL_cons, afterL_cons, afterL_cons, afterL_cons, afterL_cons, afterL_cons, afterL_cons, afterL_cons, afterL_nil]
  rw [d_x3_v26_13, d_c10_v135, d_c9_keep _ (r := main_v26_13) (by decide), d_c9_v134,
    d_c9_keep _ (r := main_v26_9) (by decide), d_x2_keep _ (r := main_v26_13) (by decide), d_x2_v133, d_x2_keep _ (r := main_while1b_v122) (by decide),
    d_x2_cst_35, d_x2_keep _ (r := main_v26_9) (by decide), d_c8_keep _ (r := main_v26_13) (by decide), d_c8_keep _ (r := main_while1b_v36) (by decide),
    d_c8_keep _ (r := main_while1b_v122) (by decide), d_c8_keep _ (r := main_v26_9) (by decide), d_x1_keep _ (r := main_v26_13) (by decide), d_x1_keep _ (r := main_while1b_v36) (by decide),
    d_x1_keep _ (r := main_while1b_v122) (by decide), d_x1_keep _ (r := main_v26_9) (by decide), d_c7_keep _ (r := main_v26_13) (by decide), d_c7_keep _ (r := main_while1b_v36) (by decide),
    d_c7_keep _ (r := main_while1b_v122) (by decide), d_c7_keep _ (r := main_v26_9) (by decide), d_x0_keep _ (r := main_v26_13) (by decide), d_x0_keep _ (r := main_while1b_v36) (by decide),
    d_x0_keep _ (r := main_while1b_v122) (by decide), d_x0_keep _ (r := main_v26_9) (by decide), d_s1_keep _ (r := main_v26_13) (by decide), d_s1_keep _ (r := main_while1b_v36) (by decide),
    d_s1_v122, d_s1_keep _ (r := main_v26_9) (by decide), d_g1_keep _ (r := main_v26_13) (by decide), d_g1_keep _ (r := main_while1b_v36) (by decide),
    d_g1_v94, d_g1_v83, d_g1_keep _ (r := main_v26_9) (by decide), d_s0_keep _ (r := main_v26_13) (by decide),
    d_s0_keep _ (r := main_while1b_v36) (by decide), d_s0_v79, d_s0_keep _ (r := main_v26_10) (by decide), d_s0_keep _ (r := main_v26_5) (by decide),
    d_s0_keep _ (r := main_v26_6) (by decide), d_s0_keep _ (r := main_v26_7) (by decide), d_s0_keep _ (r := main_v26_8) (by decide), d_s0_keep _ (r := main_v26_11) (by decide),
    d_s0_keep _ (r := main_v26_9) (by decide), d_g0_keep _ (r := main_v26_13) (by decide), d_g0_keep _ (r := main_while1b_v36) (by decide), d_g0_v51,
    d_g0_v40, d_g0_keep _ (r := main_v26_10) (by decide), d_g0_keep _ (r := main_v26_5) (by decide), d_g0_keep _ (r := main_v26_6) (by decide),
    d_g0_keep _ (r := main_v26_7) (by decide), d_g0_keep _ (r := main_v26_8) (by decide), d_g0_keep _ (r := main_v26_11) (by decide), d_g0_keep _ (r := main_v26_9) (by decide),
    d_c6_keep _ (r := main_v26_13) (by decide), d_c6_v36, d_c6_keep _ (r := main_v26_12) (by decide), d_c6_keep _ (r := main_v26_10) (by decide),
    d_c6_keep _ (r := main_v26_1) (by decide), d_c6_keep _ (r := main_v26_2) (by decide), d_c6_keep _ (r := main_v26_3) (by decide), d_c6_keep _ (r := main_v26_4) (by decide),
    d_c6_keep _ (r := main_v26_11) (by decide), d_c6_keep _ (r := main_v26_5) (by decide), d_c6_keep _ (r := main_v26_6) (by decide), d_c6_keep _ (r := main_v26_7) (by decide),
    d_c6_keep _ (r := main_v26_8) (by decide), d_c6_keep _ (r := main_v26_9) (by decide)]
  rfl

end Cert.ReferenceIdeal.Lstm
-- ==== Proof.RefLoop.lean ====
module

public import proofs.«01_k».proof.Proof.RefVals
public import Idealize.ShloMosaic.Lib.ValueIdx
public import Idealize.ShloMosaic.Lib.DynamicIndex
public import Idealize.ShloMosaic.Lib.Pipeline.Value
public import Idealize.ShloMosaic.Lib.Pointwise.ShapeOpsCore

@[expose] public section

set_option maxRecDepth 65536

noncomputable section

/-! The reference step by step: the states before each trip of its two loops, and its two results. -/

namespace Cert.ReferenceIdeal.Lstm

open Cert.ReferenceIdeal Cert.ReferenceIdeal.Gen
open Idealize.ShloMosaic hiding ix2 ix3 ix4
open Idealize.ShloMosaic.TcCoe Idealize.ShloMosaic.StableHlo Idealize.ShloMosaic.Tactic Idealize.ShloMosaic.ValueIdx

variable {F : FTy → Type} [FloatOps F]

/-! ## Reading a row, storing a row -/

/-- Two vectors that agree at every sequence and unit are one. -/
theorem ext16 {α : Type} {u v : S16x256.Idx → α} (h : ∀ (b : Fin 16) (d : Fin 256), u (ix2 (n0 := 16) (n1 := 256) b d) = v (ix2 (n0 := 16) (n1 := 256) b d)) :
    u = v := by
  funext y
  have hy : y = ix2 (n0 := 16) (n1 := 256) (y 0) (y 1) := ValueIdx.eq_ix2 y
  rw [hy]
  exact h _ _

/-- The counter's word is its number. -/
theorem iv_eq (k : ℕ) : Scf.iv (0#32) (1#32) k = BitVec.ofNat 32 k := by
  induction k with
  | zero => rw [Scf.iv_zero]
  | succ k ih => rw [Scf.iv_succ, ih, ← BitVec.ofNat_add]

/-- The counter of either loop reads back as its number. -/
theorem iv_toInt (k : ℕ) (hk : k < 512) : (Scf.iv (0#32) (1#32) k).toInt = (k : ℤ) := by
  rw [iv_eq, BitVec.toInt_eq_toNat_cond, BitVec.toNat_ofNat]
  have h : k % 2 ^ 32 = k := Nat.mod_eq_of_lt (by omega)
  rw [h, if_pos (by omega)]

/-- A counter held by a scalar array. -/
abbrev ctr (k : ℕ) : IVec S_ 32 := fun _ => Scf.iv 0#32 1#32 k

/-- Where a row's place starts. -/
theorem place3_ctr (k : ℕ) (hk : k < 512) (a : Fin 3) : place3 (ctr k) a = ((![k, 0, 0] : Fin 3 → ℕ) a : ℤ) := by
  match a with
  | 0 => exact iv_toInt k hk
  | 1 => rfl
  | 2 => rfl

/-- Row `k` of the inputs, transposed from the argument. -/
theorem inRow_at (x : FVec F S512x16x256 .f32) (k : ℕ) (hk : k < 512) (b : Fin 16) (d : Fin 256) :
    inRow x (ctr k) (ix2 (n0 := 16) (n1 := 256) b d) = x (ix3 (n0 := 512) (n1 := 16) (n2 := 256) ⟨k, hk⟩ b d) := by
  unfold inRow
  have hoff : S512x16x256.Slices ![k, 0, 0] S1x16x256 := by
    refine ⟨rfl, fun a => ?_⟩
    match a with
    | ⟨0, _⟩ => show k + 1 ≤ 512; omega
    | ⟨1, _⟩ => exact le_refl 16
    | ⟨2, _⟩ => exact le_refl 256
  rw [Host.dynamicSlice_eq_extractStridedSlice S1x16x256 x (place3 (ctr k)) ![k, 0, 0] _ hoff (place3_ctr k hk)]
  rw [shapeCast_apply _ _ (ix2 (n0 := 16) (n1 := 256) b d) (ix3 (n0 := 1) (n1 := 16) (n2 := 256) 0 b d) (by
    rw [Shape.rowMajor_val_two, Shape.rowMajor_val_three]
    show (0 * 16 + b.val) * 256 + d.val = b.val * 256 + d.val
    omega)]
  refine extractStridedSlice_apply _ _ _ _ _ (fun a => ?_)
  match a with
  | ⟨0, _⟩ => rfl
  | ⟨1, _⟩ => exact (Nat.zero_add _).symm
  | ⟨2, _⟩ => exact (Nat.zero_add _).symm

/-- Entry `k` of the steps' numbers. -/
theorem inNum_at (k : ℕ) (hk : k < 512) : inNum (iotaInDim S512 32 0) (ctr k) = fun _ => BitVec.ofNat 32 k := by
  funext y
  unfold inNum
  have hoff : S512.Slices ![k] S1 := by
    refine ⟨rfl, fun a => ?_⟩
    match a with
    | ⟨0, _⟩ => show k + 1 ≤ 512; omega
  rw [Host.dynamicSlice_eq_extractStridedSlice S1 _ _ ![k] _ hoff (fun a => by
    match a with
    | ⟨0, _⟩ => exact iv_toInt k hk)]
  rw [shapeCast_apply _ _ y (ix1 (n := 1) 0) (by
    have h : ∀ i : Fin S_.numel, i.val = 0 := by decide
    have h' : ∀ i : Fin S1.numel, i.val = 0 := by decide
    exact (h' _).trans (h _).symm)]
  rw [extractStridedSlice_apply _ _ _ (ix1 (n := 1) 0) (ix1 (n := 512) ⟨k, hk⟩) (fun a => by
    match a with
    | ⟨0, _⟩ => rfl)]
  rfl

/-- Row `k` of the autoregressive steps' masks. -/
theorem inMask_at (x : IVec S64x16 1) (k : ℕ) (hk : k < 64) (b : Fin 16) :
    inMask x (ctr k) (ix1 (n := 16) b) = x (ix2 (n0 := 64) (n1 := 16) ⟨k, hk⟩ b) := by
  unfold inMask
  have hoff : S64x16.Slices ![k, 0] S1x16 := by
    refine ⟨rfl, fun a => ?_⟩
    match a with
    | ⟨0, _⟩ => show k + 1 ≤ 64; omega
    | ⟨1, _⟩ => exact le_refl 16
  rw [Host.dynamicSlice_eq_extractStridedSlice S1x16 _ _ ![k, 0] _ hoff (fun a => by
    match a with
    | ⟨0, _⟩ => exact iv_toInt k (by omega)
    | ⟨1, _⟩ => rfl)]
  rw [shapeCast_apply _ _ (ix1 (n := 16) b) (ix2 (n0 := 1) (n1 := 16) 0 b) (by
    rw [Shape.rowMajor_val_two, Shape.rowMajor_val_one]
    show 0 * 16 + b.val = b.val
    omega)]
  refine extractStridedSlice_apply _ _ _ _ _ (fun a => ?_)
  match a with
  | ⟨0, _⟩ => rfl
  | ⟨1, _⟩ => exact (Nat.zero_add _).symm

/-- A vector as a row. -/
theorem asRow_at (u : FVec F S16x256 .f32) (i : Fin 1) (b : Fin 16) (d : Fin 256) :
    broadcastInDim S1x16x256 ![1, 2] bcast_S16x256_S1x16x256_1_2 u (ix3 (n0 := 1) (n1 := 16) (n2 := 256) i b d) = u (ix2 (n0 := 16) (n1 := 256) b d) := by
  refine broadcastInDim_apply _ _ _ _ _ (fun a => ?_)
  match a with
  | ⟨0, _⟩ => rfl
  | ⟨1, _⟩ => rfl

/-- The results of `n` steps with row `k` stored: that row there, the old rows elsewhere. -/
theorem stored_row {n : ℕ} (x : FVec F ⟨3, ![n, 16, 256]⟩ .f32) (u : FVec F S16x256 .f32) (k : ℕ) (hk : k < n) (hn : n ≤ 512)
    (h : (⟨3, ![n, 16, 256]⟩ : Shape).Slices (fun _ => 0) S1x16x256) (i : Fin n) (b : Fin 16) (d : Fin 256) :
    Host.dynamicUpdateSlice x (broadcastInDim S1x16x256 ![1, 2] bcast_S16x256_S1x16x256_1_2 u) (place3 (ctr k)) h (ix3 (n0 := n) (n1 := 16) (n2 := 256) i b d)
      = if i.val = k then u (ix2 (n0 := 16) (n1 := 256) b d) else x (ix3 (n0 := n) (n1 := 16) (n2 := 256) i b d) := by
  have hc : ∀ a, Host.clampedStart ⟨3, ![n, 16, 256]⟩ S1x16x256 h.1 (place3 (ctr k)) a = (![k, 0, 0] : Fin 3 → ℕ) a := fun a =>
    Host.clampedStart_of_le h.1 _ a _ (place3_ctr k (by omega) a) (by
      match a with
      | ⟨0, _⟩ => show k + 1 ≤ n; omega
      | ⟨1, _⟩ => exact le_refl 16
      | ⟨2, _⟩ => exact le_refl 256)
  rw [Host.dynamicUpdateSlice_apply]
  by_cases hi : i.val = k
  · have hin : ∀ a : Fin 3, Host.clampedStart ⟨3, ![n, 16, 256]⟩ S1x16x256 h.1 (place3 (ctr k)) a ≤ ((ix3 (n0 := n) (n1 := 16) (n2 := 256) i b d) a).val
        ∧ ((ix3 (n0 := n) (n1 := 16) (n2 := 256) i b d) a).val < Host.clampedStart ⟨3, ![n, 16, 256]⟩ S1x16x256 h.1 (place3 (ctr k)) a + S1x16x256.size (a.cast h.1.symm) := by
      intro a
      rw [hc a]
      match a with
      | ⟨0, _⟩ => exact ⟨hi.symm.le, by show i.val < k + 1; omega⟩
      | ⟨1, _⟩ => exact ⟨Nat.zero_le _, by show b.val < 0 + 16; omega⟩
      | ⟨2, _⟩ => exact ⟨Nat.zero_le _, by show d.val < 0 + 256; omega⟩
    rw [dif_pos hin, if_pos hi]
    refine Eq.trans (congrArg _ ?_) (asRow_at u 0 b d)
    funext a
    apply Fin.ext
    show ((ix3 (n0 := n) (n1 := 16) (n2 := 256) i b d) (a.cast h.1)).val - Host.clampedStart ⟨3, ![n, 16, 256]⟩ S1x16x256 h.1 (place3 (ctr k)) (a.cast h.1) = _
    rw [hc (a.cast h.1)]
    match a with
    | ⟨0, _⟩ => show i.val - k = 0; omega
    | ⟨1, _⟩ => rfl
    | ⟨2, _⟩ => rfl
  · rw [dif_neg, if_neg hi]
    intro hin
    have h0 := hin 0
    rw [hc 0] at h0
    have h1 : k ≤ i.val ∧ i.val < k + 1 := h0
    omega

/-! ## The states -/

/-- What the reference computes from. -/
structure Args (F : FTy → Type) where
  x : FVec F S16x512x256 .f32
  nIn : IVec S16 32
  nAu : IVec S16 32
  mask : IVec S16x64 1
  par : Par F

/-- Step `t`'s inputs. -/
def rowAt (A : Args F) (t : ℕ) : FVec F S16x256 .f32 := fun y =>
  A.x (ix3 (n0 := 16) (n1 := 512) (n2 := 256) (y 0) ⟨t % 512, Nat.mod_lt _ (by decide)⟩ (y 1))

/-- The sequences that teacher-forced step `t` belongs to. -/
def maskAt (A : Args F) (t : ℕ) : IVec S16 1 := before' (fun _ => BitVec.ofNat 32 t) A.nIn

/-- A pair of zero vectors. -/
def zeros2 : FVec F S2x16x256 .f32 := broadcastInDim S2x16x256 ![] bcast_S_S2x16x256 (constant S_ .f32 0x00000000#32)

/-- The states before teacher-forced step `t`. -/
def tSt (A : Args F) : ℕ → St2 F
  | 0 => (zeros2, zeros2)
  | t + 1 => stepSt A.par (maskAt A t) (rowAt A t) (tSt A t)

/-- Teacher-forced step `t`'s result. -/
def tOut (A : Args F) (t : ℕ) : FVec F S16x256 .f32 := blank (maskAt A t) (h1 A.par (rowAt A t) (tSt A t))

/-- The first result, whole. -/
def teafo (A : Args F) : FVec F S16x512x256 .f32 := fun y => tOut A (y 1).val (ix2 (n0 := 16) (n1 := 256) (y 0) (y 2))

/-- Where the autoregressive loop's first input is read. -/
def seedAt (n : IVec S16 32) : IVec S16x2 32 :=
  concatenate S16x2 1
    [⟨S16x1, broadcastInDim S16x1 ![0] bcast_S16_S16x1_0
      (select (cmpi .slt (iotaInDim S16 32 0) (broadcastInDim S16 ![] bcast_S_S16 (constantI S_ 32 0#32)))
        (addi (iotaInDim S16 32 0) (broadcastInDim S16 ![] bcast_S_S16 (constantI S_ 32 16#32))) (iotaInDim S16 32 0))⟩,
     ⟨S16x1, broadcastInDim S16x1 ![0] bcast_S16_S16x1_0
      (select (cmpi .slt (subi n (broadcastInDim S16 ![] bcast_S_S16 (constantI S_ 32 1#32))) (broadcastInDim S16 ![] bcast_S_S16 (constantI S_ 32 0#32)))
        (addi (subi n (broadcastInDim S16 ![] bcast_S_S16 (constantI S_ 32 1#32))) (broadcastInDim S16 ![] bcast_S_S16 (constantI S_ 32 512#32)))
        (subi n (broadcastInDim S16 ![] bcast_S_S16 (constantI S_ 32 1#32))))⟩] concatenates_S16x1_S16x1_S16x2_d1

/-- The autoregressive loop's first input. -/
def seed (A : Args F) : FVec F S16x256 .f32 :=
  Host.gather gather_S16x512x256_S16x2_S16x256_1_01_n_n_01_1_11256 (teafo A) (seedAt A.nIn)

/-- The mask of autoregressive step `k`. -/
def maskAu (A : Args F) (k : ℕ) : IVec S16 1 := fun y =>
  A.mask (ix2 (n0 := 16) (n1 := 64) (y 0) ⟨k % 64, Nat.mod_lt _ (by decide)⟩)

/-- The states and the input before autoregressive step `k`. -/
def dSt (A : Args F) : ℕ → St2 F × FVec F S16x256 .f32
  | 0 => (tSt A 512, seed A)
  | k + 1 => (stepSt A.par (maskAu A k) (dSt A k).2 (dSt A k).1, blank (maskAu A k) (h1 A.par (dSt A k).2 (dSt A k).1))

/-- Autoregressive step `k`'s result. -/
def dOut (A : Args F) (k : ℕ) : FVec F S16x256 .f32 := blank (maskAu A k) (h1 A.par (dSt A k).2 (dSt A k).1)

/-- The autoregressive steps' results, whole. -/
def decoded (A : Args F) : FVec F S16x64x256 .f32 := fun y => dOut A (y 1).val (ix2 (n0 := 16) (n1 := 256) (y 0) (y 2))

/-- The second result: the steps beyond a sequence's length blanked. -/
def aureg (A : Args F) : FVec F S16x64x256 .f32 :=
  select (broadcastInDim S16x64x256 ![0, 1, 2] bcast_S16x64x1_S16x64x256_0_1_2 (broadcastInDim S16x64x1 ![0, 1] bcast_S16x64_S16x64x1_0_1
      (cmpi .slt (broadcastInDim S16x64 ![0, 1] bcast_S1x64_S16x64_0_1 (broadcastInDim S1x64 ![1] bcast_S64_S1x64_1 (iotaInDim S64 32 0)))
        (broadcastInDim S16x64 ![0, 1] bcast_S16x1_S16x64_0_1 (broadcastInDim S16x1 ![0] bcast_S16_S16x1_0 A.nAu)))))
    (decoded A) (broadcastInDim S16x64x256 ![] bcast_S_S16x64x256 (constant S_ .f32 0x00000000#32))

/-! ## The teacher-forced loop -/

variable (m : (ℓ : Loc nD τ sig) → Buf (Elt F) ℓ)

/-- The weights and biases a device was launched with. -/
def parOf (c : Dev nD) : Par F :=
  ⟨m ((c.tc : Thread nD τ).loc main_arg4), m ((c.tc : Thread nD τ).loc main_arg5), m ((c.tc : Thread nD τ).loc main_arg6), m ((c.tc : Thread nD τ).loc main_arg7),
    m ((c.tc : Thread nD τ).loc main_arg8), m ((c.tc : Thread nD τ).loc main_arg9), m ((c.tc : Thread nD τ).loc main_arg10), m ((c.tc : Thread nD τ).loc main_arg11)⟩

/-- What a device was launched with. -/
def argsOf (c : Dev nD) : Args F :=
  ⟨m ((c.tc : Thread nD τ).loc main_arg0), m ((c.tc : Thread nD τ).loc main_arg1), m ((c.tc : Thread nD τ).loc main_arg2), m ((c.tc : Thread nD τ).loc main_arg3),
    parOf m c⟩

/-- The arrays before the `k`-th teacher-forced trip's stretches. -/
abbrev tV (c : Dev nD) (k : ℕ) : Valuation τ sig (Elt F) := after t_cond (atTrip t_cond teach (W0 m) k c)

/-- An array that no trip writes is as the loop found it. -/
theorem tV_keep (c : Dev nD) (k : ℕ) {r : Ref sig .tc} (h : ∀ W ∈ teach_Ws, r ∉ W) (h' : r ∉ t_cond_W) :
    tV m c k (Proc.devRef .tc r) = W0 m c (Proc.devRef .tc r) := by
  rw [tV, t_cond_keep _ h', t_trips_keep _ _ h h']

/-- What the stretch before the loop leaves. -/
theorem W0_x (c : Dev nD) : W0 m c (Proc.devRef .tc main_v5_0) = transpose S512x16x256 [1, 0, 2] (argsOf m c).x transposes_S16x512x256_S512x16x256_1_0_2 := by
  rw [W0, afterL_cons, afterL_nil]
  after_results
  first | done | rfl

/-- The steps' numbers. -/
theorem W0_iota (c : Dev nD) : W0 m c (Proc.devRef .tc main_v5_1) = iotaInDim S512 32 0 := by
  rw [W0, afterL_cons, afterL_nil]
  after_results
  first | done | rfl

/-- The lengths. -/
theorem W0_n (c : Dev nD) : W0 m c (Proc.devRef .tc main_v5_10) = (argsOf m c).nIn := by
  rw [W0, afterL_cons, afterL_nil]
  after_results
  first | done | rfl

/-- The states start at zero. -/
theorem W0_st (c : Dev nD) : stT (W0 m c) = tSt (argsOf m c) 0 := by
  unfold stT
  rw [W0, afterL_cons, afterL_nil]
  after_results
  first | done | rfl

/-- The weights and biases. -/
theorem W0_par (c : Dev nD) : parT (W0 m c) = parOf m c := by
  unfold parT
  rw [W0, afterL_cons, afterL_nil]
  after_results
  first | done | rfl

/-- The counter of a trip. -/
theorem tV_ctr (c : Dev nD) (k : ℕ) : tV m c k (Proc.devRef .tc main_v5_11) = ctr k := by
  rw [tV, t_cond_keep _ (show main_v5_11 ∉ t_cond_W by decide)]
  exact t_ctr _ (t_start m) c k

/-- The weights and biases of a trip. -/
theorem tV_par (c : Dev nD) (k : ℕ) : parT (tV m c k) = (argsOf m c).par := by
  rw [← show parT (W0 m c) = (argsOf m c).par from W0_par m c]
  unfold parT
  rw [tV_keep m c k (r := main_v5_2) (by decide) (by decide), tV_keep m c k (r := main_v5_3) (by decide) (by decide),
    tV_keep m c k (r := main_v5_4) (by decide) (by decide), tV_keep m c k (r := main_v5_5) (by decide) (by decide),
    tV_keep m c k (r := main_v5_6) (by decide) (by decide), tV_keep m c k (r := main_v5_7) (by decide) (by decide),
    tV_keep m c k (r := main_v5_8) (by decide) (by decide), tV_keep m c k (r := main_v5_9) (by decide) (by decide)]

/-- The inputs of a trip. -/
theorem tV_row (c : Dev nD) (k : ℕ) (hk : k < 512) : rowT (tV m c k) = rowAt (argsOf m c) k := by
  unfold rowT
  rw [tV_keep m c k (r := main_v5_0) (by decide) (by decide), tV_ctr, W0_x]
  refine ext16 fun b d => ?_
  rw [inRow_at _ k hk]
  have hm : k % 512 = k := Nat.mod_eq_of_lt hk
  refine transpose_apply _ _ _ _ _ (fun a => ?_)
  match a with
  | ⟨0, _⟩ => exact hm
  | ⟨1, _⟩ => rfl
  | ⟨2, _⟩ => rfl

/-- The mask of a trip. -/
theorem tV_mask (c : Dev nD) (k : ℕ) (hk : k < 512) : maskT (tV m c k) = maskAt (argsOf m c) k := by
  unfold maskT
  rw [tV_keep m c k (r := main_v5_1) (by decide) (by decide), tV_keep m c k (r := main_v5_10) (by decide) (by decide), tV_ctr, W0_iota, W0_n,
    inNum_at k hk]
  rfl

/-- The states before each trip. -/
theorem tV_st (c : Dev nD) (k : ℕ) (hk : k ≤ 512) : stT (tV m c k) = tSt (argsOf m c) k := by
  have hc : ∀ k, stT (tV m c k) = stT (atTrip t_cond teach (W0 m) k c) := by
    intro k
    unfold stT
    rw [tV, t_cond_keep _ (show main_v5_12 ∉ t_cond_W by decide), t_cond_keep _ (show main_v5_13 ∉ t_cond_W by decide)]
  induction k with
  | zero => rw [hc]; exact W0_st m c
  | succ k ih =>
    rw [hc]
    unfold stT
    rw [atTrip_succ, t_trip_h, t_trip_c]
    show stepSt (parT (tV m c k)) (maskT (tV m c k)) (rowT (tV m c k)) (stT (tV m c k)) = _
    rw [tV_par, tV_mask m c k (by omega), tV_row m c k (by omega), ih (by omega)]
    rfl

/-- The rows stored before each trip. -/
theorem tV_out (c : Dev nD) (k : ℕ) (hk : k ≤ 512) (i : Fin 512) (hi : i.val < k) (b : Fin 16) (d : Fin 256) :
    (tV m c k (Proc.devRef .tc main_v5_14) : FVec F S512x16x256 .f32) (ix3 (n0 := 512) (n1 := 16) (n2 := 256) i b d)
      = tOut (argsOf m c) i.val (ix2 (n0 := 16) (n1 := 256) b d) := by
  induction k with
  | zero => omega
  | succ k ih =>
    rw [tV, t_cond_keep _ (show main_v5_14 ∉ t_cond_W by decide), atTrip_succ, t_trip_o]
    show setRow (tV m c k (Proc.devRef .tc main_v5_14)) (blank (maskT (tV m c k)) (h1 (parT (tV m c k)) (rowT (tV m c k)) (stT (tV m c k))))
      (tV m c k (Proc.devRef .tc main_v5_11)) _ = _
    rw [tV_par, tV_mask m c k (by omega), tV_row m c k (by omega), tV_st m c k (by omega), tV_ctr]
    unfold setRow
    rw [stored_row (n := 512) _ _ k (by omega) (by omega)]
    by_cases h : i.val = k
    · rw [if_pos h, h]; rfl
    · rw [if_neg h]; exact ih (by omega) (by omega)

end Cert.ReferenceIdeal.Lstm
-- ==== Proof.RefPts.lean ====
module

public import proofs.«01_k».proof.Proof.RefLoop
public import Idealize.ShloMosaic.Lib.MatmulPlain
public import Idealize.ShloMosaic.Lib.IdealHost

@[expose] public section

noncomputable section

/-! The reference's vectors entry by entry, over the extended reals. -/

namespace Cert.ReferenceIdeal.Lstm

open Idealize.ShloMosaic hiding ix2 ix3 ix4 eq_ix2 eq_ix3
open Idealize.ShloMosaic.ValueIdx
open Idealize.ShloMosaic.TcCoe
open Cert.ReferenceIdeal Cert.ReferenceIdeal.Gen

/-- The logistic function. -/
def lgs (x : EReal) : EReal := Ideal.div 1 (1 + Ideal.exp (-x))

/-- A product with the transposed weights. -/
theorem times_at (x : FVec Ideal S16x256 .f32) (w : FVec Ideal S1024x256 .f32) (b : Fin 16) (j : Fin 1024) :
    times x w (ix2 (n0 := 16) (n1 := 1024) b j) = ∑ k : Fin 256, x (ix2 (n0 := 16) (n1 := 256) b k) * w (ix2 (n0 := 1024) (n1 := 256) j k) := by
  unfold times
  refine (Ideal.matmul_plain_apply (M := 16) (K := 256) (N := 1024) none x _ (fun _ => 0) b j).trans ?_
  rw [zero_add]
  refine Finset.sum_congr rfl fun k _ => ?_
  rw [transpose_apply _ _ _ _ (ix2 (n0 := 1024) (n1 := 256) j k) (fun b => match b with | ⟨0, _⟩ => rfl | ⟨1, _⟩ => rfl)]

/-- A bias at a sequence. -/
theorem spread_at (v : FVec Ideal S1024 .f32) (b : Fin 16) (j : Fin 1024) :
    spread v (ix2 (n0 := 16) (n1 := 1024) b j) = v (ix1 (n := 1024) j) := by
  unfold spread
  rw [broadcastInDim_apply _ _ _ _ (ix2 (n0 := 1) (n1 := 1024) 0 j) (fun a => match a with | ⟨0, _⟩ => rfl | ⟨1, _⟩ => rfl),
    broadcastInDim_apply _ _ _ _ (ix1 (n := 1024) j) (fun a => match a with | ⟨0, _⟩ => rfl)]

/-- A column of the gates. -/
theorem gates_at (x h : FVec Ideal S16x256 .f32) (wi wh : FVec Ideal S1024x256 .f32) (bi bh : FVec Ideal S1024 .f32) (b : Fin 16) (j : Fin 1024) :
    gates x h wi wh bi bh (ix2 (n0 := 16) (n1 := 1024) b j)
      = (∑ k : Fin 256, x (ix2 (n0 := 16) (n1 := 256) b k) * wi (ix2 (n0 := 1024) (n1 := 256) j k))
        + (∑ k : Fin 256, h (ix2 (n0 := 16) (n1 := 256) b k) * wh (ix2 (n0 := 1024) (n1 := 256) j k))
        + bi (ix1 (n := 1024) j) + bh (ix1 (n := 1024) j) := by
  show times x wi _ + times h wh _ + spread bi _ + spread bh _ = _
  rw [times_at, times_at, spread_at, spread_at]

/-- A gate's part of the columns. -/
theorem part_at (o : ℕ) (ho : o + 256 ≤ 1024) (g : FVec Ideal S16x1024 .f32) (hs : S16x1024.Slices ![0, o] S16x256) (b : Fin 16) (d : Fin 256) :
    extractStridedSlice S16x256 ![0, o] g hs (ix2 (n0 := 16) (n1 := 256) b d) = g (ix2 (n0 := 16) (n1 := 1024) b ⟨o + d.val, by omega⟩) :=
  extractStridedSlice_apply _ _ _ _ _ (fun a => match a with
    | ⟨0, _⟩ => (Nat.zero_add b.val).symm
    | ⟨1, _⟩ => rfl)

/-- The logistic function's entries. -/
theorem sig'_at (x : FVec Ideal S16x256 .f32) (y : S16x256.Idx) : sig' x y = lgs (x y) := by
  show Ideal.div (Ideal.ofBits .f32 0x3F800000#32) (Ideal.ofBits .f32 0x3F800000#32 + Ideal.exp (-(x y))) = _
  rw [Ideal.ofBits_one_f32]
  rfl

/-- The new cell state's entries. -/
theorem newC_at (g : FVec Ideal S16x1024 .f32) (c : FVec Ideal S16x256 .f32) (b : Fin 16) (d : Fin 256) :
    newC g c (ix2 (n0 := 16) (n1 := 256) b d)
      = lgs (g (ix2 (n0 := 16) (n1 := 1024) b ⟨256 + d.val, by omega⟩)) * c (ix2 (n0 := 16) (n1 := 256) b d)
        + lgs (g (ix2 (n0 := 16) (n1 := 1024) b ⟨0 + d.val, by omega⟩)) * Ideal.tanh (g (ix2 (n0 := 16) (n1 := 1024) b ⟨512 + d.val, by omega⟩)) := by
  show (sig' (F := Ideal) _ _) * c _ + (sig' (F := Ideal) _ _) * Ideal.tanh (extractStridedSlice S16x256 ![0, 512] g _ _) = _
  rw [sig'_at, sig'_at, part_at 256 (by decide), part_at 0 (by decide), part_at 512 (by decide)]

/-- The new hidden state's entries. -/
theorem newH_at (g : FVec Ideal S16x1024 .f32) (c : FVec Ideal S16x256 .f32) (b : Fin 16) (d : Fin 256) :
    newH g c (ix2 (n0 := 16) (n1 := 256) b d)
      = lgs (g (ix2 (n0 := 16) (n1 := 1024) b ⟨768 + d.val, by omega⟩)) * Ideal.tanh (newC g c (ix2 (n0 := 16) (n1 := 256) b d)) := by
  show (sig' (F := Ideal) _ _) * Ideal.tanh (newC g c _) = _
  rw [sig'_at, part_at 768 (by decide)]

/-! ## The pair of states -/

/-- The first layer's part. -/
theorem low_at (h : FVec Ideal S2x16x256 .f32) (b : Fin 16) (d : Fin 256) :
    low h (ix2 (n0 := 16) (n1 := 256) b d) = h (ix3 (n0 := 2) (n1 := 16) (n2 := 256) 0 b d) := by
  unfold low
  rw [shapeCast_apply _ _ _ (ix3 (n0 := 1) (n1 := 16) (n2 := 256) 0 b d) (by
      rw [Shape.rowMajor_val_three, Shape.rowMajor_val_two]
      show (0 * 16 + b.val) * 256 + d.val = b.val * 256 + d.val
      omega),
    extractStridedSlice_apply _ _ _ _ (ix3 (n0 := 2) (n1 := 16) (n2 := 256) 0 b d) (fun a => match a with
      | ⟨0, _⟩ => rfl
      | ⟨1, _⟩ => (Nat.zero_add b.val).symm
      | ⟨2, _⟩ => (Nat.zero_add d.val).symm)]

/-- The second layer's part. -/
theorem high_at (h : FVec Ideal S2x16x256 .f32) (b : Fin 16) (d : Fin 256) :
    high h (ix2 (n0 := 16) (n1 := 256) b d) = h (ix3 (n0 := 2) (n1 := 16) (n2 := 256) 1 b d) := by
  unfold high
  rw [shapeCast_apply _ _ _ (ix3 (n0 := 1) (n1 := 16) (n2 := 256) 0 b d) (by
      rw [Shape.rowMajor_val_three, Shape.rowMajor_val_two]
      show (0 * 16 + b.val) * 256 + d.val = b.val * 256 + d.val
      omega),
    extractStridedSlice_apply _ _ _ _ (ix3 (n0 := 2) (n1 := 16) (n2 := 256) 1 b d) (fun a => match a with
      | ⟨0, _⟩ => rfl
      | ⟨1, _⟩ => (Nat.zero_add b.val).symm
      | ⟨2, _⟩ => (Nat.zero_add d.val).symm)]

/-- The first of a stacked pair. -/
theorem stack_low (a b : FVec Ideal S16x256 .f32) (i : Fin 16) (d : Fin 256) :
    stack a b (ix3 (n0 := 2) (n1 := 16) (n2 := 256) 0 i d) = a (ix2 (n0 := 16) (n1 := 256) i d) := by
  unfold stack
  rw [concatenate_apply_piece (t := S2x16x256) (0 : Fin 3) _ _ _ 0 (by simp) S1x16x256 (broadcastInDim S1x16x256 ![1, 2] bcast_S16x256_S1x16x256_1_2 a) rfl rfl 0 rfl (ix3 (n0 := 1) (n1 := 16) (n2 := 256) 0 i d)
      (fun b hb => match b with | ⟨0, _⟩ => absurd rfl hb | ⟨1, _⟩ => rfl | ⟨2, _⟩ => rfl) rfl,
    broadcastInDim_apply _ _ _ _ (ix2 (n0 := 16) (n1 := 256) i d) (fun a => match a with | ⟨0, _⟩ => rfl | ⟨1, _⟩ => rfl)]

/-- The second of a stacked pair. -/
theorem stack_high (a b : FVec Ideal S16x256 .f32) (i : Fin 16) (d : Fin 256) :
    stack a b (ix3 (n0 := 2) (n1 := 16) (n2 := 256) 1 i d) = b (ix2 (n0 := 16) (n1 := 256) i d) := by
  unfold stack
  rw [concatenate_apply_piece (t := S2x16x256) (0 : Fin 3) _ _ _ 1 (by simp) S1x16x256 (broadcastInDim S1x16x256 ![1, 2] bcast_S16x256_S1x16x256_1_2 b) rfl rfl 1 rfl (ix3 (n0 := 1) (n1 := 16) (n2 := 256) 0 i d)
      (fun b hb => match b with | ⟨0, _⟩ => absurd rfl hb | ⟨1, _⟩ => rfl | ⟨2, _⟩ => rfl) rfl,
    broadcastInDim_apply _ _ _ _ (ix2 (n0 := 16) (n1 := 256) i d) (fun a => match a with | ⟨0, _⟩ => rfl | ⟨1, _⟩ => rfl)]

/-- A mask at every unit. -/
def rows (m : IVec S16 1) : IVec S16x256 1 := fun y => m (ix1 (n := 16) (y 0))

/-- A frozen pair, entry by entry. -/
theorem freeze_at (m : IVec S16 1) (a b : FVec Ideal S2x16x256 .f32) (l : Fin 2) (i : Fin 16) (d : Fin 256) :
    freeze m a b (ix3 (n0 := 2) (n1 := 16) (n2 := 256) l i d)
      = Scalar.select (m (ix1 (n := 16) i)) (a (ix3 (n0 := 2) (n1 := 16) (n2 := 256) l i d)) (b (ix3 (n0 := 2) (n1 := 16) (n2 := 256) l i d)) := by
  show Scalar.select (broadcastInDim S2x16x256 ![0, 1, 2] bcast_S1x16x1_S2x16x256_0_1_2 (broadcastInDim S1x16x1 ![1] bcast_S16_S1x16x1_1 m) _) _ _ = _
  rw [broadcastInDim_apply _ _ _ _ (ix3 (n0 := 1) (n1 := 16) (n2 := 1) 0 i 0) (fun a => match a with | ⟨0, _⟩ => rfl | ⟨1, _⟩ => rfl | ⟨2, _⟩ => rfl),
    broadcastInDim_apply _ _ _ _ (ix1 (n := 16) i) (fun a => match a with | ⟨0, _⟩ => rfl)]

/-- The first layer's part of a step's pair. -/
theorem low_freeze (m : IVec S16 1) (a b : FVec Ideal S16x256 .f32) (s : FVec Ideal S2x16x256 .f32) :
    low (freeze m (stack a b) s) = select (rows m) a (low s) := by
  refine ext16 fun i d => ?_
  rw [low_at, freeze_at, stack_low, ← low_at s]
  rfl

/-- The second layer's part of a step's pair. -/
theorem high_freeze (m : IVec S16 1) (a b : FVec Ideal S16x256 .f32) (s : FVec Ideal S2x16x256 .f32) :
    high (freeze m (stack a b) s) = select (rows m) b (high s) := by
  refine ext16 fun i d => ?_
  rw [high_at, freeze_at, stack_high, ← high_at s]
  rfl

/-- A vector blanked where the mask does not hold. -/
theorem blank_eq (m : IVec S16 1) (a : FVec Ideal S16x256 .f32) : blank m a = select (rows m) a (fun _ => 0) := by
  refine ext16 fun i d => ?_
  show Scalar.select (broadcastInDim S16x256 ![0, 1] bcast_S16x1_S16x256_0_1 (broadcastInDim S16x1 ![0] bcast_S16_S16x1_0 m) _) _ (Ideal.ofBits .f32 0x00000000#32) = _
  rw [broadcastInDim_apply _ _ _ _ (ix2 (n0 := 16) (n1 := 1) i 0) (fun a => match a with | ⟨0, _⟩ => rfl | ⟨1, _⟩ => rfl),
    broadcastInDim_apply _ _ _ _ (ix1 (n := 16) i) (fun a => match a with | ⟨0, _⟩ => rfl), Ideal.ofBits_zero_f32]
  rfl

/-- The mask of the sequences that step `t` belongs to. -/
theorem before_at (t : BitVec 32) (n : IVec S16 32) (i : Fin 16) :
    before' (fun _ => t) n (ix1 (n := 16) i) = BitVec.ofBool (t.slt (n (ix1 (n := 16) i))) := rfl

end Cert.ReferenceIdeal.Lstm
-- ==== Proof.StepEq.lean ====
module

public import proofs.«01_k».proof.Proof.KernelPts
public import proofs.«01_k».proof.Proof.RefPts

@[expose] public section

noncomputable section

/-! The two programs step by step: the kernel's scaled gates give the reference's cells, so the states and the results
    of every step are the same. -/

namespace Cert.Lstm

open Idealize.ShloMosaic hiding ix1 ix2 ix3 ix4 eq_ix1 eq_ix2 eq_ix3
open Idealize.ShloMosaic.ValueIdx
open KernelIdeal.Lstm (lg cellC cellH cellC_at cellH_at gates1 gates1_at xgate xgate_at dotW dotW_at wOf wOf_at bOf bOf_at nOf longer longer_at
  next keep stAt nextAt outAt live zero16 Ins V16 St out9)
open ReferenceIdeal.Lstm (lgs newC newH newC_at newH_at gates gates_at low high low_at high_at rows low_freeze high_freeze blank_eq
  Par St2 Args stepSt maskAt rowAt tSt tOut teafo zeros2 ext16)

/-- A logistic gate's column is scaled by a half. -/
theorem lg_fac (j : Fin 1024) (h : ¬(512 ≤ j.val ∧ j.val < 768)) (z : EReal) : lg (fac j * z) = lgs z := by
  unfold fac
  rw [if_neg h]
  exact half_tanh z

/-- The cell's column is not scaled. -/
theorem tanh_fac (j : Fin 1024) (h : 512 ≤ j.val ∧ j.val < 768) (z : EReal) : fac j * z = z := by
  unfold fac
  rw [if_pos h, one_mul]

/-- The kernel's gates are the reference's, scaled. -/
def Scaled (g G : FVec Ideal KernelIdeal.S16x1024 .f32) : Prop :=
  ∀ (b : Fin 16) (j : Fin 1024), g (ix2 (n0 := 16) (n1 := 1024) b j) = fac j * G (ix2 (n0 := 16) (n1 := 1024) b j)

/-- Scaled gates give the same cell state. -/
theorem cellC_eq {g G : FVec Ideal KernelIdeal.S16x1024 .f32} (h : Scaled g G) (c : V16 Ideal) : cellC g c = newC G c := by
  refine ext16 fun b d => ?_
  have hd := d.isLt
  rw [cellC_at, newC_at, h, h, h, lg_fac _ (by show ¬(512 ≤ 256 + d.val ∧ _); omega), lg_fac _ (by show ¬(512 ≤ 0 + d.val ∧ _); omega),
    tanh_fac _ (show 512 ≤ 512 + d.val ∧ 512 + d.val < 768 by omega)]

/-- Scaled gates give the same hidden state. -/
theorem cellH_eq {g G : FVec Ideal KernelIdeal.S16x1024 .f32} (h : Scaled g G) (c : V16 Ideal) : cellH g c = newH G c := by
  refine ext16 fun b d => ?_
  have hd := d.isLt
  rw [cellH_at, newH_at, h, lg_fac _ (by show ¬(512 ≤ 768 + d.val ∧ 768 + d.val < 768); omega), cellC_eq h]

/-- The gates from prepared weights are scaled. -/
theorem gates1_scaled (x h : V16 Ideal) (wi wh : FVec Ideal KernelIdeal.S1024x256 .f32) (bi bh : FVec Ideal KernelIdeal.S1024 .f32) :
    Scaled (gates1 x h (wOf wi) (wOf wh) (bOf bi bh)) (gates x h wi wh bi bh) := by
  intro b j
  rw [gates1_at, gates_at, bOf_at]
  simp only [wOf_at]
  exact fac_gate j _ _ _ _ _ _

/-- The kernel's operands from the reference's arguments. -/
def insOfArgs (A : Args Ideal) : Ins Ideal :=
  ⟨A.x, nOf A.nIn, nOf A.nAu, wOf A.par.wi0, wOf A.par.wh0, wOf A.par.wi1, wOf A.par.wh1, bOf A.par.bi0 A.par.bh0, bOf A.par.bi1 A.par.bh1⟩

variable (A : Args Ideal)

/-- The gates from the inputs' chunk are scaled. -/
theorem xgate_scaled (t : ℕ) (ht : t < 512) (h : V16 Ideal) :
    Scaled (addf (xgate (insOfArgs A) t) (dotW h (insOfArgs A).w0h)) (gates (rowAt A t) h A.par.wi0 A.par.wh0 A.par.bi0 A.par.bh0) := by
  intro b j
  show xgate (insOfArgs A) t _ + dotW h (insOfArgs A).w0h _ = _
  rw [xgate_at _ t ht, dotW_at, gates_at]
  show (∑ k : Fin 256, A.x _ * wOf A.par.wi0 _) + bOf A.par.bi0 A.par.bh0 _ + (∑ k : Fin 256, h _ * wOf A.par.wh0 _) = _
  rw [bOf_at]
  simp only [wOf_at]
  refine (fac_gate' j _ _ _ _ _ _).trans ?_
  have e : ∀ k : Fin 256, rowAt A t (ix2 (n0 := 16) (n1 := 256) b k) = A.x (ix3 (n0 := 16) (n1 := 512) (n2 := 256) b ⟨t, ht⟩ k) := fun k => by
    show A.x (ix3 (n0 := 16) (n1 := 512) (n2 := 256) b ⟨t % 512, _⟩ k) = _
    have : t % 512 = t := Nat.mod_eq_of_lt ht
    simp only [this]
  simp only [e]

/-- The reference's pairs of states as the kernel's. -/
def unst (s : St2 Ideal) : St Ideal := (low s.1, low s.2, high s.1, high s.2)

/-- One step of the two layers. -/
theorem step_eq (m : IVec KernelIdeal.S16 1) (x : V16 Ideal) (s : St2 Ideal) {g : FVec Ideal KernelIdeal.S16x1024 .f32}
    (hg : Scaled g (gates x (low s.1) A.par.wi0 A.par.wh0 A.par.bi0 A.par.bh0)) :
    keep (rows m) (next (insOfArgs A).w1x (insOfArgs A).w1h (insOfArgs A).b1 g (unst s)) (unst s) = unst (stepSt A.par m x s)
      ∧ (next (insOfArgs A).w1x (insOfArgs A).w1h (insOfArgs A).b1 g (unst s)).2.2.1 = ReferenceIdeal.Lstm.h1 A.par x s := by
  have e0 : cellH g (low s.2) = ReferenceIdeal.Lstm.h0 A.par x s := cellH_eq hg _
  have e1 : cellC g (low s.2) = newC (ReferenceIdeal.Lstm.g0 A.par x s) (low s.2) := cellC_eq hg _
  have hg1 : Scaled (gates1 (cellH g (low s.2)) (high s.1) (insOfArgs A).w1x (insOfArgs A).w1h (insOfArgs A).b1) (ReferenceIdeal.Lstm.g1 A.par x s) := by
    rw [e0]
    exact gates1_scaled _ _ _ _ _ _
  have e2 := cellH_eq hg1 (high s.2)
  have e3 := cellC_eq hg1 (high s.2)
  have e : next (insOfArgs A).w1x (insOfArgs A).w1h (insOfArgs A).b1 g (unst s)
      = (ReferenceIdeal.Lstm.h0 A.par x s, newC (ReferenceIdeal.Lstm.g0 A.par x s) (low s.2), ReferenceIdeal.Lstm.h1 A.par x s,
        newC (ReferenceIdeal.Lstm.g1 A.par x s) (high s.2)) :=
    Prod.ext e0 (Prod.ext e1 (Prod.ext e2 e3))
  rw [e]
  refine ⟨?_, rfl⟩
  unfold unst stepSt
  rw [low_freeze, low_freeze, high_freeze, high_freeze]
  rfl

/-- The two programs' masks of a teacher-forced step. -/
theorem live_eq (t : ℕ) : live (insOfArgs A) t = rows (maskAt A t) :=
  funext fun y => longer_at A.nIn (BitVec.ofNat 32 t) y

/-- The states before a step. -/
theorem st_eq : ∀ (t : ℕ), t ≤ 512 → stAt (insOfArgs A) t = unst (tSt A t)
  | 0, _ => by
    have e0 : zero16 (F := Ideal) = low zeros2 := ext16 fun b d => (low_at zeros2 b d).symm
    have e1 : zero16 (F := Ideal) = high zeros2 := ext16 fun b d => (high_at zeros2 b d).symm
    show (zero16, zero16, zero16, zero16) = (low zeros2, low zeros2, high zeros2, high zeros2)
    rw [← e0, ← e1]
  | t + 1, h => by
    show keep (live (insOfArgs A) t) (nextAt (insOfArgs A) t (stAt (insOfArgs A) t)) (stAt (insOfArgs A) t) = unst (stepSt A.par (maskAt A t) (rowAt A t) (tSt A t))
    rw [st_eq t (by omega), live_eq]
    exact (step_eq A _ _ _ (xgate_scaled A t (by omega) _)).1

/-- The result of a step. -/
theorem out_eq (t : ℕ) (ht : t < 512) : outAt (insOfArgs A) t = tOut A t := by
  have e : zero16 (F := Ideal) = fun _ => 0 := funext fun _ => Ideal.ofBits_zero_f32
  unfold outAt tOut
  rw [st_eq A t (by omega), live_eq, blank_eq, e]
  exact congrArg (fun v => select (rows (maskAt A t)) v (fun _ => 0)) (step_eq A (maskAt A t) _ _ (xgate_scaled A t ht _)).2

/-- The first result. -/
theorem out9_eq : out9 (insOfArgs A) = teafo A :=
  funext fun y => by
    unfold out9 teafo
    rw [out_eq A _ (y 1).isLt]

end Cert.Lstm
-- ==== Proof.SeedEq.lean ====
module

public import proofs.«01_k».proof.Proof.RefPts

@[expose] public section

noncomputable section

/-! The autoregressive loop's first input: the row read at each sequence's last step is the second layer's hidden state
    after the teacher-forced loop, since that state is kept from the sequence's end on. -/

namespace Cert.ReferenceIdeal.Lstm

open Idealize.ShloMosaic hiding ix1 ix2 ix3 ix4 eq_ix1 eq_ix2 eq_ix3
open Idealize.ShloMosaic.ValueIdx
open Idealize.ShloMosaic.TcCoe
open Cert.ReferenceIdeal Cert.ReferenceIdeal.Gen

/-- The step read for each sequence, as a number of 32 bits. -/
def lastOf (n : BitVec 32) : BitVec 32 := Scalar.select (BitVec.ofBool ((n - 1#32).slt 0#32)) (n - 1#32 + 512#32) (n - 1#32)

/-- The sequence's number among the places read. -/
theorem seedAt_row (n : IVec S16 32) (b : Fin 16) : (seedAt n (ix2 (n0 := 16) (n1 := 2) b 0)).toInt.toNat = b.val := by
  have e : seedAt n (ix2 (n0 := 16) (n1 := 2) b 0)
      = Scalar.select (BitVec.ofBool ((BitVec.ofNat 32 b.val).slt 0#32)) (BitVec.ofNat 32 b.val + 16#32) (BitVec.ofNat 32 b.val) := by
    unfold seedAt
    refine (concatenate_pair_apply_left (t := S16x2) (s₁ := S16x1) (s₂ := S16x1) (1 : Fin 2) _ _ _ (ix2 (n0 := 16) (n1 := 2) b 0) rfl (ix2 (n0 := 16) (n1 := 1) b 0) ?_).trans ?_
    · exact fun b => match b with | ⟨0, _⟩ => rfl | ⟨1, _⟩ => rfl
    · rw [broadcastInDim_apply _ _ _ _ (ix1 (n := 16) b) (fun a => match a with | ⟨0, _⟩ => rfl)]
      rfl
  rw [e]
  clear e
  revert b
  decide +kernel

/-- The step read for a sequence. -/
theorem seedAt_step (n : IVec S16 32) (b : Fin 16) : seedAt n (ix2 (n0 := 16) (n1 := 2) b 1) = lastOf (n (ix1 (n := 16) b)) := by
  unfold seedAt
  refine (concatenate_pair_apply_right (t := S16x2) (s₁ := S16x1) (s₂ := S16x1) (1 : Fin 2) _ _ _ (ix2 (n0 := 16) (n1 := 2) b 1) rfl rfl (ix2 (n0 := 16) (n1 := 1) b 0) ?_ rfl).trans ?_
  · exact fun b hb => match b with | ⟨0, _⟩ => rfl | ⟨1, _⟩ => absurd rfl hb
  · rw [broadcastInDim_apply _ _ _ _ (ix1 (n := 16) b) (fun a => match a with | ⟨0, _⟩ => rfl)]
    rfl

/-- How a row is read. -/
abbrev rowDims : GatherDims S16x512x256 S16x2 S16x256 := gather_S16x512x256_S16x2_S16x256_1_01_n_n_01_1_11256

/-- The place that the first component of a row's place is read at. -/
theorem si_row (b : Fin 16) (d : Fin 256) : rowDims.siIdx (ix2 (n0 := 16) (n1 := 256) b d) ⟨0, by decide⟩ = ix2 (n0 := 16) (n1 := 2) b 0 :=
  funext fun a => match a with
    | ⟨0, _⟩ => rfl
    | ⟨1, _⟩ => rfl

/-- The place that the second component is read at. -/
theorem si_step (b : Fin 16) (d : Fin 256) : rowDims.siIdx (ix2 (n0 := 16) (n1 := 256) b d) ⟨1, by decide⟩ = ix2 (n0 := 16) (n1 := 2) b 1 :=
  funext fun a => match a with
    | ⟨0, _⟩ => rfl
    | ⟨1, _⟩ => rfl

/-- The place of the results that a place of the first input is read at. -/
theorem place_at (n : IVec S16 32) (b : Fin 16) (d : Fin 256) :
    rowDims.operandIdx (ix2 (n0 := 16) (n1 := 256) b d) (seedAt n)
      = ix3 (n0 := 16) (n1 := 512) (n2 := 256) b ⟨min (lastOf (n (ix1 (n := 16) b))).toInt.toNat 511, by omega⟩ d := by
  have hb := b.isLt
  funext a
  refine Fin.ext ?_
  show rowDims.start (ix2 (n0 := 16) (n1 := 256) b d) (seedAt n) a + rowDims.batchCoord (ix2 (n0 := 16) (n1 := 256) b d) a
    + rowDims.offCoord (ix2 (n0 := 16) (n1 := 256) b d) a = _
  rw [GatherDims.batchCoord_eq_zero _ _ _ List.not_mem_nil, Nat.add_zero]
  match a with
  | ⟨0, _⟩ =>
    rw [GatherDims.offCoord_eq_zero _ _ _ (show (0 : Fin 3) ∉ S16x512x256.kept ([0, 1] ++ []) by decide), Nat.add_zero]
    unfold GatherDims.start
    refine (dif_pos (show (0 : Fin 3) ∈ ([0, 1] : List (Fin 3)) by decide)).trans ?_
    have e : seedAt n (rowDims.siIdx (ix2 (n0 := 16) (n1 := 256) b d) ⟨0, by decide⟩) = seedAt n (ix2 (n0 := 16) (n1 := 2) b 0) := congrArg _ (si_row b d)
    refine (congrArg (fun v : BitVec 32 => min v.toInt.toNat 15) e).trans ?_
    show min (seedAt n (ix2 (n0 := 16) (n1 := 2) b 0)).toInt.toNat 15 = b.val
    rw [seedAt_row]
    omega
  | ⟨1, _⟩ =>
    rw [GatherDims.offCoord_eq_zero _ _ _ (show (1 : Fin 3) ∉ S16x512x256.kept ([0, 1] ++ []) by decide), Nat.add_zero]
    unfold GatherDims.start
    refine (dif_pos (show (1 : Fin 3) ∈ ([0, 1] : List (Fin 3)) by decide)).trans ?_
    have e : seedAt n (rowDims.siIdx (ix2 (n0 := 16) (n1 := 256) b d) ⟨1, by decide⟩) = seedAt n (ix2 (n0 := 16) (n1 := 2) b 1) := congrArg _ (si_step b d)
    refine (congrArg (fun v : BitVec 32 => min v.toInt.toNat 511) e).trans ?_
    show min (seedAt n (ix2 (n0 := 16) (n1 := 2) b 1)).toInt.toNat 511 = _
    rw [seedAt_step]
  | ⟨2, h2⟩ =>
    have e : rowDims.start (ix2 (n0 := 16) (n1 := 256) b d) (seedAt n) ⟨2, h2⟩ = 0 := dif_neg (show (2 : Fin 3) ∉ ([0, 1] : List (Fin 3)) by decide)
    rw [e, Nat.zero_add]
    exact dif_pos (show (2 : Fin 3) ∈ S16x512x256.kept ([0, 1] ++ []) by decide)

/-- The first result's entries. -/
theorem teafo_at (A : Args Ideal) (b : Fin 16) (t : Fin 512) (d : Fin 256) :
    teafo A (ix3 (n0 := 16) (n1 := 512) (n2 := 256) b t d) = tOut A t.val (ix2 (n0 := 16) (n1 := 256) b d) := rfl

/-- The rows read. -/
theorem seed_at (A : Args Ideal) (b : Fin 16) (d : Fin 256) :
    seed A (ix2 (n0 := 16) (n1 := 256) b d)
      = tOut A (min (lastOf (A.nIn (ix1 (n := 16) b))).toInt.toNat 511) (ix2 (n0 := 16) (n1 := 256) b d) := by
  unfold seed Host.gather
  exact (congrArg (teafo A) (place_at A.nIn b d)).trans (teafo_at A b _ d)

/-! ## The state kept from the end on -/

/-- A number of a step below 2³¹ as a signed one. -/
theorem step_slt (t : ℕ) (ht : t < 1024) (n : BitVec 32) : (BitVec.ofNat 32 t).slt n = decide ((t : ℤ) < n.toInt) := by
  have e : (BitVec.ofNat 32 t).toInt = t := by
    rw [BitVec.toInt_ofNat', Int.bmod_eq_of_le (by omega) (by omega)]
  rw [BitVec.slt_eq_decide, e]

/-- The step read for a sequence of at least one step. -/
theorem lastOf_pos (n : BitVec 32) (h : 0 < n.toInt) : (lastOf n).toInt.toNat = n.toInt.toNat - 1 := by
  have hn : n.toInt < 2147483648 := by have := n.toInt_lt; omega
  have e : (n - 1#32).toInt = n.toInt - 1 := by
    rw [BitVec.toInt_sub, show (1#32 : BitVec 32).toInt = 1 from rfl, Int.bmod_eq_of_le (by omega) (by omega)]
  have e' : (n - 1#32).slt 0#32 = false := by
    rw [BitVec.slt_eq_decide, e, show (0#32 : BitVec 32).toInt = 0 from rfl]
    exact decide_eq_false (by omega)
  unfold lastOf
  rw [e', show Scalar.select (BitVec.ofBool false) (n - 1#32 + 512#32) (n - 1#32) = n - 1#32 from rfl, e]
  omega

variable (A : Args Ideal) (b : Fin 16) (d : Fin 256)

/-- The second layer's hidden state after a step. -/
theorem hid_succ (t : ℕ) (ht : t < 512) :
    high (tSt A (t + 1)).1 (ix2 (n0 := 16) (n1 := 256) b d)
      = if (t : ℤ) < (A.nIn (ix1 (n := 16) b)).toInt then h1 A.par (rowAt A t) (tSt A t) (ix2 (n0 := 16) (n1 := 256) b d)
        else high (tSt A t).1 (ix2 (n0 := 16) (n1 := 256) b d) := by
  show high (freeze (maskAt A t) (stack _ (h1 A.par (rowAt A t) (tSt A t))) (tSt A t).1) _ = _
  rw [high_freeze]
  show Scalar.select (BitVec.ofBool ((BitVec.ofNat 32 t).slt (A.nIn (ix1 (n := 16) b)))) _ _ = _
  rw [step_slt t (by omega)]
  by_cases h : (t : ℤ) < (A.nIn (ix1 (n := 16) b)).toInt
  · rw [if_pos h, decide_eq_true h]; rfl
  · rw [if_neg h, decide_eq_false h]; rfl

/-- A step's result. -/
theorem res_at (t : ℕ) (ht : t < 512) :
    tOut A t (ix2 (n0 := 16) (n1 := 256) b d)
      = if (t : ℤ) < (A.nIn (ix1 (n := 16) b)).toInt then h1 A.par (rowAt A t) (tSt A t) (ix2 (n0 := 16) (n1 := 256) b d) else 0 := by
  unfold tOut
  rw [blank_eq]
  show Scalar.select (BitVec.ofBool ((BitVec.ofNat 32 t).slt (A.nIn (ix1 (n := 16) b)))) _ _ = _
  rw [step_slt t (by omega)]
  by_cases h : (t : ℤ) < (A.nIn (ix1 (n := 16) b)).toInt
  · rw [if_pos h, decide_eq_true h]; rfl
  · rw [if_neg h, decide_eq_false h]; rfl

/-- From the sequence's end on the state is kept. -/
theorem hid_kept (u : ℕ) (hu : (A.nIn (ix1 (n := 16) b)).toInt ≤ u) : ∀ k : ℕ, u + k ≤ 512 →
    high (tSt A (u + k)).1 (ix2 (n0 := 16) (n1 := 256) b d) = high (tSt A u).1 (ix2 (n0 := 16) (n1 := 256) b d)
  | 0, _ => rfl
  | k + 1, h => by
    rw [← Nat.add_assoc, hid_succ A b d (u + k) (by omega), if_neg (by push_cast; omega)]
    exact hid_kept u hu k (by omega)

/-- The autoregressive loop's first input is the second layer's hidden state. -/
theorem seed_eq : seed A = high (tSt A 512).1 := by
  refine ext16 fun b d => ?_
  rw [seed_at, res_at A b d _ (by omega)]
  by_cases h : 0 < (A.nIn (ix1 (n := 16) b)).toInt
  · rw [lastOf_pos _ h]
    generalize ht : min ((A.nIn (ix1 (n := 16) b)).toInt.toNat - 1) 511 = t
    have hlt : (t : ℤ) < (A.nIn (ix1 (n := 16) b)).toInt := by omega
    rw [if_pos hlt]
    have hs := hid_succ A b d t (by omega)
    rw [if_pos hlt] at hs
    rw [← hs]
    by_cases h5 : t + 1 = 512
    · rw [h5]
    · have hk := hid_kept A b d (t + 1) (by push_cast; omega) (512 - (t + 1)) (by omega)
      rw [show t + 1 + (512 - (t + 1)) = 512 by omega] at hk
      exact hk.symm
  · rw [if_neg (by omega)]
    have hk := hid_kept A b d 0 (by push_cast; omega) 512 (by omega)
    rw [Nat.zero_add] at hk
    rw [hk, high_at]
    exact Ideal.ofBits_zero_f32.symm

end Cert.ReferenceIdeal.Lstm
-- ==== Proof.DecEq.lean ====
module

public import proofs.«01_k».proof.Proof.StepEq
public import proofs.«01_k».proof.Proof.SeedEq

@[expose] public section

noncomputable section

/-! The autoregressive loop: where the step mask is the one that the lengths state, both programs carry the same states
    and give the same results. -/

namespace Cert.Lstm

open Idealize.ShloMosaic hiding ix1 ix2 ix3 ix4 eq_ix1 eq_ix2 eq_ix3
open Idealize.ShloMosaic.ValueIdx
open KernelIdeal.Lstm (gates1 longer_at next keep decAt decNext decLive decRes zero16 DSt V16 out10)
open ReferenceIdeal.Lstm (high low rows blank_eq Args maskAu dSt dOut decoded aureg seed_eq tSt)

variable (A : Args Ideal)

/-- The step mask is the one that the lengths state. -/
def Prefix : Prop := ∀ (b : Fin 16) (k : Fin 64),
  A.mask (ix2 (n0 := 16) (n1 := 64) b k) = BitVec.ofBool ((BitVec.ofNat 32 k.val).slt (A.nAu (ix1 (n := 16) b)))

variable {A}

/-- The mask of an autoregressive step by the lengths. -/
theorem maskAu_at (hm : Prefix A) (k : ℕ) (hk : k < 64) (y : KernelIdeal.S16x256.Idx) :
    rows (maskAu A k) y = BitVec.ofBool ((BitVec.ofNat 32 k).slt (A.nAu (ix1 (n := 16) (y 0)))) := by
  have h := hm (y 0) ⟨k, hk⟩
  have e : k % 64 = k := Nat.mod_eq_of_lt hk
  rw [← h]
  show A.mask (ix2 (n0 := 16) (n1 := 64) (y 0) ⟨k % 64, _⟩) = _
  simp only [e]

/-- The two programs' masks of an autoregressive step. -/
theorem decLive_eq (hm : Prefix A) (k : ℕ) (hk : k < 64) : decLive (insOfArgs A) k = rows (maskAu A k) :=
  funext fun y => by
    rw [maskAu_at hm k hk]
    refine (longer_at A.nAu _ y).trans ?_
    rw [show KernelIdeal.Lstm.iv k = BitVec.ofNat 32 k from ReferenceIdeal.Lstm.iv_eq k]

/-- What the kernel's decoder carries, of the reference's states. -/
def carried (s : ReferenceIdeal.Lstm.St2 Ideal × V16 Ideal) : DSt Ideal := (low s.1.1, low s.1.2, high s.1.1, high s.1.2, s.2)

/-- One autoregressive step. -/
theorem dec_step (m : IVec KernelIdeal.S16 1) (s : ReferenceIdeal.Lstm.St2 Ideal × V16 Ideal) :
    keep (rows m) (decNext (insOfArgs A) (carried s)) (unst s.1) = unst (ReferenceIdeal.Lstm.stepSt A.par m s.2 s.1)
      ∧ (decNext (insOfArgs A) (carried s)).2.2.1 = ReferenceIdeal.Lstm.h1 A.par s.2 s.1 :=
  step_eq A m s.2 s.1 (gates1_scaled s.2 (low s.1.1) A.par.wi0 A.par.wh0 A.par.bi0 A.par.bh0)

/-- The result of an autoregressive step from what is carried. -/
theorem decRes_eq (hm : Prefix A) (k : ℕ) (hk : k < 64) : decRes (insOfArgs A) k (carried (dSt A k)) = dOut A k := by
  have e : zero16 (F := Ideal) = fun _ => 0 := funext fun _ => Ideal.ofBits_zero_f32
  unfold decRes dOut
  rw [decLive_eq hm k hk, blank_eq, e]
  exact congrArg (fun v => select (rows (maskAu A k)) v (fun _ => 0)) (dec_step (maskAu A k) (dSt A k)).2

/-- What the two programs carry before an autoregressive step. -/
theorem dec_eq (hm : Prefix A) : ∀ (k : ℕ), k ≤ 64 → decAt (insOfArgs A) k = carried (dSt A k)
  | 0, _ => by
    have h := st_eq A 512 (Nat.le_refl _)
    unfold decAt carried dSt
    rw [h, seed_eq]
    rfl
  | k + 1, h => by
    have hk : k < 64 := by omega
    have e := (dec_step (A := A) (maskAu A k) (dSt A k)).1
    have r := decRes_eq hm k hk
    unfold decAt
    rw [dec_eq hm k (by omega), decLive_eq hm k hk, r]
    show (let s' := keep (rows (maskAu A k)) (decNext (insOfArgs A) (carried (dSt A k))) (unst (dSt A k).1); (s'.1, s'.2.1, s'.2.2.1, s'.2.2.2, dOut A k)) = _
    rw [e]
    rfl

/-- The second result: beyond a sequence's length the steps' results are zero already. -/
theorem out10_eq (hm : Prefix A) : out10 (insOfArgs A) = aureg A := by
  funext y
  have hy : (y 1).val < 64 := (y 1).isLt
  have e1 : out10 (insOfArgs A) y = decoded A y := by
    unfold out10 decoded
    rw [dec_eq hm _ (Nat.le_of_lt hy), decRes_eq hm _ hy]
  have ez : decoded A y = Scalar.select (BitVec.ofBool ((BitVec.ofNat 32 (y 1).val).slt (A.nAu (ix1 (n := 16) (y 0)))))
      (ReferenceIdeal.Lstm.h1 A.par (dSt A (y 1).val).2 (dSt A (y 1).val).1 (ix2 (n0 := 16) (n1 := 256) (y 0) (y 2))) 0 := by
    unfold decoded dOut
    rw [blank_eq]
    refine congrArg (fun v => Scalar.select v _ _) ?_
    exact maskAu_at hm (y 1).val hy (ix2 (n0 := 16) (n1 := 256) (y 0) (y 2))
  have ea : aureg A y = Scalar.select (BitVec.ofBool ((BitVec.ofNat 32 (y 1).val).slt (A.nAu (ix1 (n := 16) (y 0))))) (decoded A y) 0 := by
    unfold aureg
    show Scalar.select (broadcastInDim _ _ _ _ y) (decoded A y) (Ideal.ofBits .f32 0x00000000#32) = _
    rw [Ideal.ofBits_zero_f32,
      broadcastInDim_apply _ _ _ _ (ix3 (n0 := 16) (n1 := 64) (n2 := 1) (y 0) (y 1) 0) (fun a => match a with | ⟨0, _⟩ => rfl | ⟨1, _⟩ => rfl | ⟨2, _⟩ => rfl),
      broadcastInDim_apply _ _ _ _ (ix2 (n0 := 16) (n1 := 64) (y 0) (y 1)) (fun a => match a with | ⟨0, _⟩ => rfl | ⟨1, _⟩ => rfl)]
    show Scalar.select (IntOp.cmpi .slt (broadcastInDim _ _ _ _ _) (broadcastInDim _ _ _ _ _)) _ _ = _
    rw [broadcastInDim_apply _ _ _ _ (ix2 (n0 := 1) (n1 := 64) 0 (y 1)) (fun a => match a with | ⟨0, _⟩ => rfl | ⟨1, _⟩ => rfl),
      broadcastInDim_apply _ _ _ _ (ix1 (n := 64) (y 1)) (fun a => match a with | ⟨0, _⟩ => rfl),
      broadcastInDim_apply _ _ _ _ (ix2 (n0 := 16) (n1 := 1) (y 0) 0) (fun a => match a with | ⟨0, _⟩ => rfl | ⟨1, _⟩ => rfl),
      broadcastInDim_apply _ _ _ _ (ix1 (n := 16) (y 0)) (fun a => match a with | ⟨0, _⟩ => rfl)]
    rfl
  rw [e1, ea, ez]
  cases (BitVec.ofNat 32 (y 1).val).slt (A.nAu (ix1 (n := 16) (y 0))) <;> rfl

end Cert.Lstm
-- ==== Proof.RefEnd.lean ====
module

public import proofs.«01_k».proof.Proof.RefLoop

@[expose] public section

set_option maxRecDepth 65536

noncomputable section

/-! The reference's autoregressive loop step by step, and its two results where it ends. -/

namespace Cert.ReferenceIdeal.Lstm

open Cert.ReferenceIdeal Cert.ReferenceIdeal.Gen
open Idealize.ShloMosaic hiding ix2 ix3 ix4 eq_ix2 eq_ix3
open Idealize.ShloMosaic.TcCoe Idealize.ShloMosaic.StableHlo Idealize.ShloMosaic.Tactic Idealize.ShloMosaic.ValueIdx

variable {F : FTy → Type} [FloatOps F]
variable (m : (ℓ : Loc nD τ sig) → Buf (Elt F) ℓ)

/-! ## Between the loops -/

/-- The teacher-forced results, transposed. -/
theorem m_seed_v6 (V : Valuation τ sig (Elt F)) : after m_seed V (Proc.devRef .tc main_v6)
    = transpose S16x512x256 [1, 0, 2] (V (Proc.devRef .tc main_v5_14)) transposes_S512x16x256_S16x512x256_1_0_2 := by
  after_results
  first | done | rfl

/-- The first input of the autoregressive loop. -/
theorem m_seed_v23 (V : Valuation τ sig (Elt F)) : after m_seed V (Proc.devRef .tc main_v23)
    = Host.gather gather_S16x512x256_S16x2_S16x256_1_01_n_n_01_1_11256
      (transpose S16x512x256 [1, 0, 2] (V (Proc.devRef .tc main_v5_14)) transposes_S512x16x256_S16x512x256_1_0_2) (seedAt (V (Proc.devRef .tc main_arg1))) := by
  after_results
  first | done | rfl

/-- The masks, transposed. -/
theorem m_x1_mask (V : Valuation τ sig (Elt F)) : after m_x1 V (Proc.devRef .tc main_v26_0)
    = transpose S64x16 [1, 0] (V (Proc.devRef .tc main_arg3)) transposes_S16x64_S64x16_1_0 := by
  after_results
  first | done | rfl

/-- The weights and biases. -/
theorem m_x1_par (V : Valuation τ sig (Elt F)) : parD (after m_x1 V)
    = ⟨V (Proc.devRef .tc main_arg4), V (Proc.devRef .tc main_arg5), V (Proc.devRef .tc main_arg6), V (Proc.devRef .tc main_arg7),
      V (Proc.devRef .tc main_arg8), V (Proc.devRef .tc main_arg9), V (Proc.devRef .tc main_arg10), V (Proc.devRef .tc main_arg11)⟩ := by
  unfold parD
  after_results
  first | done | rfl

/-- The states carried over. -/
theorem m_x1_st (V : Valuation τ sig (Elt F)) : stD (after m_x1 V) = stT V := by
  unfold stD stT
  after_results
  first | done | rfl

/-- The first input carried over. -/
theorem m_x1_seed (V : Valuation τ sig (Elt F)) : after m_x1 V (Proc.devRef .tc main_v26_12) = V (Proc.devRef .tc main_v23) := by
  after_results
  first | done | rfl

/-- The teacher-forced results after the loop, transposed. -/
theorem W1_teafo (c : Dev nD) : transpose S16x512x256 [1, 0, 2] (W1 m c (Proc.devRef .tc main_v5_14)) transposes_S512x16x256_S16x512x256_1_0_2
    = teafo (argsOf m c) := by
  funext y
  have hy : y = ix3 (n0 := 16) (n1 := 512) (n2 := 256) (y 0) (y 1) (y 2) := ValueIdx.eq_ix3 y
  refine Eq.trans ?_ (tV_out m c 512 (le_refl _) (y 1) (y 1).isLt (y 0) (y 2))
  refine transpose_apply _ _ _ _ _ (fun a => ?_)
  match a with
  | ⟨0, _⟩ => rfl
  | ⟨1, _⟩ => rfl
  | ⟨2, _⟩ => rfl

/-- The masks where the autoregressive loop starts. -/
theorem W2_mask (c : Dev nD) : W2 m c (Proc.devRef .tc main_v26_0) = transpose S64x16 [1, 0] (argsOf m c).mask transposes_S16x64_S64x16_1_0 := by
  rw [W2, afterL_cons, afterL_cons, afterL_nil, m_x1_mask, m_seed_keep _ (r := main_arg3) (by decide), W1_keep m c (by decide) (by decide) (by decide)]
  rfl

/-- The weights and biases there. -/
theorem W2_par (c : Dev nD) : parD (W2 m c) = parOf m c := by
  rw [W2, afterL_cons, afterL_cons, afterL_nil, m_x1_par,
    m_seed_keep _ (r := main_arg4) (by decide), m_seed_keep _ (r := main_arg5) (by decide), m_seed_keep _ (r := main_arg6) (by decide),
    m_seed_keep _ (r := main_arg7) (by decide), m_seed_keep _ (r := main_arg8) (by decide), m_seed_keep _ (r := main_arg9) (by decide),
    m_seed_keep _ (r := main_arg10) (by decide), m_seed_keep _ (r := main_arg11) (by decide),
    W1_keep m c (r := main_arg4) (by decide) (by decide) (by decide), W1_keep m c (r := main_arg5) (by decide) (by decide) (by decide),
    W1_keep m c (r := main_arg6) (by decide) (by decide) (by decide), W1_keep m c (r := main_arg7) (by decide) (by decide) (by decide),
    W1_keep m c (r := main_arg8) (by decide) (by decide) (by decide), W1_keep m c (r := main_arg9) (by decide) (by decide) (by decide),
    W1_keep m c (r := main_arg10) (by decide) (by decide) (by decide), W1_keep m c (r := main_arg11) (by decide) (by decide) (by decide)]
  rfl

/-- The states there are the ones after the teacher-forced steps. -/
theorem W2_st (c : Dev nD) : stD (W2 m c) = tSt (argsOf m c) 512 := by
  rw [W2, afterL_cons, afterL_cons, afterL_nil, m_x1_st, ← tV_st m c 512 (le_refl _)]
  unfold stT
  rw [m_seed_keep _ (r := main_v5_12) (by decide), m_seed_keep _ (r := main_v5_13) (by decide)]

/-- The input there. -/
theorem W2_seed (c : Dev nD) : W2 m c (Proc.devRef .tc main_v26_12) = seed (argsOf m c) := by
  rw [W2, afterL_cons, afterL_cons, afterL_nil, m_x1_seed, m_seed_v23, W1_teafo, W1_keep m c (by decide) (by decide) (by decide)]
  rfl

/-! ## The autoregressive loop -/

/-- The arrays before the `k`-th autoregressive trip's stretches. -/
abbrev dV (c : Dev nD) (k : ℕ) : Valuation τ sig (Elt F) := after d_cond (atTrip d_cond deco (W2 m) k c)

/-- An array that no trip writes is as the loop found it. -/
theorem dV_keep (c : Dev nD) (k : ℕ) {r : Ref sig .tc} (h : ∀ W ∈ deco_Ws, r ∉ W) (h' : r ∉ d_cond_W) :
    dV m c k (Proc.devRef .tc r) = W2 m c (Proc.devRef .tc r) := by
  rw [dV, d_cond_keep _ h', d_trips_keep _ _ h h']

/-- The counter of a trip. -/
theorem dV_ctr (c : Dev nD) (k : ℕ) : dV m c k (Proc.devRef .tc main_v26_9) = ctr k := by
  rw [dV, d_cond_keep _ (show main_v26_9 ∉ d_cond_W by decide)]
  exact d_ctr _ (d_start m) c k

/-- The weights and biases of a trip. -/
theorem dV_par (c : Dev nD) (k : ℕ) : parD (dV m c k) = (argsOf m c).par := by
  rw [← show parD (W2 m c) = (argsOf m c).par from W2_par m c]
  unfold parD
  rw [dV_keep m c k (r := main_v26_1) (by decide) (by decide), dV_keep m c k (r := main_v26_2) (by decide) (by decide),
    dV_keep m c k (r := main_v26_3) (by decide) (by decide), dV_keep m c k (r := main_v26_4) (by decide) (by decide),
    dV_keep m c k (r := main_v26_5) (by decide) (by decide), dV_keep m c k (r := main_v26_6) (by decide) (by decide),
    dV_keep m c k (r := main_v26_7) (by decide) (by decide), dV_keep m c k (r := main_v26_8) (by decide) (by decide)]

/-- The mask of a trip. -/
theorem dV_mask (c : Dev nD) (k : ℕ) (hk : k < 64) : maskD (dV m c k) = maskAu (argsOf m c) k := by
  unfold maskD
  rw [dV_keep m c k (r := main_v26_0) (by decide) (by decide), dV_ctr, W2_mask]
  funext y
  have hy : y = ix1 (n := 16) (y 0) := ValueIdx.eq_ix1 y
  have hm : k % 64 = k := Nat.mod_eq_of_lt hk
  refine (congrArg (inMask _ _) hy).trans ((inMask_at _ k hk (y 0)).trans ?_)
  refine transpose_apply _ _ _ _ _ (fun a => ?_)
  match a with
  | ⟨0, _⟩ => exact hm
  | ⟨1, _⟩ => rfl

/-- The states and the input before each trip. -/
theorem dV_st (c : Dev nD) (k : ℕ) (hk : k ≤ 64) : (stD (dV m c k), rowD (dV m c k)) = dSt (argsOf m c) k := by
  have hc : ∀ k, (stD (dV m c k), rowD (dV m c k)) = (stD (atTrip d_cond deco (W2 m) k c), rowD (atTrip d_cond deco (W2 m) k c)) := by
    intro k
    unfold stD rowD
    rw [dV, d_cond_keep _ (show main_v26_10 ∉ d_cond_W by decide), d_cond_keep _ (show main_v26_11 ∉ d_cond_W by decide),
      d_cond_keep _ (show main_v26_12 ∉ d_cond_W by decide)]
  induction k with
  | zero =>
    rw [hc, atTrip_zero, W2_st]
    unfold rowD
    rw [W2_seed]
    rfl
  | succ k ih =>
    have ih' := ih (by omega)
    rw [hc]
    unfold stD rowD
    rw [atTrip_succ, d_trip_h, d_trip_c, d_trip_x]
    show (stepSt (parD (dV m c k)) (maskD (dV m c k)) (rowD (dV m c k)) (stD (dV m c k)),
      blank (maskD (dV m c k)) (h1 (parD (dV m c k)) (rowD (dV m c k)) (stD (dV m c k)))) = _
    rw [dV_par, dV_mask m c k (by omega), show stD (dV m c k) = (dSt (argsOf m c) k).1 from congrArg Prod.fst ih',
      show rowD (dV m c k) = (dSt (argsOf m c) k).2 from congrArg Prod.snd ih']
    rfl

/-- The rows stored before each trip. -/
theorem dV_out (c : Dev nD) (k : ℕ) (hk : k ≤ 64) (i : Fin 64) (hi : i.val < k) (b : Fin 16) (d : Fin 256) :
    (dV m c k (Proc.devRef .tc main_v26_13) : FVec F S64x16x256 .f32) (ix3 (n0 := 64) (n1 := 16) (n2 := 256) i b d)
      = dOut (argsOf m c) i.val (ix2 (n0 := 16) (n1 := 256) b d) := by
  induction k with
  | zero => omega
  | succ k ih =>
    have hs := dV_st m c k (by omega)
    rw [dV, d_cond_keep _ (show main_v26_13 ∉ d_cond_W by decide), atTrip_succ, d_trip_o]
    show setRow' (dV m c k (Proc.devRef .tc main_v26_13)) (blank (maskD (dV m c k)) (h1 (parD (dV m c k)) (rowD (dV m c k)) (stD (dV m c k))))
      (dV m c k (Proc.devRef .tc main_v26_9)) _ = _
    rw [dV_par, dV_mask m c k (by omega), show stD (dV m c k) = (dSt (argsOf m c) k).1 from congrArg Prod.fst hs,
      show rowD (dV m c k) = (dSt (argsOf m c) k).2 from congrArg Prod.snd hs, dV_ctr]
    unfold setRow'
    rw [stored_row (n := 64) _ _ k (by omega) (by omega)]
    by_cases h : i.val = k
    · rw [if_pos h, h]; rfl
    · rw [if_neg h]; exact ih (by omega) (by omega)

/-! ## The two results -/

/-- The first result where the reference ends. -/
theorem end_v6 (c : Dev nD) : W4 m c (Proc.devRef .tc main_v6) = teafo (argsOf m c) := by
  rw [W4, behind_keep _ (by decide), W3, d_cond_keep _ (by decide), d_trips_keep _ _ (by decide) (by decide), W2, afterL_cons, afterL_cons, afterL_nil,
    m_x1_keep _ (by decide), m_seed_v6, W1_teafo]

/-- The autoregressive results after the loop, transposed. -/
theorem W3_decoded (c : Dev nD) : transpose S16x64x256 [1, 0, 2] (W3 m c (Proc.devRef .tc main_v26_13)) transposes_S64x16x256_S16x64x256_1_0_2
    = decoded (argsOf m c) := by
  funext y
  refine Eq.trans ?_ (dV_out m c 64 (le_refl _) (y 1) (y 1).isLt (y 0) (y 2))
  refine transpose_apply _ _ _ _ _ (fun a => ?_)
  match a with
  | ⟨0, _⟩ => rfl
  | ⟨1, _⟩ => rfl
  | ⟨2, _⟩ => rfl

/-- What the last stretches leave. -/
theorem behind_v35 (V : Valuation τ sig (Elt F)) : afterL behind V (Proc.devRef .tc main_v35)
    = select (broadcastInDim S16x64x256 ![0, 1, 2] bcast_S16x64x1_S16x64x256_0_1_2 (broadcastInDim S16x64x1 ![0, 1] bcast_S16x64_S16x64x1_0_1
      (cmpi .slt (broadcastInDim S16x64 ![0, 1] bcast_S1x64_S16x64_0_1 (broadcastInDim S1x64 ![1] bcast_S64_S1x64_1 (iotaInDim S64 32 0)))
        (broadcastInDim S16x64 ![0, 1] bcast_S16x1_S16x64_0_1 (broadcastInDim S16x1 ![0] bcast_S16_S16x1_0 (V (Proc.devRef .tc main_arg2)))))))
    (transpose S16x64x256 [1, 0, 2] (V (Proc.devRef .tc main_v26_13)) transposes_S64x16x256_S16x64x256_1_0_2)
    (broadcastInDim S16x64x256 ![] bcast_S_S16x64x256 (constant S_ .f32 0x00000000#32)) := by
  rw [afterL_cons, afterL_cons, afterL_nil]
  after_results
  first | done | rfl

/-- The second result where the reference ends. -/
theorem end_v35 (c : Dev nD) : W4 m c (Proc.devRef .tc main_v35) = aureg (argsOf m c) := by
  rw [W4, behind_v35, W3_decoded]
  have h : W3 m c (Proc.devRef .tc main_arg2) = (argsOf m c).nAu := by
    rw [W3, d_cond_keep _ (by decide), d_trips_keep _ _ (by decide) (by decide), W2, between_keep _ (by decide),
      W1_keep m c (by decide) (by decide) (by decide)]
    rfl
  rw [h]
  rfl

end Cert.ReferenceIdeal.Lstm
-- ==== Proof.Results.lean ====
module

public import proofs.«01_k».proof.Defs
public import proofs.«01_k».proof.Proof.DecEq
public import proofs.«01_k».proof.Proof.RefEnd
public import proofs.«01_k».proof.Proof.RefFrame
public import proofs.«01_k».proof.Proof.Transfer
public import Idealize.ShloMosaic.Lib.ReduceAll
public import Idealize.ShloMosaic.Lib.Affine
public import Idealize.ShloMosaic.Lib.Claim

@[expose] public section

noncomputable section

/-! The value claim: from equal arguments whose step mask is a prefix, the kernel and the reference end with equal
    results, both of them. -/

namespace Cert.Lstm

open Idealize.ShloMosaic hiding ix1 ix2 ix3 ix4 eq_ix1 eq_ix2 eq_ix3
open Idealize.ShloMosaic.ValueIdx
open Idealize.SL.Sem

/-- The precondition read at a sequence and a step. -/
theorem prefix_of [Cert.Pre_mask_is_prefix.Facts] {m : (ℓ : Loc KernelIdeal.nD KernelIdeal.τ KernelIdeal.sig) → Buf (Elt Ideal) ℓ}
    (hp : Cert.Pre_KernelIdeal_mask_is_prefix m) (c : Dev KernelIdeal.nD) (b : Fin 16) (k : Fin 64) :
    m ((c.tc : Thread KernelIdeal.nD KernelIdeal.τ).loc KernelIdeal.main_arg3) (ix2 (n0 := 16) (n1 := 64) b k)
      = BitVec.ofBool ((BitVec.ofNat 32 k.val).slt (m ((c.tc : Thread KernelIdeal.nD KernelIdeal.τ).loc KernelIdeal.main_arg2) (ix1 (n := 16) b))) := by
  have h := congrFun (hp c) (Shape.Idx.first Cert.Pre_mask_is_prefix.Facts.h_S_)
  dsimp only [Cert.Pre_mask_is_prefix.fn] at h
  haveI : Subsingleton Cert.Pre_mask_is_prefix.S_.Idx := ⟨fun a b => funext fun i => i.elim0⟩
  have e := Host.reduce_andi_all _ _ _ _ _ h (ix2 (n0 := 16) (n1 := 64) b k)
  have e' := IntOp.cmpi_eq.1 e
  refine e'.trans ?_
  show IntOp.cmpi .slt (broadcastInDim _ _ _ _ _) (broadcastInDim _ _ _ _ _) = _
  rw [broadcastInDim_apply _ _ _ _ (ix2 (n0 := 1) (n1 := 64) 0 k) (fun a => match a with | ⟨0, _⟩ => rfl | ⟨1, _⟩ => rfl),
    broadcastInDim_apply _ _ _ _ (ix1 (n := 64) k) (fun a => match a with | ⟨0, _⟩ => rfl),
    broadcastInDim_apply _ _ _ _ (ix2 (n0 := 16) (n1 := 1) b 0) (fun a => match a with | ⟨0, _⟩ => rfl | ⟨1, _⟩ => rfl),
    broadcastInDim_apply _ _ _ _ (ix1 (n := 16) b) (fun a => match a with | ⟨0, _⟩ => rfl)]
  rfl

/-- From equal arguments whose mask is a prefix, both programs end with equal results. -/
theorem equal_results [Cert.Pre_mask_is_prefix.Facts] : Cert.algebraic_KernelIdeal_ReferenceIdeal_pre_mask_is_prefix := by
  intro m g m' g' hp ha
  have hi : ∀ c : Dev KernelIdeal.nD, KernelIdeal.Lstm.insOf (F := Ideal) m c = insOfArgs (ReferenceIdeal.Lstm.argsOf (F := Ideal) m' c) := fun c => by
    obtain ⟨a0, a1, a2, a3, a4, a5, a6, a7, a8, a9, a10, a11⟩ := ha c
    unfold KernelIdeal.Lstm.insOf insOfArgs ReferenceIdeal.Lstm.argsOf ReferenceIdeal.Lstm.parOf
    rw [← a0, ← a1, ← a2, ← a4, ← a5, ← a6, ← a7, ← a8, ← a9, ← a10, ← a11]
  have hq : ∀ c : Dev KernelIdeal.nD, Prefix (ReferenceIdeal.Lstm.argsOf (F := Ideal) m' c) := fun c b k => by
    obtain ⟨a0, a1, a2, a3, a4, a5, a6, a7, a8, a9, a10, a11⟩ := ha c
    have h := prefix_of hp c b k
    rw [← a2, ← a3] at h
    exact h
  refine ⟨fun c => KernelIdeal.Lstm.out9 (KernelIdeal.Lstm.insOf m c), fun c => KernelIdeal.Lstm.out10 (KernelIdeal.Lstm.insOf m c), ?_, ?_⟩
  · refine (θ_run _ _ _).mono (fun r h c => ?_) (θ_run_and (KernelIdeal.Lstm.value_run (F := Ideal) m g) (KernelIdeal.Lstm.frame_run (F := Ideal) m g))
    exact ⟨(h.1 c).1, (h.1 c).2, h.2.1 c⟩
  · refine (θ_run _ _ _).mono (fun r h c => ?_) (ReferenceIdeal.Lstm.run (F := Ideal) m' g')
    refine ⟨((h c ReferenceIdeal.main_v6 rfl).trans (ReferenceIdeal.Lstm.end_v6 m' c)).trans ?_,
      ((h c ReferenceIdeal.main_v35 rfl).trans (ReferenceIdeal.Lstm.end_v35 m' c)).trans ?_, (h c ReferenceIdeal.main_arg0 rfl).trans (ReferenceIdeal.Lstm.end_main_arg0 m' c),
      (h c ReferenceIdeal.main_arg1 rfl).trans (ReferenceIdeal.Lstm.end_main_arg1 m' c),
      (h c ReferenceIdeal.main_arg2 rfl).trans (ReferenceIdeal.Lstm.end_main_arg2 m' c),
      (h c ReferenceIdeal.main_arg3 rfl).trans (ReferenceIdeal.Lstm.end_main_arg3 m' c),
      (h c ReferenceIdeal.main_arg4 rfl).trans (ReferenceIdeal.Lstm.end_main_arg4 m' c),
      (h c ReferenceIdeal.main_arg5 rfl).trans (ReferenceIdeal.Lstm.end_main_arg5 m' c),
      (h c ReferenceIdeal.main_arg6 rfl).trans (ReferenceIdeal.Lstm.end_main_arg6 m' c),
      (h c ReferenceIdeal.main_arg7 rfl).trans (ReferenceIdeal.Lstm.end_main_arg7 m' c),
      (h c ReferenceIdeal.main_arg8 rfl).trans (ReferenceIdeal.Lstm.end_main_arg8 m' c),
      (h c ReferenceIdeal.main_arg9 rfl).trans (ReferenceIdeal.Lstm.end_main_arg9 m' c),
      (h c ReferenceIdeal.main_arg10 rfl).trans (ReferenceIdeal.Lstm.end_main_arg10 m' c),
      (h c ReferenceIdeal.main_arg11 rfl).trans (ReferenceIdeal.Lstm.end_main_arg11 m' c)⟩
    · show _ = KernelIdeal.Lstm.out9 (KernelIdeal.Lstm.insOf m c)
      rw [hi c, out9_eq]
    · show _ = KernelIdeal.Lstm.out10 (KernelIdeal.Lstm.insOf m c)
      rw [hi c, out10_eq (hq c)]

end Cert.Lstm
-- ==== Proof.lean ====
module

public import proofs.«01_k».proof.Defs
public import proofs.«01_k».proof.Proof.Transfer
public import proofs.«01_k».proof.Proof.RefFrame
public import proofs.«01_k».proof.Proof.Results
public import proofs.«01_k».proof.Proof.Gen.ReferenceIdeal
public import proofs.«01_k».proof.Proof.Gen.Pre_mask_is_prefix

@[expose] public section

namespace Cert.Proof

/-- The step mask's predicate, as generated. -/
instance : Cert.Pre_mask_is_prefix.Facts := Cert.Pre_mask_is_prefix.Gen.facts

/-- The claim: each conjunct is proved in its own module. -/
theorem claim : Cert.Claim :=
  ⟨Cert.Kernel.Gen.facts, Cert.KernelIdeal.Gen.facts, Cert.ReferenceIdeal.Gen.facts, Cert.Pre_mask_is_prefix.Gen.facts,
    Cert.Kernel.Lstm.quiet, Cert.Kernel.Lstm.quiet_ideal, Cert.Kernel.Lstm.quiet_ideal_prefix, Cert.ReferenceIdeal.Lstm.quiet,
    Cert.ReferenceIdeal.Lstm.quiet_prefix, trivial, Cert.Lstm.equal_results⟩

end Cert.Proof

end
